-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mm (m : (ℓ : Loc Cert.Mm.nD Cert.Mm.τ Cert.Mm.sig) → Buf (Elt Bits) ℓ) : Prop :=
  True

def Pre_MmIdeal (m : (ℓ : Loc Cert.MmIdeal.nD Cert.MmIdeal.τ Cert.MmIdeal.sig) → Buf (Elt Ideal) ℓ) : Prop :=
  True

def Pre_MmRefIdeal (m : (ℓ : Loc Cert.MmRefIdeal.nD Cert.MmRefIdeal.τ Cert.MmRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_EvInDw (m : (ℓ : Loc Cert.EvInDw.nD Cert.EvInDw.τ Cert.EvInDw.sig) → Buf (Elt Bits) ℓ) : Prop :=
  True

def Pre_EvInDwIdeal (m : (ℓ : Loc Cert.EvInDwIdeal.nD Cert.EvInDwIdeal.τ Cert.EvInDwIdeal.sig) → Buf (Elt Ideal) ℓ) : Prop :=
  True

def Pre_EvInDwRefIdeal (m : (ℓ : Loc Cert.EvInDwRefIdeal.nD Cert.EvInDwRefIdeal.τ Cert.EvInDwRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateDx (m : (ℓ : Loc Cert.GateDx.nD Cert.GateDx.τ Cert.GateDx.sig) → Buf (Elt Bits) ℓ) : Prop :=
  True

def Pre_GateDxIdeal (m : (ℓ : Loc Cert.GateDxIdeal.nD Cert.GateDxIdeal.τ Cert.GateDxIdeal.sig) → Buf (Elt Ideal) ℓ) : Prop :=
  True

def Pre_GateDxRefIdeal (m : (ℓ : Loc Cert.GateDxRefIdeal.nD Cert.GateDxRefIdeal.τ Cert.GateDxRefIdeal.sig) → Buf (Elt Ideal) ℓ) : Prop :=
  True

def Pre_GateDw (m : (ℓ : Loc Cert.GateDw.nD Cert.GateDw.τ Cert.GateDw.sig) → Buf (Elt Bits) ℓ) : Prop :=
  True

def Pre_GateDwIdeal (m : (ℓ : Loc Cert.GateDwIdeal.nD Cert.GateDwIdeal.τ Cert.GateDwIdeal.sig) → Buf (Elt Ideal) ℓ) : Prop :=
  True

def Pre_GateDwRefIdeal (m : (ℓ : Loc Cert.GateDwRefIdeal.nD Cert.GateDwRefIdeal.τ Cert.GateDwRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_EvInDx (m : (ℓ : Loc Cert.EvInDx.nD Cert.EvInDx.τ Cert.EvInDx.sig) → Buf (Elt Bits) ℓ) : Prop :=
  True

def Pre_EvInDxIdeal (m : (ℓ : Loc Cert.EvInDxIdeal.nD Cert.EvInDxIdeal.τ Cert.EvInDxIdeal.sig) → Buf (Elt Ideal) ℓ) : Prop :=
  True

def Pre_EvInDxRefIdeal (m : (ℓ : Loc Cert.EvInDxRefIdeal.nD Cert.EvInDxRefIdeal.τ Cert.EvInDxRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_NaGate (m : (ℓ : Loc Cert.NaGate.nD Cert.NaGate.τ Cert.NaGate.sig) → Buf (Elt Bits) ℓ) : Prop :=
  True

def Pre_NaGateIdeal (m : (ℓ : Loc Cert.NaGateIdeal.nD Cert.NaGateIdeal.τ Cert.NaGateIdeal.sig) → Buf (Elt Ideal) ℓ) : Prop :=
  True

def Pre_NaGateRefIdeal (m : (ℓ : Loc Cert.NaGateRefIdeal.nD Cert.NaGateRefIdeal.τ Cert.NaGateRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_AdEvIn (m : (ℓ : Loc Cert.AdEvIn.nD Cert.AdEvIn.τ Cert.AdEvIn.sig) → Buf (Elt Bits) ℓ) : Prop :=
  True

def Pre_AdEvInIdeal (m : (ℓ : Loc Cert.AdEvInIdeal.nD Cert.AdEvInIdeal.τ Cert.AdEvInIdeal.sig) → Buf (Elt Ideal) ℓ) : Prop :=
  True

def Pre_AdEvInRefIdeal (m : (ℓ : Loc Cert.AdEvInRefIdeal.nD Cert.AdEvInRefIdeal.τ Cert.AdEvInRefIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutRefIdeal (m : (ℓ : Loc Cert.AdOutRefIdeal.nD Cert.AdOutRefIdeal.τ Cert.AdOutRefIdeal.sig) → Buf (Elt Ideal) ℓ) : Prop :=
  True

def Pre_AdOdIn (m : (ℓ : Loc Cert.AdOdIn.nD Cert.AdOdIn.τ Cert.AdOdIn.sig) → Buf (Elt Bits) ℓ) : Prop :=
  True

def Pre_AdOdInIdeal (m : (ℓ : Loc Cert.AdOdInIdeal.nD Cert.AdOdInIdeal.τ Cert.AdOdInIdeal.sig) → Buf (Elt Ideal) ℓ) : Prop :=
  True

def Pre_AdOdInRefIdeal (m : (ℓ : Loc Cert.AdOdInRefIdeal.nD Cert.AdOdInRefIdeal.τ Cert.AdOdInRefIdeal.sig) → Buf (Elt Ideal) ℓ) : Prop :=
  True

def Pre_AdProj (m : (ℓ : Loc Cert.AdProj.nD Cert.AdProj.τ Cert.AdProj.sig) → Buf (Elt Bits) ℓ) : Prop :=
  True

def Pre_AdProjIdeal (m : (ℓ : Loc Cert.AdProjIdeal.nD Cert.AdProjIdeal.τ Cert.AdProjIdeal.sig) → Buf (Elt Ideal) ℓ) : Prop :=
  True

def Pre_AdProjRefIdeal (m : (ℓ : Loc Cert.AdProjRefIdeal.nD Cert.AdProjRefIdeal.τ Cert.AdProjRefIdeal.sig) → Buf (Elt Ideal) ℓ) : Prop :=
  True

def Pre_AdPacked (m : (ℓ : Loc Cert.AdPacked.nD Cert.AdPacked.τ Cert.AdPacked.sig) → Buf (Elt Bits) ℓ) : Prop :=
  True

def Pre_AdPackedIdeal (m : (ℓ : Loc Cert.AdPackedIdeal.nD Cert.AdPackedIdeal.τ Cert.AdPackedIdeal.sig) → Buf (Elt Ideal) ℓ) : Prop :=
  True

def Pre_AdPackedRefIdeal (m : (ℓ : Loc Cert.AdPackedRefIdeal.nD Cert.AdPackedRefIdeal.τ Cert.AdPackedRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mm [hMm : Cert.Mm.Facts] : Prop :=
  ∀ (m : (ℓ : Loc Cert.Mm.nD Cert.Mm.τ Cert.Mm.sig) → Buf (Elt Bits) ℓ) (g : Dev Cert.Mm.nD → PrngReg), Pre_Mm m →
    θ_run (Cert.Mm.defs (F := Bits)) (onTc (τ := Cert.Mm.τ) (Cert.Mm.main (F := Bits))) ⟨m, fun _ => 0, g⟩ (fun r => (∀ c : Dev Cert.Mm.nD,
      r.2.mem ((c.tc : Thread Cert.Mm.nD Cert.Mm.τ).loc Cert.Mm.main_arg0) = m ((c.tc : Thread Cert.Mm.nD Cert.Mm.τ).loc Cert.Mm.main_arg0)
      ∧ r.2.mem ((c.tc : Thread Cert.Mm.nD Cert.Mm.τ).loc Cert.Mm.main_arg1) = m ((c.tc : Thread Cert.Mm.nD Cert.Mm.τ).loc Cert.Mm.main_arg1))
      ∧ r.2.sem = fun _ => 0)

def quiescent_MmIdeal [hMmIdeal : Cert.MmIdeal.Facts] : Prop :=
  ∀ (m : (ℓ : Loc Cert.MmIdeal.nD Cert.MmIdeal.τ Cert.MmIdeal.sig) → Buf (Elt Ideal) ℓ) (g : Dev Cert.MmIdeal.nD → PrngReg), Pre_MmIdeal m →
    θ_run (Cert.MmIdeal.defs (F := Ideal)) (onTc (τ := Cert.MmIdeal.τ) (Cert.MmIdeal.main (F := Ideal))) ⟨m, fun _ => 0, g⟩ (fun r => (∀ c : Dev Cert.MmIdeal.nD,
      r.2.mem ((c.tc : Thread Cert.MmIdeal.nD Cert.MmIdeal.τ).loc Cert.MmIdeal.main_arg0) = m ((c.tc : Thread Cert.MmIdeal.nD Cert.MmIdeal.τ).loc Cert.MmIdeal.main_arg0)
      ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ r.2.sem = fun _ => 0)

def quiescent_MmRefIdeal [hMmRefIdeal : Cert.MmRefIdeal.Facts] : Prop :=
  ∀ (m : (ℓ : Loc Cert.MmRefIdeal.nD Cert.MmRefIdeal.τ Cert.MmRefIdeal.sig) → Buf (Elt Ideal) ℓ) (g : Dev Cert.MmRefIdeal.nD → PrngReg), Pre_MmRefIdeal m →
    θ_run (Cert.MmRefIdeal.defs (F := Ideal)) (onTc (τ := Cert.MmRefIdeal.τ) (Cert.MmRefIdeal.main (F := Ideal))) ⟨m, fun _ => 0, g⟩ (fun r => (∀ c : Dev Cert.MmRefIdeal.nD,
      r.2.mem ((c.tc : Thread Cert.MmRefIdeal.nD Cert.MmRefIdeal.τ).loc Cert.MmRefIdeal.main_arg0) = m ((c.tc : Thread Cert.MmRefIdeal.nD Cert.MmRefIdeal.τ).loc Cert.MmRefIdeal.main_arg0)
      ∧ r.2.mem ((c.tc : Thread Cert.MmRefIdeal.nD Cert.MmRefIdeal.τ).loc Cert.MmRefIdeal.main_arg1) = m ((c.tc : Thread Cert.MmRefIdeal.nD Cert.MmRefIdeal.τ).loc Cert.MmRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_EvInDw [hEvInDw : Cert.EvInDw.Facts] : Prop :=
  ∀ (m : (ℓ : Loc Cert.EvInDw.nD Cert.EvInDw.τ Cert.EvInDw.sig) → Buf (Elt Bits) ℓ) (g : Dev Cert.EvInDw.nD → PrngReg), Pre_EvInDw m →
    θ_run (Cert.EvInDw.defs (F := Bits)) (onTc (τ := Cert.EvInDw.τ) (Cert.EvInDw.main (F := Bits))) ⟨m, fun _ => 0, g⟩ (fun r => (∀ c : Dev Cert.EvInDw.nD,
      r.2.mem ((c.tc : Thread Cert.EvInDw.nD Cert.EvInDw.τ).loc Cert.EvInDw.main_arg0) = m ((c.tc : Thread Cert.EvInDw.nD Cert.EvInDw.τ).loc Cert.EvInDw.main_arg0)
      ∧ r.2.mem ((c.tc : Thread Cert.EvInDw.nD Cert.EvInDw.τ).loc Cert.EvInDw.main_arg1) = m ((c.tc : Thread Cert.EvInDw.nD Cert.EvInDw.τ).loc Cert.EvInDw.main_arg1))
      ∧ r.2.sem = fun _ => 0)

def quiescent_EvInDwIdeal [hEvInDwIdeal : Cert.EvInDwIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg), Pre_EvInDwIdeal m →
    θ_run (Cert.EvInDwIdeal.defs (F := Ideal)) (onTc (τ := Cert.EvInDwIdeal.τ) (Cert.EvInDwIdeal.main (F := Ideal))) ⟨m, fun _ => 0, g⟩ (fun r => (∀ c : Dev Cert.EvInDwIdeal.nD,
      r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
      ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1))
      ∧ r.2.sem = fun _ => 0)

def quiescent_EvInDwRefIdeal [hEvInDwRefIdeal : Cert.EvInDwRefIdeal.Facts] : Prop :=
  ∀ (m : (ℓ : Loc Cert.EvInDwRefIdeal.nD Cert.EvInDwRefIdeal.τ Cert.EvInDwRefIdeal.sig) → Buf (Elt Ideal) ℓ) (g : Dev Cert.EvInDwRefIdeal.nD → PrngReg), Pre_EvInDwRefIdeal m →
    θ_run (Cert.EvInDwRefIdeal.defs (F := Ideal)) (onTc (τ := Cert.EvInDwRefIdeal.τ) (Cert.EvInDwRefIdeal.main (F := Ideal))) ⟨m, fun _ => 0, g⟩ (fun r => (∀ c : Dev Cert.EvInDwRefIdeal.nD,
      r.2.mem ((c.tc : Thread Cert.EvInDwRefIdeal.nD Cert.EvInDwRefIdeal.τ).loc Cert.EvInDwRefIdeal.main_arg0) = m ((c.tc : Thread Cert.EvInDwRefIdeal.nD Cert.EvInDwRefIdeal.τ).loc Cert.EvInDwRefIdeal.main_arg0)
      ∧ r.2.mem ((c.tc : Thread Cert.EvInDwRefIdeal.nD Cert.EvInDwRefIdeal.τ).loc Cert.EvInDwRefIdeal.main_arg1) = m ((c.tc : Thread Cert.EvInDwRefIdeal.nD Cert.EvInDwRefIdeal.τ).loc Cert.EvInDwRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateDx [hGateDx : Cert.GateDx.Facts] : Prop :=
  ∀ (m : (ℓ : Loc Cert.GateDx.nD Cert.GateDx.τ Cert.GateDx.sig) → Buf (Elt Bits) ℓ) (g : Dev Cert.GateDx.nD → PrngReg), Pre_GateDx m →
    θ_run (Cert.GateDx.defs (F := Bits)) (onTc (τ := Cert.GateDx.τ) (Cert.GateDx.main (F := Bits))) ⟨m, fun _ => 0, g⟩ (fun r => (∀ c : Dev Cert.GateDx.nD,
      r.2.mem ((c.tc : Thread Cert.GateDx.nD Cert.GateDx.τ).loc Cert.GateDx.main_arg0) = m ((c.tc : Thread Cert.GateDx.nD Cert.GateDx.τ).loc Cert.GateDx.main_arg0)
      ∧ r.2.mem ((c.tc : Thread Cert.GateDx.nD Cert.GateDx.τ).loc Cert.GateDx.main_arg1) = m ((c.tc : Thread Cert.GateDx.nD Cert.GateDx.τ).loc Cert.GateDx.main_arg1))
      ∧ r.2.sem = fun _ => 0)

def quiescent_GateDxIdeal [hGateDxIdeal : Cert.GateDxIdeal.Facts] : Prop :=
  ∀ (m : (ℓ : Loc Cert.GateDxIdeal.nD Cert.GateDxIdeal.τ Cert.GateDxIdeal.sig) → Buf (Elt Ideal) ℓ) (g : Dev Cert.GateDxIdeal.nD → PrngReg), Pre_GateDxIdeal m →
    θ_run (Cert.GateDxIdeal.defs (F := Ideal)) (onTc (τ := Cert.GateDxIdeal.τ) (Cert.GateDxIdeal.main (F := Ideal))) ⟨m, fun _ => 0, g⟩ (fun r => (∀ c : Dev Cert.GateDxIdeal.nD,
      r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
      ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ r.2.sem = fun _ => 0)

def quiescent_GateDxRefIdeal [hGateDxRefIdeal : Cert.GateDxRefIdeal.Facts] : Prop :=
  ∀ (m : (ℓ : Loc Cert.GateDxRefIdeal.nD Cert.GateDxRefIdeal.τ Cert.GateDxRefIdeal.sig) → Buf (Elt Ideal) ℓ) (g : Dev Cert.GateDxRefIdeal.nD → PrngReg), Pre_GateDxRefIdeal m →
    θ_run (Cert.GateDxRefIdeal.defs (F := Ideal)) (onTc (τ := Cert.GateDxRefIdeal.τ) (Cert.GateDxRefIdeal.main (F := Ideal))) ⟨m, fun _ => 0, g⟩ (fun r => (∀ c : Dev Cert.GateDxRefIdeal.nD,
      r.2.mem ((c.tc : Thread Cert.GateDxRefIdeal.nD Cert.GateDxRefIdeal.τ).loc Cert.GateDxRefIdeal.main_arg0) = m ((c.tc : Thread Cert.GateDxRefIdeal.nD Cert.GateDxRefIdeal.τ).loc Cert.GateDxRefIdeal.main_arg0)
      ∧ r.2.mem ((c.tc : Thread Cert.GateDxRefIdeal.nD Cert.GateDxRefIdeal.τ).loc Cert.GateDxRefIdeal.main_arg1) = m ((c.tc : Thread Cert.GateDxRefIdeal.nD Cert.GateDxRefIdeal.τ).loc Cert.GateDxRefIdeal.main_arg1))
      ∧ r.2.sem = fun _ => 0)

def quiescent_GateDw [hGateDw : Cert.GateDw.Facts] : Prop :=
  ∀ (m : (ℓ : Loc Cert.GateDw.nD Cert.GateDw.τ Cert.GateDw.sig) → Buf (Elt Bits) ℓ) (g : Dev Cert.GateDw.nD → PrngReg), Pre_GateDw m →
    θ_run (Cert.GateDw.defs (F := Bits)) (onTc (τ := Cert.GateDw.τ) (Cert.GateDw.main (F := Bits))) ⟨m, fun _ => 0, g⟩ (fun r => (∀ c : Dev Cert.GateDw.nD,
      r.2.mem ((c.tc : Thread Cert.GateDw.nD Cert.GateDw.τ).loc Cert.GateDw.main_arg0) = m ((c.tc : Thread Cert.GateDw.nD Cert.GateDw.τ).loc Cert.GateDw.main_arg0)
      ∧ r.2.mem ((c.tc : Thread Cert.GateDw.nD Cert.GateDw.τ).loc Cert.GateDw.main_arg1) = m ((c.tc : Thread Cert.GateDw.nD Cert.GateDw.τ).loc Cert.GateDw.main_arg1))
      ∧ r.2.sem = fun _ => 0)

def quiescent_GateDwIdeal [hGateDwIdeal : Cert.GateDwIdeal.Facts] : Prop :=
  ∀ (m : (ℓ : Loc Cert.GateDwIdeal.nD Cert.GateDwIdeal.τ Cert.GateDwIdeal.sig) → Buf (Elt Ideal) ℓ) (g : Dev Cert.GateDwIdeal.nD → PrngReg), Pre_GateDwIdeal m →
    θ_run (Cert.GateDwIdeal.defs (F := Ideal)) (onTc (τ := Cert.GateDwIdeal.τ) (Cert.GateDwIdeal.main (F := Ideal))) ⟨m, fun _ => 0, g⟩ (fun r => (∀ c : Dev Cert.GateDwIdeal.nD,
      r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
      ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ r.2.sem = fun _ => 0)

def quiescent_GateDwRefIdeal [hGateDwRefIdeal : Cert.GateDwRefIdeal.Facts] : Prop :=
  ∀ (m : (ℓ : Loc Cert.GateDwRefIdeal.nD Cert.GateDwRefIdeal.τ Cert.GateDwRefIdeal.sig) → Buf (Elt Ideal) ℓ) (g : Dev Cert.GateDwRefIdeal.nD → PrngReg), Pre_GateDwRefIdeal m →
    θ_run (Cert.GateDwRefIdeal.defs (F := Ideal)) (onTc (τ := Cert.GateDwRefIdeal.τ) (Cert.GateDwRefIdeal.main (F := Ideal))) ⟨m, fun _ => 0, g⟩ (fun r => (∀ c : Dev Cert.GateDwRefIdeal.nD,
      r.2.mem ((c.tc : Thread Cert.GateDwRefIdeal.nD Cert.GateDwRefIdeal.τ).loc Cert.GateDwRefIdeal.main_arg0) = m ((c.tc : Thread Cert.GateDwRefIdeal.nD Cert.GateDwRefIdeal.τ).loc Cert.GateDwRefIdeal.main_arg0)
      ∧ r.2.mem ((c.tc : Thread Cert.GateDwRefIdeal.nD Cert.GateDwRefIdeal.τ).loc Cert.GateDwRefIdeal.main_arg1) = m ((c.tc : Thread Cert.GateDwRefIdeal.nD Cert.GateDwRefIdeal.τ).loc Cert.GateDwRefIdeal.main_arg1))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_EvInDx [hEvInDx : Cert.EvInDx.Facts] : Prop :=
  ∀ (m : (ℓ : Loc Cert.EvInDx.nD Cert.EvInDx.τ Cert.EvInDx.sig) → Buf (Elt Bits) ℓ) (g : Dev Cert.EvInDx.nD → PrngReg), Pre_EvInDx m →
    θ_run (Cert.EvInDx.defs (F := Bits)) (onTc (τ := Cert.EvInDx.τ) (Cert.EvInDx.main (F := Bits))) ⟨m, fun _ => 0, g⟩ (fun r => (∀ c : Dev Cert.EvInDx.nD,
      r.2.mem ((c.tc : Thread Cert.EvInDx.nD Cert.EvInDx.τ).loc Cert.EvInDx.main_arg0) = m ((c.tc : Thread Cert.EvInDx.nD Cert.EvInDx.τ).loc Cert.EvInDx.main_arg0)
      ∧ r.2.mem ((c.tc : Thread Cert.EvInDx.nD Cert.EvInDx.τ).loc Cert.EvInDx.main_arg1) = m ((c.tc : Thread Cert.EvInDx.nD Cert.EvInDx.τ).loc Cert.EvInDx.main_arg1))
      ∧ r.2.sem = fun _ => 0)

def quiescent_EvInDxIdeal [hEvInDxIdeal : Cert.EvInDxIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg), Pre_EvInDxIdeal m →
    θ_run (Cert.EvInDxIdeal.defs (F := Ideal)) (onTc (τ := Cert.EvInDxIdeal.τ) (Cert.EvInDxIdeal.main (F := Ideal))) ⟨m, fun _ => 0, g⟩ (fun r => (∀ c : Dev Cert.EvInDxIdeal.nD,
      r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
      ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1))
      ∧ r.2.sem = fun _ => 0)

def quiescent_EvInDxRefIdeal [hEvInDxRefIdeal : Cert.EvInDxRefIdeal.Facts] : Prop :=
  ∀ (m : (ℓ : Loc Cert.EvInDxRefIdeal.nD Cert.EvInDxRefIdeal.τ Cert.EvInDxRefIdeal.sig) → Buf (Elt Ideal) ℓ) (g : Dev Cert.EvInDxRefIdeal.nD → PrngReg), Pre_EvInDxRefIdeal m →
    θ_run (Cert.EvInDxRefIdeal.defs (F := Ideal)) (onTc (τ := Cert.EvInDxRefIdeal.τ) (Cert.EvInDxRefIdeal.main (F := Ideal))) ⟨m, fun _ => 0, g⟩ (fun r => (∀ c : Dev Cert.EvInDxRefIdeal.nD,
      r.2.mem ((c.tc : Thread Cert.EvInDxRefIdeal.nD Cert.EvInDxRefIdeal.τ).loc Cert.EvInDxRefIdeal.main_arg0) = m ((c.tc : Thread Cert.EvInDxRefIdeal.nD Cert.EvInDxRefIdeal.τ).loc Cert.EvInDxRefIdeal.main_arg0)
      ∧ r.2.mem ((c.tc : Thread Cert.EvInDxRefIdeal.nD Cert.EvInDxRefIdeal.τ).loc Cert.EvInDxRefIdeal.main_arg1) = m ((c.tc : Thread Cert.EvInDxRefIdeal.nD Cert.EvInDxRefIdeal.τ).loc Cert.EvInDxRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1)
      ∧ r.2.mem ((c.tc : Thread Cert.Rms.nD Cert.Rms.τ).loc Cert.Rms.main_arg2) = m ((c.tc : Thread Cert.Rms.nD Cert.Rms.τ).loc Cert.Rms.main_arg2)
      ∧ r.2.mem ((c.tc : Thread Cert.Rms.nD Cert.Rms.τ).loc Cert.Rms.main_arg3) = m ((c.tc : Thread Cert.Rms.nD Cert.Rms.τ).loc Cert.Rms.main_arg3))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
      ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
      ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1)
      ∧ r.2.mem ((c.tc : Thread Cert.RmsRefIdeal.nD Cert.RmsRefIdeal.τ).loc Cert.RmsRefIdeal.main_arg2) = m ((c.tc : Thread Cert.RmsRefIdeal.nD Cert.RmsRefIdeal.τ).loc Cert.RmsRefIdeal.main_arg2)
      ∧ r.2.mem ((c.tc : Thread Cert.RmsRefIdeal.nD Cert.RmsRefIdeal.τ).loc Cert.RmsRefIdeal.main_arg3) = m ((c.tc : Thread Cert.RmsRefIdeal.nD Cert.RmsRefIdeal.τ).loc Cert.RmsRefIdeal.main_arg3))
      ∧ r.2.sem = fun _ => 0)

def quiescent_NaGate [hNaGate : Cert.NaGate.Facts] : Prop :=
  ∀ (m : (ℓ : Loc Cert.NaGate.nD Cert.NaGate.τ Cert.NaGate.sig) → Buf (Elt Bits) ℓ) (g : Dev Cert.NaGate.nD → PrngReg), Pre_NaGate m →
    θ_run (Cert.NaGate.defs (F := Bits)) (onTc (τ := Cert.NaGate.τ) (Cert.NaGate.main (F := Bits))) ⟨m, fun _ => 0, g⟩ (fun r => (∀ c : Dev Cert.NaGate.nD,
      r.2.mem ((c.tc : Thread Cert.NaGate.nD Cert.NaGate.τ).loc Cert.NaGate.main_arg0) = m ((c.tc : Thread Cert.NaGate.nD Cert.NaGate.τ).loc Cert.NaGate.main_arg0)
      ∧ r.2.mem ((c.tc : Thread Cert.NaGate.nD Cert.NaGate.τ).loc Cert.NaGate.main_arg1) = m ((c.tc : Thread Cert.NaGate.nD Cert.NaGate.τ).loc Cert.NaGate.main_arg1)
      ∧ r.2.mem ((c.tc : Thread Cert.NaGate.nD Cert.NaGate.τ).loc Cert.NaGate.main_arg2) = m ((c.tc : Thread Cert.NaGate.nD Cert.NaGate.τ).loc Cert.NaGate.main_arg2))
      ∧ r.2.sem = fun _ => 0)

def quiescent_NaGateIdeal [hNaGateIdeal : Cert.NaGateIdeal.Facts] : Prop :=
  ∀ (m : (ℓ : Loc Cert.NaGateIdeal.nD Cert.NaGateIdeal.τ Cert.NaGateIdeal.sig) → Buf (Elt Ideal) ℓ) (g : Dev Cert.NaGateIdeal.nD → PrngReg), Pre_NaGateIdeal m →
    θ_run (Cert.NaGateIdeal.defs (F := Ideal)) (onTc (τ := Cert.NaGateIdeal.τ) (Cert.NaGateIdeal.main (F := Ideal))) ⟨m, fun _ => 0, g⟩ (fun r => (∀ c : Dev Cert.NaGateIdeal.nD,
      r.2.mem ((c.tc : Thread Cert.NaGateIdeal.nD Cert.NaGateIdeal.τ).loc Cert.NaGateIdeal.main_arg0) = m ((c.tc : Thread Cert.NaGateIdeal.nD Cert.NaGateIdeal.τ).loc Cert.NaGateIdeal.main_arg0)
      ∧ r.2.mem ((c.tc : Thread Cert.NaGateIdeal.nD Cert.NaGateIdeal.τ).loc Cert.NaGateIdeal.main_arg1) = m ((c.tc : Thread Cert.NaGateIdeal.nD Cert.NaGateIdeal.τ).loc Cert.NaGateIdeal.main_arg1)
      ∧ r.2.mem ((c.tc : Thread Cert.NaGateIdeal.nD Cert.NaGateIdeal.τ).loc Cert.NaGateIdeal.main_arg2) = m ((c.tc : Thread Cert.NaGateIdeal.nD Cert.NaGateIdeal.τ).loc Cert.NaGateIdeal.main_arg2))
      ∧ r.2.sem = fun _ => 0)

def quiescent_NaGateRefIdeal [hNaGateRefIdeal : Cert.NaGateRefIdeal.Facts] : Prop :=
  ∀ (m : (ℓ : Loc Cert.NaGateRefIdeal.nD Cert.NaGateRefIdeal.τ Cert.NaGateRefIdeal.sig) → Buf (Elt Ideal) ℓ) (g : Dev Cert.NaGateRefIdeal.nD → PrngReg), Pre_NaGateRefIdeal m →
    θ_run (Cert.NaGateRefIdeal.defs (F := Ideal)) (onTc (τ := Cert.NaGateRefIdeal.τ) (Cert.NaGateRefIdeal.main (F := Ideal))) ⟨m, fun _ => 0, g⟩ (fun r => (∀ c : Dev Cert.NaGateRefIdeal.nD,
      r.2.mem ((c.tc : Thread Cert.NaGateRefIdeal.nD Cert.NaGateRefIdeal.τ).loc Cert.NaGateRefIdeal.main_arg0) = m ((c.tc : Thread Cert.NaGateRefIdeal.nD Cert.NaGateRefIdeal.τ).loc Cert.NaGateRefIdeal.main_arg0)
      ∧ r.2.mem ((c.tc : Thread Cert.NaGateRefIdeal.nD Cert.NaGateRefIdeal.τ).loc Cert.NaGateRefIdeal.main_arg1) = m ((c.tc : Thread Cert.NaGateRefIdeal.nD Cert.NaGateRefIdeal.τ).loc Cert.NaGateRefIdeal.main_arg1)
      ∧ r.2.mem ((c.tc : Thread Cert.NaGateRefIdeal.nD Cert.NaGateRefIdeal.τ).loc Cert.NaGateRefIdeal.main_arg2) = m ((c.tc : Thread Cert.NaGateRefIdeal.nD Cert.NaGateRefIdeal.τ).loc Cert.NaGateRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2))
      ∧ r.2.sem = fun _ => 0)

def quiescent_AdEvIn [hAdEvIn : Cert.AdEvIn.Facts] : Prop :=
  ∀ (m : (ℓ : Loc Cert.AdEvIn.nD Cert.AdEvIn.τ Cert.AdEvIn.sig) → Buf (Elt Bits) ℓ) (g : Dev Cert.AdEvIn.nD → PrngReg), Pre_AdEvIn m →
    θ_run (Cert.AdEvIn.defs (F := Bits)) (onTc (τ := Cert.AdEvIn.τ) (Cert.AdEvIn.main (F := Bits))) ⟨m, fun _ => 0, g⟩ (fun r => (∀ c : Dev Cert.AdEvIn.nD,
      r.2.mem ((c.tc : Thread Cert.AdEvIn.nD Cert.AdEvIn.τ).loc Cert.AdEvIn.main_arg0) = m ((c.tc : Thread Cert.AdEvIn.nD Cert.AdEvIn.τ).loc Cert.AdEvIn.main_arg0)
      ∧ r.2.mem ((c.tc : Thread Cert.AdEvIn.nD Cert.AdEvIn.τ).loc Cert.AdEvIn.main_arg1) = m ((c.tc : Thread Cert.AdEvIn.nD Cert.AdEvIn.τ).loc Cert.AdEvIn.main_arg1)
      ∧ r.2.mem ((c.tc : Thread Cert.AdEvIn.nD Cert.AdEvIn.τ).loc Cert.AdEvIn.main_arg2) = m ((c.tc : Thread Cert.AdEvIn.nD Cert.AdEvIn.τ).loc Cert.AdEvIn.main_arg2)
      ∧ r.2.mem ((c.tc : Thread Cert.AdEvIn.nD Cert.AdEvIn.τ).loc Cert.AdEvIn.main_arg3) = m ((c.tc : Thread Cert.AdEvIn.nD Cert.AdEvIn.τ).loc Cert.AdEvIn.main_arg3)
      ∧ r.2.mem ((c.tc : Thread Cert.AdEvIn.nD Cert.AdEvIn.τ).loc Cert.AdEvIn.main_arg4) = m ((c.tc : Thread Cert.AdEvIn.nD Cert.AdEvIn.τ).loc Cert.AdEvIn.main_arg4)
      ∧ r.2.mem ((c.tc : Thread Cert.AdEvIn.nD Cert.AdEvIn.τ).loc Cert.AdEvIn.main_arg5) = m ((c.tc : Thread Cert.AdEvIn.nD Cert.AdEvIn.τ).loc Cert.AdEvIn.main_arg5))
      ∧ r.2.sem = fun _ => 0)

def quiescent_AdEvInIdeal [hAdEvInIdeal : Cert.AdEvInIdeal.Facts] : Prop :=
  ∀ (m : (ℓ : Loc Cert.AdEvInIdeal.nD Cert.AdEvInIdeal.τ Cert.AdEvInIdeal.sig) → Buf (Elt Ideal) ℓ) (g : Dev Cert.AdEvInIdeal.nD → PrngReg), Pre_AdEvInIdeal m →
    θ_run (Cert.AdEvInIdeal.defs (F := Ideal)) (onTc (τ := Cert.AdEvInIdeal.τ) (Cert.AdEvInIdeal.main (F := Ideal))) ⟨m, fun _ => 0, g⟩ (fun r => (∀ c : Dev Cert.AdEvInIdeal.nD,
      r.2.mem ((c.tc : Thread Cert.AdEvInIdeal.nD Cert.AdEvInIdeal.τ).loc Cert.AdEvInIdeal.main_arg0) = m ((c.tc : Thread Cert.AdEvInIdeal.nD Cert.AdEvInIdeal.τ).loc Cert.AdEvInIdeal.main_arg0)
      ∧ r.2.mem ((c.tc : Thread Cert.AdEvInIdeal.nD Cert.AdEvInIdeal.τ).loc Cert.AdEvInIdeal.main_arg1) = m ((c.tc : Thread Cert.AdEvInIdeal.nD Cert.AdEvInIdeal.τ).loc Cert.AdEvInIdeal.main_arg1)
      ∧ r.2.mem ((c.tc : Thread Cert.AdEvInIdeal.nD Cert.AdEvInIdeal.τ).loc Cert.AdEvInIdeal.main_arg2) = m ((c.tc : Thread Cert.AdEvInIdeal.nD Cert.AdEvInIdeal.τ).loc Cert.AdEvInIdeal.main_arg2)
      ∧ r.2.mem ((c.tc : Thread Cert.AdEvInIdeal.nD Cert.AdEvInIdeal.τ).loc Cert.AdEvInIdeal.main_arg3) = m ((c.tc : Thread Cert.AdEvInIdeal.nD Cert.AdEvInIdeal.τ).loc Cert.AdEvInIdeal.main_arg3)
      ∧ r.2.mem ((c.tc : Thread Cert.AdEvInIdeal.nD Cert.AdEvInIdeal.τ).loc Cert.AdEvInIdeal.main_arg4) = m ((c.tc : Thread Cert.AdEvInIdeal.nD Cert.AdEvInIdeal.τ).loc Cert.AdEvInIdeal.main_arg4)
      ∧ r.2.mem ((c.tc : Thread Cert.AdEvInIdeal.nD Cert.AdEvInIdeal.τ).loc Cert.AdEvInIdeal.main_arg5) = m ((c.tc : Thread Cert.AdEvInIdeal.nD Cert.AdEvInIdeal.τ).loc Cert.AdEvInIdeal.main_arg5))
      ∧ r.2.sem = fun _ => 0)

def quiescent_AdEvInRefIdeal [hAdEvInRefIdeal : Cert.AdEvInRefIdeal.Facts] : Prop :=
  ∀ (m : (ℓ : Loc Cert.AdEvInRefIdeal.nD Cert.AdEvInRefIdeal.τ Cert.AdEvInRefIdeal.sig) → Buf (Elt Ideal) ℓ) (g : Dev Cert.AdEvInRefIdeal.nD → PrngReg), Pre_AdEvInRefIdeal m →
    θ_run (Cert.AdEvInRefIdeal.defs (F := Ideal)) (onTc (τ := Cert.AdEvInRefIdeal.τ) (Cert.AdEvInRefIdeal.main (F := Ideal))) ⟨m, fun _ => 0, g⟩ (fun r => (∀ c : Dev Cert.AdEvInRefIdeal.nD,
      r.2.mem ((c.tc : Thread Cert.AdEvInRefIdeal.nD Cert.AdEvInRefIdeal.τ).loc Cert.AdEvInRefIdeal.main_arg0) = m ((c.tc : Thread Cert.AdEvInRefIdeal.nD Cert.AdEvInRefIdeal.τ).loc Cert.AdEvInRefIdeal.main_arg0)
      ∧ r.2.mem ((c.tc : Thread Cert.AdEvInRefIdeal.nD Cert.AdEvInRefIdeal.τ).loc Cert.AdEvInRefIdeal.main_arg1) = m ((c.tc : Thread Cert.AdEvInRefIdeal.nD Cert.AdEvInRefIdeal.τ).loc Cert.AdEvInRefIdeal.main_arg1)
      ∧ r.2.mem ((c.tc : Thread Cert.AdEvInRefIdeal.nD Cert.AdEvInRefIdeal.τ).loc Cert.AdEvInRefIdeal.main_arg2) = m ((c.tc : Thread Cert.AdEvInRefIdeal.nD Cert.AdEvInRefIdeal.τ).loc Cert.AdEvInRefIdeal.main_arg2)
      ∧ r.2.mem ((c.tc : Thread Cert.AdEvInRefIdeal.nD Cert.AdEvInRefIdeal.τ).loc Cert.AdEvInRefIdeal.main_arg3) = m ((c.tc : Thread Cert.AdEvInRefIdeal.nD Cert.AdEvInRefIdeal.τ).loc Cert.AdEvInRefIdeal.main_arg3)
      ∧ r.2.mem ((c.tc : Thread Cert.AdEvInRefIdeal.nD Cert.AdEvInRefIdeal.τ).loc Cert.AdEvInRefIdeal.main_arg4) = m ((c.tc : Thread Cert.AdEvInRefIdeal.nD Cert.AdEvInRefIdeal.τ).loc Cert.AdEvInRefIdeal.main_arg4)
      ∧ r.2.mem ((c.tc : Thread Cert.AdEvInRefIdeal.nD Cert.AdEvInRefIdeal.τ).loc Cert.AdEvInRefIdeal.main_arg5) = m ((c.tc : Thread Cert.AdEvInRefIdeal.nD Cert.AdEvInRefIdeal.τ).loc Cert.AdEvInRefIdeal.main_arg5))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3)
      ∧ r.2.mem ((c.tc : Thread Cert.AdOut.nD Cert.AdOut.τ).loc Cert.AdOut.main_arg4) = m ((c.tc : Thread Cert.AdOut.nD Cert.AdOut.τ).loc Cert.AdOut.main_arg4)
      ∧ r.2.mem ((c.tc : Thread Cert.AdOut.nD Cert.AdOut.τ).loc Cert.AdOut.main_arg5) = m ((c.tc : Thread Cert.AdOut.nD Cert.AdOut.τ).loc Cert.AdOut.main_arg5))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
      ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4)
      ∧ r.2.mem ((c.tc : Thread Cert.AdOutIdeal.nD Cert.AdOutIdeal.τ).loc Cert.AdOutIdeal.main_arg5) = m ((c.tc : Thread Cert.AdOutIdeal.nD Cert.AdOutIdeal.τ).loc Cert.AdOutIdeal.main_arg5))
      ∧ r.2.sem = fun _ => 0)

def quiescent_AdOutRefIdeal [hAdOutRefIdeal : Cert.AdOutRefIdeal.Facts] : Prop :=
  ∀ (m : (ℓ : Loc Cert.AdOutRefIdeal.nD Cert.AdOutRefIdeal.τ Cert.AdOutRefIdeal.sig) → Buf (Elt Ideal) ℓ) (g : Dev Cert.AdOutRefIdeal.nD → PrngReg), Pre_AdOutRefIdeal m →
    θ_run (Cert.AdOutRefIdeal.defs (F := Ideal)) (onTc (τ := Cert.AdOutRefIdeal.τ) (Cert.AdOutRefIdeal.main (F := Ideal))) ⟨m, fun _ => 0, g⟩ (fun r => (∀ c : Dev Cert.AdOutRefIdeal.nD,
      r.2.mem ((c.tc : Thread Cert.AdOutRefIdeal.nD Cert.AdOutRefIdeal.τ).loc Cert.AdOutRefIdeal.main_arg0) = m ((c.tc : Thread Cert.AdOutRefIdeal.nD Cert.AdOutRefIdeal.τ).loc Cert.AdOutRefIdeal.main_arg0)
      ∧ r.2.mem ((c.tc : Thread Cert.AdOutRefIdeal.nD Cert.AdOutRefIdeal.τ).loc Cert.AdOutRefIdeal.main_arg1) = m ((c.tc : Thread Cert.AdOutRefIdeal.nD Cert.AdOutRefIdeal.τ).loc Cert.AdOutRefIdeal.main_arg1)
      ∧ r.2.mem ((c.tc : Thread Cert.AdOutRefIdeal.nD Cert.AdOutRefIdeal.τ).loc Cert.AdOutRefIdeal.main_arg2) = m ((c.tc : Thread Cert.AdOutRefIdeal.nD Cert.AdOutRefIdeal.τ).loc Cert.AdOutRefIdeal.main_arg2)
      ∧ r.2.mem ((c.tc : Thread Cert.AdOutRefIdeal.nD Cert.AdOutRefIdeal.τ).loc Cert.AdOutRefIdeal.main_arg3) = m ((c.tc : Thread Cert.AdOutRefIdeal.nD Cert.AdOutRefIdeal.τ).loc Cert.AdOutRefIdeal.main_arg3)
      ∧ r.2.mem ((c.tc : Thread Cert.AdOutRefIdeal.nD Cert.AdOutRefIdeal.τ).loc Cert.AdOutRefIdeal.main_arg4) = m ((c.tc : Thread Cert.AdOutRefIdeal.nD Cert.AdOutRefIdeal.τ).loc Cert.AdOutRefIdeal.main_arg4)
      ∧ r.2.mem ((c.tc : Thread Cert.AdOutRefIdeal.nD Cert.AdOutRefIdeal.τ).loc Cert.AdOutRefIdeal.main_arg5) = m ((c.tc : Thread Cert.AdOutRefIdeal.nD Cert.AdOutRefIdeal.τ).loc Cert.AdOutRefIdeal.main_arg5))
      ∧ r.2.sem = fun _ => 0)

def quiescent_AdOdIn [hAdOdIn : Cert.AdOdIn.Facts] : Prop :=
  ∀ (m : (ℓ : Loc Cert.AdOdIn.nD Cert.AdOdIn.τ Cert.AdOdIn.sig) → Buf (Elt Bits) ℓ) (g : Dev Cert.AdOdIn.nD → PrngReg), Pre_AdOdIn m →
    θ_run (Cert.AdOdIn.defs (F := Bits)) (onTc (τ := Cert.AdOdIn.τ) (Cert.AdOdIn.main (F := Bits))) ⟨m, fun _ => 0, g⟩ (fun r => (∀ c : Dev Cert.AdOdIn.nD,
      r.2.mem ((c.tc : Thread Cert.AdOdIn.nD Cert.AdOdIn.τ).loc Cert.AdOdIn.main_arg0) = m ((c.tc : Thread Cert.AdOdIn.nD Cert.AdOdIn.τ).loc Cert.AdOdIn.main_arg0)
      ∧ r.2.mem ((c.tc : Thread Cert.AdOdIn.nD Cert.AdOdIn.τ).loc Cert.AdOdIn.main_arg1) = m ((c.tc : Thread Cert.AdOdIn.nD Cert.AdOdIn.τ).loc Cert.AdOdIn.main_arg1)
      ∧ r.2.mem ((c.tc : Thread Cert.AdOdIn.nD Cert.AdOdIn.τ).loc Cert.AdOdIn.main_arg2) = m ((c.tc : Thread Cert.AdOdIn.nD Cert.AdOdIn.τ).loc Cert.AdOdIn.main_arg2)
      ∧ r.2.mem ((c.tc : Thread Cert.AdOdIn.nD Cert.AdOdIn.τ).loc Cert.AdOdIn.main_arg3) = m ((c.tc : Thread Cert.AdOdIn.nD Cert.AdOdIn.τ).loc Cert.AdOdIn.main_arg3)
      ∧ r.2.mem ((c.tc : Thread Cert.AdOdIn.nD Cert.AdOdIn.τ).loc Cert.AdOdIn.main_arg4) = m ((c.tc : Thread Cert.AdOdIn.nD Cert.AdOdIn.τ).loc Cert.AdOdIn.main_arg4)
      ∧ r.2.mem ((c.tc : Thread Cert.AdOdIn.nD Cert.AdOdIn.τ).loc Cert.AdOdIn.main_arg5) = m ((c.tc : Thread Cert.AdOdIn.nD Cert.AdOdIn.τ).loc Cert.AdOdIn.main_arg5))
      ∧ r.2.sem = fun _ => 0)

def quiescent_AdOdInIdeal [hAdOdInIdeal : Cert.AdOdInIdeal.Facts] : Prop :=
  ∀ (m : (ℓ : Loc Cert.AdOdInIdeal.nD Cert.AdOdInIdeal.τ Cert.AdOdInIdeal.sig) → Buf (Elt Ideal) ℓ) (g : Dev Cert.AdOdInIdeal.nD → PrngReg), Pre_AdOdInIdeal m →
    θ_run (Cert.AdOdInIdeal.defs (F := Ideal)) (onTc (τ := Cert.AdOdInIdeal.τ) (Cert.AdOdInIdeal.main (F := Ideal))) ⟨m, fun _ => 0, g⟩ (fun r => (∀ c : Dev Cert.AdOdInIdeal.nD,
      r.2.mem ((c.tc : Thread Cert.AdOdInIdeal.nD Cert.AdOdInIdeal.τ).loc Cert.AdOdInIdeal.main_arg0) = m ((c.tc : Thread Cert.AdOdInIdeal.nD Cert.AdOdInIdeal.τ).loc Cert.AdOdInIdeal.main_arg0)
      ∧ r.2.mem ((c.tc : Thread Cert.AdOdInIdeal.nD Cert.AdOdInIdeal.τ).loc Cert.AdOdInIdeal.main_arg1) = m ((c.tc : Thread Cert.AdOdInIdeal.nD Cert.AdOdInIdeal.τ).loc Cert.AdOdInIdeal.main_arg1)
      ∧ r.2.mem ((c.tc : Thread Cert.AdOdInIdeal.nD Cert.AdOdInIdeal.τ).loc Cert.AdOdInIdeal.main_arg2) = m ((c.tc : Thread Cert.AdOdInIdeal.nD Cert.AdOdInIdeal.τ).loc Cert.AdOdInIdeal.main_arg2)
      ∧ r.2.mem ((c.tc : Thread Cert.AdOdInIdeal.nD Cert.AdOdInIdeal.τ).loc Cert.AdOdInIdeal.main_arg3) = m ((c.tc : Thread Cert.AdOdInIdeal.nD Cert.AdOdInIdeal.τ).loc Cert.AdOdInIdeal.main_arg3)
      ∧ r.2.mem ((c.tc : Thread Cert.AdOdInIdeal.nD Cert.AdOdInIdeal.τ).loc Cert.AdOdInIdeal.main_arg4) = m ((c.tc : Thread Cert.AdOdInIdeal.nD Cert.AdOdInIdeal.τ).loc Cert.AdOdInIdeal.main_arg4)
      ∧ r.2.mem ((c.tc : Thread Cert.AdOdInIdeal.nD Cert.AdOdInIdeal.τ).loc Cert.AdOdInIdeal.main_arg5) = m ((c.tc : Thread Cert.AdOdInIdeal.nD Cert.AdOdInIdeal.τ).loc Cert.AdOdInIdeal.main_arg5))
      ∧ r.2.sem = fun _ => 0)

def quiescent_AdOdInRefIdeal [hAdOdInRefIdeal : Cert.AdOdInRefIdeal.Facts] : Prop :=
  ∀ (m : (ℓ : Loc Cert.AdOdInRefIdeal.nD Cert.AdOdInRefIdeal.τ Cert.AdOdInRefIdeal.sig) → Buf (Elt Ideal) ℓ) (g : Dev Cert.AdOdInRefIdeal.nD → PrngReg), Pre_AdOdInRefIdeal m →
    θ_run (Cert.AdOdInRefIdeal.defs (F := Ideal)) (onTc (τ := Cert.AdOdInRefIdeal.τ) (Cert.AdOdInRefIdeal.main (F := Ideal))) ⟨m, fun _ => 0, g⟩ (fun r => (∀ c : Dev Cert.AdOdInRefIdeal.nD,
      r.2.mem ((c.tc : Thread Cert.AdOdInRefIdeal.nD Cert.AdOdInRefIdeal.τ).loc Cert.AdOdInRefIdeal.main_arg0) = m ((c.tc : Thread Cert.AdOdInRefIdeal.nD Cert.AdOdInRefIdeal.τ).loc Cert.AdOdInRefIdeal.main_arg0)
      ∧ r.2.mem ((c.tc : Thread Cert.AdOdInRefIdeal.nD Cert.AdOdInRefIdeal.τ).loc Cert.AdOdInRefIdeal.main_arg1) = m ((c.tc : Thread Cert.AdOdInRefIdeal.nD Cert.AdOdInRefIdeal.τ).loc Cert.AdOdInRefIdeal.main_arg1)
      ∧ r.2.mem ((c.tc : Thread Cert.AdOdInRefIdeal.nD Cert.AdOdInRefIdeal.τ).loc Cert.AdOdInRefIdeal.main_arg2) = m ((c.tc : Thread Cert.AdOdInRefIdeal.nD Cert.AdOdInRefIdeal.τ).loc Cert.AdOdInRefIdeal.main_arg2)
      ∧ r.2.mem ((c.tc : Thread Cert.AdOdInRefIdeal.nD Cert.AdOdInRefIdeal.τ).loc Cert.AdOdInRefIdeal.main_arg3) = m ((c.tc : Thread Cert.AdOdInRefIdeal.nD Cert.AdOdInRefIdeal.τ).loc Cert.AdOdInRefIdeal.main_arg3)
      ∧ r.2.mem ((c.tc : Thread Cert.AdOdInRefIdeal.nD Cert.AdOdInRefIdeal.τ).loc Cert.AdOdInRefIdeal.main_arg4) = m ((c.tc : Thread Cert.AdOdInRefIdeal.nD Cert.AdOdInRefIdeal.τ).loc Cert.AdOdInRefIdeal.main_arg4)
      ∧ r.2.mem ((c.tc : Thread Cert.AdOdInRefIdeal.nD Cert.AdOdInRefIdeal.τ).loc Cert.AdOdInRefIdeal.main_arg5) = m ((c.tc : Thread Cert.AdOdInRefIdeal.nD Cert.AdOdInRefIdeal.τ).loc Cert.AdOdInRefIdeal.main_arg5))
      ∧ r.2.sem = fun _ => 0)

def quiescent_AdProj [hAdProj : Cert.AdProj.Facts] : Prop :=
  ∀ (m : (ℓ : Loc Cert.AdProj.nD Cert.AdProj.τ Cert.AdProj.sig) → Buf (Elt Bits) ℓ) (g : Dev Cert.AdProj.nD → PrngReg), Pre_AdProj m →
    θ_run (Cert.AdProj.defs (F := Bits)) (onTc (τ := Cert.AdProj.τ) (Cert.AdProj.main (F := Bits))) ⟨m, fun _ => 0, g⟩ (fun r => (∀ c : Dev Cert.AdProj.nD,
      r.2.mem ((c.tc : Thread Cert.AdProj.nD Cert.AdProj.τ).loc Cert.AdProj.main_arg0) = m ((c.tc : Thread Cert.AdProj.nD Cert.AdProj.τ).loc Cert.AdProj.main_arg0)
      ∧ r.2.mem ((c.tc : Thread Cert.AdProj.nD Cert.AdProj.τ).loc Cert.AdProj.main_arg1) = m ((c.tc : Thread Cert.AdProj.nD Cert.AdProj.τ).loc Cert.AdProj.main_arg1)
      ∧ r.2.mem ((c.tc : Thread Cert.AdProj.nD Cert.AdProj.τ).loc Cert.AdProj.main_arg2) = m ((c.tc : Thread Cert.AdProj.nD Cert.AdProj.τ).loc Cert.AdProj.main_arg2)
      ∧ r.2.mem ((c.tc : Thread Cert.AdProj.nD Cert.AdProj.τ).loc Cert.AdProj.main_arg3) = m ((c.tc : Thread Cert.AdProj.nD Cert.AdProj.τ).loc Cert.AdProj.main_arg3)
      ∧ r.2.mem ((c.tc : Thread Cert.AdProj.nD Cert.AdProj.τ).loc Cert.AdProj.main_arg4) = m ((c.tc : Thread Cert.AdProj.nD Cert.AdProj.τ).loc Cert.AdProj.main_arg4)
      ∧ r.2.mem ((c.tc : Thread Cert.AdProj.nD Cert.AdProj.τ).loc Cert.AdProj.main_arg5) = m ((c.tc : Thread Cert.AdProj.nD Cert.AdProj.τ).loc Cert.AdProj.main_arg5))
      ∧ r.2.sem = fun _ => 0)

def quiescent_AdProjIdeal [hAdProjIdeal : Cert.AdProjIdeal.Facts] : Prop :=
  ∀ (m : (ℓ : Loc Cert.AdProjIdeal.nD Cert.AdProjIdeal.τ Cert.AdProjIdeal.sig) → Buf (Elt Ideal) ℓ) (g : Dev Cert.AdProjIdeal.nD → PrngReg), Pre_AdProjIdeal m →
    θ_run (Cert.AdProjIdeal.defs (F := Ideal)) (onTc (τ := Cert.AdProjIdeal.τ) (Cert.AdProjIdeal.main (F := Ideal))) ⟨m, fun _ => 0, g⟩ (fun r => (∀ c : Dev Cert.AdProjIdeal.nD,
      r.2.mem ((c.tc : Thread Cert.AdProjIdeal.nD Cert.AdProjIdeal.τ).loc Cert.AdProjIdeal.main_arg0) = m ((c.tc : Thread Cert.AdProjIdeal.nD Cert.AdProjIdeal.τ).loc Cert.AdProjIdeal.main_arg0)
      ∧ r.2.mem ((c.tc : Thread Cert.AdProjIdeal.nD Cert.AdProjIdeal.τ).loc Cert.AdProjIdeal.main_arg1) = m ((c.tc : Thread Cert.AdProjIdeal.nD Cert.AdProjIdeal.τ).loc Cert.AdProjIdeal.main_arg1)
      ∧ r.2.mem ((c.tc : Thread Cert.AdProjIdeal.nD Cert.AdProjIdeal.τ).loc Cert.AdProjIdeal.main_arg2) = m ((c.tc : Thread Cert.AdProjIdeal.nD Cert.AdProjIdeal.τ).loc Cert.AdProjIdeal.main_arg2)
      ∧ r.2.mem ((c.tc : Thread Cert.AdProjIdeal.nD Cert.AdProjIdeal.τ).loc Cert.AdProjIdeal.main_arg3) = m ((c.tc : Thread Cert.AdProjIdeal.nD Cert.AdProjIdeal.τ).loc Cert.AdProjIdeal.main_arg3)
      ∧ r.2.mem ((c.tc : Thread Cert.AdProjIdeal.nD Cert.AdProjIdeal.τ).loc Cert.AdProjIdeal.main_arg4) = m ((c.tc : Thread Cert.AdProjIdeal.nD Cert.AdProjIdeal.τ).loc Cert.AdProjIdeal.main_arg4)
      ∧ r.2.mem ((c.tc : Thread Cert.AdProjIdeal.nD Cert.AdProjIdeal.τ).loc Cert.AdProjIdeal.main_arg5) = m ((c.tc : Thread Cert.AdProjIdeal.nD Cert.AdProjIdeal.τ).loc Cert.AdProjIdeal.main_arg5))
      ∧ r.2.sem = fun _ => 0)

def quiescent_AdProjRefIdeal [hAdProjRefIdeal : Cert.AdProjRefIdeal.Facts] : Prop :=
  ∀ (m : (ℓ : Loc Cert.AdProjRefIdeal.nD Cert.AdProjRefIdeal.τ Cert.AdProjRefIdeal.sig) → Buf (Elt Ideal) ℓ) (g : Dev Cert.AdProjRefIdeal.nD → PrngReg), Pre_AdProjRefIdeal m →
    θ_run (Cert.AdProjRefIdeal.defs (F := Ideal)) (onTc (τ := Cert.AdProjRefIdeal.τ) (Cert.AdProjRefIdeal.main (F := Ideal))) ⟨m, fun _ => 0, g⟩ (fun r => (∀ c : Dev Cert.AdProjRefIdeal.nD,
      r.2.mem ((c.tc : Thread Cert.AdProjRefIdeal.nD Cert.AdProjRefIdeal.τ).loc Cert.AdProjRefIdeal.main_arg0) = m ((c.tc : Thread Cert.AdProjRefIdeal.nD Cert.AdProjRefIdeal.τ).loc Cert.AdProjRefIdeal.main_arg0)
      ∧ r.2.mem ((c.tc : Thread Cert.AdProjRefIdeal.nD Cert.AdProjRefIdeal.τ).loc Cert.AdProjRefIdeal.main_arg1) = m ((c.tc : Thread Cert.AdProjRefIdeal.nD Cert.AdProjRefIdeal.τ).loc Cert.AdProjRefIdeal.main_arg1)
      ∧ r.2.mem ((c.tc : Thread Cert.AdProjRefIdeal.nD Cert.AdProjRefIdeal.τ).loc Cert.AdProjRefIdeal.main_arg2) = m ((c.tc : Thread Cert.AdProjRefIdeal.nD Cert.AdProjRefIdeal.τ).loc Cert.AdProjRefIdeal.main_arg2)
      ∧ r.2.mem ((c.tc : Thread Cert.AdProjRefIdeal.nD Cert.AdProjRefIdeal.τ).loc Cert.AdProjRefIdeal.main_arg3) = m ((c.tc : Thread Cert.AdProjRefIdeal.nD Cert.AdProjRefIdeal.τ).loc Cert.AdProjRefIdeal.main_arg3)
      ∧ r.2.mem ((c.tc : Thread Cert.AdProjRefIdeal.nD Cert.AdProjRefIdeal.τ).loc Cert.AdProjRefIdeal.main_arg4) = m ((c.tc : Thread Cert.AdProjRefIdeal.nD Cert.AdProjRefIdeal.τ).loc Cert.AdProjRefIdeal.main_arg4)
      ∧ r.2.mem ((c.tc : Thread Cert.AdProjRefIdeal.nD Cert.AdProjRefIdeal.τ).loc Cert.AdProjRefIdeal.main_arg5) = m ((c.tc : Thread Cert.AdProjRefIdeal.nD Cert.AdProjRefIdeal.τ).loc Cert.AdProjRefIdeal.main_arg5))
      ∧ r.2.sem = fun _ => 0)

def quiescent_AdPacked [hAdPacked : Cert.AdPacked.Facts] : Prop :=
  ∀ (m : (ℓ : Loc Cert.AdPacked.nD Cert.AdPacked.τ Cert.AdPacked.sig) → Buf (Elt Bits) ℓ) (g : Dev Cert.AdPacked.nD → PrngReg), Pre_AdPacked m →
    θ_run (Cert.AdPacked.defs (F := Bits)) (onTc (τ := Cert.AdPacked.τ) (Cert.AdPacked.main (F := Bits))) ⟨m, fun _ => 0, g⟩ (fun r => (∀ c : Dev Cert.AdPacked.nD,
      r.2.mem ((c.tc : Thread Cert.AdPacked.nD Cert.AdPacked.τ).loc Cert.AdPacked.main_arg0) = m ((c.tc : Thread Cert.AdPacked.nD Cert.AdPacked.τ).loc Cert.AdPacked.main_arg0)
      ∧ r.2.mem ((c.tc : Thread Cert.AdPacked.nD Cert.AdPacked.τ).loc Cert.AdPacked.main_arg1) = m ((c.tc : Thread Cert.AdPacked.nD Cert.AdPacked.τ).loc Cert.AdPacked.main_arg1)
      ∧ r.2.mem ((c.tc : Thread Cert.AdPacked.nD Cert.AdPacked.τ).loc Cert.AdPacked.main_arg2) = m ((c.tc : Thread Cert.AdPacked.nD Cert.AdPacked.τ).loc Cert.AdPacked.main_arg2)
      ∧ r.2.mem ((c.tc : Thread Cert.AdPacked.nD Cert.AdPacked.τ).loc Cert.AdPacked.main_arg3) = m ((c.tc : Thread Cert.AdPacked.nD Cert.AdPacked.τ).loc Cert.AdPacked.main_arg3))
      ∧ r.2.sem = fun _ => 0)

def quiescent_AdPackedIdeal [hAdPackedIdeal : Cert.AdPackedIdeal.Facts] : Prop :=
  ∀ (m : (ℓ : Loc Cert.AdPackedIdeal.nD Cert.AdPackedIdeal.τ Cert.AdPackedIdeal.sig) → Buf (Elt Ideal) ℓ) (g : Dev Cert.AdPackedIdeal.nD → PrngReg), Pre_AdPackedIdeal m →
    θ_run (Cert.AdPackedIdeal.defs (F := Ideal)) (onTc (τ := Cert.AdPackedIdeal.τ) (Cert.AdPackedIdeal.main (F := Ideal))) ⟨m, fun _ => 0, g⟩ (fun r => (∀ c : Dev Cert.AdPackedIdeal.nD,
      r.2.mem ((c.tc : Thread Cert.AdPackedIdeal.nD Cert.AdPackedIdeal.τ).loc Cert.AdPackedIdeal.main_arg0) = m ((c.tc : Thread Cert.AdPackedIdeal.nD Cert.AdPackedIdeal.τ).loc Cert.AdPackedIdeal.main_arg0)
      ∧ r.2.mem ((c.tc : Thread Cert.AdPackedIdeal.nD Cert.AdPackedIdeal.τ).loc Cert.AdPackedIdeal.main_arg1) = m ((c.tc : Thread Cert.AdPackedIdeal.nD Cert.AdPackedIdeal.τ).loc Cert.AdPackedIdeal.main_arg1)
      ∧ r.2.mem ((c.tc : Thread Cert.AdPackedIdeal.nD Cert.AdPackedIdeal.τ).loc Cert.AdPackedIdeal.main_arg2) = m ((c.tc : Thread Cert.AdPackedIdeal.nD Cert.AdPackedIdeal.τ).loc Cert.AdPackedIdeal.main_arg2)
      ∧ r.2.mem ((c.tc : Thread Cert.AdPackedIdeal.nD Cert.AdPackedIdeal.τ).loc Cert.AdPackedIdeal.main_arg3) = m ((c.tc : Thread Cert.AdPackedIdeal.nD Cert.AdPackedIdeal.τ).loc Cert.AdPackedIdeal.main_arg3))
      ∧ r.2.sem = fun _ => 0)

def quiescent_AdPackedRefIdeal [hAdPackedRefIdeal : Cert.AdPackedRefIdeal.Facts] : Prop :=
  ∀ (m : (ℓ : Loc Cert.AdPackedRefIdeal.nD Cert.AdPackedRefIdeal.τ Cert.AdPackedRefIdeal.sig) → Buf (Elt Ideal) ℓ) (g : Dev Cert.AdPackedRefIdeal.nD → PrngReg), Pre_AdPackedRefIdeal m →
    θ_run (Cert.AdPackedRefIdeal.defs (F := Ideal)) (onTc (τ := Cert.AdPackedRefIdeal.τ) (Cert.AdPackedRefIdeal.main (F := Ideal))) ⟨m, fun _ => 0, g⟩ (fun r => (∀ c : Dev Cert.AdPackedRefIdeal.nD,
      r.2.mem ((c.tc : Thread Cert.AdPackedRefIdeal.nD Cert.AdPackedRefIdeal.τ).loc Cert.AdPackedRefIdeal.main_arg0) = m ((c.tc : Thread Cert.AdPackedRefIdeal.nD Cert.AdPackedRefIdeal.τ).loc Cert.AdPackedRefIdeal.main_arg0)
      ∧ r.2.mem ((c.tc : Thread Cert.AdPackedRefIdeal.nD Cert.AdPackedRefIdeal.τ).loc Cert.AdPackedRefIdeal.main_arg1) = m ((c.tc : Thread Cert.AdPackedRefIdeal.nD Cert.AdPackedRefIdeal.τ).loc Cert.AdPackedRefIdeal.main_arg1)
      ∧ r.2.mem ((c.tc : Thread Cert.AdPackedRefIdeal.nD Cert.AdPackedRefIdeal.τ).loc Cert.AdPackedRefIdeal.main_arg2) = m ((c.tc : Thread Cert.AdPackedRefIdeal.nD Cert.AdPackedRefIdeal.τ).loc Cert.AdPackedRefIdeal.main_arg2)
      ∧ r.2.mem ((c.tc : Thread Cert.AdPackedRefIdeal.nD Cert.AdPackedRefIdeal.τ).loc Cert.AdPackedRefIdeal.main_arg3) = m ((c.tc : Thread Cert.AdPackedRefIdeal.nD Cert.AdPackedRefIdeal.τ).loc Cert.AdPackedRefIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v91) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v77) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mm_MmIdeal : Prop :=
  True

def algebraic_MmIdeal_MmRefIdeal [hMmIdeal : Cert.MmIdeal.Facts] [hMmRefIdeal : Cert.MmRefIdeal.Facts] : Prop :=
  ∀ (m : (ℓ : Loc Cert.MmIdeal.nD Cert.MmIdeal.τ Cert.MmIdeal.sig) → Buf (Elt Ideal) ℓ) (g : Dev Cert.MmIdeal.nD → PrngReg)
    (m' : (ℓ : Loc Cert.MmRefIdeal.nD Cert.MmRefIdeal.τ Cert.MmRefIdeal.sig) → Buf (Elt Ideal) ℓ) (g' : Dev Cert.MmRefIdeal.nD → PrngReg), Pre_MmIdeal m →
    (∀ c : Dev Cert.MmIdeal.nD,
      m' ((c.tc : Thread Cert.MmRefIdeal.nD Cert.MmRefIdeal.τ).loc Cert.MmRefIdeal.main_arg0) = m ((c.tc : Thread Cert.MmIdeal.nD Cert.MmIdeal.τ).loc Cert.MmIdeal.main_arg0)
      ∧ m' ((c.tc : Thread Cert.MmRefIdeal.nD Cert.MmRefIdeal.τ).loc Cert.MmRefIdeal.main_arg1) = m ((c.tc : Thread Cert.MmIdeal.nD Cert.MmIdeal.τ).loc Cert.MmIdeal.main_arg1)) →
    ∃ (v0 : (c : Dev Cert.MmIdeal.nD) → Buf (Elt Ideal) ((c.tc : Thread Cert.MmIdeal.nD Cert.MmIdeal.τ).loc Cert.MmIdeal.main_v0)),
      θ_run (Cert.MmIdeal.defs (F := Ideal)) (onTc (τ := Cert.MmIdeal.τ) (Cert.MmIdeal.main (F := Ideal))) ⟨m, fun _ => 0, g⟩ (fun r => ∀ c : Dev Cert.MmIdeal.nD,
          r.2.mem ((c.tc : Thread Cert.MmIdeal.nD Cert.MmIdeal.τ).loc Cert.MmIdeal.main_v0) = v0 c
          ∧ r.2.mem ((c.tc : Thread Cert.MmIdeal.nD Cert.MmIdeal.τ).loc Cert.MmIdeal.main_arg0) = m ((c.tc : Thread Cert.MmIdeal.nD Cert.MmIdeal.τ).loc Cert.MmIdeal.main_arg0)
          ∧ r.2.mem ((c.tc : Thread Cert.MmIdeal.nD Cert.MmIdeal.τ).loc Cert.MmIdeal.main_arg1) = m ((c.tc : Thread Cert.MmIdeal.nD Cert.MmIdeal.τ).loc Cert.MmIdeal.main_arg1))
      ∧ θ_run (Cert.MmRefIdeal.defs (F := Ideal)) (onTc (τ := Cert.MmRefIdeal.τ) (Cert.MmRefIdeal.main (F := Ideal))) ⟨m', fun _ => 0, g'⟩ (fun r => ∀ c : Dev Cert.MmRefIdeal.nD,
          r.2.mem ((c.tc : Thread Cert.MmRefIdeal.nD Cert.MmRefIdeal.τ).loc Cert.MmRefIdeal.main_v3) = v0 c
          ∧ r.2.mem ((c.tc : Thread Cert.MmRefIdeal.nD Cert.MmRefIdeal.τ).loc Cert.MmRefIdeal.main_arg0) = m' ((c.tc : Thread Cert.MmRefIdeal.nD Cert.MmRefIdeal.τ).loc Cert.MmRefIdeal.main_arg0)
          ∧ r.2.mem ((c.tc : Thread Cert.MmRefIdeal.nD Cert.MmRefIdeal.τ).loc Cert.MmRefIdeal.main_arg1) = m' ((c.tc : Thread Cert.MmRefIdeal.nD Cert.MmRefIdeal.τ).loc Cert.MmRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v15) = v0 c
          ∧ r.2.mem ((c.tc : Thread Cert.GluRefIdeal.nD Cert.GluRefIdeal.τ).loc Cert.GluRefIdeal.main_v16) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v3) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_EvInDw_EvInDwIdeal : Prop :=
  True

def algebraic_EvInDwIdeal_EvInDwRefIdeal [hEvInDwIdeal : Cert.EvInDwIdeal.Facts] [hEvInDwRefIdeal : Cert.EvInDwRefIdeal.Facts] : Prop :=
  ∀ (m : (ℓ : Loc Cert.EvInDwIdeal.nD Cert.EvInDwIdeal.τ Cert.EvInDwIdeal.sig) → Buf (Elt Ideal) ℓ) (g : Dev Cert.EvInDwIdeal.nD → PrngReg)
    (m' : (ℓ : Loc Cert.EvInDwRefIdeal.nD Cert.EvInDwRefIdeal.τ Cert.EvInDwRefIdeal.sig) → Buf (Elt Ideal) ℓ) (g' : Dev Cert.EvInDwRefIdeal.nD → PrngReg), Pre_EvInDwIdeal m →
    (∀ c : Dev Cert.EvInDwIdeal.nD,
      m' ((c.tc : Thread Cert.EvInDwRefIdeal.nD Cert.EvInDwRefIdeal.τ).loc Cert.EvInDwRefIdeal.main_arg0) = m ((c.tc : Thread Cert.EvInDwIdeal.nD Cert.EvInDwIdeal.τ).loc Cert.EvInDwIdeal.main_arg0)
      ∧ m' ((c.tc : Thread Cert.EvInDwRefIdeal.nD Cert.EvInDwRefIdeal.τ).loc Cert.EvInDwRefIdeal.main_arg1) = m ((c.tc : Thread Cert.EvInDwIdeal.nD Cert.EvInDwIdeal.τ).loc Cert.EvInDwIdeal.main_arg1)) →
    ∃ (v0 : (c : Dev Cert.EvInDwIdeal.nD) → Buf (Elt Ideal) ((c.tc : Thread Cert.EvInDwIdeal.nD Cert.EvInDwIdeal.τ).loc Cert.EvInDwIdeal.main_v0)),
      θ_run (Cert.EvInDwIdeal.defs (F := Ideal)) (onTc (τ := Cert.EvInDwIdeal.τ) (Cert.EvInDwIdeal.main (F := Ideal))) ⟨m, fun _ => 0, g⟩ (fun r => ∀ c : Dev Cert.EvInDwIdeal.nD,
          r.2.mem ((c.tc : Thread Cert.EvInDwIdeal.nD Cert.EvInDwIdeal.τ).loc Cert.EvInDwIdeal.main_v0) = v0 c
          ∧ r.2.mem ((c.tc : Thread Cert.EvInDwIdeal.nD Cert.EvInDwIdeal.τ).loc Cert.EvInDwIdeal.main_arg0) = m ((c.tc : Thread Cert.EvInDwIdeal.nD Cert.EvInDwIdeal.τ).loc Cert.EvInDwIdeal.main_arg0)
          ∧ r.2.mem ((c.tc : Thread Cert.EvInDwIdeal.nD Cert.EvInDwIdeal.τ).loc Cert.EvInDwIdeal.main_arg1) = m ((c.tc : Thread Cert.EvInDwIdeal.nD Cert.EvInDwIdeal.τ).loc Cert.EvInDwIdeal.main_arg1))
      ∧ θ_run (Cert.EvInDwRefIdeal.defs (F := Ideal)) (onTc (τ := Cert.EvInDwRefIdeal.τ) (Cert.EvInDwRefIdeal.main (F := Ideal))) ⟨m', fun _ => 0, g'⟩ (fun r => ∀ c : Dev Cert.EvInDwRefIdeal.nD,
          r.2.mem ((c.tc : Thread Cert.EvInDwRefIdeal.nD Cert.EvInDwRefIdeal.τ).loc Cert.EvInDwRefIdeal.main_v3) = v0 c
          ∧ r.2.mem ((c.tc : Thread Cert.EvInDwRefIdeal.nD Cert.EvInDwRefIdeal.τ).loc Cert.EvInDwRefIdeal.main_arg0) = m' ((c.tc : Thread Cert.EvInDwRefIdeal.nD Cert.EvInDwRefIdeal.τ).loc Cert.EvInDwRefIdeal.main_arg0)
          ∧ r.2.mem ((c.tc : Thread Cert.EvInDwRefIdeal.nD Cert.EvInDwRefIdeal.τ).loc Cert.EvInDwRefIdeal.main_arg1) = m' ((c.tc : Thread Cert.EvInDwRefIdeal.nD Cert.EvInDwRefIdeal.τ).loc Cert.EvInDwRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v2) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_GateDx_GateDxIdeal : Prop :=
  True

def algebraic_GateDxIdeal_GateDxRefIdeal [hGateDxIdeal : Cert.GateDxIdeal.Facts] [hGateDxRefIdeal : Cert.GateDxRefIdeal.Facts] : Prop :=
  ∀ (m : (ℓ : Loc Cert.GateDxIdeal.nD Cert.GateDxIdeal.τ Cert.GateDxIdeal.sig) → Buf (Elt Ideal) ℓ) (g : Dev Cert.GateDxIdeal.nD → PrngReg)
    (m' : (ℓ : Loc Cert.GateDxRefIdeal.nD Cert.GateDxRefIdeal.τ Cert.GateDxRefIdeal.sig) → Buf (Elt Ideal) ℓ) (g' : Dev Cert.GateDxRefIdeal.nD → PrngReg), Pre_GateDxIdeal m →
    (∀ c : Dev Cert.GateDxIdeal.nD,
      m' ((c.tc : Thread Cert.GateDxRefIdeal.nD Cert.GateDxRefIdeal.τ).loc Cert.GateDxRefIdeal.main_arg0) = m ((c.tc : Thread Cert.GateDxIdeal.nD Cert.GateDxIdeal.τ).loc Cert.GateDxIdeal.main_arg0)
      ∧ m' ((c.tc : Thread Cert.GateDxRefIdeal.nD Cert.GateDxRefIdeal.τ).loc Cert.GateDxRefIdeal.main_arg1) = m ((c.tc : Thread Cert.GateDxIdeal.nD Cert.GateDxIdeal.τ).loc Cert.GateDxIdeal.main_arg1)) →
    ∃ (v0 : (c : Dev Cert.GateDxIdeal.nD) → Buf (Elt Ideal) ((c.tc : Thread Cert.GateDxIdeal.nD Cert.GateDxIdeal.τ).loc Cert.GateDxIdeal.main_v0)),
      θ_run (Cert.GateDxIdeal.defs (F := Ideal)) (onTc (τ := Cert.GateDxIdeal.τ) (Cert.GateDxIdeal.main (F := Ideal))) ⟨m, fun _ => 0, g⟩ (fun r => ∀ c : Dev Cert.GateDxIdeal.nD,
          r.2.mem ((c.tc : Thread Cert.GateDxIdeal.nD Cert.GateDxIdeal.τ).loc Cert.GateDxIdeal.main_v0) = v0 c
          ∧ r.2.mem ((c.tc : Thread Cert.GateDxIdeal.nD Cert.GateDxIdeal.τ).loc Cert.GateDxIdeal.main_arg0) = m ((c.tc : Thread Cert.GateDxIdeal.nD Cert.GateDxIdeal.τ).loc Cert.GateDxIdeal.main_arg0)
          ∧ r.2.mem ((c.tc : Thread Cert.GateDxIdeal.nD Cert.GateDxIdeal.τ).loc Cert.GateDxIdeal.main_arg1) = m ((c.tc : Thread Cert.GateDxIdeal.nD Cert.GateDxIdeal.τ).loc Cert.GateDxIdeal.main_arg1))
      ∧ θ_run (Cert.GateDxRefIdeal.defs (F := Ideal)) (onTc (τ := Cert.GateDxRefIdeal.τ) (Cert.GateDxRefIdeal.main (F := Ideal))) ⟨m', fun _ => 0, g'⟩ (fun r => ∀ c : Dev Cert.GateDxRefIdeal.nD,
          r.2.mem ((c.tc : Thread Cert.GateDxRefIdeal.nD Cert.GateDxRefIdeal.τ).loc Cert.GateDxRefIdeal.main_v3) = v0 c
          ∧ r.2.mem ((c.tc : Thread Cert.GateDxRefIdeal.nD Cert.GateDxRefIdeal.τ).loc Cert.GateDxRefIdeal.main_arg0) = m' ((c.tc : Thread Cert.GateDxRefIdeal.nD Cert.GateDxRefIdeal.τ).loc Cert.GateDxRefIdeal.main_arg0)
          ∧ r.2.mem ((c.tc : Thread Cert.GateDxRefIdeal.nD Cert.GateDxRefIdeal.τ).loc Cert.GateDxRefIdeal.main_arg1) = m' ((c.tc : Thread Cert.GateDxRefIdeal.nD Cert.GateDxRefIdeal.τ).loc Cert.GateDxRefIdeal.main_arg1))

def preserves_GateDw_GateDwIdeal : Prop :=
  True

def algebraic_GateDwIdeal_GateDwRefIdeal [hGateDwIdeal : Cert.GateDwIdeal.Facts] [hGateDwRefIdeal : Cert.GateDwRefIdeal.Facts] : Prop :=
  ∀ (m : (ℓ : Loc Cert.GateDwIdeal.nD Cert.GateDwIdeal.τ Cert.GateDwIdeal.sig) → Buf (Elt Ideal) ℓ) (g : Dev Cert.GateDwIdeal.nD → PrngReg)
    (m' : (ℓ : Loc Cert.GateDwRefIdeal.nD Cert.GateDwRefIdeal.τ Cert.GateDwRefIdeal.sig) → Buf (Elt Ideal) ℓ) (g' : Dev Cert.GateDwRefIdeal.nD → PrngReg), Pre_GateDwIdeal m →
    (∀ c : Dev Cert.GateDwIdeal.nD,
      m' ((c.tc : Thread Cert.GateDwRefIdeal.nD Cert.GateDwRefIdeal.τ).loc Cert.GateDwRefIdeal.main_arg0) = m ((c.tc : Thread Cert.GateDwIdeal.nD Cert.GateDwIdeal.τ).loc Cert.GateDwIdeal.main_arg0)
      ∧ m' ((c.tc : Thread Cert.GateDwRefIdeal.nD Cert.GateDwRefIdeal.τ).loc Cert.GateDwRefIdeal.main_arg1) = m ((c.tc : Thread Cert.GateDwIdeal.nD Cert.GateDwIdeal.τ).loc Cert.GateDwIdeal.main_arg1)) →
    ∃ (v0 : (c : Dev Cert.GateDwIdeal.nD) → Buf (Elt Ideal) ((c.tc : Thread Cert.GateDwIdeal.nD Cert.GateDwIdeal.τ).loc Cert.GateDwIdeal.main_v0)),
      θ_run (Cert.GateDwIdeal.defs (F := Ideal)) (onTc (τ := Cert.GateDwIdeal.τ) (Cert.GateDwIdeal.main (F := Ideal))) ⟨m, fun _ => 0, g⟩ (fun r => ∀ c : Dev Cert.GateDwIdeal.nD,
          r.2.mem ((c.tc : Thread Cert.GateDwIdeal.nD Cert.GateDwIdeal.τ).loc Cert.GateDwIdeal.main_v0) = v0 c
          ∧ r.2.mem ((c.tc : Thread Cert.GateDwIdeal.nD Cert.GateDwIdeal.τ).loc Cert.GateDwIdeal.main_arg0) = m ((c.tc : Thread Cert.GateDwIdeal.nD Cert.GateDwIdeal.τ).loc Cert.GateDwIdeal.main_arg0)
          ∧ r.2.mem ((c.tc : Thread Cert.GateDwIdeal.nD Cert.GateDwIdeal.τ).loc Cert.GateDwIdeal.main_arg1) = m ((c.tc : Thread Cert.GateDwIdeal.nD Cert.GateDwIdeal.τ).loc Cert.GateDwIdeal.main_arg1))
      ∧ θ_run (Cert.GateDwRefIdeal.defs (F := Ideal)) (onTc (τ := Cert.GateDwRefIdeal.τ) (Cert.GateDwRefIdeal.main (F := Ideal))) ⟨m', fun _ => 0, g'⟩ (fun r => ∀ c : Dev Cert.GateDwRefIdeal.nD,
          r.2.mem ((c.tc : Thread Cert.GateDwRefIdeal.nD Cert.GateDwRefIdeal.τ).loc Cert.GateDwRefIdeal.main_v3) = v0 c
          ∧ r.2.mem ((c.tc : Thread Cert.GateDwRefIdeal.nD Cert.GateDwRefIdeal.τ).loc Cert.GateDwRefIdeal.main_arg0) = m' ((c.tc : Thread Cert.GateDwRefIdeal.nD Cert.GateDwRefIdeal.τ).loc Cert.GateDwRefIdeal.main_arg0)
          ∧ r.2.mem ((c.tc : Thread Cert.GateDwRefIdeal.nD Cert.GateDwRefIdeal.τ).loc Cert.GateDwRefIdeal.main_arg1) = m' ((c.tc : Thread Cert.GateDwRefIdeal.nD Cert.GateDwRefIdeal.τ).loc Cert.GateDwRefIdeal.main_arg1))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v2) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_EvInDx_EvInDxIdeal : Prop :=
  True

def algebraic_EvInDxIdeal_EvInDxRefIdeal [hEvInDxIdeal : Cert.EvInDxIdeal.Facts] [hEvInDxRefIdeal : Cert.EvInDxRefIdeal.Facts] : Prop :=
  ∀ (m : (ℓ : Loc Cert.EvInDxIdeal.nD Cert.EvInDxIdeal.τ Cert.EvInDxIdeal.sig) → Buf (Elt Ideal) ℓ) (g : Dev Cert.EvInDxIdeal.nD → PrngReg)
    (m' : (ℓ : Loc Cert.EvInDxRefIdeal.nD Cert.EvInDxRefIdeal.τ Cert.EvInDxRefIdeal.sig) → Buf (Elt Ideal) ℓ) (g' : Dev Cert.EvInDxRefIdeal.nD → PrngReg), Pre_EvInDxIdeal m →
    (∀ c : Dev Cert.EvInDxIdeal.nD,
      m' ((c.tc : Thread Cert.EvInDxRefIdeal.nD Cert.EvInDxRefIdeal.τ).loc Cert.EvInDxRefIdeal.main_arg0) = m ((c.tc : Thread Cert.EvInDxIdeal.nD Cert.EvInDxIdeal.τ).loc Cert.EvInDxIdeal.main_arg0)
      ∧ m' ((c.tc : Thread Cert.EvInDxRefIdeal.nD Cert.EvInDxRefIdeal.τ).loc Cert.EvInDxRefIdeal.main_arg1) = m ((c.tc : Thread Cert.EvInDxIdeal.nD Cert.EvInDxIdeal.τ).loc Cert.EvInDxIdeal.main_arg1)) →
    ∃ (v0 : (c : Dev Cert.EvInDxIdeal.nD) → Buf (Elt Ideal) ((c.tc : Thread Cert.EvInDxIdeal.nD Cert.EvInDxIdeal.τ).loc Cert.EvInDxIdeal.main_v0)),
      θ_run (Cert.EvInDxIdeal.defs (F := Ideal)) (onTc (τ := Cert.EvInDxIdeal.τ) (Cert.EvInDxIdeal.main (F := Ideal))) ⟨m, fun _ => 0, g⟩ (fun r => ∀ c : Dev Cert.EvInDxIdeal.nD,
          r.2.mem ((c.tc : Thread Cert.EvInDxIdeal.nD Cert.EvInDxIdeal.τ).loc Cert.EvInDxIdeal.main_v0) = v0 c
          ∧ r.2.mem ((c.tc : Thread Cert.EvInDxIdeal.nD Cert.EvInDxIdeal.τ).loc Cert.EvInDxIdeal.main_arg0) = m ((c.tc : Thread Cert.EvInDxIdeal.nD Cert.EvInDxIdeal.τ).loc Cert.EvInDxIdeal.main_arg0)
          ∧ r.2.mem ((c.tc : Thread Cert.EvInDxIdeal.nD Cert.EvInDxIdeal.τ).loc Cert.EvInDxIdeal.main_arg1) = m ((c.tc : Thread Cert.EvInDxIdeal.nD Cert.EvInDxIdeal.τ).loc Cert.EvInDxIdeal.main_arg1))
      ∧ θ_run (Cert.EvInDxRefIdeal.defs (F := Ideal)) (onTc (τ := Cert.EvInDxRefIdeal.τ) (Cert.EvInDxRefIdeal.main (F := Ideal))) ⟨m', fun _ => 0, g'⟩ (fun r => ∀ c : Dev Cert.EvInDxRefIdeal.nD,
          r.2.mem ((c.tc : Thread Cert.EvInDxRefIdeal.nD Cert.EvInDxRefIdeal.τ).loc Cert.EvInDxRefIdeal.main_v3) = v0 c
          ∧ r.2.mem ((c.tc : Thread Cert.EvInDxRefIdeal.nD Cert.EvInDxRefIdeal.τ).loc Cert.EvInDxRefIdeal.main_arg0) = m' ((c.tc : Thread Cert.EvInDxRefIdeal.nD Cert.EvInDxRefIdeal.τ).loc Cert.EvInDxRefIdeal.main_arg0)
          ∧ r.2.mem ((c.tc : Thread Cert.EvInDxRefIdeal.nD Cert.EvInDxRefIdeal.τ).loc Cert.EvInDxRefIdeal.main_arg1) = m' ((c.tc : Thread Cert.EvInDxRefIdeal.nD Cert.EvInDxRefIdeal.τ).loc Cert.EvInDxRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)
      ∧ m' ((c.tc : Thread Cert.RmsRefIdeal.nD Cert.RmsRefIdeal.τ).loc Cert.RmsRefIdeal.main_arg2) = m ((c.tc : Thread Cert.RmsIdeal.nD Cert.RmsIdeal.τ).loc Cert.RmsIdeal.main_arg2)
      ∧ m' ((c.tc : Thread Cert.RmsRefIdeal.nD Cert.RmsRefIdeal.τ).loc Cert.RmsRefIdeal.main_arg3) = m ((c.tc : Thread Cert.RmsIdeal.nD Cert.RmsIdeal.τ).loc Cert.RmsIdeal.main_arg3)) →
    ∃ (v0 : (c : Dev Cert.RmsIdeal.nD) → Buf (Elt Ideal) ((c.tc : Thread Cert.RmsIdeal.nD Cert.RmsIdeal.τ).loc Cert.RmsIdeal.main_v0_0)) (v1 : (c : Dev Cert.RmsIdeal.nD) → Buf (Elt Ideal) ((c.tc : Thread Cert.RmsIdeal.nD Cert.RmsIdeal.τ).loc Cert.RmsIdeal.main_v0_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v0_0) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1)
          ∧ r.2.mem ((c.tc : Thread Cert.RmsIdeal.nD Cert.RmsIdeal.τ).loc Cert.RmsIdeal.main_arg2) = m ((c.tc : Thread Cert.RmsIdeal.nD Cert.RmsIdeal.τ).loc Cert.RmsIdeal.main_arg2)
          ∧ r.2.mem ((c.tc : Thread Cert.RmsIdeal.nD Cert.RmsIdeal.τ).loc Cert.RmsIdeal.main_arg3) = m ((c.tc : Thread Cert.RmsIdeal.nD Cert.RmsIdeal.τ).loc Cert.RmsIdeal.main_arg3))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v34) = v0 c
          ∧ r.2.mem ((c.tc : Thread Cert.RmsRefIdeal.nD Cert.RmsRefIdeal.τ).loc Cert.RmsRefIdeal.main_v17) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1)
          ∧ r.2.mem ((c.tc : Thread Cert.RmsRefIdeal.nD Cert.RmsRefIdeal.τ).loc Cert.RmsRefIdeal.main_arg2) = m' ((c.tc : Thread Cert.RmsRefIdeal.nD Cert.RmsRefIdeal.τ).loc Cert.RmsRefIdeal.main_arg2)
          ∧ r.2.mem ((c.tc : Thread Cert.RmsRefIdeal.nD Cert.RmsRefIdeal.τ).loc Cert.RmsRefIdeal.main_arg3) = m' ((c.tc : Thread Cert.RmsRefIdeal.nD Cert.RmsRefIdeal.τ).loc Cert.RmsRefIdeal.main_arg3))

def preserves_NaGate_NaGateIdeal : Prop :=
  True

def algebraic_NaGateIdeal_NaGateRefIdeal [hNaGateIdeal : Cert.NaGateIdeal.Facts] [hNaGateRefIdeal : Cert.NaGateRefIdeal.Facts] : Prop :=
  ∀ (m : (ℓ : Loc Cert.NaGateIdeal.nD Cert.NaGateIdeal.τ Cert.NaGateIdeal.sig) → Buf (Elt Ideal) ℓ) (g : Dev Cert.NaGateIdeal.nD → PrngReg)
    (m' : (ℓ : Loc Cert.NaGateRefIdeal.nD Cert.NaGateRefIdeal.τ Cert.NaGateRefIdeal.sig) → Buf (Elt Ideal) ℓ) (g' : Dev Cert.NaGateRefIdeal.nD → PrngReg), Pre_NaGateIdeal m →
    (∀ c : Dev Cert.NaGateIdeal.nD,
      m' ((c.tc : Thread Cert.NaGateRefIdeal.nD Cert.NaGateRefIdeal.τ).loc Cert.NaGateRefIdeal.main_arg0) = m ((c.tc : Thread Cert.NaGateIdeal.nD Cert.NaGateIdeal.τ).loc Cert.NaGateIdeal.main_arg0)
      ∧ m' ((c.tc : Thread Cert.NaGateRefIdeal.nD Cert.NaGateRefIdeal.τ).loc Cert.NaGateRefIdeal.main_arg1) = m ((c.tc : Thread Cert.NaGateIdeal.nD Cert.NaGateIdeal.τ).loc Cert.NaGateIdeal.main_arg1)
      ∧ m' ((c.tc : Thread Cert.NaGateRefIdeal.nD Cert.NaGateRefIdeal.τ).loc Cert.NaGateRefIdeal.main_arg2) = m ((c.tc : Thread Cert.NaGateIdeal.nD Cert.NaGateIdeal.τ).loc Cert.NaGateIdeal.main_arg2)) →
    ∃ (v0 : (c : Dev Cert.NaGateIdeal.nD) → Buf (Elt Ideal) ((c.tc : Thread Cert.NaGateIdeal.nD Cert.NaGateIdeal.τ).loc Cert.NaGateIdeal.main_v0_0)) (v1 : (c : Dev Cert.NaGateIdeal.nD) → Buf (Elt Ideal) ((c.tc : Thread Cert.NaGateIdeal.nD Cert.NaGateIdeal.τ).loc Cert.NaGateIdeal.main_v0_1)),
      θ_run (Cert.NaGateIdeal.defs (F := Ideal)) (onTc (τ := Cert.NaGateIdeal.τ) (Cert.NaGateIdeal.main (F := Ideal))) ⟨m, fun _ => 0, g⟩ (fun r => ∀ c : Dev Cert.NaGateIdeal.nD,
          r.2.mem ((c.tc : Thread Cert.NaGateIdeal.nD Cert.NaGateIdeal.τ).loc Cert.NaGateIdeal.main_v0_0) = v0 c
          ∧ r.2.mem ((c.tc : Thread Cert.NaGateIdeal.nD Cert.NaGateIdeal.τ).loc Cert.NaGateIdeal.main_v0_1) = v1 c
          ∧ r.2.mem ((c.tc : Thread Cert.NaGateIdeal.nD Cert.NaGateIdeal.τ).loc Cert.NaGateIdeal.main_arg0) = m ((c.tc : Thread Cert.NaGateIdeal.nD Cert.NaGateIdeal.τ).loc Cert.NaGateIdeal.main_arg0)
          ∧ r.2.mem ((c.tc : Thread Cert.NaGateIdeal.nD Cert.NaGateIdeal.τ).loc Cert.NaGateIdeal.main_arg1) = m ((c.tc : Thread Cert.NaGateIdeal.nD Cert.NaGateIdeal.τ).loc Cert.NaGateIdeal.main_arg1)
          ∧ r.2.mem ((c.tc : Thread Cert.NaGateIdeal.nD Cert.NaGateIdeal.τ).loc Cert.NaGateIdeal.main_arg2) = m ((c.tc : Thread Cert.NaGateIdeal.nD Cert.NaGateIdeal.τ).loc Cert.NaGateIdeal.main_arg2))
      ∧ θ_run (Cert.NaGateRefIdeal.defs (F := Ideal)) (onTc (τ := Cert.NaGateRefIdeal.τ) (Cert.NaGateRefIdeal.main (F := Ideal))) ⟨m', fun _ => 0, g'⟩ (fun r => ∀ c : Dev Cert.NaGateRefIdeal.nD,
          r.2.mem ((c.tc : Thread Cert.NaGateRefIdeal.nD Cert.NaGateRefIdeal.τ).loc Cert.NaGateRefIdeal.main_v6) = v0 c
          ∧ r.2.mem ((c.tc : Thread Cert.NaGateRefIdeal.nD Cert.NaGateRefIdeal.τ).loc Cert.NaGateRefIdeal.main_v8) = v1 c
          ∧ r.2.mem ((c.tc : Thread Cert.NaGateRefIdeal.nD Cert.NaGateRefIdeal.τ).loc Cert.NaGateRefIdeal.main_arg0) = m' ((c.tc : Thread Cert.NaGateRefIdeal.nD Cert.NaGateRefIdeal.τ).loc Cert.NaGateRefIdeal.main_arg0)
          ∧ r.2.mem ((c.tc : Thread Cert.NaGateRefIdeal.nD Cert.NaGateRefIdeal.τ).loc Cert.NaGateRefIdeal.main_arg1) = m' ((c.tc : Thread Cert.NaGateRefIdeal.nD Cert.NaGateRefIdeal.τ).loc Cert.NaGateRefIdeal.main_arg1)
          ∧ r.2.mem ((c.tc : Thread Cert.NaGateRefIdeal.nD Cert.NaGateRefIdeal.τ).loc Cert.NaGateRefIdeal.main_arg2) = m' ((c.tc : Thread Cert.NaGateRefIdeal.nD Cert.NaGateRefIdeal.τ).loc Cert.NaGateRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v13) = v0 c
          ∧ r.2.mem ((c.tc : Thread Cert.PleRefIdeal.nD Cert.PleRefIdeal.τ).loc Cert.PleRefIdeal.main_v14) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2))

def preserves_AdEvIn_AdEvInIdeal : Prop :=
  True

def algebraic_AdEvInIdeal_AdEvInRefIdeal [hAdEvInIdeal : Cert.AdEvInIdeal.Facts] [hAdEvInRefIdeal : Cert.AdEvInRefIdeal.Facts] : Prop :=
  ∀ (m : (ℓ : Loc Cert.AdEvInIdeal.nD Cert.AdEvInIdeal.τ Cert.AdEvInIdeal.sig) → Buf (Elt Ideal) ℓ) (g : Dev Cert.AdEvInIdeal.nD → PrngReg)
    (m' : (ℓ : Loc Cert.AdEvInRefIdeal.nD Cert.AdEvInRefIdeal.τ Cert.AdEvInRefIdeal.sig) → Buf (Elt Ideal) ℓ) (g' : Dev Cert.AdEvInRefIdeal.nD → PrngReg), Pre_AdEvInIdeal m →
    (∀ c : Dev Cert.AdEvInIdeal.nD,
      m' ((c.tc : Thread Cert.AdEvInRefIdeal.nD Cert.AdEvInRefIdeal.τ).loc Cert.AdEvInRefIdeal.main_arg0) = m ((c.tc : Thread Cert.AdEvInIdeal.nD Cert.AdEvInIdeal.τ).loc Cert.AdEvInIdeal.main_arg0)
      ∧ m' ((c.tc : Thread Cert.AdEvInRefIdeal.nD Cert.AdEvInRefIdeal.τ).loc Cert.AdEvInRefIdeal.main_arg1) = m ((c.tc : Thread Cert.AdEvInIdeal.nD Cert.AdEvInIdeal.τ).loc Cert.AdEvInIdeal.main_arg1)
      ∧ m' ((c.tc : Thread Cert.AdEvInRefIdeal.nD Cert.AdEvInRefIdeal.τ).loc Cert.AdEvInRefIdeal.main_arg2) = m ((c.tc : Thread Cert.AdEvInIdeal.nD Cert.AdEvInIdeal.τ).loc Cert.AdEvInIdeal.main_arg2)
      ∧ m' ((c.tc : Thread Cert.AdEvInRefIdeal.nD Cert.AdEvInRefIdeal.τ).loc Cert.AdEvInRefIdeal.main_arg3) = m ((c.tc : Thread Cert.AdEvInIdeal.nD Cert.AdEvInIdeal.τ).loc Cert.AdEvInIdeal.main_arg3)
      ∧ m' ((c.tc : Thread Cert.AdEvInRefIdeal.nD Cert.AdEvInRefIdeal.τ).loc Cert.AdEvInRefIdeal.main_arg4) = m ((c.tc : Thread Cert.AdEvInIdeal.nD Cert.AdEvInIdeal.τ).loc Cert.AdEvInIdeal.main_arg4)
      ∧ m' ((c.tc : Thread Cert.AdEvInRefIdeal.nD Cert.AdEvInRefIdeal.τ).loc Cert.AdEvInRefIdeal.main_arg5) = m ((c.tc : Thread Cert.AdEvInIdeal.nD Cert.AdEvInIdeal.τ).loc Cert.AdEvInIdeal.main_arg5)) →
    ∃ (v0 : (c : Dev Cert.AdEvInIdeal.nD) → Buf (Elt Ideal) ((c.tc : Thread Cert.AdEvInIdeal.nD Cert.AdEvInIdeal.τ).loc Cert.AdEvInIdeal.main_v0_0)) (v1 : (c : Dev Cert.AdEvInIdeal.nD) → Buf (Elt Ideal) ((c.tc : Thread Cert.AdEvInIdeal.nD Cert.AdEvInIdeal.τ).loc Cert.AdEvInIdeal.main_v0_1)) (v2 : (c : Dev Cert.AdEvInIdeal.nD) → Buf (Elt Ideal) ((c.tc : Thread Cert.AdEvInIdeal.nD Cert.AdEvInIdeal.τ).loc Cert.AdEvInIdeal.main_v0_2)) (v3 : (c : Dev Cert.AdEvInIdeal.nD) → Buf (Elt Ideal) ((c.tc : Thread Cert.AdEvInIdeal.nD Cert.AdEvInIdeal.τ).loc Cert.AdEvInIdeal.main_v0_3)),
      θ_run (Cert.AdEvInIdeal.defs (F := Ideal)) (onTc (τ := Cert.AdEvInIdeal.τ) (Cert.AdEvInIdeal.main (F := Ideal))) ⟨m, fun _ => 0, g⟩ (fun r => ∀ c : Dev Cert.AdEvInIdeal.nD,
          r.2.mem ((c.tc : Thread Cert.AdEvInIdeal.nD Cert.AdEvInIdeal.τ).loc Cert.AdEvInIdeal.main_v0_0) = v0 c
          ∧ r.2.mem ((c.tc : Thread Cert.AdEvInIdeal.nD Cert.AdEvInIdeal.τ).loc Cert.AdEvInIdeal.main_v0_1) = v1 c
          ∧ r.2.mem ((c.tc : Thread Cert.AdEvInIdeal.nD Cert.AdEvInIdeal.τ).loc Cert.AdEvInIdeal.main_v0_2) = v2 c
          ∧ r.2.mem ((c.tc : Thread Cert.AdEvInIdeal.nD Cert.AdEvInIdeal.τ).loc Cert.AdEvInIdeal.main_v0_3) = v3 c
          ∧ r.2.mem ((c.tc : Thread Cert.AdEvInIdeal.nD Cert.AdEvInIdeal.τ).loc Cert.AdEvInIdeal.main_arg0) = m ((c.tc : Thread Cert.AdEvInIdeal.nD Cert.AdEvInIdeal.τ).loc Cert.AdEvInIdeal.main_arg0)
          ∧ r.2.mem ((c.tc : Thread Cert.AdEvInIdeal.nD Cert.AdEvInIdeal.τ).loc Cert.AdEvInIdeal.main_arg1) = m ((c.tc : Thread Cert.AdEvInIdeal.nD Cert.AdEvInIdeal.τ).loc Cert.AdEvInIdeal.main_arg1)
          ∧ r.2.mem ((c.tc : Thread Cert.AdEvInIdeal.nD Cert.AdEvInIdeal.τ).loc Cert.AdEvInIdeal.main_arg2) = m ((c.tc : Thread Cert.AdEvInIdeal.nD Cert.AdEvInIdeal.τ).loc Cert.AdEvInIdeal.main_arg2)
          ∧ r.2.mem ((c.tc : Thread Cert.AdEvInIdeal.nD Cert.AdEvInIdeal.τ).loc Cert.AdEvInIdeal.main_arg3) = m ((c.tc : Thread Cert.AdEvInIdeal.nD Cert.AdEvInIdeal.τ).loc Cert.AdEvInIdeal.main_arg3)
          ∧ r.2.mem ((c.tc : Thread Cert.AdEvInIdeal.nD Cert.AdEvInIdeal.τ).loc Cert.AdEvInIdeal.main_arg4) = m ((c.tc : Thread Cert.AdEvInIdeal.nD Cert.AdEvInIdeal.τ).loc Cert.AdEvInIdeal.main_arg4)
          ∧ r.2.mem ((c.tc : Thread Cert.AdEvInIdeal.nD Cert.AdEvInIdeal.τ).loc Cert.AdEvInIdeal.main_arg5) = m ((c.tc : Thread Cert.AdEvInIdeal.nD Cert.AdEvInIdeal.τ).loc Cert.AdEvInIdeal.main_arg5))
      ∧ θ_run (Cert.AdEvInRefIdeal.defs (F := Ideal)) (onTc (τ := Cert.AdEvInRefIdeal.τ) (Cert.AdEvInRefIdeal.main (F := Ideal))) ⟨m', fun _ => 0, g'⟩ (fun r => ∀ c : Dev Cert.AdEvInRefIdeal.nD,
          r.2.mem ((c.tc : Thread Cert.AdEvInRefIdeal.nD Cert.AdEvInRefIdeal.τ).loc Cert.AdEvInRefIdeal.main_v8) = v0 c
          ∧ r.2.mem ((c.tc : Thread Cert.AdEvInRefIdeal.nD Cert.AdEvInRefIdeal.τ).loc Cert.AdEvInRefIdeal.main_v32) = v1 c
          ∧ r.2.mem ((c.tc : Thread Cert.AdEvInRefIdeal.nD Cert.AdEvInRefIdeal.τ).loc Cert.AdEvInRefIdeal.main_v13) = v2 c
          ∧ r.2.mem ((c.tc : Thread Cert.AdEvInRefIdeal.nD Cert.AdEvInRefIdeal.τ).loc Cert.AdEvInRefIdeal.main_v19) = v3 c
          ∧ r.2.mem ((c.tc : Thread Cert.AdEvInRefIdeal.nD Cert.AdEvInRefIdeal.τ).loc Cert.AdEvInRefIdeal.main_arg0) = m' ((c.tc : Thread Cert.AdEvInRefIdeal.nD Cert.AdEvInRefIdeal.τ).loc Cert.AdEvInRefIdeal.main_arg0)
          ∧ r.2.mem ((c.tc : Thread Cert.AdEvInRefIdeal.nD Cert.AdEvInRefIdeal.τ).loc Cert.AdEvInRefIdeal.main_arg1) = m' ((c.tc : Thread Cert.AdEvInRefIdeal.nD Cert.AdEvInRefIdeal.τ).loc Cert.AdEvInRefIdeal.main_arg1)
          ∧ r.2.mem ((c.tc : Thread Cert.AdEvInRefIdeal.nD Cert.AdEvInRefIdeal.τ).loc Cert.AdEvInRefIdeal.main_arg2) = m' ((c.tc : Thread Cert.AdEvInRefIdeal.nD Cert.AdEvInRefIdeal.τ).loc Cert.AdEvInRefIdeal.main_arg2)
          ∧ r.2.mem ((c.tc : Thread Cert.AdEvInRefIdeal.nD Cert.AdEvInRefIdeal.τ).loc Cert.AdEvInRefIdeal.main_arg3) = m' ((c.tc : Thread Cert.AdEvInRefIdeal.nD Cert.AdEvInRefIdeal.τ).loc Cert.AdEvInRefIdeal.main_arg3)
          ∧ r.2.mem ((c.tc : Thread Cert.AdEvInRefIdeal.nD Cert.AdEvInRefIdeal.τ).loc Cert.AdEvInRefIdeal.main_arg4) = m' ((c.tc : Thread Cert.AdEvInRefIdeal.nD Cert.AdEvInRefIdeal.τ).loc Cert.AdEvInRefIdeal.main_arg4)
          ∧ r.2.mem ((c.tc : Thread Cert.AdEvInRefIdeal.nD Cert.AdEvInRefIdeal.τ).loc Cert.AdEvInRefIdeal.main_arg5) = m' ((c.tc : Thread Cert.AdEvInRefIdeal.nD Cert.AdEvInRefIdeal.τ).loc Cert.AdEvInRefIdeal.main_arg5))

def preserves_AdOut_AdOutIdeal : Prop :=
  True

def algebraic_AdOutIdeal_AdOutRefIdeal [hAdOutIdeal : Cert.AdOutIdeal.Facts] [hAdOutRefIdeal : Cert.AdOutRefIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutRefIdeal.nD Cert.AdOutRefIdeal.τ Cert.AdOutRefIdeal.sig) → Buf (Elt Ideal) ℓ) (g' : Dev Cert.AdOutRefIdeal.nD → PrngReg), Pre_AdOutIdeal m →
    (∀ c : Dev Cert.AdOutIdeal.nD,
      m' ((c.tc : Thread Cert.AdOutRefIdeal.nD Cert.AdOutRefIdeal.τ).loc Cert.AdOutRefIdeal.main_arg0) = m ((c.tc : Thread Cert.AdOutIdeal.nD Cert.AdOutIdeal.τ).loc Cert.AdOutIdeal.main_arg0)
      ∧ m' ((c.tc : Thread Cert.AdOutRefIdeal.nD Cert.AdOutRefIdeal.τ).loc Cert.AdOutRefIdeal.main_arg1) = m ((c.tc : Thread Cert.AdOutIdeal.nD Cert.AdOutIdeal.τ).loc Cert.AdOutIdeal.main_arg1)
      ∧ m' ((c.tc : Thread Cert.AdOutRefIdeal.nD Cert.AdOutRefIdeal.τ).loc Cert.AdOutRefIdeal.main_arg2) = m ((c.tc : Thread Cert.AdOutIdeal.nD Cert.AdOutIdeal.τ).loc Cert.AdOutIdeal.main_arg2)
      ∧ m' ((c.tc : Thread Cert.AdOutRefIdeal.nD Cert.AdOutRefIdeal.τ).loc Cert.AdOutRefIdeal.main_arg3) = m ((c.tc : Thread Cert.AdOutIdeal.nD Cert.AdOutIdeal.τ).loc Cert.AdOutIdeal.main_arg3)
      ∧ m' ((c.tc : Thread Cert.AdOutRefIdeal.nD Cert.AdOutRefIdeal.τ).loc Cert.AdOutRefIdeal.main_arg4) = m ((c.tc : Thread Cert.AdOutIdeal.nD Cert.AdOutIdeal.τ).loc Cert.AdOutIdeal.main_arg4)
      ∧ m' ((c.tc : Thread Cert.AdOutRefIdeal.nD Cert.AdOutRefIdeal.τ).loc Cert.AdOutRefIdeal.main_arg5) = m ((c.tc : Thread Cert.AdOutIdeal.nD Cert.AdOutIdeal.τ).loc Cert.AdOutIdeal.main_arg5)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)) (v3 : (c : Dev Cert.AdOutIdeal.nD) → Buf (Elt Ideal) ((c.tc : Thread Cert.AdOutIdeal.nD Cert.AdOutIdeal.τ).loc Cert.AdOutIdeal.main_v0_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_v0_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3)
          ∧ r.2.mem ((c.tc : Thread Cert.AdOutIdeal.nD Cert.AdOutIdeal.τ).loc Cert.AdOutIdeal.main_arg4) = m ((c.tc : Thread Cert.AdOutIdeal.nD Cert.AdOutIdeal.τ).loc Cert.AdOutIdeal.main_arg4)
          ∧ r.2.mem ((c.tc : Thread Cert.AdOutIdeal.nD Cert.AdOutIdeal.τ).loc Cert.AdOutIdeal.main_arg5) = m ((c.tc : Thread Cert.AdOutIdeal.nD Cert.AdOutIdeal.τ).loc Cert.AdOutIdeal.main_arg5))
      ∧ θ_run (Cert.AdOutRefIdeal.defs (F := Ideal)) (onTc (τ := Cert.AdOutRefIdeal.τ) (Cert.AdOutRefIdeal.main (F := Ideal))) ⟨m', fun _ => 0, g'⟩ (fun r => ∀ c : Dev Cert.AdOutRefIdeal.nD,
          r.2.mem ((c.tc : Thread Cert.AdOutRefIdeal.nD Cert.AdOutRefIdeal.τ).loc Cert.AdOutRefIdeal.main_v8) = v0 c
          ∧ r.2.mem ((c.tc : Thread Cert.AdOutRefIdeal.nD Cert.AdOutRefIdeal.τ).loc Cert.AdOutRefIdeal.main_v32) = v1 c
          ∧ r.2.mem ((c.tc : Thread Cert.AdOutRefIdeal.nD Cert.AdOutRefIdeal.τ).loc Cert.AdOutRefIdeal.main_v13) = v2 c
          ∧ r.2.mem ((c.tc : Thread Cert.AdOutRefIdeal.nD Cert.AdOutRefIdeal.τ).loc Cert.AdOutRefIdeal.main_v19) = v3 c
          ∧ r.2.mem ((c.tc : Thread Cert.AdOutRefIdeal.nD Cert.AdOutRefIdeal.τ).loc Cert.AdOutRefIdeal.main_arg0) = m' ((c.tc : Thread Cert.AdOutRefIdeal.nD Cert.AdOutRefIdeal.τ).loc Cert.AdOutRefIdeal.main_arg0)
          ∧ r.2.mem ((c.tc : Thread Cert.AdOutRefIdeal.nD Cert.AdOutRefIdeal.τ).loc Cert.AdOutRefIdeal.main_arg1) = m' ((c.tc : Thread Cert.AdOutRefIdeal.nD Cert.AdOutRefIdeal.τ).loc Cert.AdOutRefIdeal.main_arg1)
          ∧ r.2.mem ((c.tc : Thread Cert.AdOutRefIdeal.nD Cert.AdOutRefIdeal.τ).loc Cert.AdOutRefIdeal.main_arg2) = m' ((c.tc : Thread Cert.AdOutRefIdeal.nD Cert.AdOutRefIdeal.τ).loc Cert.AdOutRefIdeal.main_arg2)
          ∧ r.2.mem ((c.tc : Thread Cert.AdOutRefIdeal.nD Cert.AdOutRefIdeal.τ).loc Cert.AdOutRefIdeal.main_arg3) = m' ((c.tc : Thread Cert.AdOutRefIdeal.nD Cert.AdOutRefIdeal.τ).loc Cert.AdOutRefIdeal.main_arg3)
          ∧ r.2.mem ((c.tc : Thread Cert.AdOutRefIdeal.nD Cert.AdOutRefIdeal.τ).loc Cert.AdOutRefIdeal.main_arg4) = m' ((c.tc : Thread Cert.AdOutRefIdeal.nD Cert.AdOutRefIdeal.τ).loc Cert.AdOutRefIdeal.main_arg4)
          ∧ r.2.mem ((c.tc : Thread Cert.AdOutRefIdeal.nD Cert.AdOutRefIdeal.τ).loc Cert.AdOutRefIdeal.main_arg5) = m' ((c.tc : Thread Cert.AdOutRefIdeal.nD Cert.AdOutRefIdeal.τ).loc Cert.AdOutRefIdeal.main_arg5))

def preserves_AdOdIn_AdOdInIdeal : Prop :=
  True

def algebraic_AdOdInIdeal_AdOdInRefIdeal [hAdOdInIdeal : Cert.AdOdInIdeal.Facts] [hAdOdInRefIdeal : Cert.AdOdInRefIdeal.Facts] : Prop :=
  ∀ (m : (ℓ : Loc Cert.AdOdInIdeal.nD Cert.AdOdInIdeal.τ Cert.AdOdInIdeal.sig) → Buf (Elt Ideal) ℓ) (g : Dev Cert.AdOdInIdeal.nD → PrngReg)
    (m' : (ℓ : Loc Cert.AdOdInRefIdeal.nD Cert.AdOdInRefIdeal.τ Cert.AdOdInRefIdeal.sig) → Buf (Elt Ideal) ℓ) (g' : Dev Cert.AdOdInRefIdeal.nD → PrngReg), Pre_AdOdInIdeal m →
    (∀ c : Dev Cert.AdOdInIdeal.nD,
      m' ((c.tc : Thread Cert.AdOdInRefIdeal.nD Cert.AdOdInRefIdeal.τ).loc Cert.AdOdInRefIdeal.main_arg0) = m ((c.tc : Thread Cert.AdOdInIdeal.nD Cert.AdOdInIdeal.τ).loc Cert.AdOdInIdeal.main_arg0)
      ∧ m' ((c.tc : Thread Cert.AdOdInRefIdeal.nD Cert.AdOdInRefIdeal.τ).loc Cert.AdOdInRefIdeal.main_arg1) = m ((c.tc : Thread Cert.AdOdInIdeal.nD Cert.AdOdInIdeal.τ).loc Cert.AdOdInIdeal.main_arg1)
      ∧ m' ((c.tc : Thread Cert.AdOdInRefIdeal.nD Cert.AdOdInRefIdeal.τ).loc Cert.AdOdInRefIdeal.main_arg2) = m ((c.tc : Thread Cert.AdOdInIdeal.nD Cert.AdOdInIdeal.τ).loc Cert.AdOdInIdeal.main_arg2)
      ∧ m' ((c.tc : Thread Cert.AdOdInRefIdeal.nD Cert.AdOdInRefIdeal.τ).loc Cert.AdOdInRefIdeal.main_arg3) = m ((c.tc : Thread Cert.AdOdInIdeal.nD Cert.AdOdInIdeal.τ).loc Cert.AdOdInIdeal.main_arg3)
      ∧ m' ((c.tc : Thread Cert.AdOdInRefIdeal.nD Cert.AdOdInRefIdeal.τ).loc Cert.AdOdInRefIdeal.main_arg4) = m ((c.tc : Thread Cert.AdOdInIdeal.nD Cert.AdOdInIdeal.τ).loc Cert.AdOdInIdeal.main_arg4)
      ∧ m' ((c.tc : Thread Cert.AdOdInRefIdeal.nD Cert.AdOdInRefIdeal.τ).loc Cert.AdOdInRefIdeal.main_arg5) = m ((c.tc : Thread Cert.AdOdInIdeal.nD Cert.AdOdInIdeal.τ).loc Cert.AdOdInIdeal.main_arg5)) →
    ∃ (v0 : (c : Dev Cert.AdOdInIdeal.nD) → Buf (Elt Ideal) ((c.tc : Thread Cert.AdOdInIdeal.nD Cert.AdOdInIdeal.τ).loc Cert.AdOdInIdeal.main_v0_0)) (v1 : (c : Dev Cert.AdOdInIdeal.nD) → Buf (Elt Ideal) ((c.tc : Thread Cert.AdOdInIdeal.nD Cert.AdOdInIdeal.τ).loc Cert.AdOdInIdeal.main_v0_1)) (v2 : (c : Dev Cert.AdOdInIdeal.nD) → Buf (Elt Ideal) ((c.tc : Thread Cert.AdOdInIdeal.nD Cert.AdOdInIdeal.τ).loc Cert.AdOdInIdeal.main_v0_2)) (v3 : (c : Dev Cert.AdOdInIdeal.nD) → Buf (Elt Ideal) ((c.tc : Thread Cert.AdOdInIdeal.nD Cert.AdOdInIdeal.τ).loc Cert.AdOdInIdeal.main_v0_3)),
      θ_run (Cert.AdOdInIdeal.defs (F := Ideal)) (onTc (τ := Cert.AdOdInIdeal.τ) (Cert.AdOdInIdeal.main (F := Ideal))) ⟨m, fun _ => 0, g⟩ (fun r => ∀ c : Dev Cert.AdOdInIdeal.nD,
          r.2.mem ((c.tc : Thread Cert.AdOdInIdeal.nD Cert.AdOdInIdeal.τ).loc Cert.AdOdInIdeal.main_v0_0) = v0 c
          ∧ r.2.mem ((c.tc : Thread Cert.AdOdInIdeal.nD Cert.AdOdInIdeal.τ).loc Cert.AdOdInIdeal.main_v0_1) = v1 c
          ∧ r.2.mem ((c.tc : Thread Cert.AdOdInIdeal.nD Cert.AdOdInIdeal.τ).loc Cert.AdOdInIdeal.main_v0_2) = v2 c
          ∧ r.2.mem ((c.tc : Thread Cert.AdOdInIdeal.nD Cert.AdOdInIdeal.τ).loc Cert.AdOdInIdeal.main_v0_3) = v3 c
          ∧ r.2.mem ((c.tc : Thread Cert.AdOdInIdeal.nD Cert.AdOdInIdeal.τ).loc Cert.AdOdInIdeal.main_arg0) = m ((c.tc : Thread Cert.AdOdInIdeal.nD Cert.AdOdInIdeal.τ).loc Cert.AdOdInIdeal.main_arg0)
          ∧ r.2.mem ((c.tc : Thread Cert.AdOdInIdeal.nD Cert.AdOdInIdeal.τ).loc Cert.AdOdInIdeal.main_arg1) = m ((c.tc : Thread Cert.AdOdInIdeal.nD Cert.AdOdInIdeal.τ).loc Cert.AdOdInIdeal.main_arg1)
          ∧ r.2.mem ((c.tc : Thread Cert.AdOdInIdeal.nD Cert.AdOdInIdeal.τ).loc Cert.AdOdInIdeal.main_arg2) = m ((c.tc : Thread Cert.AdOdInIdeal.nD Cert.AdOdInIdeal.τ).loc Cert.AdOdInIdeal.main_arg2)
          ∧ r.2.mem ((c.tc : Thread Cert.AdOdInIdeal.nD Cert.AdOdInIdeal.τ).loc Cert.AdOdInIdeal.main_arg3) = m ((c.tc : Thread Cert.AdOdInIdeal.nD Cert.AdOdInIdeal.τ).loc Cert.AdOdInIdeal.main_arg3)
          ∧ r.2.mem ((c.tc : Thread Cert.AdOdInIdeal.nD Cert.AdOdInIdeal.τ).loc Cert.AdOdInIdeal.main_arg4) = m ((c.tc : Thread Cert.AdOdInIdeal.nD Cert.AdOdInIdeal.τ).loc Cert.AdOdInIdeal.main_arg4)
          ∧ r.2.mem ((c.tc : Thread Cert.AdOdInIdeal.nD Cert.AdOdInIdeal.τ).loc Cert.AdOdInIdeal.main_arg5) = m ((c.tc : Thread Cert.AdOdInIdeal.nD Cert.AdOdInIdeal.τ).loc Cert.AdOdInIdeal.main_arg5))
      ∧ θ_run (Cert.AdOdInRefIdeal.defs (F := Ideal)) (onTc (τ := Cert.AdOdInRefIdeal.τ) (Cert.AdOdInRefIdeal.main (F := Ideal))) ⟨m', fun _ => 0, g'⟩ (fun r => ∀ c : Dev Cert.AdOdInRefIdeal.nD,
          r.2.mem ((c.tc : Thread Cert.AdOdInRefIdeal.nD Cert.AdOdInRefIdeal.τ).loc Cert.AdOdInRefIdeal.main_v8) = v0 c
          ∧ r.2.mem ((c.tc : Thread Cert.AdOdInRefIdeal.nD Cert.AdOdInRefIdeal.τ).loc Cert.AdOdInRefIdeal.main_v32) = v1 c
          ∧ r.2.mem ((c.tc : Thread Cert.AdOdInRefIdeal.nD Cert.AdOdInRefIdeal.τ).loc Cert.AdOdInRefIdeal.main_v13) = v2 c
          ∧ r.2.mem ((c.tc : Thread Cert.AdOdInRefIdeal.nD Cert.AdOdInRefIdeal.τ).loc Cert.AdOdInRefIdeal.main_v19) = v3 c
          ∧ r.2.mem ((c.tc : Thread Cert.AdOdInRefIdeal.nD Cert.AdOdInRefIdeal.τ).loc Cert.AdOdInRefIdeal.main_arg0) = m' ((c.tc : Thread Cert.AdOdInRefIdeal.nD Cert.AdOdInRefIdeal.τ).loc Cert.AdOdInRefIdeal.main_arg0)
          ∧ r.2.mem ((c.tc : Thread Cert.AdOdInRefIdeal.nD Cert.AdOdInRefIdeal.τ).loc Cert.AdOdInRefIdeal.main_arg1) = m' ((c.tc : Thread Cert.AdOdInRefIdeal.nD Cert.AdOdInRefIdeal.τ).loc Cert.AdOdInRefIdeal.main_arg1)
          ∧ r.2.mem ((c.tc : Thread Cert.AdOdInRefIdeal.nD Cert.AdOdInRefIdeal.τ).loc Cert.AdOdInRefIdeal.main_arg2) = m' ((c.tc : Thread Cert.AdOdInRefIdeal.nD Cert.AdOdInRefIdeal.τ).loc Cert.AdOdInRefIdeal.main_arg2)
          ∧ r.2.mem ((c.tc : Thread Cert.AdOdInRefIdeal.nD Cert.AdOdInRefIdeal.τ).loc Cert.AdOdInRefIdeal.main_arg3) = m' ((c.tc : Thread Cert.AdOdInRefIdeal.nD Cert.AdOdInRefIdeal.τ).loc Cert.AdOdInRefIdeal.main_arg3)
          ∧ r.2.mem ((c.tc : Thread Cert.AdOdInRefIdeal.nD Cert.AdOdInRefIdeal.τ).loc Cert.AdOdInRefIdeal.main_arg4) = m' ((c.tc : Thread Cert.AdOdInRefIdeal.nD Cert.AdOdInRefIdeal.τ).loc Cert.AdOdInRefIdeal.main_arg4)
          ∧ r.2.mem ((c.tc : Thread Cert.AdOdInRefIdeal.nD Cert.AdOdInRefIdeal.τ).loc Cert.AdOdInRefIdeal.main_arg5) = m' ((c.tc : Thread Cert.AdOdInRefIdeal.nD Cert.AdOdInRefIdeal.τ).loc Cert.AdOdInRefIdeal.main_arg5))

def preserves_AdProj_AdProjIdeal : Prop :=
  True

def algebraic_AdProjIdeal_AdProjRefIdeal [hAdProjIdeal : Cert.AdProjIdeal.Facts] [hAdProjRefIdeal : Cert.AdProjRefIdeal.Facts] : Prop :=
  ∀ (m : (ℓ : Loc Cert.AdProjIdeal.nD Cert.AdProjIdeal.τ Cert.AdProjIdeal.sig) → Buf (Elt Ideal) ℓ) (g : Dev Cert.AdProjIdeal.nD → PrngReg)
    (m' : (ℓ : Loc Cert.AdProjRefIdeal.nD Cert.AdProjRefIdeal.τ Cert.AdProjRefIdeal.sig) → Buf (Elt Ideal) ℓ) (g' : Dev Cert.AdProjRefIdeal.nD → PrngReg), Pre_AdProjIdeal m →
    (∀ c : Dev Cert.AdProjIdeal.nD,
      m' ((c.tc : Thread Cert.AdProjRefIdeal.nD Cert.AdProjRefIdeal.τ).loc Cert.AdProjRefIdeal.main_arg0) = m ((c.tc : Thread Cert.AdProjIdeal.nD Cert.AdProjIdeal.τ).loc Cert.AdProjIdeal.main_arg0)
      ∧ m' ((c.tc : Thread Cert.AdProjRefIdeal.nD Cert.AdProjRefIdeal.τ).loc Cert.AdProjRefIdeal.main_arg1) = m ((c.tc : Thread Cert.AdProjIdeal.nD Cert.AdProjIdeal.τ).loc Cert.AdProjIdeal.main_arg1)
      ∧ m' ((c.tc : Thread Cert.AdProjRefIdeal.nD Cert.AdProjRefIdeal.τ).loc Cert.AdProjRefIdeal.main_arg2) = m ((c.tc : Thread Cert.AdProjIdeal.nD Cert.AdProjIdeal.τ).loc Cert.AdProjIdeal.main_arg2)
      ∧ m' ((c.tc : Thread Cert.AdProjRefIdeal.nD Cert.AdProjRefIdeal.τ).loc Cert.AdProjRefIdeal.main_arg3) = m ((c.tc : Thread Cert.AdProjIdeal.nD Cert.AdProjIdeal.τ).loc Cert.AdProjIdeal.main_arg3)
      ∧ m' ((c.tc : Thread Cert.AdProjRefIdeal.nD Cert.AdProjRefIdeal.τ).loc Cert.AdProjRefIdeal.main_arg4) = m ((c.tc : Thread Cert.AdProjIdeal.nD Cert.AdProjIdeal.τ).loc Cert.AdProjIdeal.main_arg4)
      ∧ m' ((c.tc : Thread Cert.AdProjRefIdeal.nD Cert.AdProjRefIdeal.τ).loc Cert.AdProjRefIdeal.main_arg5) = m ((c.tc : Thread Cert.AdProjIdeal.nD Cert.AdProjIdeal.τ).loc Cert.AdProjIdeal.main_arg5)) →
    ∃ (v0 : (c : Dev Cert.AdProjIdeal.nD) → Buf (Elt Ideal) ((c.tc : Thread Cert.AdProjIdeal.nD Cert.AdProjIdeal.τ).loc Cert.AdProjIdeal.main_v0_0)) (v1 : (c : Dev Cert.AdProjIdeal.nD) → Buf (Elt Ideal) ((c.tc : Thread Cert.AdProjIdeal.nD Cert.AdProjIdeal.τ).loc Cert.AdProjIdeal.main_v0_1)) (v2 : (c : Dev Cert.AdProjIdeal.nD) → Buf (Elt Ideal) ((c.tc : Thread Cert.AdProjIdeal.nD Cert.AdProjIdeal.τ).loc Cert.AdProjIdeal.main_v0_2)) (v3 : (c : Dev Cert.AdProjIdeal.nD) → Buf (Elt Ideal) ((c.tc : Thread Cert.AdProjIdeal.nD Cert.AdProjIdeal.τ).loc Cert.AdProjIdeal.main_v0_3)),
      θ_run (Cert.AdProjIdeal.defs (F := Ideal)) (onTc (τ := Cert.AdProjIdeal.τ) (Cert.AdProjIdeal.main (F := Ideal))) ⟨m, fun _ => 0, g⟩ (fun r => ∀ c : Dev Cert.AdProjIdeal.nD,
          r.2.mem ((c.tc : Thread Cert.AdProjIdeal.nD Cert.AdProjIdeal.τ).loc Cert.AdProjIdeal.main_v0_0) = v0 c
          ∧ r.2.mem ((c.tc : Thread Cert.AdProjIdeal.nD Cert.AdProjIdeal.τ).loc Cert.AdProjIdeal.main_v0_1) = v1 c
          ∧ r.2.mem ((c.tc : Thread Cert.AdProjIdeal.nD Cert.AdProjIdeal.τ).loc Cert.AdProjIdeal.main_v0_2) = v2 c
          ∧ r.2.mem ((c.tc : Thread Cert.AdProjIdeal.nD Cert.AdProjIdeal.τ).loc Cert.AdProjIdeal.main_v0_3) = v3 c
          ∧ r.2.mem ((c.tc : Thread Cert.AdProjIdeal.nD Cert.AdProjIdeal.τ).loc Cert.AdProjIdeal.main_arg0) = m ((c.tc : Thread Cert.AdProjIdeal.nD Cert.AdProjIdeal.τ).loc Cert.AdProjIdeal.main_arg0)
          ∧ r.2.mem ((c.tc : Thread Cert.AdProjIdeal.nD Cert.AdProjIdeal.τ).loc Cert.AdProjIdeal.main_arg1) = m ((c.tc : Thread Cert.AdProjIdeal.nD Cert.AdProjIdeal.τ).loc Cert.AdProjIdeal.main_arg1)
          ∧ r.2.mem ((c.tc : Thread Cert.AdProjIdeal.nD Cert.AdProjIdeal.τ).loc Cert.AdProjIdeal.main_arg2) = m ((c.tc : Thread Cert.AdProjIdeal.nD Cert.AdProjIdeal.τ).loc Cert.AdProjIdeal.main_arg2)
          ∧ r.2.mem ((c.tc : Thread Cert.AdProjIdeal.nD Cert.AdProjIdeal.τ).loc Cert.AdProjIdeal.main_arg3) = m ((c.tc : Thread Cert.AdProjIdeal.nD Cert.AdProjIdeal.τ).loc Cert.AdProjIdeal.main_arg3)
          ∧ r.2.mem ((c.tc : Thread Cert.AdProjIdeal.nD Cert.AdProjIdeal.τ).loc Cert.AdProjIdeal.main_arg4) = m ((c.tc : Thread Cert.AdProjIdeal.nD Cert.AdProjIdeal.τ).loc Cert.AdProjIdeal.main_arg4)
          ∧ r.2.mem ((c.tc : Thread Cert.AdProjIdeal.nD Cert.AdProjIdeal.τ).loc Cert.AdProjIdeal.main_arg5) = m ((c.tc : Thread Cert.AdProjIdeal.nD Cert.AdProjIdeal.τ).loc Cert.AdProjIdeal.main_arg5))
      ∧ θ_run (Cert.AdProjRefIdeal.defs (F := Ideal)) (onTc (τ := Cert.AdProjRefIdeal.τ) (Cert.AdProjRefIdeal.main (F := Ideal))) ⟨m', fun _ => 0, g'⟩ (fun r => ∀ c : Dev Cert.AdProjRefIdeal.nD,
          r.2.mem ((c.tc : Thread Cert.AdProjRefIdeal.nD Cert.AdProjRefIdeal.τ).loc Cert.AdProjRefIdeal.main_v8) = v0 c
          ∧ r.2.mem ((c.tc : Thread Cert.AdProjRefIdeal.nD Cert.AdProjRefIdeal.τ).loc Cert.AdProjRefIdeal.main_v32) = v1 c
          ∧ r.2.mem ((c.tc : Thread Cert.AdProjRefIdeal.nD Cert.AdProjRefIdeal.τ).loc Cert.AdProjRefIdeal.main_v13) = v2 c
          ∧ r.2.mem ((c.tc : Thread Cert.AdProjRefIdeal.nD Cert.AdProjRefIdeal.τ).loc Cert.AdProjRefIdeal.main_v19) = v3 c
          ∧ r.2.mem ((c.tc : Thread Cert.AdProjRefIdeal.nD Cert.AdProjRefIdeal.τ).loc Cert.AdProjRefIdeal.main_arg0) = m' ((c.tc : Thread Cert.AdProjRefIdeal.nD Cert.AdProjRefIdeal.τ).loc Cert.AdProjRefIdeal.main_arg0)
          ∧ r.2.mem ((c.tc : Thread Cert.AdProjRefIdeal.nD Cert.AdProjRefIdeal.τ).loc Cert.AdProjRefIdeal.main_arg1) = m' ((c.tc : Thread Cert.AdProjRefIdeal.nD Cert.AdProjRefIdeal.τ).loc Cert.AdProjRefIdeal.main_arg1)
          ∧ r.2.mem ((c.tc : Thread Cert.AdProjRefIdeal.nD Cert.AdProjRefIdeal.τ).loc Cert.AdProjRefIdeal.main_arg2) = m' ((c.tc : Thread Cert.AdProjRefIdeal.nD Cert.AdProjRefIdeal.τ).loc Cert.AdProjRefIdeal.main_arg2)
          ∧ r.2.mem ((c.tc : Thread Cert.AdProjRefIdeal.nD Cert.AdProjRefIdeal.τ).loc Cert.AdProjRefIdeal.main_arg3) = m' ((c.tc : Thread Cert.AdProjRefIdeal.nD Cert.AdProjRefIdeal.τ).loc Cert.AdProjRefIdeal.main_arg3)
          ∧ r.2.mem ((c.tc : Thread Cert.AdProjRefIdeal.nD Cert.AdProjRefIdeal.τ).loc Cert.AdProjRefIdeal.main_arg4) = m' ((c.tc : Thread Cert.AdProjRefIdeal.nD Cert.AdProjRefIdeal.τ).loc Cert.AdProjRefIdeal.main_arg4)
          ∧ r.2.mem ((c.tc : Thread Cert.AdProjRefIdeal.nD Cert.AdProjRefIdeal.τ).loc Cert.AdProjRefIdeal.main_arg5) = m' ((c.tc : Thread Cert.AdProjRefIdeal.nD Cert.AdProjRefIdeal.τ).loc Cert.AdProjRefIdeal.main_arg5))

def preserves_AdPacked_AdPackedIdeal : Prop :=
  True

def algebraic_AdPackedIdeal_AdPackedRefIdeal [hAdPackedIdeal : Cert.AdPackedIdeal.Facts] [hAdPackedRefIdeal : Cert.AdPackedRefIdeal.Facts] : Prop :=
  ∀ (m : (ℓ : Loc Cert.AdPackedIdeal.nD Cert.AdPackedIdeal.τ Cert.AdPackedIdeal.sig) → Buf (Elt Ideal) ℓ) (g : Dev Cert.AdPackedIdeal.nD → PrngReg)
    (m' : (ℓ : Loc Cert.AdPackedRefIdeal.nD Cert.AdPackedRefIdeal.τ Cert.AdPackedRefIdeal.sig) → Buf (Elt Ideal) ℓ) (g' : Dev Cert.AdPackedRefIdeal.nD → PrngReg), Pre_AdPackedIdeal m →
    (∀ c : Dev Cert.AdPackedIdeal.nD,
      m' ((c.tc : Thread Cert.AdPackedRefIdeal.nD Cert.AdPackedRefIdeal.τ).loc Cert.AdPackedRefIdeal.main_arg0) = m ((c.tc : Thread Cert.AdPackedIdeal.nD Cert.AdPackedIdeal.τ).loc Cert.AdPackedIdeal.main_arg0)
      ∧ m' ((c.tc : Thread Cert.AdPackedRefIdeal.nD Cert.AdPackedRefIdeal.τ).loc Cert.AdPackedRefIdeal.main_arg1) = m ((c.tc : Thread Cert.AdPackedIdeal.nD Cert.AdPackedIdeal.τ).loc Cert.AdPackedIdeal.main_arg1)
      ∧ m' ((c.tc : Thread Cert.AdPackedRefIdeal.nD Cert.AdPackedRefIdeal.τ).loc Cert.AdPackedRefIdeal.main_arg2) = m ((c.tc : Thread Cert.AdPackedIdeal.nD Cert.AdPackedIdeal.τ).loc Cert.AdPackedIdeal.main_arg2)
      ∧ m' ((c.tc : Thread Cert.AdPackedRefIdeal.nD Cert.AdPackedRefIdeal.τ).loc Cert.AdPackedRefIdeal.main_arg3) = m ((c.tc : Thread Cert.AdPackedIdeal.nD Cert.AdPackedIdeal.τ).loc Cert.AdPackedIdeal.main_arg3)) →
    ∃ (v0 : (c : Dev Cert.AdPackedIdeal.nD) → Buf (Elt Ideal) ((c.tc : Thread Cert.AdPackedIdeal.nD Cert.AdPackedIdeal.τ).loc Cert.AdPackedIdeal.main_v0_0)) (v1 : (c : Dev Cert.AdPackedIdeal.nD) → Buf (Elt Ideal) ((c.tc : Thread Cert.AdPackedIdeal.nD Cert.AdPackedIdeal.τ).loc Cert.AdPackedIdeal.main_v0_1)) (v2 : (c : Dev Cert.AdPackedIdeal.nD) → Buf (Elt Ideal) ((c.tc : Thread Cert.AdPackedIdeal.nD Cert.AdPackedIdeal.τ).loc Cert.AdPackedIdeal.main_v0_2)) (v3 : (c : Dev Cert.AdPackedIdeal.nD) → Buf (Elt Ideal) ((c.tc : Thread Cert.AdPackedIdeal.nD Cert.AdPackedIdeal.τ).loc Cert.AdPackedIdeal.main_v0_3)),
      θ_run (Cert.AdPackedIdeal.defs (F := Ideal)) (onTc (τ := Cert.AdPackedIdeal.τ) (Cert.AdPackedIdeal.main (F := Ideal))) ⟨m, fun _ => 0, g⟩ (fun r => ∀ c : Dev Cert.AdPackedIdeal.nD,
          r.2.mem ((c.tc : Thread Cert.AdPackedIdeal.nD Cert.AdPackedIdeal.τ).loc Cert.AdPackedIdeal.main_v0_0) = v0 c
          ∧ r.2.mem ((c.tc : Thread Cert.AdPackedIdeal.nD Cert.AdPackedIdeal.τ).loc Cert.AdPackedIdeal.main_v0_1) = v1 c
          ∧ r.2.mem ((c.tc : Thread Cert.AdPackedIdeal.nD Cert.AdPackedIdeal.τ).loc Cert.AdPackedIdeal.main_v0_2) = v2 c
          ∧ r.2.mem ((c.tc : Thread Cert.AdPackedIdeal.nD Cert.AdPackedIdeal.τ).loc Cert.AdPackedIdeal.main_v0_3) = v3 c
          ∧ r.2.mem ((c.tc : Thread Cert.AdPackedIdeal.nD Cert.AdPackedIdeal.τ).loc Cert.AdPackedIdeal.main_arg0) = m ((c.tc : Thread Cert.AdPackedIdeal.nD Cert.AdPackedIdeal.τ).loc Cert.AdPackedIdeal.main_arg0)
          ∧ r.2.mem ((c.tc : Thread Cert.AdPackedIdeal.nD Cert.AdPackedIdeal.τ).loc Cert.AdPackedIdeal.main_arg1) = m ((c.tc : Thread Cert.AdPackedIdeal.nD Cert.AdPackedIdeal.τ).loc Cert.AdPackedIdeal.main_arg1)
          ∧ r.2.mem ((c.tc : Thread Cert.AdPackedIdeal.nD Cert.AdPackedIdeal.τ).loc Cert.AdPackedIdeal.main_arg2) = m ((c.tc : Thread Cert.AdPackedIdeal.nD Cert.AdPackedIdeal.τ).loc Cert.AdPackedIdeal.main_arg2)
          ∧ r.2.mem ((c.tc : Thread Cert.AdPackedIdeal.nD Cert.AdPackedIdeal.τ).loc Cert.AdPackedIdeal.main_arg3) = m ((c.tc : Thread Cert.AdPackedIdeal.nD Cert.AdPackedIdeal.τ).loc Cert.AdPackedIdeal.main_arg3))
      ∧ θ_run (Cert.AdPackedRefIdeal.defs (F := Ideal)) (onTc (τ := Cert.AdPackedRefIdeal.τ) (Cert.AdPackedRefIdeal.main (F := Ideal))) ⟨m', fun _ => 0, g'⟩ (fun r => ∀ c : Dev Cert.AdPackedRefIdeal.nD,
          r.2.mem ((c.tc : Thread Cert.AdPackedRefIdeal.nD Cert.AdPackedRefIdeal.τ).loc Cert.AdPackedRefIdeal.main_v0) = v0 c
          ∧ r.2.mem ((c.tc : Thread Cert.AdPackedRefIdeal.nD Cert.AdPackedRefIdeal.τ).loc Cert.AdPackedRefIdeal.main_v24) = v1 c
          ∧ r.2.mem ((c.tc : Thread Cert.AdPackedRefIdeal.nD Cert.AdPackedRefIdeal.τ).loc Cert.AdPackedRefIdeal.main_v5) = v2 c
          ∧ r.2.mem ((c.tc : Thread Cert.AdPackedRefIdeal.nD Cert.AdPackedRefIdeal.τ).loc Cert.AdPackedRefIdeal.main_v11) = v3 c
          ∧ r.2.mem ((c.tc : Thread Cert.AdPackedRefIdeal.nD Cert.AdPackedRefIdeal.τ).loc Cert.AdPackedRefIdeal.main_arg0) = m' ((c.tc : Thread Cert.AdPackedRefIdeal.nD Cert.AdPackedRefIdeal.τ).loc Cert.AdPackedRefIdeal.main_arg0)
          ∧ r.2.mem ((c.tc : Thread Cert.AdPackedRefIdeal.nD Cert.AdPackedRefIdeal.τ).loc Cert.AdPackedRefIdeal.main_arg1) = m' ((c.tc : Thread Cert.AdPackedRefIdeal.nD Cert.AdPackedRefIdeal.τ).loc Cert.AdPackedRefIdeal.main_arg1)
          ∧ r.2.mem ((c.tc : Thread Cert.AdPackedRefIdeal.nD Cert.AdPackedRefIdeal.τ).loc Cert.AdPackedRefIdeal.main_arg2) = m' ((c.tc : Thread Cert.AdPackedRefIdeal.nD Cert.AdPackedRefIdeal.τ).loc Cert.AdPackedRefIdeal.main_arg2)
          ∧ r.2.mem ((c.tc : Thread Cert.AdPackedRefIdeal.nD Cert.AdPackedRefIdeal.τ).loc Cert.AdPackedRefIdeal.main_arg3) = m' ((c.tc : Thread Cert.AdPackedRefIdeal.nD Cert.AdPackedRefIdeal.τ).loc Cert.AdPackedRefIdeal.main_arg3))

def Claim : Prop :=
  ∃ (hKernel : Cert.Kernel.Facts) (hKernelIdeal : Cert.KernelIdeal.Facts) (hReferenceIdeal : Cert.ReferenceIdeal.Facts) (hMm : Cert.Mm.Facts) (hMmIdeal : Cert.MmIdeal.Facts) (hMmRefIdeal : Cert.MmRefIdeal.Facts) (hGlu : Cert.Glu.Facts) (hGluIdeal : Cert.GluIdeal.Facts) (hGluRefIdeal : Cert.GluRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hIn : Cert.In.Facts) (hInIdeal : Cert.InIdeal.Facts) (hInRefIdeal : Cert.InRefIdeal.Facts) (hInDw : Cert.InDw.Facts) (hInDwIdeal : Cert.InDwIdeal.Facts) (hInDwRefIdeal : Cert.InDwRefIdeal.Facts) (hEvInDw : Cert.EvInDw.Facts) (hEvInDwIdeal : Cert.EvInDwIdeal.Facts) (hEvInDwRefIdeal : Cert.EvInDwRefIdeal.Facts) (hGate : Cert.Gate.Facts) (hGateIdeal : Cert.GateIdeal.Facts) (hGateRefIdeal : Cert.GateRefIdeal.Facts) (hGateDx : Cert.GateDx.Facts) (hGateDxIdeal : Cert.GateDxIdeal.Facts) (hGateDxRefIdeal : Cert.GateDxRefIdeal.Facts) (hGateDw : Cert.GateDw.Facts) (hGateDwIdeal : Cert.GateDwIdeal.Facts) (hGateDwRefIdeal : Cert.GateDwRefIdeal.Facts) (hEvIn : Cert.EvIn.Facts) (hEvInIdeal : Cert.EvInIdeal.Facts) (hEvInRefIdeal : Cert.EvInRefIdeal.Facts) (hEvInDx : Cert.EvInDx.Facts) (hEvInDxIdeal : Cert.EvInDxIdeal.Facts) (hEvInDxRefIdeal : Cert.EvInDxRefIdeal.Facts) (hRms : Cert.Rms.Facts) (hRmsIdeal : Cert.RmsIdeal.Facts) (hRmsRefIdeal : Cert.RmsRefIdeal.Facts) (hNaGate : Cert.NaGate.Facts) (hNaGateIdeal : Cert.NaGateIdeal.Facts) (hNaGateRefIdeal : Cert.NaGateRefIdeal.Facts) (hPle : Cert.Ple.Facts) (hPleIdeal : Cert.PleIdeal.Facts) (hPleRefIdeal : Cert.PleRefIdeal.Facts) (hAdEvIn : Cert.AdEvIn.Facts) (hAdEvInIdeal : Cert.AdEvInIdeal.Facts) (hAdEvInRefIdeal : Cert.AdEvInRefIdeal.Facts) (hAdOut : Cert.AdOut.Facts) (hAdOutIdeal : Cert.AdOutIdeal.Facts) (hAdOutRefIdeal : Cert.AdOutRefIdeal.Facts) (hAdOdIn : Cert.AdOdIn.Facts) (hAdOdInIdeal : Cert.AdOdInIdeal.Facts) (hAdOdInRefIdeal : Cert.AdOdInRefIdeal.Facts) (hAdProj : Cert.AdProj.Facts) (hAdProjIdeal : Cert.AdProjIdeal.Facts) (hAdProjRefIdeal : Cert.AdProjRefIdeal.Facts) (hAdPacked : Cert.AdPacked.Facts) (hAdPackedIdeal : Cert.AdPackedIdeal.Facts) (hAdPackedRefIdeal : Cert.AdPackedRefIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Mm (hMm := hMm)
    ∧ quiescent_MmIdeal (hMmIdeal := hMmIdeal)
    ∧ quiescent_MmRefIdeal (hMmRefIdeal := hMmRefIdeal)
    ∧ quiescent_Glu (hGlu := hGlu)
    ∧ quiescent_GluIdeal (hGluIdeal := hGluIdeal)
    ∧ quiescent_GluRefIdeal (hGluRefIdeal := hGluRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_In (hIn := hIn)
    ∧ quiescent_InIdeal (hInIdeal := hInIdeal)
    ∧ quiescent_InRefIdeal (hInRefIdeal := hInRefIdeal)
    ∧ quiescent_InDw (hInDw := hInDw)
    ∧ quiescent_InDwIdeal (hInDwIdeal := hInDwIdeal)
    ∧ quiescent_InDwRefIdeal (hInDwRefIdeal := hInDwRefIdeal)
    ∧ quiescent_EvInDw (hEvInDw := hEvInDw)
    ∧ quiescent_EvInDwIdeal (hEvInDwIdeal := hEvInDwIdeal)
    ∧ quiescent_EvInDwRefIdeal (hEvInDwRefIdeal := hEvInDwRefIdeal)
    ∧ quiescent_Gate (hGate := hGate)
    ∧ quiescent_GateIdeal (hGateIdeal := hGateIdeal)
    ∧ quiescent_GateRefIdeal (hGateRefIdeal := hGateRefIdeal)
    ∧ quiescent_GateDx (hGateDx := hGateDx)
    ∧ quiescent_GateDxIdeal (hGateDxIdeal := hGateDxIdeal)
    ∧ quiescent_GateDxRefIdeal (hGateDxRefIdeal := hGateDxRefIdeal)
    ∧ quiescent_GateDw (hGateDw := hGateDw)
    ∧ quiescent_GateDwIdeal (hGateDwIdeal := hGateDwIdeal)
    ∧ quiescent_GateDwRefIdeal (hGateDwRefIdeal := hGateDwRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_EvInDx (hEvInDx := hEvInDx)
    ∧ quiescent_EvInDxIdeal (hEvInDxIdeal := hEvInDxIdeal)
    ∧ quiescent_EvInDxRefIdeal (hEvInDxRefIdeal := hEvInDxRefIdeal)
    ∧ quiescent_Rms (hRms := hRms)
    ∧ quiescent_RmsIdeal (hRmsIdeal := hRmsIdeal)
    ∧ quiescent_RmsRefIdeal (hRmsRefIdeal := hRmsRefIdeal)
    ∧ quiescent_NaGate (hNaGate := hNaGate)
    ∧ quiescent_NaGateIdeal (hNaGateIdeal := hNaGateIdeal)
    ∧ quiescent_NaGateRefIdeal (hNaGateRefIdeal := hNaGateRefIdeal)
    ∧ quiescent_Ple (hPle := hPle)
    ∧ quiescent_PleIdeal (hPleIdeal := hPleIdeal)
    ∧ quiescent_PleRefIdeal (hPleRefIdeal := hPleRefIdeal)
    ∧ quiescent_AdEvIn (hAdEvIn := hAdEvIn)
    ∧ quiescent_AdEvInIdeal (hAdEvInIdeal := hAdEvInIdeal)
    ∧ quiescent_AdEvInRefIdeal (hAdEvInRefIdeal := hAdEvInRefIdeal)
    ∧ quiescent_AdOut (hAdOut := hAdOut)
    ∧ quiescent_AdOutIdeal (hAdOutIdeal := hAdOutIdeal)
    ∧ quiescent_AdOutRefIdeal (hAdOutRefIdeal := hAdOutRefIdeal)
    ∧ quiescent_AdOdIn (hAdOdIn := hAdOdIn)
    ∧ quiescent_AdOdInIdeal (hAdOdInIdeal := hAdOdInIdeal)
    ∧ quiescent_AdOdInRefIdeal (hAdOdInRefIdeal := hAdOdInRefIdeal)
    ∧ quiescent_AdProj (hAdProj := hAdProj)
    ∧ quiescent_AdProjIdeal (hAdProjIdeal := hAdProjIdeal)
    ∧ quiescent_AdProjRefIdeal (hAdProjRefIdeal := hAdProjRefIdeal)
    ∧ quiescent_AdPacked (hAdPacked := hAdPacked)
    ∧ quiescent_AdPackedIdeal (hAdPackedIdeal := hAdPackedIdeal)
    ∧ quiescent_AdPackedRefIdeal (hAdPackedRefIdeal := hAdPackedRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Mm_MmIdeal
    ∧ algebraic_MmIdeal_MmRefIdeal (hMmIdeal := hMmIdeal) (hMmRefIdeal := hMmRefIdeal)
    ∧ preserves_Glu_GluIdeal
    ∧ algebraic_GluIdeal_GluRefIdeal (hGluIdeal := hGluIdeal) (hGluRefIdeal := hGluRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_In_InIdeal
    ∧ algebraic_InIdeal_InRefIdeal (hInIdeal := hInIdeal) (hInRefIdeal := hInRefIdeal)
    ∧ preserves_InDw_InDwIdeal
    ∧ algebraic_InDwIdeal_InDwRefIdeal (hInDwIdeal := hInDwIdeal) (hInDwRefIdeal := hInDwRefIdeal)
    ∧ preserves_EvInDw_EvInDwIdeal
    ∧ algebraic_EvInDwIdeal_EvInDwRefIdeal (hEvInDwIdeal := hEvInDwIdeal) (hEvInDwRefIdeal := hEvInDwRefIdeal)
    ∧ preserves_Gate_GateIdeal
    ∧ algebraic_GateIdeal_GateRefIdeal (hGateIdeal := hGateIdeal) (hGateRefIdeal := hGateRefIdeal)
    ∧ preserves_GateDx_GateDxIdeal
    ∧ algebraic_GateDxIdeal_GateDxRefIdeal (hGateDxIdeal := hGateDxIdeal) (hGateDxRefIdeal := hGateDxRefIdeal)
    ∧ preserves_GateDw_GateDwIdeal
    ∧ algebraic_GateDwIdeal_GateDwRefIdeal (hGateDwIdeal := hGateDwIdeal) (hGateDwRefIdeal := hGateDwRefIdeal)
    ∧ preserves_EvIn_EvInIdeal
    ∧ algebraic_EvInIdeal_EvInRefIdeal (hEvInIdeal := hEvInIdeal) (hEvInRefIdeal := hEvInRefIdeal)
    ∧ preserves_EvInDx_EvInDxIdeal
    ∧ algebraic_EvInDxIdeal_EvInDxRefIdeal (hEvInDxIdeal := hEvInDxIdeal) (hEvInDxRefIdeal := hEvInDxRefIdeal)
    ∧ preserves_Rms_RmsIdeal
    ∧ algebraic_RmsIdeal_RmsRefIdeal (hRmsIdeal := hRmsIdeal) (hRmsRefIdeal := hRmsRefIdeal)
    ∧ preserves_NaGate_NaGateIdeal
    ∧ algebraic_NaGateIdeal_NaGateRefIdeal (hNaGateIdeal := hNaGateIdeal) (hNaGateRefIdeal := hNaGateRefIdeal)
    ∧ preserves_Ple_PleIdeal
    ∧ algebraic_PleIdeal_PleRefIdeal (hPleIdeal := hPleIdeal) (hPleRefIdeal := hPleRefIdeal)
    ∧ preserves_AdEvIn_AdEvInIdeal
    ∧ algebraic_AdEvInIdeal_AdEvInRefIdeal (hAdEvInIdeal := hAdEvInIdeal) (hAdEvInRefIdeal := hAdEvInRefIdeal)
    ∧ preserves_AdOut_AdOutIdeal
    ∧ algebraic_AdOutIdeal_AdOutRefIdeal (hAdOutIdeal := hAdOutIdeal) (hAdOutRefIdeal := hAdOutRefIdeal)
    ∧ preserves_AdOdIn_AdOdInIdeal
    ∧ algebraic_AdOdInIdeal_AdOdInRefIdeal (hAdOdInIdeal := hAdOdInIdeal) (hAdOdInRefIdeal := hAdOdInRefIdeal)
    ∧ preserves_AdProj_AdProjIdeal
    ∧ algebraic_AdProjIdeal_AdProjRefIdeal (hAdProjIdeal := hAdProjIdeal) (hAdProjRefIdeal := hAdProjRefIdeal)
    ∧ preserves_AdPacked_AdPackedIdeal
    ∧ algebraic_AdPackedIdeal_AdPackedRefIdeal (hAdPackedIdeal := hAdPackedIdeal) (hAdPackedRefIdeal := hAdPackedRefIdeal)
-- ==== Pre_finite_scores.lean ====
abbrev S8192x14336 : Shape := ⟨2, ![8192, 14336]⟩
abbrev S16x8x64x512 : Shape := ⟨4, ![16, 8, 64, 512]⟩
abbrev S8192x2048 : Shape := ⟨2, ![8192, 2048]⟩
abbrev S_ : Shape := ⟨0, ![]⟩
abbrev S16x8x64 : Shape := ⟨3, ![16, 8, 64]⟩
abbrev S8192x1 : Shape := ⟨2, ![8192, 1]⟩
abbrev S8192x4096 : Shape := ⟨2, ![8192, 4096]⟩

class Facts : Prop where
  reducesTo_S16x8x64x512_S16x8x64_d3 : S16x8x64x512.ReducesTo [3] S16x8x64
  h_S_ : 0 < S_.numel
  shapeCasts_S16x8x64_S8192x1 : S16x8x64.ShapeCasts S8192x1
  bcast_S_S8192x1 : S_.BroadcastsInDim S8192x1 (![] : Fin 0 → Fin S8192x1.rank)
  slices_S8192x14336_S8192x4096_0_6144 : S8192x14336.Slices ![0, 6144] S8192x4096
  bcast_S_S8192x4096 : S_.BroadcastsInDim S8192x4096 (![] : Fin 0 → Fin S8192x4096.rank)
  bcast_S8192x1_S8192x4096_0_1 : S8192x1.BroadcastsInDim S8192x4096 (![0, 1] : Fin 2 → Fin S8192x4096.rank)

variable [Facts]

def fn {F : FTy → Type} [FloatOps F] (main_arg0 : FVec F S8192x14336 .f32) (main_arg1 : FVec F S16x8x64x512 .f32) (main_arg2 : FVec F S8192x2048 .f32) : IVec S8192x4096 1 :=
  let main_cst : FVec F S_ .f32 := constant S_ .f32 0xFF800000#32
  let main_v0 : FVec F S16x8x64 .f32 := (fun x v => Host.reduce FloatOps.maximumf x v reducesTo_S16x8x64x512_S16x8x64_d3 h_S_) main_arg1 main_cst
  let main_v1 : FVec F S16x8x64 .f32 := Host.absf main_v0
  let main_v2 : FVec F S8192x1 .f32 := shapeCast S8192x1 main_v1 shapeCasts_S16x8x64_S8192x1
  let main_cst_0 : FVec F S_ .f32 := constant S_ .f32 0x7F800000#32
  let main_v3 : FVec F S8192x1 .f32 := broadcastInDim S8192x1 ![] bcast_S_S8192x1 main_cst_0
  let main_v4 : IVec S8192x1 1 := cmpf .olt main_v2 main_v3
  let main_v5 : FVec F S8192x4096 .f32 := (extractStridedSlice S8192x4096 ![0, 6144] · slices_S8192x14336_S8192x4096_0_6144) main_arg0
  let main_v6 : FVec F S8192x4096 .f32 := Host.absf main_v5
  let main_cst_1 : FVec F S_ .f32 := constant S_ .f32 0x7F800000#32
  let main_v7 : FVec F S8192x4096 .f32 := broadcastInDim S8192x4096 ![] bcast_S_S8192x4096 main_cst_1
  let main_v8 : IVec S8192x4096 1 := cmpf .olt main_v6 main_v7
  let main_v9 : IVec S8192x4096 1 := broadcastInDim S8192x4096 ![0, 1] bcast_S8192x1_S8192x4096_0_1 main_v4
  let main_v10 : IVec S8192x4096 1 := andi main_v8 main_v9
  main_v10
-- ==== Kernel.lean ====
abbrev S8192x14336 : Shape := ⟨2, ![8192, 14336]⟩
abbrev S16x8x64x512 : Shape := ⟨4, ![16, 8, 64, 512]⟩
abbrev S8192x2048 : Shape := ⟨2, ![8192, 2048]⟩
abbrev S1024x128 : Shape := ⟨2, ![1024, 128]⟩
abbrev S8192x128 : Shape := ⟨2, ![8192, 128]⟩
abbrev S1x8x64x512 : Shape := ⟨4, ![1, 8, 64, 512]⟩
abbrev S8x64x512 : Shape := ⟨3, ![8, 64, 512]⟩
abbrev S64x128 : Shape := ⟨2, ![64, 128]⟩
abbrev S512x128 : Shape := ⟨2, ![512, 128]⟩
abbrev S1x1x64x512 : Shape := ⟨4, ![1, 1, 64, 512]⟩
abbrev S64x512 : Shape := ⟨2, ![64, 512]⟩
abbrev S64 : Shape := ⟨1, ![64]⟩
abbrev S64x1 : Shape := ⟨2, ![64, 1]⟩

abbrev nBuf : Space → Nat
  | .hbm => 7
  | .vmem => 18
  | .smem => 0
  | _ => 0

abbrev bufTy : (tb : Table) → Fin (tcTables nBuf tb) → BufTy
  | .hbm, ⟨0, _⟩ => ⟨S8192x14336, .f32⟩
  | .hbm, ⟨1, _⟩ => ⟨S16x8x64x512, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S16x8x64x512, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x8x64x512, .f32⟩
  | .local _ .vmem, ⟨7, _⟩ => ⟨S1x8x64x512, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S1x8x64x512, .f32⟩
  | .local _ .vmem, ⟨17, _⟩ => ⟨S1x8x64x512, .f32⟩
  | _, _ => ⟨S8192x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let c120_i32 : BitVec 32 := 120#32
  let c0_i32_2 : BitVec 32 := 0#32
  let arg1 : BitVec 32 := BitVec.ofNat 32 (i 1).val
  let c16_i32 : BitVec 32 := 16#32
  let v3 : BitVec 32 := Scalar.muli arg1 c16_i32
  let c0_i32_1 : BitVec 32 := 0#32
  let v4 : BitVec 32 := Scalar.addi v3 c0_i32_1
  let c4_i32 : BitVec 32 := 4#32
  let v5 : BitVec 32 := Scalar.subi v4 c4_i32
  let v6 : BitVec 32 := Scalar.maxsi c0_i32_2 v5
  let v7 : BitVec 32 := Scalar.minsi c120_i32 v6
  let c64_i32 : BitVec 32 := 64#32
  let v99 : BitVec 32 := Scalar.muli v7 c64_i32
  v99
def k0_mult2 (i : grid0.Coords) : BitVec 32 :=
  let c120_i32_6 : BitVec 32 := 120#32
  let c0_i32_5 : BitVec 32 := 0#32
  let arg1 : BitVec 32 := BitVec.ofNat 32 (i 1).val
  let c16_i32_3 : BitVec 32 := 16#32
  let v9 : BitVec 32 := Scalar.muli arg1 c16_i32_3
  let c1_i32 : BitVec 32 := 1#32
  let v10 : BitVec 32 := Scalar.addi v9 c1_i32
  let c4_i32_4 : BitVec 32 := 4#32
  let v11 : BitVec 32 := Scalar.subi v10 c4_i32_4
  let v12 : BitVec 32 := Scalar.maxsi c0_i32_5 v11
  let v13 : BitVec 32 := Scalar.minsi c120_i32_6 v12
  let c64_i32_64 : BitVec 32 := 64#32
  let v101 : BitVec 32 := Scalar.muli v13 c64_i32_64
  v101
def k0_mult3 (i : grid0.Coords) : BitVec 32 :=
  let c120_i32_10 : BitVec 32 := 120#32
  let c0_i32_9 : BitVec 32 := 0#32
  let arg1 : BitVec 32 := BitVec.ofNat 32 (i 1).val
  let c16_i32_7 : BitVec 32 := 16#32
  let v15 : BitVec 32 := Scalar.muli arg1 c16_i32_7
  let c2_i32 : BitVec 32 := 2#32
  let v16 : BitVec 32 := Scalar.addi v15 c2_i32
  let c4_i32_8 : BitVec 32 := 4#32
  let v17 : BitVec 32 := Scalar.subi v16 c4_i32_8
  let v18 : BitVec 32 := Scalar.maxsi c0_i32_9 v17
  let v19 : BitVec 32 := Scalar.minsi c120_i32_10 v18
  let c64_i32_65 : BitVec 32 := 64#32
  let v103 : BitVec 32 := Scalar.muli v19 c64_i32_65
  v103
def k0_mult4 (i : grid0.Coords) : BitVec 32 :=
  let c120_i32_14 : BitVec 32 := 120#32
  let c0_i32_13 : BitVec 32 := 0#32
  let arg1 : BitVec 32 := BitVec.ofNat 32 (i 1).val
  let c16_i32_11 : BitVec 32 := 16#32
  let v21 : BitVec 32 := Scalar.muli arg1 c16_i32_11
  let c3_i32 : BitVec 32 := 3#32
  let v22 : BitVec 32 := Scalar.addi v21 c3_i32
  let c4_i32_12 : BitVec 32 := 4#32
  let v23 : BitVec 32 := Scalar.subi v22 c4_i32_12
  let v24 : BitVec 32 := Scalar.maxsi c0_i32_13 v23
  let v25 : BitVec 32 := Scalar.minsi c120_i32_14 v24
  let c64_i32_66 : BitVec 32 := 64#32
  let v105 : BitVec 32 := Scalar.muli v25 c64_i32_66
  v105
def k0_mult5 (i : grid0.Coords) : BitVec 32 :=
  let c120_i32_19 : BitVec 32 := 120#32
  let c0_i32_18 : BitVec 32 := 0#32
  let arg1 : BitVec 32 := BitVec.ofNat 32 (i 1).val
  let c16_i32_15 : BitVec 32 := 16#32
  let v27 : BitVec 32 := Scalar.muli arg1 c16_i32_15
  let c4_i32_16 : BitVec 32 := 4#32
  let v28 : BitVec 32 := Scalar.addi v27 c4_i32_16
  let c4_i32_17 : BitVec 32 := 4#32
  let v29 : BitVec 32 := Scalar.subi v28 c4_i32_17
  let v30 : BitVec 32 := Scalar.maxsi c0_i32_18 v29
  let v31 : BitVec 32 := Scalar.minsi c120_i32_19 v30
  let c64_i32_67 : BitVec 32 := 64#32
  let v107 : BitVec 32 := Scalar.muli v31 c64_i32_67
  v107
def k0_mult6 (i : grid0.Coords) : BitVec 32 :=
  let c120_i32_23 : BitVec 32 := 120#32
  let c0_i32_22 : BitVec 32 := 0#32
  let arg1 : BitVec 32 := BitVec.ofNat 32 (i 1).val
  let c16_i32_20 : BitVec 32 := 16#32
  let v33 : BitVec 32 := Scalar.muli arg1 c16_i32_20
  let c5_i32 : BitVec 32 := 5#32
  let v34 : BitVec 32 := Scalar.addi v33 c5_i32
  let c4_i32_21 : BitVec 32 := 4#32
  let v35 : BitVec 32 := Scalar.subi v34 c4_i32_21
  let v36 : BitVec 32 := Scalar.maxsi c0_i32_22 v35
  let v37 : BitVec 32 := Scalar.minsi c120_i32_23 v36
  let c64_i32_68 : BitVec 32 := 64#32
  let v109 : BitVec 32 := Scalar.muli v37 c64_i32_68
  v109
def k0_mult7 (i : grid0.Coords) : BitVec 32 :=
  let c120_i32_27 : BitVec 32 := 120#32
  let c0_i32_26 : BitVec 32 := 0#32
  let arg1 : BitVec 32 := BitVec.ofNat 32 (i 1).val
  let c16_i32_24 : BitVec 32 := 16#32
  let v39 : BitVec 32 := Scalar.muli arg1 c16_i32_24
  let c6_i32 : BitVec 32 := 6#32
  let v40 : BitVec 32 := Scalar.addi v39 c6_i32
  let c4_i32_25 : BitVec 32 := 4#32
  let v41 : BitVec 32 := Scalar.subi v40 c4_i32_25
  let v42 : BitVec 32 := Scalar.maxsi c0_i32_26 v41
  let v43 : BitVec 32 := Scalar.minsi c120_i32_27 v42
  let c64_i32_69 : BitVec 32 := 64#32
  let v111 : BitVec 32 := Scalar.muli v43 c64_i32_69
  v111
def k0_mult8 (i : grid0.Coords) : BitVec 32 :=
  let c120_i32_31 : BitVec 32 := 120#32
  let c0_i32_30 : BitVec 32 := 0#32
  let arg1 : BitVec 32 := BitVec.ofNat 32 (i 1).val
  let c16_i32_28 : BitVec 32 := 16#32
  let v45 : BitVec 32 := Scalar.muli arg1 c16_i32_28
  let c7_i32 : BitVec 32 := 7#32
  let v46 : BitVec 32 := Scalar.addi v45 c7_i32
  let c4_i32_29 : BitVec 32 := 4#32
  let v47 : BitVec 32 := Scalar.subi v46 c4_i32_29
  let v48 : BitVec 32 := Scalar.maxsi c0_i32_30 v47
  let v49 : BitVec 32 := Scalar.minsi c120_i32_31 v48
  let c64_i32_70 : BitVec 32 := 64#32
  let v113 : BitVec 32 := Scalar.muli v49 c64_i32_70
  v113
def k0_mult9 (i : grid0.Coords) : BitVec 32 :=
  let c120_i32_35 : BitVec 32 := 120#32
  let c0_i32_34 : BitVec 32 := 0#32
  let arg1 : BitVec 32 := BitVec.ofNat 32 (i 1).val
  let c16_i32_32 : BitVec 32 := 16#32
  let v51 : BitVec 32 := Scalar.muli arg1 c16_i32_32
  let c8_i32 : BitVec 32 := 8#32
  let v52 : BitVec 32 := Scalar.addi v51 c8_i32
  let c4_i32_33 : BitVec 32 := 4#32
  let v53 : BitVec 32 := Scalar.subi v52 c4_i32_33
  let v54 : BitVec 32 := Scalar.maxsi c0_i32_34 v53
  let v55 : BitVec 32 := Scalar.minsi c120_i32_35 v54
  let c64_i32_71 : BitVec 32 := 64#32
  let v115 : BitVec 32 := Scalar.muli v55 c64_i32_71
  v115
def k0_mult10 (i : grid0.Coords) : BitVec 32 :=
  let c120_i32_39 : BitVec 32 := 120#32
  let c0_i32_38 : BitVec 32 := 0#32
  let arg1 : BitVec 32 := BitVec.ofNat 32 (i 1).val
  let c16_i32_36 : BitVec 32 := 16#32
  let v57 : BitVec 32 := Scalar.muli arg1 c16_i32_36
  let c9_i32 : BitVec 32 := 9#32
  let v58 : BitVec 32 := Scalar.addi v57 c9_i32
  let c4_i32_37 : BitVec 32 := 4#32
  let v59 : BitVec 32 := Scalar.subi v58 c4_i32_37
  let v60 : BitVec 32 := Scalar.maxsi c0_i32_38 v59
  let v61 : BitVec 32 := Scalar.minsi c120_i32_39 v60
  let c64_i32_72 : BitVec 32 := 64#32
  let v117 : BitVec 32 := Scalar.muli v61 c64_i32_72
  v117
def k0_mult11 (i : grid0.Coords) : BitVec 32 :=
  let c120_i32_43 : BitVec 32 := 120#32
  let c0_i32_42 : BitVec 32 := 0#32
  let arg1 : BitVec 32 := BitVec.ofNat 32 (i 1).val
  let c16_i32_40 : BitVec 32 := 16#32
  let v63 : BitVec 32 := Scalar.muli arg1 c16_i32_40
  let c10_i32 : BitVec 32 := 10#32
  let v64 : BitVec 32 := Scalar.addi v63 c10_i32
  let c4_i32_41 : BitVec 32 := 4#32
  let v65 : BitVec 32 := Scalar.subi v64 c4_i32_41
  let v66 : BitVec 32 := Scalar.maxsi c0_i32_42 v65
  let v67 : BitVec 32 := Scalar.minsi c120_i32_43 v66
  let c64_i32_73 : BitVec 32 := 64#32
  let v119 : BitVec 32 := Scalar.muli v67 c64_i32_73
  v119
def k0_mult12 (i : grid0.Coords) : BitVec 32 :=
  let c120_i32_47 : BitVec 32 := 120#32
  let c0_i32_46 : BitVec 32 := 0#32
  let arg1 : BitVec 32 := BitVec.ofNat 32 (i 1).val
  let c16_i32_44 : BitVec 32 := 16#32
  let v69 : BitVec 32 := Scalar.muli arg1 c16_i32_44
  let c11_i32 : BitVec 32 := 11#32
  let v70 : BitVec 32 := Scalar.addi v69 c11_i32
  let c4_i32_45 : BitVec 32 := 4#32
  let v71 : BitVec 32 := Scalar.subi v70 c4_i32_45
  let v72 : BitVec 32 := Scalar.maxsi c0_i32_46 v71
  let v73 : BitVec 32 := Scalar.minsi c120_i32_47 v72
  let c64_i32_74 : BitVec 32 := 64#32
  let v121 : BitVec 32 := Scalar.muli v73 c64_i32_74
  v121
def k0_mult13 (i : grid0.Coords) : BitVec 32 :=
  let c120_i32_51 : BitVec 32 := 120#32
  let c0_i32_50 : BitVec 32 := 0#32
  let arg1 : BitVec 32 := BitVec.ofNat 32 (i 1).val
  let c16_i32_48 : BitVec 32 := 16#32
  let v75 : BitVec 32 := Scalar.muli arg1 c16_i32_48
  let c12_i32 : BitVec 32 := 12#32
  let v76 : BitVec 32 := Scalar.addi v75 c12_i32
  let c4_i32_49 : BitVec 32 := 4#32
  let v77 : BitVec 32 := Scalar.subi v76 c4_i32_49
  let v78 : BitVec 32 := Scalar.maxsi c0_i32_50 v77
  let v79 : BitVec 32 := Scalar.minsi c120_i32_51 v78
  let c64_i32_75 : BitVec 32 := 64#32
  let v123 : BitVec 32 := Scalar.muli v79 c64_i32_75
  v123
def k0_mult14 (i : grid0.Coords) : BitVec 32 :=
  let c120_i32_55 : BitVec 32 := 120#32
  let c0_i32_54 : BitVec 32 := 0#32
  let arg1 : BitVec 32 := BitVec.ofNat 32 (i 1).val
  let c16_i32_52 : BitVec 32 := 16#32
  let v81 : BitVec 32 := Scalar.muli arg1 c16_i32_52
  let c13_i32 : BitVec 32 := 13#32
  let v82 : BitVec 32 := Scalar.addi v81 c13_i32
  let c4_i32_53 : BitVec 32 := 4#32
  let v83 : BitVec 32 := Scalar.subi v82 c4_i32_53
  let v84 : BitVec 32 := Scalar.maxsi c0_i32_54 v83
  let v85 : BitVec 32 := Scalar.minsi c120_i32_55 v84
  let c64_i32_76 : BitVec 32 := 64#32
  let v125 : BitVec 32 := Scalar.muli v85 c64_i32_76
  v125
def k0_mult15 (i : grid0.Coords) : BitVec 32 :=
  let c120_i32_59 : BitVec 32 := 120#32
  let c0_i32_58 : BitVec 32 := 0#32
  let arg1 : BitVec 32 := BitVec.ofNat 32 (i 1).val
  let c16_i32_56 : BitVec 32 := 16#32
  let v87 : BitVec 32 := Scalar.muli arg1 c16_i32_56
  let c14_i32 : BitVec 32 := 14#32
  let v88 : BitVec 32 := Scalar.addi v87 c14_i32
  let c4_i32_57 : BitVec 32 := 4#32
  let v89 : BitVec 32 := Scalar.subi v88 c4_i32_57
  let v90 : BitVec 32 := Scalar.maxsi c0_i32_58 v89
  let v91 : BitVec 32 := Scalar.minsi c120_i32_59 v90
  let c64_i32_77 : BitVec 32 := 64#32
  let v127 : BitVec 32 := Scalar.muli v91 c64_i32_77
  v127
def k0_mult16 (i : grid0.Coords) : BitVec 32 :=
  let c120_i32_63 : BitVec 32 := 120#32
  let c0_i32_62 : BitVec 32 := 0#32
  let arg1 : BitVec 32 := BitVec.ofNat 32 (i 1).val
  let c16_i32_60 : BitVec 32 := 16#32
  let v93 : BitVec 32 := Scalar.muli arg1 c16_i32_60
  let c15_i32 : BitVec 32 := 15#32
  let v94 : BitVec 32 := Scalar.addi v93 c15_i32
  let c4_i32_61 : BitVec 32 := 4#32
  let v95 : BitVec 32 := Scalar.subi v94 c4_i32_61
  let v96 : BitVec 32 := Scalar.maxsi c0_i32_62 v95
  let v97 : BitVec 32 := Scalar.minsi c120_i32_63 v96
  let c64_i32_78 : BitVec 32 := 64#32
  let v129 : BitVec 32 := Scalar.muli v97 c64_i32_78
  v129
def k0_off1 (i : grid0.Coords) (c0_i32_1 : BitVec 32) : Fin 2 → Nat :=
  let c120_i32 : BitVec 32 := 120#32
  let c0_i32_2 : BitVec 32 := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c4_i32 : BitVec 32 := 4#32
  let v5 : BitVec 32 := Scalar.subi v4 c4_i32
  let v6 : BitVec 32 := Scalar.maxsi c0_i32_2 v5
  let v7 : BitVec 32 := Scalar.minsi c120_i32 v6
  let c64_i32 : BitVec 32 := 64#32
  let v99 : BitVec 32 := Scalar.muli v7 c64_i32
  let v100 : BitVec 32 := v99
  let v147 : Index := Scalar.indexCast v100
  let c0_95 : Index := 0#32
  ![v147.toNat, 0]
def k0_off2 (i : grid0.Coords) (c0_i32_1 : BitVec 32) : Fin 4 → Nat :=
  let c0_159 : Index := 0#32
  let arg1 : BitVec 32 := BitVec.ofNat 32 (i 1).val
  let c16_i32 : BitVec 32 := 16#32
  let v3 : BitVec 32 := Scalar.muli arg1 c16_i32
  let v4 : BitVec 32 := Scalar.addi v3 c0_i32_1
  let c120_i32 : BitVec 32 := 120#32
  let c0_i32_2 : BitVec 32 := 0#32
  let c4_i32 : BitVec 32 := 4#32
  let v5 : BitVec 32 := Scalar.subi v4 c4_i32
  let v6 : BitVec 32 := Scalar.maxsi c0_i32_2 v5
  let v7 : BitVec 32 := Scalar.minsi c120_i32 v6
  let v8 : BitVec 32 := Scalar.subi v4 v7
  let v275 : Index := Scalar.indexCast v8
  let c0_160 : Index := 0#32
  let c0_161 : Index := 0#32
  ![0, v275.toNat, 0, 0]
def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S8192x14336 : Shape := ⟨2, ![8192, 14336]⟩
abbrev S16x8x64x512 : Shape := ⟨4, ![16, 8, 64, 512]⟩
abbrev S8192x2048 : Shape := ⟨2, ![8192, 2048]⟩
abbrev S128x8 : Shape := ⟨2, ![128, 8]⟩
abbrev S128 : Shape := ⟨1, ![128]⟩
abbrev S128x64x16x128 : Shape := ⟨4, ![128, 64, 16, 128]⟩
abbrev S_ : Shape := ⟨0, ![]⟩
abbrev S128x8x1 : Shape := ⟨3, ![128, 8, 1]⟩
abbrev S128x8x64x16x128 : Shape := ⟨5, ![128, 8, 64, 16, 128]⟩
abbrev S128x512x16x128 : Shape := ⟨4, ![128, 512, 16, 128]⟩
abbrev S16x128x64x512 : Shape := ⟨4, ![16, 128, 64, 512]⟩
abbrev S128x1 : Shape := ⟨2, ![128, 1]⟩
abbrev S16x128x64 : Shape := ⟨3, ![16, 128, 64]⟩
abbrev S16x128x64x1 : Shape := ⟨4, ![16, 128, 64, 1]⟩
abbrev S128x16x128x64 : Shape := ⟨4, ![128, 16, 128, 64]⟩
abbrev S128x16x64x512 : Shape := ⟨4, ![128, 16, 64, 512]⟩
abbrev S128x16x128x512 : Shape := ⟨4, ![128, 16, 128, 512]⟩
abbrev S16x128x512x128 : Shape := ⟨4, ![16, 128, 512, 128]⟩
abbrev S16x128x64x128 : Shape := ⟨4, ![16, 128, 64, 128]⟩

abbrev nBuf : Space → Nat
  | .hbm => 122
  | .vmem => 0
  | .smem => 0
  | _ => 0

abbrev bufTy : (tb : Table) → Fin (tcTables nBuf tb) → BufTy
  | .hbm, ⟨0, _⟩ => ⟨S8192x14336, .f32⟩
  | .hbm, ⟨1, _⟩ => ⟨S16x8x64x512, .f32⟩
  | .hbm, ⟨2, _⟩ => ⟨S8192x2048, .f32⟩
  | .hbm, ⟨3, _⟩ => ⟨S128x8, .i32⟩
  | .hbm, ⟨4, _⟩ => ⟨S128x8, .i1⟩
  | .hbm, ⟨5, _⟩ => ⟨S128x8, .i32⟩
  | .hbm, ⟨6, _⟩ => ⟨S128x8, .i1⟩
  | .hbm, ⟨7, _⟩ => ⟨S128, .i32⟩
  | .hbm, ⟨8, _⟩ => ⟨S128, .i1⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S128x64x16x128, .f32⟩
  | .hbm, ⟨13, _⟩ => ⟨S128x64x16x128, .f32⟩
  | .hbm, ⟨14, _⟩ => ⟨S_, .i32⟩
  | .hbm, ⟨15, _⟩ => ⟨S128x8, .i32⟩
  | .hbm, ⟨16, _⟩ => ⟨S128x8, .i32⟩
  | .hbm, ⟨17, _⟩ => ⟨S128x8, .i32⟩
  | .hbm, ⟨18, _⟩ => ⟨S128x8x1, .i32⟩
  | .hbm, ⟨19, _⟩ => ⟨S128x8x64x16x128, .f32⟩
  | .hbm, ⟨20, _⟩ => ⟨S128x512x16x128, .f32⟩
  | .hbm, ⟨21, _⟩ => ⟨S128x64x16x128, .f32⟩
  | .hbm, ⟨22, _⟩ => ⟨S_, .i32⟩
  | .hbm, ⟨23, _⟩ => ⟨S128x8, .i32⟩
  | .hbm, ⟨24, _⟩ => ⟨S128x8, .i32⟩
  | .hbm, ⟨25, _⟩ => ⟨S128x8, .i32⟩
  | .hbm, ⟨26, _⟩ => ⟨S128x8x1, .i32⟩
  | .hbm, ⟨27, _⟩ => ⟨S128x8x64x16x128, .f32⟩
  | .hbm, ⟨28, _⟩ => ⟨S128x512x16x128, .f32⟩
  | .hbm, ⟨29, _⟩ => ⟨S16x128x64x512, .f32⟩
  | .hbm, ⟨30, _⟩ => ⟨S_, .f32⟩
  | .hbm, ⟨31, _⟩ => ⟨S16x128x64x512, .f32⟩
  | .hbm, ⟨32, _⟩ => ⟨S16x128x64x512, .f32⟩
  | .hbm, ⟨33, _⟩ => ⟨S_, .i32⟩
  | .hbm, ⟨34, _⟩ => ⟨S128, .i32⟩
  | .hbm, ⟨35, _⟩ => ⟨S128, .i32⟩
  | .hbm, ⟨36, _⟩ => ⟨S128, .i32⟩
  | .hbm, ⟨37, _⟩ => ⟨S128x1, .i32⟩
  | .hbm, ⟨38, _⟩ => ⟨S16x128x64x512, .f32⟩
  | .hbm, ⟨39, _⟩ => ⟨S16x128x64x512, .f32⟩
  | .hbm, ⟨40, _⟩ => ⟨S_, .f32⟩
  | .hbm, ⟨41, _⟩ => ⟨S16x128x64, .f32⟩
  | .hbm, ⟨42, _⟩ => ⟨S16x128x64x1, .f32⟩
  | .hbm, ⟨43, _⟩ => ⟨S16x128x64x512, .f32⟩
  | .hbm, ⟨44, _⟩ => ⟨S16x128x64x512, .i1⟩
  | .hbm, ⟨45, _⟩ => ⟨S16x128x64x512, .f32⟩
  | .hbm, ⟨46, _⟩ => ⟨S_, .f32⟩
  | .hbm, ⟨47, _⟩ => ⟨S16x128x64, .f32⟩
  | .hbm, ⟨48, _⟩ => ⟨S_, .f32⟩
  | .hbm, ⟨49, _⟩ => ⟨S16x128x64, .f32⟩
  | .hbm, ⟨50, _⟩ => ⟨S16x128x64, .f32⟩
  | .hbm, ⟨51, _⟩ => ⟨S_, .f32⟩
  | .hbm, ⟨52, _⟩ => ⟨S16x128x64, .f32⟩
  | .hbm, ⟨53, _⟩ => ⟨S16x128x64, .i1⟩
  | .hbm, ⟨54, _⟩ => ⟨S_, .f32⟩
  | .hbm, ⟨55, _⟩ => ⟨S16x128x64, .f32⟩
  | .hbm, ⟨56, _⟩ => ⟨S16x128x64, .i1⟩
  | .hbm, ⟨57, _⟩ => ⟨S_, .f32⟩
  | .hbm, ⟨58, _⟩ => ⟨S16x128x64, .f32⟩
  | .hbm, ⟨59, _⟩ => ⟨S_, .f32⟩
  | .hbm, ⟨60, _⟩ => ⟨S16x128x64, .f32⟩
  | .hbm, ⟨61, _⟩ => ⟨S_, .f32⟩
  | .hbm, ⟨62, _⟩ => ⟨S16x128x64, .f32⟩
  | .hbm, ⟨63, _⟩ => ⟨S16x128x64, .f32⟩
  | .hbm, ⟨64, _⟩ => ⟨S16x128x64, .f32⟩
  | .hbm, ⟨65, _⟩ => ⟨S16x128x64x1, .f32⟩
  | .hbm, ⟨66, _⟩ => ⟨S16x128x64x512, .f32⟩
  | .hbm, ⟨67, _⟩ => ⟨S16x128x64x512, .f32⟩
  | .hbm, ⟨68, _⟩ => ⟨S16x128x64x512, .f32⟩
  | .hbm, ⟨69, _⟩ => ⟨S_, .f32⟩
  | .hbm, ⟨70, _⟩ => ⟨S16x128x64, .f32⟩
  | .hbm, ⟨71, _⟩ => ⟨S16x128x64x1, .f32⟩
  | .hbm, ⟨72, _⟩ => ⟨S16x128x64x512, .f32⟩
  | .hbm, ⟨73, _⟩ => ⟨S16x128x64x512, .f32⟩
  | .hbm, ⟨74, _⟩ => ⟨S16x128x64x1, .f32⟩
  | .hbm, ⟨75, _⟩ => ⟨S_, .f32⟩
  | .hbm, ⟨76, _⟩ => ⟨S16x128x64x1, .f32⟩
  | .hbm, ⟨77, _⟩ => ⟨S16x128x64x1, .f32⟩
  | .hbm, ⟨78, _⟩ => ⟨S128x16x128x64, .f32⟩
  | .hbm, ⟨79, _⟩ => ⟨S128x64x16x128, .f32⟩
  | .hbm, ⟨80, _⟩ => ⟨S8192x2048, .f32⟩
  | .hbm, ⟨81, _⟩ => ⟨S128x64x16x128, .f32⟩
  | .hbm, ⟨82, _⟩ => ⟨S128x16x128x64, .f32⟩
  | .hbm, ⟨83, _⟩ => ⟨S128x16x64x512, .f32⟩
  | .hbm, ⟨84, _⟩ => ⟨S16x128x64x512, .f32⟩
  | .hbm, ⟨85, _⟩ => ⟨S128x16x128x512, .f32⟩
  | .hbm, ⟨86, _⟩ => ⟨S128x512x16x128, .f32⟩
  | .hbm, ⟨87, _⟩ => ⟨S16x128x64x512, .f32⟩
  | .hbm, ⟨88, _⟩ => ⟨S16x128x64x512, .f32⟩
  | .hbm, ⟨89, _⟩ => ⟨S16x128x64x512, .f32⟩
  | .hbm, ⟨90, _⟩ => ⟨S_, .f32⟩
  | .hbm, ⟨91, _⟩ => ⟨S16x128x64, .f32⟩
  | .hbm, ⟨92, _⟩ => ⟨S16x128x64x1, .f32⟩
  | .hbm, ⟨93, _⟩ => ⟨S16x128x64x1, .f32⟩
  | .hbm, ⟨94, _⟩ => ⟨S16x128x64x512, .f32⟩
  | .hbm, ⟨95, _⟩ => ⟨S16x128x64x512, .f32⟩
  | .hbm, ⟨96, _⟩ => ⟨S_, .f32⟩
  | .hbm, ⟨97, _⟩ => ⟨S16x128x64, .f32⟩
  | .hbm, ⟨98, _⟩ => ⟨S16x128x64x512, .f32⟩
  | .hbm, ⟨99, _⟩ => ⟨S16x128x64x512, .f32⟩
  | .hbm, ⟨100, _⟩ => ⟨S16x128x64x512, .f32⟩
  | .hbm, ⟨101, _⟩ => ⟨S_, .f32⟩
  | .hbm, ⟨102, _⟩ => ⟨S16x8x64x512, .f32⟩
  | .hbm, ⟨103, _⟩ => ⟨S16x8x64x512, .f32⟩
  | .hbm, ⟨104, _⟩ => ⟨S_, .f32⟩
  | .hbm, ⟨105, _⟩ => ⟨S16x128x64x512, .f32⟩
  | .hbm, ⟨106, _⟩ => ⟨S16x128x64x512, .f32⟩
  | .hbm, ⟨107, _⟩ => ⟨S16x128x512x128, .f32⟩
  | .hbm, ⟨108, _⟩ => ⟨S128x512x16x128, .f32⟩
  | .hbm, ⟨109, _⟩ => ⟨S16x128x64x128, .f32⟩
  | .hbm, ⟨110, _⟩ => ⟨S128x64x16x128, .f32⟩
  | .hbm, ⟨111, _⟩ => ⟨S128x8x64x16x128, .f32⟩
  | .hbm, ⟨112, _⟩ => ⟨S_, .f32⟩
  | .hbm, ⟨113, _⟩ => ⟨S128x64x16x128, .f32⟩
  | .hbm, ⟨114, _⟩ => ⟨S128x64x16x128, .f32⟩
  | .hbm, ⟨115, _⟩ => ⟨S8192x2048, .f32⟩
  | .hbm, ⟨116, _⟩ => ⟨S128x8x64x16x128, .f32⟩
  | .hbm, ⟨117, _⟩ => ⟨S_, .f32⟩
  | .hbm, ⟨118, _⟩ => ⟨S128x64x16x128, .f32⟩
  | .hbm, ⟨119, _⟩ => ⟨S128x64x16x128, .f32⟩
  | .hbm, ⟨120, _⟩ => ⟨S8192x2048, .f32⟩
  | .hbm, ⟨121, _⟩ => ⟨S8192x2048, .f32⟩
  | _, _ => ⟨S8192x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_6 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_cst_13 : Ref sig .tc := ⟨.hbm, 57, rfl⟩
abbrev main_v39 : Ref sig .tc := ⟨.hbm, 58, rfl⟩
abbrev main_cst_14 : Ref sig .tc := ⟨.hbm, 59, rfl⟩
abbrev main_v40 : Ref sig .tc := ⟨.hbm, 60, rfl⟩
abbrev main_cst_15 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_18 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_19 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_cst_21 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_22 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_23 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩

abbrev nD : Nat := 1
abbrev τ : Topo := Topo.v7x

variable {F : FTy → Type} [FloatOps F]
-- ==== Mm.lean ====
abbrev S8192x12288 : Shape := ⟨2, ![8192, 12288]⟩
abbrev S2048x12288 : Shape := ⟨2, ![2048, 12288]⟩
abbrev S8192x2048 : Shape := ⟨2, ![8192, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 12], ![false, false, false]⟩

def k0_cond3 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmIdeal.lean ====
abbrev S8192x12288 : Shape := ⟨2, ![8192, 12288]⟩
abbrev S2048x12288 : Shape := ⟨2, ![2048, 12288]⟩
abbrev S8192x2048 : Shape := ⟨2, ![8192, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 12], ![false, false, false]⟩

def k0_cond3 (i : grid0.Coords) : BitVec 1 :=
  let arg2 : BitVec 32 := BitVec.ofNat 32 (i 2).val
  let c11_i32 : BitVec 32 := 11#32
  let v9 : BitVec 1 := Scalar.cmpi .eq arg2 c11_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmRefIdeal.lean ====
abbrev S8192x12288 : Shape := ⟨2, ![8192, 12288]⟩
abbrev S2048x12288 : Shape := ⟨2, ![2048, 12288]⟩
abbrev S12288x2048 : Shape := ⟨2, ![12288, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x12288, .bf16⟩
  | .hbm, ⟨1, _⟩ => ⟨S2048x12288, .bf16⟩
  | .hbm, ⟨2, _⟩ => ⟨S8192x12288, .f32⟩
  | .hbm, ⟨3, _⟩ => ⟨S2048x12288, .f32⟩
  | .hbm, ⟨4, _⟩ => ⟨S12288x2048, .f32⟩
  | .hbm, ⟨5, _⟩ => ⟨S8192x2048, .f32⟩
  | _, _ => ⟨S8192x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Glu.lean ====
abbrev S8192x12288 : Shape := ⟨2, ![8192, 12288]⟩
abbrev S8192x4096 : Shape := ⟨2, ![8192, 4096]⟩
abbrev S256x2048 : Shape := ⟨2, ![256, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x12288, .f32⟩
  | .hbm, ⟨1, _⟩ => ⟨S8192x4096, .f32⟩
  | .hbm, ⟨2, _⟩ => ⟨S8192x4096, .bf16⟩
  | .hbm, ⟨3, _⟩ => ⟨S8192x4096, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GluRefIdeal.lean ====
abbrev S8192x12288 : Shape := ⟨2, ![8192, 12288]⟩
abbrev S8192x4096 : Shape := ⟨2, ![8192, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | .hbm, ⟨21, _⟩ => ⟨S8192x4096, .bf16⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Out.lean ====
abbrev S8192x4096 : Shape := ⟨2, ![8192, 4096]⟩
abbrev S4096x2048 : Shape := ⟨2, ![4096, 2048]⟩
abbrev S8192x2048 : Shape := ⟨2, ![8192, 2048]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDx.lean ====
abbrev S8192x2048 : Shape := ⟨2, ![8192, 2048]⟩
abbrev S4096x2048 : Shape := ⟨2, ![4096, 2048]⟩
abbrev S8192x4096 : Shape := ⟨2, ![8192, 4096]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S4096x2048, .bf16⟩
  | .hbm, ⟨2, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S8192x2048 : Shape := ⟨2, ![8192, 2048]⟩
abbrev S4096x2048 : Shape := ⟨2, ![4096, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .bf16⟩
  | .hbm, ⟨2, _⟩ => ⟨S4096x2048, .f32⟩
  | .hbm, ⟨3, _⟩ => ⟨S2048x4096, .f32⟩
  | .hbm, ⟨4, _⟩ => ⟨S8192x4096, .f32⟩
  | .hbm, ⟨5, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutDw.lean ====
abbrev S8192x4096 : Shape := ⟨2, ![8192, 4096]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S8192x4096 : Shape := ⟨2, ![8192, 4096]⟩
abbrev S8192x2048 : Shape := ⟨2, ![8192, 2048]⟩
abbrev S4096x2048 : Shape := ⟨2, ![4096, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x4096 : Shape := ⟨2, ![8192, 4096]⟩
abbrev S8192x2048 : Shape := ⟨2, ![8192, 2048]⟩
abbrev S4096x8192 : Shape := ⟨2, ![4096, 8192]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S8192x4096, .f32⟩
  | .hbm, ⟨3, _⟩ => ⟨S4096x8192, .f32⟩
  | .hbm, ⟨4, _⟩ => ⟨S4096x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== In.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InIdeal.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .bf16⟩
  | .hbm, ⟨2, _⟩ => ⟨S8192x2048, .f32⟩
  | .hbm, ⟨3, _⟩ => ⟨S2048x12288, .f32⟩
  | .hbm, ⟨4, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InDw.lean ====
abbrev S8192x2048 : Shape := ⟨2, ![8192, 2048]⟩
abbrev S8192x12288 : Shape := ⟨2, ![8192, 12288]⟩
abbrev S2048x12288 : Shape := ⟨2, ![2048, 12288]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S2048x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwIdeal.lean ====
abbrev S8192x2048 : Shape := ⟨2, ![8192, 2048]⟩
abbrev S8192x12288 : Shape := ⟨2, ![8192, 12288]⟩
abbrev S2048x12288 : Shape := ⟨2, ![2048, 12288]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S2048x12288, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x2048 : Shape := ⟨2, ![8192, 2048]⟩
abbrev S8192x12288 : Shape := ⟨2, ![8192, 12288]⟩
abbrev S2048x8192 : Shape := ⟨2, ![2048, 8192]⟩
abbrev S2048x12288 : Shape := ⟨2, ![2048, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x12288, .bf16⟩
  | .hbm, ⟨2, _⟩ => ⟨S8192x2048, .f32⟩
  | .hbm, ⟨3, _⟩ => ⟨S2048x8192, .f32⟩
  | .hbm, ⟨4, _⟩ => ⟨S8192x12288, .f32⟩
  | .hbm, ⟨5, _⟩ => ⟨S2048x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvInDw.lean ====
abbrev S8192x2048 : Shape := ⟨2, ![8192, 2048]⟩
abbrev S8192x14336 : Shape := ⟨2, ![8192, 14336]⟩
abbrev S2048x14336 : Shape := ⟨2, ![2048, 14336]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x14336, .bf16⟩
  | .hbm, ⟨2, _⟩ => ⟨S2048x14336, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDwIdeal.lean ====
abbrev S8192x2048 : Shape := ⟨2, ![8192, 2048]⟩
abbrev S8192x14336 : Shape := ⟨2, ![8192, 14336]⟩
abbrev S2048x14336 : Shape := ⟨2, ![2048, 14336]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x14336, .bf16⟩
  | .hbm, ⟨2, _⟩ => ⟨S2048x14336, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDwRefIdeal.lean ====
abbrev S8192x2048 : Shape := ⟨2, ![8192, 2048]⟩
abbrev S8192x14336 : Shape := ⟨2, ![8192, 14336]⟩
abbrev S2048x8192 : Shape := ⟨2, ![2048, 8192]⟩
abbrev S2048x14336 : Shape := ⟨2, ![2048, 14336]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x14336, .bf16⟩
  | .hbm, ⟨2, _⟩ => ⟨S8192x2048, .f32⟩
  | .hbm, ⟨3, _⟩ => ⟨S2048x8192, .f32⟩
  | .hbm, ⟨4, _⟩ => ⟨S8192x14336, .f32⟩
  | .hbm, ⟨5, _⟩ => ⟨S2048x14336, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gate.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateIdeal.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateRefIdeal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateDx.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxIdeal.lean ====
abbrev S8192x2048 : Shape := ⟨2, ![8192, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDxRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateDw.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateDwRefIdeal.lean ====
abbrev S8192x2048 : Shape := ⟨2, ![8192, 2048]⟩
abbrev S2048x8192 : Shape := ⟨2, ![2048, 8192]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvIn.lean ====
abbrev S8192x2048 : Shape := ⟨2, ![8192, 2048]⟩
abbrev S2048x14336 : Shape := ⟨2, ![2048, 14336]⟩
abbrev S8192x14336 : Shape := ⟨2, ![8192, 14336]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x14336, .bf16⟩
  | .hbm, ⟨2, _⟩ => ⟨S8192x14336, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInRefIdeal.lean ====
abbrev S8192x2048 : Shape := ⟨2, ![8192, 2048]⟩
abbrev S2048x14336 : Shape := ⟨2, ![2048, 14336]⟩
abbrev S8192x14336 : Shape := ⟨2, ![8192, 14336]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x14336, .bf16⟩
  | .hbm, ⟨2, _⟩ => ⟨S8192x2048, .f32⟩
  | .hbm, ⟨3, _⟩ => ⟨S2048x14336, .f32⟩
  | .hbm, ⟨4, _⟩ => ⟨S8192x14336, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== EvInDx.lean ====
abbrev S8192x14336 : Shape := ⟨2, ![8192, 14336]⟩
abbrev S2048x14336 : Shape := ⟨2, ![2048, 14336]⟩
abbrev S8192x2048 : Shape := ⟨2, ![8192, 2048]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x14336, .bf16⟩
  | .hbm, ⟨1, _⟩ => ⟨S2048x14336, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S8192x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 14], ![false, false, false]⟩

def k0_cond3 (i : grid0.Coords) : BitVec 1 :=
  let arg2 : BitVec 32 := BitVec.ofNat 32 (i 2).val
  let c13_i32 : BitVec 32 := 13#32
  let v9 : BitVec 1 := Scalar.cmpi .eq arg2 c13_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvInDxRefIdeal.lean ====
abbrev S8192x14336 : Shape := ⟨2, ![8192, 14336]⟩
abbrev S2048x14336 : Shape := ⟨2, ![2048, 14336]⟩
abbrev S14336x2048 : Shape := ⟨2, ![14336, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x14336, .bf16⟩
  | .hbm, ⟨1, _⟩ => ⟨S2048x14336, .bf16⟩
  | .hbm, ⟨2, _⟩ => ⟨S8192x14336, .f32⟩
  | .hbm, ⟨3, _⟩ => ⟨S2048x14336, .f32⟩
  | .hbm, ⟨4, _⟩ => ⟨S14336x2048, .f32⟩
  | .hbm, ⟨5, _⟩ => ⟨S8192x2048, .f32⟩
  | _, _ => ⟨S8192x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Rms.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== RmsRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== NaGate.lean ====
abbrev S8192x2048 : Shape := ⟨2, ![8192, 2048]⟩
abbrev S8192x14336 : Shape := ⟨2, ![8192, 14336]⟩
abbrev S8192x4096 : Shape := ⟨2, ![8192, 4096]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x14336, .f32⟩
  | .hbm, ⟨2, _⟩ => ⟨S8192x4096, .bf16⟩
  | .hbm, ⟨3, _⟩ => ⟨S8192x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaGateRefIdeal.lean ====
abbrev S8192x2048 : Shape := ⟨2, ![8192, 2048]⟩
abbrev S8192x14336 : Shape := ⟨2, ![8192, 14336]⟩
abbrev S8192x4096 : Shape := ⟨2, ![8192, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x14336, .f32⟩
  | .hbm, ⟨2, _⟩ => ⟨S8192x4096, .bf16⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x4096, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v1_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v1_1 : Ref sig .tc := ⟨.hbm, 15, rfl⟩
abbrev main_v1_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩

abbrev nD : Nat := 1
abbrev τ : Topo := Topo.v7x

variable {F : FTy → Type} [FloatOps F]
-- ==== Ple.lean ====
abbrev S8192x2048 : Shape := ⟨2, ![8192, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PleRefIdeal.lean ====
abbrev S8192x2048 : Shape := ⟨2, ![8192, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== AdEvIn.lean ====
abbrev S1 : Shape := ⟨1, ![1]⟩
abbrev S4096x1800 : Shape := ⟨2, ![4096, 1800]⟩
abbrev S8x4096x1800 : Shape := ⟨3, ![8, 4096, 1800]⟩
abbrev S128x1800 : Shape := ⟨2, ![128, 1800]⟩
abbrev S8x128x1800 : Shape := ⟨3, ![8, 128, 1800]⟩
abbrev S1x128x1800 : Shape := ⟨3, ![1, 128, 1800]⟩

abbrev nBuf : Space → Nat
  | .hbm => 9
  | .vmem => 18
  | .smem => 1
  | _ => 0

abbrev bufTy : (tb : Table) → Fin (tcTables nBuf tb) → BufTy
  | .hbm, ⟨0, _⟩ => ⟨S4096x1800, .f32⟩
  | .hbm, ⟨1, _⟩ => ⟨S8x4096x1800, .bf16⟩
  | .hbm, ⟨2, _⟩ => ⟨S4096x1800, .f32⟩
  | .hbm, ⟨3, _⟩ => ⟨S4096x1800, .f32⟩
  | .hbm, ⟨4, _⟩ => ⟨S4096x1800, .f32⟩
  | .hbm, ⟨5, _⟩ => ⟨S4096x1800, .f32⟩
  | .hbm, ⟨6, _⟩ => ⟨S4096x1800, .f32⟩
  | .hbm, ⟨7, _⟩ => ⟨S4096x1800, .f32⟩
  | .hbm, ⟨8, _⟩ => ⟨S4096x1800, .f32⟩
  | .local _ .vmem, ⟨0, _⟩ => ⟨S128x1800, .f32⟩
  | .local _ .vmem, ⟨1, _⟩ => ⟨S128x1800, .f32⟩
  | .local _ .vmem, ⟨2, _⟩ => ⟨S8x128x1800, .bf16⟩
  | .local _ .vmem, ⟨3, _⟩ => ⟨S8x128x1800, .bf16⟩
  | .local _ .vmem, ⟨4, _⟩ => ⟨S128x1800, .f32⟩
  | .local _ .vmem, ⟨5, _⟩ => ⟨S128x1800, .f32⟩
  | .local _ .vmem, ⟨6, _⟩ => ⟨S128x1800, .f32⟩
  | .local _ .vmem, ⟨7, _⟩ => ⟨S128x1800, .f32⟩
  | .local _ .vmem, ⟨8, _⟩ => ⟨S128x1800, .f32⟩
  | .local _ .vmem, ⟨9, _⟩ => ⟨S128x1800, .f32⟩
  | .local _ .vmem, ⟨10, _⟩ => ⟨S128x1800, .f32⟩
  | .local _ .vmem, ⟨11, _⟩ => ⟨S128x1800, .f32⟩
  | .local _ .vmem, ⟨12, _⟩ => ⟨S128x1800, .f32⟩
  | .local _ .vmem, ⟨13, _⟩ => ⟨S128x1800, .f32⟩
  | .local _ .vmem, ⟨14, _⟩ => ⟨S128x1800, .f32⟩
  | .local _ .vmem, ⟨15, _⟩ => ⟨S128x1800, .f32⟩
  | .local _ .vmem, ⟨16, _⟩ => ⟨S128x1800, .f32⟩
  | .local _ .vmem, ⟨17, _⟩ => ⟨S128x1800, .f32⟩
  | .local _ .smem, ⟨0, _⟩ => ⟨S1, .i32⟩
  | _, _ => ⟨S4096x1800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1800 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdEvInIdeal.lean ====
abbrev S1 : Shape := ⟨1, ![1]⟩
abbrev S4096x1800 : Shape := ⟨2, ![4096, 1800]⟩
abbrev S8x4096x1800 : Shape := ⟨3, ![8, 4096, 1800]⟩
abbrev S128x1800 : Shape := ⟨2, ![128, 1800]⟩
abbrev S8x128x1800 : Shape := ⟨3, ![8, 128, 1800]⟩
abbrev S1x128x1800 : Shape := ⟨3, ![1, 128, 1800]⟩

abbrev nBuf : Space → Nat
  | .hbm => 9
  | .vmem => 18
  | .smem => 1
  | _ => 0

abbrev bufTy : (tb : Table) → Fin (tcTables nBuf tb) → BufTy
  | .hbm, ⟨0, _⟩ => ⟨S4096x1800, .f32⟩
  | .hbm, ⟨1, _⟩ => ⟨S8x4096x1800, .bf16⟩
  | .hbm, ⟨2, _⟩ => ⟨S4096x1800, .f32⟩
  | .hbm, ⟨3, _⟩ => ⟨S4096x1800, .f32⟩
  | .hbm, ⟨4, _⟩ => ⟨S4096x1800, .f32⟩
  | .hbm, ⟨5, _⟩ => ⟨S4096x1800, .f32⟩
  | .hbm, ⟨6, _⟩ => ⟨S4096x1800, .f32⟩
  | .hbm, ⟨7, _⟩ => ⟨S4096x1800, .f32⟩
  | .hbm, ⟨8, _⟩ => ⟨S4096x1800, .f32⟩
  | .local _ .vmem, ⟨0, _⟩ => ⟨S128x1800, .f32⟩
  | .local _ .vmem, ⟨1, _⟩ => ⟨S128x1800, .f32⟩
  | .local _ .vmem, ⟨2, _⟩ => ⟨S8x128x1800, .bf16⟩
  | .local _ .vmem, ⟨3, _⟩ => ⟨S8x128x1800, .bf16⟩
  | .local _ .vmem, ⟨4, _⟩ => ⟨S128x1800, .f32⟩
  | .local _ .vmem, ⟨5, _⟩ => ⟨S128x1800, .f32⟩
  | .local _ .vmem, ⟨6, _⟩ => ⟨S128x1800, .f32⟩
  | .local _ .vmem, ⟨7, _⟩ => ⟨S128x1800, .f32⟩
  | .local _ .vmem, ⟨8, _⟩ => ⟨S128x1800, .f32⟩
  | .local _ .vmem, ⟨9, _⟩ => ⟨S128x1800, .f32⟩
  | .local _ .vmem, ⟨10, _⟩ => ⟨S128x1800, .f32⟩
  | .local _ .vmem, ⟨11, _⟩ => ⟨S128x1800, .f32⟩
  | .local _ .vmem, ⟨12, _⟩ => ⟨S128x1800, .f32⟩
  | .local _ .vmem, ⟨13, _⟩ => ⟨S128x1800, .f32⟩
  | .local _ .vmem, ⟨14, _⟩ => ⟨S128x1800, .f32⟩
  | .local _ .vmem, ⟨15, _⟩ => ⟨S128x1800, .f32⟩
  | .local _ .vmem, ⟨16, _⟩ => ⟨S128x1800, .f32⟩
  | .local _ .vmem, ⟨17, _⟩ => ⟨S128x1800, .f32⟩
  | .local _ .smem, ⟨0, _⟩ => ⟨S1, .i32⟩
  | _, _ => ⟨S4096x1800, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1800 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1800 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1800 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1800 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdEvInRefIdeal.lean ====
abbrev S1 : Shape := ⟨1, ![1]⟩
abbrev S4096x1800 : Shape := ⟨2, ![4096, 1800]⟩
abbrev S8x4096x1800 : Shape := ⟨3, ![8, 4096, 1800]⟩
abbrev S8 : Shape := ⟨1, ![8]⟩
abbrev S_ : Shape := ⟨0, ![]⟩
abbrev S8x1x1 : Shape := ⟨3, ![8, 1, 1]⟩
abbrev S1x4096x1800 : Shape := ⟨3, ![1, 4096, 1800]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S4096x1800, .f32⟩
  | .hbm, ⟨2, _⟩ => ⟨S8x4096x1800, .bf16⟩
  | .hbm, ⟨3, _⟩ => ⟨S4096x1800, .f32⟩
  | .hbm, ⟨4, _⟩ => ⟨S4096x1800, .f32⟩
  | .hbm, ⟨5, _⟩ => ⟨S4096x1800, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S1x4096x1800, .f32⟩
  | .hbm, ⟨12, _⟩ => ⟨S8x4096x1800, .f32⟩
  | .hbm, ⟨13, _⟩ => ⟨S8x4096x1800, .i1⟩
  | .hbm, ⟨14, _⟩ => ⟨S8x4096x1800, .f32⟩
  | .hbm, ⟨15, _⟩ => ⟨S8x4096x1800, .f32⟩
  | .hbm, ⟨16, _⟩ => ⟨S_, .f32⟩
  | .hbm, ⟨17, _⟩ => ⟨S4096x1800, .f32⟩
  | .hbm, ⟨18, _⟩ => ⟨S_, .f32⟩
  | .hbm, ⟨19, _⟩ => ⟨S4096x1800, .f32⟩
  | .hbm, ⟨20, _⟩ => ⟨S4096x1800, .f32⟩
  | .hbm, ⟨21, _⟩ => ⟨S_, .f32⟩
  | .hbm, ⟨22, _⟩ => ⟨S4096x1800, .f32⟩
  | .hbm, ⟨23, _⟩ => ⟨S4096x1800, .f32⟩
  | .hbm, ⟨24, _⟩ => ⟨S4096x1800, .f32⟩
  | .hbm, ⟨25, _⟩ => ⟨S_, .f32⟩
  | .hbm, ⟨26, _⟩ => ⟨S4096x1800, .f32⟩
  | .hbm, ⟨27, _⟩ => ⟨S4096x1800, .f32⟩
  | .hbm, ⟨28, _⟩ => ⟨S4096x1800, .f32⟩
  | .hbm, ⟨29, _⟩ => ⟨S_, .f32⟩
  | .hbm, ⟨30, _⟩ => ⟨S4096x1800, .f32⟩
  | .hbm, ⟨31, _⟩ => ⟨S4096x1800, .f32⟩
  | .hbm, ⟨32, _⟩ => ⟨S4096x1800, .f32⟩
  | .hbm, ⟨33, _⟩ => ⟨S_, .f32⟩
  | .hbm, ⟨34, _⟩ => ⟨S4096x1800, .f32⟩
  | .hbm, ⟨35, _⟩ => ⟨S4096x1800, .f32⟩
  | .hbm, ⟨36, _⟩ => ⟨S_, .f32⟩
  | .hbm, ⟨37, _⟩ => ⟨S4096x1800, .f32⟩
  | .hbm, ⟨38, _⟩ => ⟨S4096x1800, .f32⟩
  | .hbm, ⟨39, _⟩ => ⟨S4096x1800, .f32⟩
  | .hbm, ⟨40, _⟩ => ⟨S_, .f32⟩
  | .hbm, ⟨41, _⟩ => ⟨S4096x1800, .f32⟩
  | .hbm, ⟨42, _⟩ => ⟨S4096x1800, .f32⟩
  | .hbm, ⟨43, _⟩ => ⟨S4096x1800, .f32⟩
  | .hbm, ⟨44, _⟩ => ⟨S_, .f32⟩
  | .hbm, ⟨45, _⟩ => ⟨S4096x1800, .f32⟩
  | .hbm, ⟨46, _⟩ => ⟨S4096x1800, .f32⟩
  | .hbm, ⟨47, _⟩ => ⟨S4096x1800, .f32⟩
  | .hbm, ⟨48, _⟩ => ⟨S_, .f32⟩
  | .hbm, ⟨49, _⟩ => ⟨S4096x1800, .f32⟩
  | .hbm, ⟨50, _⟩ => ⟨S4096x1800, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdOut.lean ====
abbrev S1 : Shape := ⟨1, ![1]⟩
abbrev S1024x2048 : Shape := ⟨2, ![1024, 2048]⟩
abbrev S8x1024x2048 : Shape := ⟨3, ![8, 1024, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1024x2048, .f32⟩
  | .hbm, ⟨1, _⟩ => ⟨S8x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S8x128x2048, .bf16⟩
  | .local _ .vmem, ⟨3, _⟩ => ⟨S8x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdOutIdeal.lean ====
abbrev S1 : Shape := ⟨1, ![1]⟩
abbrev S1024x2048 : Shape := ⟨2, ![1024, 2048]⟩
abbrev S8x1024x2048 : Shape := ⟨3, ![8, 1024, 2048]⟩
abbrev S128x2048 : Shape := ⟨2, ![128, 2048]⟩
abbrev S8x128x2048 : Shape := ⟨3, ![8, 128, 2048]⟩
abbrev S1x128x2048 : Shape := ⟨3, ![1, 128, 2048]⟩

abbrev nBuf : Space → Nat
  | .hbm => 9
  | .vmem => 18
  | .smem => 1
  | _ => 0

abbrev bufTy : (tb : Table) → Fin (tcTables nBuf tb) → BufTy
  | .hbm, ⟨0, _⟩ => ⟨S1024x2048, .f32⟩
  | .hbm, ⟨1, _⟩ => ⟨S8x1024x2048, .bf16⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S8x128x2048, .bf16⟩
  | .local _ .vmem, ⟨3, _⟩ => ⟨S8x128x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .smem, ⟨0, _⟩ => ⟨S1, .i32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdOutRefIdeal.lean ====
abbrev S1 : Shape := ⟨1, ![1]⟩
abbrev S1024x2048 : Shape := ⟨2, ![1024, 2048]⟩
abbrev S8x1024x2048 : Shape := ⟨3, ![8, 1024, 2048]⟩
abbrev S8 : Shape := ⟨1, ![8]⟩
abbrev S_ : Shape := ⟨0, ![]⟩
abbrev S8x1x1 : Shape := ⟨3, ![8, 1, 1]⟩
abbrev S1x1024x2048 : Shape := ⟨3, ![1, 1024, 2048]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x2048, .f32⟩
  | .hbm, ⟨2, _⟩ => ⟨S8x1024x2048, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S1x1024x2048, .f32⟩
  | .hbm, ⟨12, _⟩ => ⟨S8x1024x2048, .f32⟩
  | .hbm, ⟨13, _⟩ => ⟨S8x1024x2048, .i1⟩
  | .hbm, ⟨14, _⟩ => ⟨S8x1024x2048, .f32⟩
  | .hbm, ⟨15, _⟩ => ⟨S8x1024x2048, .f32⟩
  | .hbm, ⟨16, _⟩ => ⟨S_, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024x2048, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S1024x2048, .f32⟩
  | .hbm, ⟨40, _⟩ => ⟨S_, .f32⟩
  | .hbm, ⟨41, _⟩ => ⟨S1024x2048, .f32⟩
  | .hbm, ⟨42, _⟩ => ⟨S1024x2048, .f32⟩
  | .hbm, ⟨43, _⟩ => ⟨S1024x2048, .f32⟩
  | .hbm, ⟨44, _⟩ => ⟨S_, .f32⟩
  | .hbm, ⟨45, _⟩ => ⟨S1024x2048, .f32⟩
  | .hbm, ⟨46, _⟩ => ⟨S1024x2048, .f32⟩
  | .hbm, ⟨47, _⟩ => ⟨S1024x2048, .f32⟩
  | .hbm, ⟨48, _⟩ => ⟨S_, .f32⟩
  | .hbm, ⟨49, _⟩ => ⟨S1024x2048, .f32⟩
  | .hbm, ⟨50, _⟩ => ⟨S1024x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdOdIn.lean ====
abbrev S1 : Shape := ⟨1, ![1]⟩
abbrev S4096x1536 : Shape := ⟨2, ![4096, 1536]⟩
abbrev S8x4096x1536 : Shape := ⟨3, ![8, 4096, 1536]⟩
abbrev S128x1536 : Shape := ⟨2, ![128, 1536]⟩
abbrev S8x128x1536 : Shape := ⟨3, ![8, 128, 1536]⟩
abbrev S1x128x1536 : Shape := ⟨3, ![1, 128, 1536]⟩

abbrev nBuf : Space → Nat
  | .hbm => 9
  | .vmem => 18
  | .smem => 1
  | _ => 0

abbrev bufTy : (tb : Table) → Fin (tcTables nBuf tb) → BufTy
  | .hbm, ⟨0, _⟩ => ⟨S4096x1536, .f32⟩
  | .hbm, ⟨1, _⟩ => ⟨S8x4096x1536, .bf16⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S8x128x1536, .bf16⟩
  | .local _ .vmem, ⟨3, _⟩ => ⟨S8x128x1536, .bf16⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | .local _ .smem, ⟨0, _⟩ => ⟨S1, .i32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdOdInIdeal.lean ====
abbrev S1 : Shape := ⟨1, ![1]⟩
abbrev S4096x1536 : Shape := ⟨2, ![4096, 1536]⟩
abbrev S8x4096x1536 : Shape := ⟨3, ![8, 4096, 1536]⟩
abbrev S128x1536 : Shape := ⟨2, ![128, 1536]⟩
abbrev S8x128x1536 : Shape := ⟨3, ![8, 128, 1536]⟩
abbrev S1x128x1536 : Shape := ⟨3, ![1, 128, 1536]⟩

abbrev nBuf : Space → Nat
  | .hbm => 9
  | .vmem => 18
  | .smem => 1
  | _ => 0

abbrev bufTy : (tb : Table) → Fin (tcTables nBuf tb) → BufTy
  | .hbm, ⟨0, _⟩ => ⟨S4096x1536, .f32⟩
  | .hbm, ⟨1, _⟩ => ⟨S8x4096x1536, .bf16⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .hbm, ⟨7, _⟩ => ⟨S4096x1536, .f32⟩
  | .hbm, ⟨8, _⟩ => ⟨S4096x1536, .f32⟩
  | .local _ .vmem, ⟨0, _⟩ => ⟨S128x1536, .f32⟩
  | .local _ .vmem, ⟨1, _⟩ => ⟨S128x1536, .f32⟩
  | .local _ .vmem, ⟨2, _⟩ => ⟨S8x128x1536, .bf16⟩
  | .local _ .vmem, ⟨3, _⟩ => ⟨S8x128x1536, .bf16⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | .local _ .smem, ⟨0, _⟩ => ⟨S1, .i32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdOdInRefIdeal.lean ====
abbrev S1 : Shape := ⟨1, ![1]⟩
abbrev S4096x1536 : Shape := ⟨2, ![4096, 1536]⟩
abbrev S8x4096x1536 : Shape := ⟨3, ![8, 4096, 1536]⟩
abbrev S8 : Shape := ⟨1, ![8]⟩
abbrev S_ : Shape := ⟨0, ![]⟩
abbrev S8x1x1 : Shape := ⟨3, ![8, 1, 1]⟩
abbrev S1x4096x1536 : Shape := ⟨3, ![1, 4096, 1536]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S4096x1536, .f32⟩
  | .hbm, ⟨2, _⟩ => ⟨S8x4096x1536, .bf16⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S1x4096x1536, .f32⟩
  | .hbm, ⟨12, _⟩ => ⟨S8x4096x1536, .f32⟩
  | .hbm, ⟨13, _⟩ => ⟨S8x4096x1536, .i1⟩
  | .hbm, ⟨14, _⟩ => ⟨S8x4096x1536, .f32⟩
  | .hbm, ⟨15, _⟩ => ⟨S8x4096x1536, .f32⟩
  | .hbm, ⟨16, _⟩ => ⟨S_, .f32⟩
  | .hbm, ⟨17, _⟩ => ⟨S4096x1536, .f32⟩
  | .hbm, ⟨18, _⟩ => ⟨S_, .f32⟩
  | .hbm, ⟨19, _⟩ => ⟨S4096x1536, .f32⟩
  | .hbm, ⟨20, _⟩ => ⟨S4096x1536, .f32⟩
  | .hbm, ⟨21, _⟩ => ⟨S_, .f32⟩
  | .hbm, ⟨22, _⟩ => ⟨S4096x1536, .f32⟩
  | .hbm, ⟨23, _⟩ => ⟨S4096x1536, .f32⟩
  | .hbm, ⟨24, _⟩ => ⟨S4096x1536, .f32⟩
  | .hbm, ⟨25, _⟩ => ⟨S_, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S_, .f32⟩
  | .hbm, ⟨30, _⟩ => ⟨S4096x1536, .f32⟩
  | .hbm, ⟨31, _⟩ => ⟨S4096x1536, .f32⟩
  | .hbm, ⟨32, _⟩ => ⟨S4096x1536, .f32⟩
  | .hbm, ⟨33, _⟩ => ⟨S_, .f32⟩
  | .hbm, ⟨34, _⟩ => ⟨S4096x1536, .f32⟩
  | .hbm, ⟨35, _⟩ => ⟨S4096x1536, .f32⟩
  | .hbm, ⟨36, _⟩ => ⟨S_, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S_, .f32⟩
  | .hbm, ⟨41, _⟩ => ⟨S4096x1536, .f32⟩
  | .hbm, ⟨42, _⟩ => ⟨S4096x1536, .f32⟩
  | .hbm, ⟨43, _⟩ => ⟨S4096x1536, .f32⟩
  | .hbm, ⟨44, _⟩ => ⟨S_, .f32⟩
  | .hbm, ⟨45, _⟩ => ⟨S4096x1536, .f32⟩
  | .hbm, ⟨46, _⟩ => ⟨S4096x1536, .f32⟩
  | .hbm, ⟨47, _⟩ => ⟨S4096x1536, .f32⟩
  | .hbm, ⟨48, _⟩ => ⟨S_, .f32⟩
  | .hbm, ⟨49, _⟩ => ⟨S4096x1536, .f32⟩
  | .hbm, ⟨50, _⟩ => ⟨S4096x1536, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdProj.lean ====
abbrev S1 : Shape := ⟨1, ![1]⟩
abbrev S1024x256 : Shape := ⟨2, ![1024, 256]⟩
abbrev S8x1024x256 : Shape := ⟨3, ![8, 1024, 256]⟩
abbrev S256x256 : Shape := ⟨2, ![256, 256]⟩
abbrev S8x256x256 : Shape := ⟨3, ![8, 256, 256]⟩
abbrev S1x256x256 : Shape := ⟨3, ![1, 256, 256]⟩

abbrev nBuf : Space → Nat
  | .hbm => 9
  | .vmem => 18
  | .smem => 1
  | _ => 0

abbrev bufTy : (tb : Table) → Fin (tcTables nBuf tb) → BufTy
  | .hbm, ⟨0, _⟩ => ⟨S1024x256, .f32⟩
  | .hbm, ⟨1, _⟩ => ⟨S8x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S8x256x256, .bf16⟩
  | .local _ .vmem, ⟨3, _⟩ => ⟨S8x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .smem, ⟨0, _⟩ => ⟨S1, .i32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdProjRefIdeal.lean ====
abbrev S1 : Shape := ⟨1, ![1]⟩
abbrev S1024x256 : Shape := ⟨2, ![1024, 256]⟩
abbrev S8x1024x256 : Shape := ⟨3, ![8, 1024, 256]⟩
abbrev S8 : Shape := ⟨1, ![8]⟩
abbrev S_ : Shape := ⟨0, ![]⟩
abbrev S8x1x1 : Shape := ⟨3, ![8, 1, 1]⟩
abbrev S1x1024x256 : Shape := ⟨3, ![1, 1024, 256]⟩

abbrev nBuf : Space → Nat
  | .hbm => 51
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x256, .f32⟩
  | .hbm, ⟨2, _⟩ => ⟨S8x1024x256, .bf16⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i1⟩
  | .hbm, ⟨10, _⟩ => ⟨S8x1x1, .i1⟩
  | .hbm, ⟨11, _⟩ => ⟨S1x1024x256, .f32⟩
  | .hbm, ⟨12, _⟩ => ⟨S8x1024x256, .f32⟩
  | .hbm, ⟨13, _⟩ => ⟨S8x1024x256, .i1⟩
  | .hbm, ⟨14, _⟩ => ⟨S8x1024x256, .f32⟩
  | .hbm, ⟨15, _⟩ => ⟨S8x1024x256, .f32⟩
  | .hbm, ⟨16, _⟩ => ⟨S_, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S_, .f32⟩
  | .hbm, ⟨22, _⟩ => ⟨S1024x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024x256, .f32⟩
  | .hbm, ⟨27, _⟩ => ⟨S1024x256, .f32⟩
  | .hbm, ⟨28, _⟩ => ⟨S1024x256, .f32⟩
  | .hbm, ⟨29, _⟩ => ⟨S_, .f32⟩
  | .hbm, ⟨30, _⟩ => ⟨S1024x256, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024x256, .f32⟩
  | .hbm, ⟨42, _⟩ => ⟨S1024x256, .f32⟩
  | .hbm, ⟨43, _⟩ => ⟨S1024x256, .f32⟩
  | .hbm, ⟨44, _⟩ => ⟨S_, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S_, .f32⟩
  | .hbm, ⟨49, _⟩ => ⟨S1024x256, .f32⟩
  | .hbm, ⟨50, _⟩ => ⟨S1024x256, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== AdPacked.lean ====
abbrev S512x128 : Shape := ⟨2, ![512, 128]⟩
abbrev S8x512x128 : Shape := ⟨3, ![8, 512, 128]⟩
abbrev S256x128 : Shape := ⟨2, ![256, 128]⟩
abbrev S8x256x128 : Shape := ⟨3, ![8, 256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S512x128, .f32⟩
  | .hbm, ⟨1, _⟩ => ⟨S8x512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S8x256x128, .f32⟩
  | .local _ .vmem, ⟨3, _⟩ => ⟨S8x256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdPackedRefIdeal.lean ====
abbrev S512x128 : Shape := ⟨2, ![512, 128]⟩
abbrev S8x512x128 : Shape := ⟨3, ![8, 512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S8x512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Proof.NaRun.lean ====
/- The kernel body of the neighbourhood-attention gradient, run once per case of its branch: the pieces each output
   buffer ends with are what the run finds. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Exec
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp
public import Idealize.ShloMosaic.Lib.WindowSumWrites

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The first row of the window of keys that row `r` of a step uses, in tokens: kept closed, so that the run compares no two windows. -/
@[irreducible] def rowOff (i : grid0.Coords) (r : ℕ) : ℕ := 64 * min 120 (16 * (i 1).val + r - 4)
/-- The row of the bias table that row `r` of a step uses. -/
@[irreducible] def biasOff (i : grid0.Coords) (r : ℕ) : ℕ := 16 * (i 1).val + r - min 120 (16 * (i 1).val + r - 4)

theorem off1_words : ∀ (n : Fin 8) (r : Fin 16),
    (Scalar.indexCast (Scalar.muli (Scalar.minsi 120#32 (Scalar.maxsi 0#32 (Scalar.subi (Scalar.addi (Scalar.muli (BitVec.ofNat 32 n.val) 16#32) (BitVec.ofNat 32 r.val)) 4#32))) 64#32)).toNat
      = 64 * min 120 (16 * n.val + r.val - 4) := by decide +kernel

theorem off1_eq (i : grid0.Coords) (r : Fin 16) : k0_off1 i (BitVec.ofNat 32 r.val) = ![rowOff i r.val, 0] := by
  unfold k0_off1 rowOff
  exact congrArg (fun n => ![n, 0]) (off1_words (i 1) r)

theorem off2_words : ∀ (n : Fin 8) (r : Fin 16),
    (Scalar.indexCast (Scalar.subi (Scalar.addi (Scalar.muli (BitVec.ofNat 32 n.val) 16#32) (BitVec.ofNat 32 r.val)) (Scalar.minsi 120#32 (Scalar.maxsi 0#32 (Scalar.subi (Scalar.addi (Scalar.muli (BitVec.ofNat 32 n.val) 16#32) (BitVec.ofNat 32 r.val)) 4#32))))).toNat
      = 16 * n.val + r.val - min 120 (16 * n.val + r.val - 4) := by decide +kernel

theorem off2_eq (i : grid0.Coords) (r : Fin 16) : k0_off2 i (BitVec.ofNat 32 r.val) = ![0, biasOff i r.val, 0, 0] := by
  unfold k0_off2 biasOff
  exact congrArg (fun n => ![0, n, 0, 0]) (off2_words (i 1) r)

instance (i : grid0.Coords) : ClosedOff (k0_off1 i 0#32) := ⟨![rowOff i 0, 0], off1_eq i 0⟩
instance (i : grid0.Coords) : ClosedOff (k0_off1 i 1#32) := ⟨![rowOff i 1, 0], off1_eq i 1⟩
instance (i : grid0.Coords) : ClosedOff (k0_off1 i 2#32) := ⟨![rowOff i 2, 0], off1_eq i 2⟩
instance (i : grid0.Coords) : ClosedOff (k0_off1 i 3#32) := ⟨![rowOff i 3, 0], off1_eq i 3⟩
instance (i : grid0.Coords) : ClosedOff (k0_off1 i 4#32) := ⟨![rowOff i 4, 0], off1_eq i 4⟩
instance (i : grid0.Coords) : ClosedOff (k0_off1 i 5#32) := ⟨![rowOff i 5, 0], off1_eq i 5⟩
instance (i : grid0.Coords) : ClosedOff (k0_off1 i 6#32) := ⟨![rowOff i 6, 0], off1_eq i 6⟩
instance (i : grid0.Coords) : ClosedOff (k0_off1 i 7#32) := ⟨![rowOff i 7, 0], off1_eq i 7⟩
instance (i : grid0.Coords) : ClosedOff (k0_off1 i 8#32) := ⟨![rowOff i 8, 0], off1_eq i 8⟩
instance (i : grid0.Coords) : ClosedOff (k0_off1 i 9#32) := ⟨![rowOff i 9, 0], off1_eq i 9⟩
instance (i : grid0.Coords) : ClosedOff (k0_off1 i 10#32) := ⟨![rowOff i 10, 0], off1_eq i 10⟩
instance (i : grid0.Coords) : ClosedOff (k0_off1 i 11#32) := ⟨![rowOff i 11, 0], off1_eq i 11⟩
instance (i : grid0.Coords) : ClosedOff (k0_off1 i 12#32) := ⟨![rowOff i 12, 0], off1_eq i 12⟩
instance (i : grid0.Coords) : ClosedOff (k0_off1 i 13#32) := ⟨![rowOff i 13, 0], off1_eq i 13⟩
instance (i : grid0.Coords) : ClosedOff (k0_off1 i 14#32) := ⟨![rowOff i 14, 0], off1_eq i 14⟩
instance (i : grid0.Coords) : ClosedOff (k0_off1 i 15#32) := ⟨![rowOff i 15, 0], off1_eq i 15⟩
instance (i : grid0.Coords) : ClosedOff (k0_off2 i 0#32) := ⟨![0, biasOff i 0, 0, 0], off2_eq i 0⟩
instance (i : grid0.Coords) : ClosedOff (k0_off2 i 1#32) := ⟨![0, biasOff i 1, 0, 0], off2_eq i 1⟩
instance (i : grid0.Coords) : ClosedOff (k0_off2 i 2#32) := ⟨![0, biasOff i 2, 0, 0], off2_eq i 2⟩
instance (i : grid0.Coords) : ClosedOff (k0_off2 i 3#32) := ⟨![0, biasOff i 3, 0, 0], off2_eq i 3⟩
instance (i : grid0.Coords) : ClosedOff (k0_off2 i 4#32) := ⟨![0, biasOff i 4, 0, 0], off2_eq i 4⟩
instance (i : grid0.Coords) : ClosedOff (k0_off2 i 5#32) := ⟨![0, biasOff i 5, 0, 0], off2_eq i 5⟩
instance (i : grid0.Coords) : ClosedOff (k0_off2 i 6#32) := ⟨![0, biasOff i 6, 0, 0], off2_eq i 6⟩
instance (i : grid0.Coords) : ClosedOff (k0_off2 i 7#32) := ⟨![0, biasOff i 7, 0, 0], off2_eq i 7⟩
instance (i : grid0.Coords) : ClosedOff (k0_off2 i 8#32) := ⟨![0, biasOff i 8, 0, 0], off2_eq i 8⟩
instance (i : grid0.Coords) : ClosedOff (k0_off2 i 9#32) := ⟨![0, biasOff i 9, 0, 0], off2_eq i 9⟩
instance (i : grid0.Coords) : ClosedOff (k0_off2 i 10#32) := ⟨![0, biasOff i 10, 0, 0], off2_eq i 10⟩
instance (i : grid0.Coords) : ClosedOff (k0_off2 i 11#32) := ⟨![0, biasOff i 11, 0, 0], off2_eq i 11⟩
instance (i : grid0.Coords) : ClosedOff (k0_off2 i 12#32) := ⟨![0, biasOff i 12, 0, 0], off2_eq i 12⟩
instance (i : grid0.Coords) : ClosedOff (k0_off2 i 13#32) := ⟨![0, biasOff i 13, 0, 0], off2_eq i 13⟩
instance (i : grid0.Coords) : ClosedOff (k0_off2 i 14#32) := ⟨![0, biasOff i 14, 0, 0], off2_eq i 14⟩
instance (i : grid0.Coords) : ClosedOff (k0_off2 i 15#32) := ⟨![0, biasOff i 15, 0, 0], off2_eq i 15⟩

/-- The body's branch is taken where the second grid coordinate is zero. -/
abbrev cond (i : grid0.Coords) : Prop := (Scalar.cmpi .ne (Scalar.extui (Scalar.cmpi .eq (BitVec.ofNat 32 (i 1).val) 0#32)) 0#32) = 1#1

set_option maxHeartbeats 4000000 in
/-- The body at the first step of a head, where its branch is taken: on the input blocks `x2` … `x6` and output buffers at anything, it ends with each
    output buffer holding the pieces the run finds, over whatever it held. -/
noncomputable def runA (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x8x64x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S1x8x64x512 .f32) (harg10 : arg10.IsWhole)
    (hc : cond i)
    (x2 : Vec F S1024x128 .f32) (x3 : Vec F S8192x128 .f32) (x4 : Vec F S8192x128 .f32) (x5 : Vec F S1x8x64x512 .f32) (x6 : Vec F S1024x128 .f32) :
    Σ' (L7 : List (View.Piece (Elt F) S1024x128 .f32)) (L8 : List (View.Piece (Elt F) S8192x128 .f32)) (L9 : List (View.Piece (Elt F) S8192x128 .f32)), { L10 : List (View.Piece (Elt F) S1x8x64x512 .f32) //
      ∀ (E : Set ℕ) (K : PUnit → sProp (MT nD τ sig Unit (Elt F) ℕ (UR sig nD τ) ℕ)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ (∃ f, arg10.view.loc (c : Thread nD τ) ↦[arg10.view.set]{fullShare} arg10.view.writes (Elt F) f L10)) -∗ K ⟨⟩))
          ⊢ wp frame (wpE (defs₀ (F := F)) Variants.none c none) E (cc0_ev_na_bwd i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_ev_na_bwd_eq_skeleton]; unfold cc0_ev_na_bwd_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, Hk⟩
    obtain rfl := harg2.eq_unread hf2; obtain rfl := harg3.eq_unread hf3; obtain rfl := harg4.eq_unread hf4; obtain rfl := harg5.eq_unread hf5; obtain rfl := harg6.eq_unread hf6
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    iexists _; iexact H10

set_option maxHeartbeats 4000000 in
/-- The body at a later step of a head: the three accumulated outputs start at `x8`, `x9` and `x10`. -/
noncomputable def runB (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x8x64x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S1x8x64x512 .f32) (harg10 : arg10.IsWhole)
    (hc : ¬cond i)
    (x2 : Vec F S1024x128 .f32) (x3 : Vec F S8192x128 .f32) (x4 : Vec F S8192x128 .f32) (x5 : Vec F S1x8x64x512 .f32) (x6 : Vec F S1024x128 .f32)
    (x8 : Vec F S8192x128 .f32) (x9 : Vec F S8192x128 .f32) (x10 : Vec F S1x8x64x512 .f32) :
    Σ' (L7 : List (View.Piece (Elt F) S1024x128 .f32)) (L8 : List (View.Piece (Elt F) S8192x128 .f32)) (L9 : List (View.Piece (Elt F) S8192x128 .f32)), { L10 : List (View.Piece (Elt F) S1x8x64x512 .f32) //
      ∀ (E : Set ℕ) (K : PUnit → sProp (MT nD τ sig Unit (Elt F) ℕ (UR sig nD τ) ℕ)),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ owns (c : Thread nD τ) arg8 fullShare x8 ∗ owns (c : Thread nD τ) arg9 fullShare x9 ∗ owns (c : Thread nD τ) arg10 fullShare x10
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f L7)
                ∗ (arg8.view.loc (c : Thread nD τ) ↦[arg8.view.set]{fullShare} arg8.view.writes (Elt F) (harg8.unread x8) L8)
                ∗ (arg9.view.loc (c : Thread nD τ) ↦[arg9.view.set]{fullShare} arg9.view.writes (Elt F) (harg9.unread x9) L9)
                ∗ (arg10.view.loc (c : Thread nD τ) ↦[arg10.view.set]{fullShare} arg10.view.writes (Elt F) (harg10.unread x10) L10)) -∗ K ⟨⟩))
          ⊢ wp frame (wpE (defs₀ (F := F)) Variants.none c none) E (cc0_ev_na_bwd i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc0_ev_na_bwd_eq_skeleton]; unfold cc0_ev_na_bwd_skel
    unfold owns
    iintro ⟨⟨%f2, %hf2, H2⟩, ⟨%f3, %hf3, H3⟩, ⟨%f4, %hf4, H4⟩, ⟨%f5, %hf5, H5⟩, ⟨%f6, %hf6, H6⟩, ⟨%d7, %f7, %hf7, H7⟩, ⟨%f8, %hf8, H8⟩, ⟨%f9, %hf9, H9⟩, ⟨%f10, %hf10, H10⟩, Hk⟩
    obtain rfl := harg2.eq_unread hf2; obtain rfl := harg3.eq_unread hf3; obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexact H8
    isplitl [H9]; · iexact H9
    iexact H10

end Cert.KernelIdeal.Na

end
-- ==== Proof.NaPieces.lean ====
/- What one row of the neighbourhood-attention gradient computes from the blocks its step loads, and the pieces of the
   two runs in those terms: each accumulated output is a run of sixteen read-modify-writes of overlapping windows. -/
module

public import proofs.«01_k».proof.Proof.NaRun

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-! ## One row, from what it loads -/

/-- The attention probabilities of a row of queries over its window of keys. -/
def probs (q : Vec F S64x128 .f32) (k : Vec F S512x128 .f32) (b : Vec F S1x1x64x512 .f32) : FVec F S64x512 .f32 :=
  k0_pay54 (k0_pay4 k) (k0_pay52 b) (k0_pay53 q) (constant S64x512 .f32 0x00000000#32)
/-- The gradient at the probabilities. -/
def dprobs (d : Vec F S64x128 .f32) (v : Vec F S512x128 .f32) : FVec F S64x512 .f32 := k0_pay79 (k0_pay20 v) (k0_pay38 d)
/-- The gradient at the scores. -/
def dscores (p dp : FVec F S64x512 .f32) : FVec F S64x512 .f32 := k0_pay97 p dp
/-- The gradient at the row's queries. -/
def dquery (ds : FVec F S64x512 .f32) (k : Vec F S512x128 .f32) : FVec F S64x128 .f32 := k0_pay131 (k0_pay4 k) (k0_pay112 ds)
/-- What the row adds to the gradient at its window of keys. -/
def dkeys (ds : FVec F S64x512 .f32) (q : Vec F S64x128 .f32) : FVec F S512x128 .f32 := k0_pay148 q (k0_pay112 ds)
/-- What the row adds to the gradient at its window of values. -/
def dvals (p : FVec F S64x512 .f32) (d : Vec F S64x128 .f32) : FVec F S512x128 .f32 := k0_pay165 (k0_pay38 d) p

/-! ## The loads of row `r` of a step -/

theorem inbQ (r : Fin 16) : ∀ a, (![64 * r.val, 0] : Fin 2 → ℕ) a + S64x128.size a ≤ S1024x128.size a := by decide +revert

def ldQ (M : Memref sig .tc .vmem S1024x128 .f32) (h : M.IsWhole) (x : Vec F S1024x128 .f32) (r : Fin 16) : Vec F S64x128 .f32 :=
  View.readAt (Elt F) M.view (Rect.unit (s := S1024x128) ![64 * r.val, 0] S64x128.size (inbQ r)).toLoadRect (h.unread x)
def ldK (M : Memref sig .tc .vmem S8192x128 .f32) (h : M.IsWhole) (x : Vec F S8192x128 .f32) (i : grid0.Coords) (r : Fin 16) : Vec F S512x128 .f32 :=
  View.readAt (Elt F) M.view (Rect.unit (s := S8192x128) (k0_off1 i (BitVec.ofNat 32 r.val)) S512x128.size (k0_off1_inb i r)).toLoadRect (h.unread x)
def ldB (M : Memref sig .tc .vmem S1x8x64x512 .f32) (h : M.IsWhole) (x : Vec F S1x8x64x512 .f32) (i : grid0.Coords) (r : Fin 16) : Vec F S1x1x64x512 .f32 :=
  View.readAt (Elt F) M.view (Rect.unit (s := S1x8x64x512) (k0_off2 i (BitVec.ofNat 32 r.val)) S1x1x64x512.size (k0_off2_inb i r)).toLoadRect (h.unread x)

/-! ## Read-modify-writes of windows as a plain recursion on vectors -/

section Rmw
variable {α : Type} {s : Shape} {NB : ℕ} (wsz : Fin s.rank → ℕ) (off : Fin NB → Fin s.rank → ℕ) (inb : ∀ i a, off i a + wsz a ≤ s.size a)
  (X : Fin NB → ((⟨s.rank, wsz⟩ : Shape).Idx → α) → (⟨s.rank, wsz⟩ : Shape).Idx → α)

/-- The first `j` read-modify-writes of windows of `x`. -/
def rmw (x : s.Idx → α) : (j : ℕ) → j ≤ NB → (s.Idx → α)
  | 0, _ => x
  | j + 1, hj => VecWindow.put (rmw x j (Nat.le_of_succ_le hj)) (off ⟨j, hj⟩) wsz (X ⟨j, hj⟩ (VecWindow.window (rmw x j (Nat.le_of_succ_le hj)) (off ⟨j, hj⟩) wsz (inb ⟨j, hj⟩)))

end Rmw

/-- A list of read-modify-writes, read back, is the recursion from what was below it. -/
theorem read_accPieces_rmw {sg : RefSig} {κ : Kind} {sp : Space} {s : Shape} {e : EltTy} {NB : ℕ} (v : View sg κ sp s e) (lb : v.ty.Contents (Elt F)) (bottom : List (View.Piece (Elt F) s e))
    (wsz : Fin s.rank → ℕ) (off : Fin NB → Fin s.rank → ℕ) (inb : ∀ i a, off i a + wsz a ≤ s.size a)
    (X : Fin NB → ((⟨s.rank, wsz⟩ : Shape).Idx → Elt F e) → (⟨s.rank, wsz⟩ : Shape).Idx → Elt F e) (j : ℕ) (hj : j ≤ NB) :
    v.read (Elt F) (v.writes (Elt F) lb (View.accPieces v lb bottom wsz off inb X j hj))
      = rmw wsz off inb X (v.read (Elt F) (v.writes (Elt F) lb bottom)) j hj := by
  induction j with
  | zero => rfl
  | succ j ih =>
    rw [View.accPieces_succ, View.read_writes_cons_put v lb _ _ _ rfl, ih (Nat.le_of_succ_le hj), View.readAt_unit v _ _ rfl (inb ⟨j, hj⟩), ih (Nat.le_of_succ_le hj)]
    rfl

/-- The same over a whole-buffer fill, whatever the buffer held before. -/
theorem read_accPieces_full {sg : RefSig} {κ : Kind} {sp : Space} {s : Shape} {e : EltTy} {NB : ℕ} (v : View sg κ sp s e) (lb f : v.ty.Contents (Elt F))
    {o : Fin s.rank → ℕ} (ib : ∀ a, o a + s.size a ≤ s.size a) (z : s.Idx → Elt F e)
    (wsz : Fin s.rank → ℕ) (off : Fin NB → Fin s.rank → ℕ) (inb : ∀ i a, off i a + wsz a ≤ s.size a)
    (X : Fin NB → ((⟨s.rank, wsz⟩ : Shape).Idx → Elt F e) → (⟨s.rank, wsz⟩ : Shape).Idx → Elt F e) (j : ℕ) (hj : j ≤ NB) :
    v.read (Elt F) (v.writes (Elt F) f (View.accPieces v lb [⟨Rect.unit o s.size ib, z⟩] wsz off inb X j hj)) = rmw wsz off inb X z j hj := by
  have e : v.read (Elt F) (v.writes (Elt F) f (View.accPieces v lb [⟨Rect.unit o s.size ib, z⟩] wsz off inb X j hj))
      = v.read (Elt F) (v.writes (Elt F) lb (View.accPieces v lb [⟨Rect.unit o s.size ib, z⟩] wsz off inb X j hj)) := by
    funext y
    refine View.read_writes_apply_eq v f v lb y _ ⟨_, View.mem_accPieces_of_mem_bottom v lb _ wsz off inb X (List.mem_singleton.mpr rfl) j hj, ?_⟩
    refine (Rect.unit o s.size ib).mem_set.mpr fun a => ⟨(y a).val, (y a).isLt, ?_⟩
    have h := ib a
    show (y a).val = o a + 1 * (y a).val
    omega
  rw [e, read_accPieces_rmw, View.read_writes_full]

/-! ## A step of the grid, from its blocks -/

section Step
variable (i : grid0.Coords) (x2 : Vec F S1024x128 .f32) (x3 : Vec F S8192x128 .f32) (x4 : Vec F S8192x128 .f32) (x5 : Vec F S1x8x64x512 .f32) (x6 : Vec F S1024x128 .f32)

/-- Row `r`'s queries (or output gradients), keys (or values) and bias table. -/
def winQ (x : Vec F S1024x128 .f32) (r : Fin 16) : Vec F S64x128 .f32 := VecWindow.window (s := S1024x128) x ![64 * r.val, 0] S64x128.size (inbQ r)
def winK (i : grid0.Coords) (x : Vec F S8192x128 .f32) (r : Fin 16) : Vec F S512x128 .f32 := VecWindow.window (s := S8192x128) x (k0_off1 i (BitVec.ofNat 32 r.val)) S512x128.size (k0_off1_inb i r)
def winB (i : grid0.Coords) (x : Vec F S1x8x64x512 .f32) (r : Fin 16) : Vec F S1x1x64x512 .f32 := VecWindow.window (s := S1x8x64x512) x (k0_off2 i (BitVec.ofNat 32 r.val)) S1x1x64x512.size (k0_off2_inb i r)

theorem ldQ_eq (M : Memref sig .tc .vmem S1024x128 .f32) (h : M.IsWhole) (x : Vec F S1024x128 .f32) (r : Fin 16) : ldQ M h x r = winQ x r := by
  unfold ldQ winQ; rw [View.readAt_unit _ _ _ rfl (inbQ r), h.read_unread]
theorem ldK_eq (M : Memref sig .tc .vmem S8192x128 .f32) (h : M.IsWhole) (x : Vec F S8192x128 .f32) (r : Fin 16) : ldK M h x i r = winK i x r := by
  unfold ldK winK; rw [View.readAt_unit _ _ _ rfl (k0_off1_inb i r), h.read_unread]
theorem ldB_eq (M : Memref sig .tc .vmem S1x8x64x512 .f32) (h : M.IsWhole) (x : Vec F S1x8x64x512 .f32) (r : Fin 16) : ldB M h x i r = winB i x r := by
  unfold ldB winB; rw [View.readAt_unit _ _ _ rfl (k0_off2_inb i r), h.read_unread]

/-- Row `r`'s probabilities and score gradient. -/
def stP (r : Fin 16) : FVec F S64x512 .f32 := probs (winQ x2 r) (winK i x3 r) (winB i x5 r)
def stDs (r : Fin 16) : FVec F S64x512 .f32 := dscores (stP i x2 x3 x5 r) (dprobs (winQ x6 r) (winK i x4 r))

/-- One step's update of the keys', the values' and the bias table's gradient, and the step's rows of the queries' gradient. -/
def stepK (acc : Vec F S8192x128 .f32) : Vec F S8192x128 .f32 :=
  rmw (NB := 16) (s := S8192x128) S512x128.size (fun r => k0_off1 i (BitVec.ofNat 32 r.val)) (fun r => k0_off1_inb i r) (fun r a => k0_pay183 (dkeys (stDs i x2 x3 x4 x5 x6 r) (winQ x2 r)) a) acc 16 le_rfl
def stepV (acc : Vec F S8192x128 .f32) : Vec F S8192x128 .f32 :=
  rmw (NB := 16) (s := S8192x128) S512x128.size (fun r => k0_off1 i (BitVec.ofNat 32 r.val)) (fun r => k0_off1_inb i r) (fun r a => k0_pay184 (dvals (stP i x2 x3 x5 r) (winQ x6 r)) a) acc 16 le_rfl
def stepB (acc : Vec F S1x8x64x512 .f32) : Vec F S1x8x64x512 .f32 :=
  rmw (NB := 16) (s := S1x8x64x512) S1x1x64x512.size (fun r => k0_off2 i (BitVec.ofNat 32 r.val)) (fun r => k0_off2_inb i r) (fun r a => k0_pay182 (stDs i x2 x3 x4 x5 x6 r) a) acc 16 le_rfl
abbrev tilesQ' : List (View.Piece (Elt F) S1024x128 .f32) :=
  View.tilePieces (NT := 16) (s := S1024x128) S64x128.size (fun r => ![64 * r.val, 0]) inbQ (fun r => dquery (stDs i x2 x3 x4 x5 x6 r) (winK i x3 r)) 16 le_rfl
/-- The staging buffer through which the queries' gradient's blocks are stated. -/
abbrev VOq : View sig .tc .vmem S1024x128 .f32 := (Memref.whole cc0_stg5_0 : Memref sig .tc .vmem S1024x128 .f32).view
def stepQ : Vec F S1024x128 .f32 := VOq.read (Elt F) (VOq.writes (Elt F) VOq.junk (tilesQ' i x2 x3 x4 x5 x6))

theorem coverQ (y : S1024x128.Idx) : ∃ pc ∈ tilesQ' i x2 x3 x4 x5 x6, y ∈ pc.1.set :=
  View.cover_of_tiledL (tilesQ' i x2 x3 x4 x5 x6) S64x128.size (by sl_kernel_rfl) y

end Step

section Runs

variable (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S8192x128 .f32) (harg4 : arg4.IsWhole) (arg5 : Memref sig .tc .vmem S1x8x64x512 .f32) (harg5 : arg5.IsWhole) (arg6 : Memref sig .tc .vmem S1024x128 .f32) (harg6 : arg6.IsWhole) (arg7 : Memref sig .tc .vmem S1024x128 .f32) (harg7 : arg7.IsWhole) (arg8 : Memref sig .tc .vmem S8192x128 .f32) (harg8 : arg8.IsWhole) (arg9 : Memref sig .tc .vmem S8192x128 .f32) (harg9 : arg9.IsWhole) (arg10 : Memref sig .tc .vmem S1x8x64x512 .f32) (harg10 : arg10.IsWhole)
  (x2 : Vec F S1024x128 .f32) (x3 : Vec F S8192x128 .f32) (x4 : Vec F S8192x128 .f32) (x5 : Vec F S1x8x64x512 .f32) (x6 : Vec F S1024x128 .f32)

/-- Row `r`'s probabilities and score gradient, from the step's blocks. -/
def rowP (r : Fin 16) : FVec F S64x512 .f32 := probs (ldQ arg2 harg2 x2 r) (ldK arg3 harg3 x3 i r) (ldB arg5 harg5 x5 i r)
def rowDs (r : Fin 16) : FVec F S64x512 .f32 :=
  dscores (probs (ldQ arg2 harg2 x2 r) (ldK arg3 harg3 x3 i r) (ldB arg5 harg5 x5 i r)) (dprobs (ldQ arg6 harg6 x6 r) (ldK arg4 harg4 x4 i r))

/-- The read-modify-writes of the keys' gradient. -/
abbrev accK (lb : arg8.view.ty.Contents (Elt F)) (bottom : List (View.Piece (Elt F) S8192x128 .f32)) : List (View.Piece (Elt F) S8192x128 .f32) :=
  View.accPieces (NB := 16) arg8.view lb bottom S512x128.size (fun r => k0_off1 i (BitVec.ofNat 32 r.val)) (fun r => k0_off1_inb i r)
    (fun r acc => k0_pay183 (dkeys (rowDs i arg2 harg2 arg3 harg3 arg4 harg4 arg5 harg5 arg6 harg6 x2 x3 x4 x5 x6 r) (ldQ arg2 harg2 x2 r)) acc) 16 le_rfl
/-- The read-modify-writes of the values' gradient. -/
abbrev accV (lb : arg9.view.ty.Contents (Elt F)) (bottom : List (View.Piece (Elt F) S8192x128 .f32)) : List (View.Piece (Elt F) S8192x128 .f32) :=
  View.accPieces (NB := 16) arg9.view lb bottom S512x128.size (fun r => k0_off1 i (BitVec.ofNat 32 r.val)) (fun r => k0_off1_inb i r)
    (fun r acc => k0_pay184 (dvals (rowP i arg2 harg2 arg3 harg3 arg5 harg5 x2 x3 x5 r) (ldQ arg6 harg6 x6 r)) acc) 16 le_rfl
/-- The read-modify-writes of the bias table's gradient. -/
abbrev accB (lb : arg10.view.ty.Contents (Elt F)) (bottom : List (View.Piece (Elt F) S1x8x64x512 .f32)) : List (View.Piece (Elt F) S1x8x64x512 .f32) :=
  View.accPieces (NB := 16) arg10.view lb bottom S1x1x64x512.size (fun r => k0_off2 i (BitVec.ofNat 32 r.val)) (fun r => k0_off2_inb i r)
    (fun r acc => k0_pay182 (rowDs i arg2 harg2 arg3 harg3 arg4 harg4 arg5 harg5 arg6 harg6 x2 x3 x4 x5 x6 r) acc) 16 le_rfl

/-- The rows of the queries' gradient, last first. -/
abbrev tilesQ : List (View.Piece (Elt F) S1024x128 .f32) :=
  View.tilePieces (NT := 16) (s := S1024x128) S64x128.size (fun r => ![64 * r.val, 0]) inbQ
    (fun r => dquery (rowDs i arg2 harg2 arg3 harg3 arg4 harg4 arg5 harg5 arg6 harg6 x2 x3 x4 x5 x6 r) (ldK arg3 harg3 x3 i r)) 16 le_rfl

variable (x8 : Vec F S8192x128 .f32) (x9 : Vec F S8192x128 .f32) (x10 : Vec F S1x8x64x512 .f32)

theorem runB_K (hc : ¬cond i) : (runB c i arg2 harg2 arg3 harg3 arg4 harg4 arg5 harg5 arg6 harg6 arg7 harg7 arg8 harg8 arg9 harg9 arg10 harg10 hc x2 x3 x4 x5 x6 x8 x9 x10).2.1 = accK i arg2 harg2 arg3 harg3 arg4 harg4 arg5 harg5 arg6 harg6 arg8 x2 x3 x4 x5 x6 (harg8.unread x8) [] := by
  sl_kernel_rfl
theorem runB_V (hc : ¬cond i) : (runB c i arg2 harg2 arg3 harg3 arg4 harg4 arg5 harg5 arg6 harg6 arg7 harg7 arg8 harg8 arg9 harg9 arg10 harg10 hc x2 x3 x4 x5 x6 x8 x9 x10).2.2.1 = accV i arg2 harg2 arg3 harg3 arg5 harg5 arg6 harg6 arg9 x2 x3 x5 x6 (harg9.unread x9) [] := by
  sl_kernel_rfl
theorem runB_B (hc : ¬cond i) : (runB c i arg2 harg2 arg3 harg3 arg4 harg4 arg5 harg5 arg6 harg6 arg7 harg7 arg8 harg8 arg9 harg9 arg10 harg10 hc x2 x3 x4 x5 x6 x8 x9 x10).2.2.2.1 = accB i arg2 harg2 arg3 harg3 arg4 harg4 arg5 harg5 arg6 harg6 arg10 x2 x3 x4 x5 x6 (harg10.unread x10) [] := by
  sl_kernel_rfl
theorem runB_Q (hc : ¬cond i) : (runB c i arg2 harg2 arg3 harg3 arg4 harg4 arg5 harg5 arg6 harg6 arg7 harg7 arg8 harg8 arg9 harg9 arg10 harg10 hc x2 x3 x4 x5 x6 x8 x9 x10).1
    = tilesQ i arg2 harg2 arg3 harg3 arg4 harg4 arg5 harg5 arg6 harg6 x2 x3 x4 x5 x6 := by
  sl_kernel_rfl

theorem runA_K (hc : cond i) : (runA c i arg2 harg2 arg3 harg3 arg4 harg4 arg5 harg5 arg6 harg6 arg7 harg7 arg8 harg8 arg9 harg9 arg10 harg10 hc x2 x3 x4 x5 x6).2.1 = accK i arg2 harg2 arg3 harg3 arg4 harg4 arg5 harg5 arg6 harg6 arg8 x2 x3 x4 x5 x6 arg8.view.junk [⟨Rect.unit (s := S8192x128) ![0, 0] S8192x128.size inb_S8192x128_S8192x128_0_0, k0_pay1⟩] := by
  sl_kernel_rfl
theorem runA_V (hc : cond i) : (runA c i arg2 harg2 arg3 harg3 arg4 harg4 arg5 harg5 arg6 harg6 arg7 harg7 arg8 harg8 arg9 harg9 arg10 harg10 hc x2 x3 x4 x5 x6).2.2.1 = accV i arg2 harg2 arg3 harg3 arg5 harg5 arg6 harg6 arg9 x2 x3 x5 x6 arg9.view.junk [⟨Rect.unit (s := S8192x128) ![0, 0] S8192x128.size inb_S8192x128_S8192x128_0_0, k0_pay2⟩] := by
  sl_kernel_rfl
theorem runA_B (hc : cond i) : (runA c i arg2 harg2 arg3 harg3 arg4 harg4 arg5 harg5 arg6 harg6 arg7 harg7 arg8 harg8 arg9 harg9 arg10 harg10 hc x2 x3 x4 x5 x6).2.2.2.1 = accB i arg2 harg2 arg3 harg3 arg4 harg4 arg5 harg5 arg6 harg6 arg10 x2 x3 x4 x5 x6 arg10.view.junk [⟨Rect.unit (s := S1x8x64x512) ![0, 0, 0, 0] S1x8x64x512.size inb_S1x8x64x512_S1x8x64x512_0_0_0_0, k0_pay3⟩] := by
  sl_kernel_rfl
theorem runA_Q (hc : cond i) : (runA c i arg2 harg2 arg3 harg3 arg4 harg4 arg5 harg5 arg6 harg6 arg7 harg7 arg8 harg8 arg9 harg9 arg10 harg10 hc x2 x3 x4 x5 x6).1
    = tilesQ i arg2 harg2 arg3 harg3 arg4 harg4 arg5 harg5 arg6 harg6 x2 x3 x4 x5 x6 := by
  sl_kernel_rfl

theorem rowP_eq (r : Fin 16) : rowP i arg2 harg2 arg3 harg3 arg5 harg5 x2 x3 x5 r = stP i x2 x3 x5 r := by
  unfold rowP stP; rw [ldQ_eq, ldK_eq, ldB_eq]
theorem rowDs_eq (r : Fin 16) : rowDs i arg2 harg2 arg3 harg3 arg4 harg4 arg5 harg5 arg6 harg6 x2 x3 x4 x5 x6 r = stDs i x2 x3 x4 x5 x6 r := by
  unfold rowDs stDs stP; rw [ldQ_eq, ldK_eq, ldB_eq, ldQ_eq, ldK_eq]
theorem tilesQ_eq : tilesQ i arg2 harg2 arg3 harg3 arg4 harg4 arg5 harg5 arg6 harg6 x2 x3 x4 x5 x6 = tilesQ' i x2 x3 x4 x5 x6 := by
  unfold tilesQ tilesQ'; congr 1; funext r; rw [rowDs_eq, ldK_eq]

/-! ## What a run leaves in each output's buffer -/

theorem runA_Q_read (hc : cond i) (f) : arg7.view.read (Elt F) (arg7.view.writes (Elt F) f (runA c i arg2 harg2 arg3 harg3 arg4 harg4 arg5 harg5 arg6 harg6 arg7 harg7 arg8 harg8 arg9 harg9 arg10 harg10 hc x2 x3 x4 x5 x6).1) = stepQ i x2 x3 x4 x5 x6 := by
  rw [runA_Q, tilesQ_eq]; exact View.read_writes_of_cover _ _ _ _ _ (coverQ i x2 x3 x4 x5 x6)
theorem runB_Q_read (hc : ¬cond i) (f) : arg7.view.read (Elt F) (arg7.view.writes (Elt F) f (runB c i arg2 harg2 arg3 harg3 arg4 harg4 arg5 harg5 arg6 harg6 arg7 harg7 arg8 harg8 arg9 harg9 arg10 harg10 hc x2 x3 x4 x5 x6 x8 x9 x10).1) = stepQ i x2 x3 x4 x5 x6 := by
  rw [runB_Q, tilesQ_eq]; exact View.read_writes_of_cover _ _ _ _ _ (coverQ i x2 x3 x4 x5 x6)
theorem runA_K_read (hc : cond i) (f) : arg8.view.read (Elt F) (arg8.view.writes (Elt F) f (runA c i arg2 harg2 arg3 harg3 arg4 harg4 arg5 harg5 arg6 harg6 arg7 harg7 arg8 harg8 arg9 harg9 arg10 harg10 hc x2 x3 x4 x5 x6).2.1) = stepK i x2 x3 x4 x5 x6 k0_pay1 := by
  rw [runA_K]; unfold accK stepK; simp only [rowDs_eq, ldQ_eq]; exact read_accPieces_full _ _ _ _ _ _ _ _ _ _ _
theorem runA_V_read (hc : cond i) (f) : arg9.view.read (Elt F) (arg9.view.writes (Elt F) f (runA c i arg2 harg2 arg3 harg3 arg4 harg4 arg5 harg5 arg6 harg6 arg7 harg7 arg8 harg8 arg9 harg9 arg10 harg10 hc x2 x3 x4 x5 x6).2.2.1) = stepV i x2 x3 x5 x6 k0_pay2 := by
  rw [runA_V]; unfold accV stepV; simp only [rowP_eq, ldQ_eq]; exact read_accPieces_full _ _ _ _ _ _ _ _ _ _ _
theorem runA_B_read (hc : cond i) (f) : arg10.view.read (Elt F) (arg10.view.writes (Elt F) f (runA c i arg2 harg2 arg3 harg3 arg4 harg4 arg5 harg5 arg6 harg6 arg7 harg7 arg8 harg8 arg9 harg9 arg10 harg10 hc x2 x3 x4 x5 x6).2.2.2.1) = stepB i x2 x3 x4 x5 x6 k0_pay3 := by
  rw [runA_B]; unfold accB stepB; simp only [rowDs_eq]; exact read_accPieces_full _ _ _ _ _ _ _ _ _ _ _
theorem runB_K_read (hc : ¬cond i) : arg8.view.read (Elt F) (arg8.view.writes (Elt F) (harg8.unread x8) (runB c i arg2 harg2 arg3 harg3 arg4 harg4 arg5 harg5 arg6 harg6 arg7 harg7 arg8 harg8 arg9 harg9 arg10 harg10 hc x2 x3 x4 x5 x6 x8 x9 x10).2.1) = stepK i x2 x3 x4 x5 x6 x8 := by
  rw [runB_K]; unfold accK stepK; simp only [rowDs_eq, ldQ_eq]; rw [read_accPieces_rmw]; exact congrArg (fun z => rmw _ _ _ _ z 16 le_rfl) (harg8.read_unread x8)
theorem runB_V_read (hc : ¬cond i) : arg9.view.read (Elt F) (arg9.view.writes (Elt F) (harg9.unread x9) (runB c i arg2 harg2 arg3 harg3 arg4 harg4 arg5 harg5 arg6 harg6 arg7 harg7 arg8 harg8 arg9 harg9 arg10 harg10 hc x2 x3 x4 x5 x6 x8 x9 x10).2.2.1) = stepV i x2 x3 x5 x6 x9 := by
  rw [runB_V]; unfold accV stepV; simp only [rowP_eq, ldQ_eq]; rw [read_accPieces_rmw]; exact congrArg (fun z => rmw _ _ _ _ z 16 le_rfl) (harg9.read_unread x9)
theorem runB_B_read (hc : ¬cond i) : arg10.view.read (Elt F) (arg10.view.writes (Elt F) (harg10.unread x10) (runB c i arg2 harg2 arg3 harg3 arg4 harg4 arg5 harg5 arg6 harg6 arg7 harg7 arg8 harg8 arg9 harg9 arg10 harg10 hc x2 x3 x4 x5 x6 x8 x9 x10).2.2.2.1) = stepB i x2 x3 x4 x5 x6 x10 := by
  rw [runB_B]; unfold accB stepB; simp only [rowDs_eq]; rw [read_accPieces_rmw]; exact congrArg (fun z => rmw _ _ _ _ z 16 le_rfl) (harg10.read_unread x10)

end Runs

end Cert.KernelIdeal.Na

end
-- ==== Proof.NaFrame.lean ====
/- The frame of the neighbourhood-attention gradient: what every buffer holds after every grid point, and the launch. The
   packed projections are one array read through three windows, so each of these holds its part of the array's share. -/
module

public import proofs.«01_k».proof.Proof.NaPieces
public import Idealize.ShloMosaic.Lib.Pipeline.Frame

@[expose] public section

set_option maxRecDepth 16384

noncomputable section

namespace Cert.KernelIdeal.Na

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body zeroes the accumulated outputs at a head's first point. -/
theorem cond_iff : ∀ t : Fin cfg0.N, cond (grid0.coords t) ↔ t.val % 8 = 0 :=
  (by unfold cond; decide +kernel : ∀ t : Fin grid0.N, cond (grid0.coords t) ↔ t.val % 8 = 0)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl

abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8192x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8x64x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8192x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S8192x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x8x64x512 .f32 := win0_8.stage (cfg0.slots t 8)
abbrev hs8 (t : Fin cfg0.N) : (ms8 t).IsWhole := hstage0_8 ((cfg0.slots t 8).cast nbuf0_8)

/-- What a point leaves in the accumulated outputs' buffers, from what they held. -/
def stepAll (c : Dev nD) (t : Fin cfg0.N) (p : Vec F S8192x128 .f32 × Vec F S8192x128 .f32 × Vec F S1x8x64x512 .f32) :
    Vec F S8192x128 .f32 × Vec F S8192x128 .f32 × Vec F S1x8x64x512 .f32 :=
  (stepK (grid0.coords t) (iblk m c 0 t) (iblk m c 1 t) (iblk m c 2 t) (iblk m c 3 t) (iblk m c 4 t) p.1,
   stepV (grid0.coords t) (iblk m c 0 t) (iblk m c 1 t) (iblk m c 3 t) (iblk m c 4 t) p.2.1,
   stepB (grid0.coords t) (iblk m c 0 t) (iblk m c 1 t) (iblk m c 2 t) (iblk m c 3 t) (iblk m c 4 t) p.2.2)

/-- The accumulated outputs after each point: over zeros at a head's first point, over the point before elsewhere. -/
def outs (c : Dev nD) : (n : ℕ) → n < cfg0.N → Vec F S8192x128 .f32 × Vec F S8192x128 .f32 × Vec F S1x8x64x512 .f32
  | 0, hn => stepAll m c ⟨0, hn⟩ (k0_pay1, k0_pay2, k0_pay3)
  | n + 1, hn => if h0 : (n + 1) % 8 = 0 then stepAll m c ⟨n + 1, hn⟩ (k0_pay1, k0_pay2, k0_pay3)
    else stepAll m c ⟨n + 1, hn⟩ (outs c n (Nat.lt_of_succ_lt hn))

theorem outs_A (c : Dev nD) (t : Fin cfg0.N) (h0 : t.val % 8 = 0) : outs m c t.val t.isLt = stepAll m c t (k0_pay1, k0_pay2, k0_pay3) := by
  obtain ⟨n, hn⟩ := t
  cases n with
  | zero => exact rfl
  | succ n => exact dif_pos h0
theorem outs_B (c : Dev nD) (t : Fin cfg0.N) (h0 : ¬t.val % 8 = 0) :
    outs m c t.val t.isLt = stepAll m c t (outs m c (t.val - 1) (Nat.lt_of_le_of_lt (Nat.sub_le _ _) t.isLt)) := by
  obtain ⟨n, hn⟩ := t
  cases n with
  | zero => exact absurd (Nat.zero_mod _) h0
  | succ n => exact dif_neg h0

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => stepQ (grid0.coords t) (iblk m c 0 t) (iblk m c 1 t) (iblk m c 2 t) (iblk m c 3 t) (iblk m c 4 t)
    | ⟨6, _⟩ => (outs m c t.val t.isLt).1
    | ⟨7, _⟩ => (outs m c t.val t.isLt).2.1
    | ⟨8, _⟩ => (outs m c t.val t.isLt).2.2
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = stepQ (grid0.coords t) (iblk m c 0 t) (iblk m c 1 t) (iblk m c 2 t) (iblk m c 3 t) (iblk m c 4 t) := by dsimp only [dats]
theorem after0_6 (c : Dev nD) (t : Fin cfg0.N) : (dats m 0 c).after 6 t = (outs m c t.val t.isLt).1 := by dsimp only [dats]
theorem after0_7 (c : Dev nD) (t : Fin cfg0.N) : (dats m 0 c).after 7 t = (outs m c t.val t.isLt).2.1 := by dsimp only [dats]
theorem after0_8 (c : Dev nD) (t : Fin cfg0.N) : (dats m 0 c).after 8 t = (outs m c t.val t.isLt).2.2 := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

theorem before0_6 (c : Dev nD) (t : Fin cfg0.N) (h : ¬t.val % 8 = 0) (d) :
    (dats m 0 c).before 6 t d = (outs m c (t.val - 1) (Nat.lt_of_le_of_lt (Nat.sub_le _ _) t.isLt)).1 := by
  rw [(dats m 0 c).before_out_kept 6 rfl t (fun e => h (by rw [e])) ?_ (fun _ => rfl) (fun _ _ => rfl) d, after0_6]
  have hf := (flush0_6 ⟨t.val - 1, Nat.lt_of_le_of_lt (Nat.sub_le _ _) t.isLt⟩).not.mpr (by dsimp only; omega)
  simpa using hf
theorem before0_7 (c : Dev nD) (t : Fin cfg0.N) (h : ¬t.val % 8 = 0) (d) :
    (dats m 0 c).before 7 t d = (outs m c (t.val - 1) (Nat.lt_of_le_of_lt (Nat.sub_le _ _) t.isLt)).2.1 := by
  rw [(dats m 0 c).before_out_kept 7 rfl t (fun e => h (by rw [e])) ?_ (fun _ => rfl) (fun _ _ => rfl) d, after0_7]
  have hf := (flush0_7 ⟨t.val - 1, Nat.lt_of_le_of_lt (Nat.sub_le _ _) t.isLt⟩).not.mpr (by dsimp only; omega)
  simpa using hf
theorem before0_8 (c : Dev nD) (t : Fin cfg0.N) (h : ¬t.val % 8 = 0) (d) :
    (dats m 0 c).before 8 t d = (outs m c (t.val - 1) (Nat.lt_of_le_of_lt (Nat.sub_le _ _) t.isLt)).2.2 := by
  rw [(dats m 0 c).before_out_kept 8 rfl t (fun e => h (by rw [e])) ?_ (fun _ => rfl) (fun _ _ => rfl) d, after0_8]
  have hf := (flush0_8 ⟨t.val - 1, Nat.lt_of_le_of_lt (Nat.sub_le _ _) t.isLt⟩).not.mpr (by dsimp only; omega)
  simpa using hf

theorem leaves0 (c : Dev nD) (t : Fin cfg0.N) : (dats m 0 c).leavesExact 0 t = owns (c : Thread nD τ) (ms0 t) fullShare ((dats m 0 c).after 0 t) := by
  unfold Dat.leavesExact; rw [live0 t]
theorem leaves1 (c : Dev nD) (t : Fin cfg0.N) : (dats m 0 c).leavesExact 1 t = owns (c : Thread nD τ) (ms1 t) fullShare ((dats m 0 c).after 1 t) := by
  unfold Dat.leavesExact; rw [live1 t]
theorem leaves2 (c : Dev nD) (t : Fin cfg0.N) : (dats m 0 c).leavesExact 2 t = owns (c : Thread nD τ) (ms2 t) fullShare ((dats m 0 c).after 2 t) := by
  unfold Dat.leavesExact; rw [live2 t]
theorem leaves3 (c : Dev nD) (t : Fin cfg0.N) : (dats m 0 c).leavesExact 3 t = owns (c : Thread nD τ) (ms3 t) fullShare ((dats m 0 c).after 3 t) := by
  unfold Dat.leavesExact; rw [live3 t]
theorem leaves4 (c : Dev nD) (t : Fin cfg0.N) : (dats m 0 c).leavesExact 4 t = owns (c : Thread nD τ) (ms4 t) fullShare ((dats m 0 c).after 4 t) := by
  unfold Dat.leavesExact; rw [live4 t]
theorem leaves5 (c : Dev nD) (t : Fin cfg0.N) : (dats m 0 c).leavesExact 5 t = owns (c : Thread nD τ) (ms5 t) fullShare ((dats m 0 c).after 5 t) := by
  unfold Dat.leavesExact; rw [live5 t]
theorem leaves6 (c : Dev nD) (t : Fin cfg0.N) : (dats m 0 c).leavesExact 6 t = owns (c : Thread nD τ) (ms6 t) fullShare ((dats m 0 c).after 6 t) := by
  unfold Dat.leavesExact; rw [live6 t]
theorem leaves7 (c : Dev nD) (t : Fin cfg0.N) : (dats m 0 c).leavesExact 7 t = owns (c : Thread nD τ) (ms7 t) fullShare ((dats m 0 c).after 7 t) := by
  unfold Dat.leavesExact; rw [live7 t]
theorem leaves8 (c : Dev nD) (t : Fin cfg0.N) : (dats m 0 c).leavesExact 8 t = owns (c : Thread nD τ) (ms8 t) fullShare ((dats m 0 c).after 8 t) := by
  unfold Dat.leavesExact; rw [live8 t]

/-- What the body is called with at a point, and what it returns. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, show (dats m 0 c).Φ t.succ = (dats m 0 c).Φ t.castSucc from rfl]
  rw [leaves0, leaves1, leaves2, leaves3, leaves4, leaves5, leaves6, leaves7, leaves8, after0_0, after0_1, after0_2, after0_3, after0_4, after0_5, after0_6, after0_7, after0_8]
  by_cases h0 : t.val % 8 = 0
  · rw [outs_A m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) ((cond_iff t).mpr h0) (iblk m c 0 t) (iblk m c 1 t) (iblk m c 2 t) (iblk m c 3 t) (iblk m c 4 t)).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, ⟨%e5, H5⟩, ⟨%e6, H6⟩, ⟨%e7, H7⟩, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap; (iexact H5)
      ipureintro; apply runA_Q_read
    isplitl [H6]
    · unfold owns; iexists _; isplitr; swap; (iexact H6)
      ipureintro; apply runA_K_read
    isplitl [H7]
    · unfold owns; iexists _; isplitr; swap; (iexact H7)
      ipureintro; apply runA_V_read
    unfold owns; iexists _; isplitr; swap; (iexact H8)
    ipureintro; apply runA_B_read
  · rw [outs_B m c t h0]
    simp only [before0_6 m c t h0, before0_7 m c t h0, before0_8 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (fun h => h0 ((cond_iff t).mp h)) (iblk m c 0 t) (iblk m c 1 t) (iblk m c 2 t) (iblk m c 3 t) (iblk m c 4 t) _ _ _).2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [H8]; · iexact H8
    iintro ⟨H0, H1, H2, H3, H4, ⟨%e5, H5⟩, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr; swap; (iexact H5)
      ipureintro; apply runB_Q_read
    isplitl [H6]
    · unfold owns; iexists _; isplitr; swap; (iexact H6)
      ipureintro; apply runB_K_read
    isplitl [H7]
    · unfold owns; iexists _; isplitr; swap; (iexact H7)
      ipureintro; apply runB_V_read
    unfold owns; iexists _; isplitr; swap; (iexact H8)
    ipureintro; apply runB_B_read

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨((h.1 c).1 0).trans (((dats m 0 c).arrAt_in 0 rfl _).trans (A_eq m c 0)),
      ((h.1 c).1 3).trans (((dats m 0 c).arrAt_in 3 rfl _).trans (A_eq m c 3)),
      ((h.1 c).1 4).trans (((dats m 0 c).arrAt_in 4 rfl _).trans (A_eq m c 4))⟩, h.2⟩) (run_main_quiescent m ρ)

end Cert.KernelIdeal.Na

end
-- ==== Proof.NaBits.lean ====
/- The printed kernel and its reading at the extended reals are one text: the frame of the one gives the frame of the other. -/
module

public import proofs.«01_k».proof.Proof.NaFrame
public import proofs.«01_k».proof.Proof.Gen.Kernel
public import proofs.«01_k».proof.Defs
public import Idealize.ShloMosaic.Adequacy
public import Idealize.ShloMosaic.Init

@[expose] public section

set_option maxRecDepth 65536

noncomputable section

namespace Cert.Proof

open Idealize.ShloMosaic Idealize.SL.Sem Idealize.ShloMosaic.TcCoe

set_option maxHeartbeats 1000000 in
theorem na_body (i : Cert.Kernel.grid0.Coords) (a2 : Memref Cert.Kernel.sig .tc .vmem Cert.Kernel.S1024x128 .f32) (h2 : a2.IsWhole) (a3 : Memref Cert.Kernel.sig .tc .vmem Cert.Kernel.S8192x128 .f32) (h3 : a3.IsWhole) (a4 : Memref Cert.Kernel.sig .tc .vmem Cert.Kernel.S8192x128 .f32) (h4 : a4.IsWhole) (a5 : Memref Cert.Kernel.sig .tc .vmem Cert.Kernel.S1x8x64x512 .f32) (h5 : a5.IsWhole) (a6 : Memref Cert.Kernel.sig .tc .vmem Cert.Kernel.S1024x128 .f32) (h6 : a6.IsWhole) (a7 : Memref Cert.Kernel.sig .tc .vmem Cert.Kernel.S1024x128 .f32) (h7 : a7.IsWhole) (a8 : Memref Cert.Kernel.sig .tc .vmem Cert.Kernel.S8192x128 .f32) (h8 : a8.IsWhole) (a9 : Memref Cert.Kernel.sig .tc .vmem Cert.Kernel.S8192x128 .f32) (h9 : a9.IsWhole) (a10 : Memref Cert.Kernel.sig .tc .vmem Cert.Kernel.S1x8x64x512 .f32) (h10 : a10.IsWhole) :
    @Cert.Kernel.cc0_ev_na_bwd Bits _ _ i a2 h2 a3 h3 a4 h4 a5 h5 a6 h6 a7 h7 a8 h8 a9 h9 a10 h10 = @Cert.KernelIdeal.cc0_ev_na_bwd Bits _ _ i a2 h2 a3 h3 a4 h4 a5 h5 a6 h6 a7 h7 a8 h8 a9 h9 a10 h10 := rfl

theorem na_defs₀ : @Cert.Kernel.defs₀ Bits _ _ = @Cert.KernelIdeal.defs₀ Bits _ _ := by
  funext p l a
  match p with
  | .tc =>
    match l, a with
    | ⟨0, _⟩, (t, s) => exact na_body _ _ _ _ _ _ _ _ _ _ _ _ _ _ _ _ _ _ _
  | .scScalar _ => rfl
  | .scVector _ _ => rfl

theorem na_defs : @Cert.Kernel.defs Bits _ _ = @Cert.KernelIdeal.defs Bits _ _ :=
  congrArg (Pipeline.defs (Cert.Kernel.pcfgs (F := Bits))) na_defs₀

theorem na_frame : Cert.quiescent_Kernel := fun m ρ _ =>
  Eq.mpr (congrArg (fun d => θ_run d (onTc (τ := Cert.Kernel.τ) (Cert.Kernel.main (F := Bits))) _ _) na_defs) (Cert.KernelIdeal.Na.frame_run (F := Bits) m ρ)

end Cert.Proof

end
-- ==== Proof.NaSpec.lean ====
/-
  The gradient of neighbourhood attention over the extended reals, written out by indices: both programs' results are
  read as these sums. Row `r` (of 128) holds 64 queries; it attends to the eight rows from `rs r` on.
-/
module

public import Idealize.ShloMosaic.Lib.Pipeline.ValueKit
public import Idealize.ShloMosaic.Lib.Claim

@[expose] public section

set_option maxRecDepth 16384

noncomputable section

namespace Cert.Na

open Idealize.ShloMosaic Idealize.SL.Sem

/-! ## Entries by natural numbers -/

/-- An entry of a matrix, `0` outside it. -/
def at2 {n k : ℕ} (X : (⟨2, ![n, k]⟩ : Shape).Idx → EReal) (i j : ℕ) : EReal :=
  if h : i < n ∧ j < k then X (ix2 ⟨i, h.1⟩ ⟨j, h.2⟩) else 0
/-- An entry of a rank-four array, `0` outside it. -/
def at4 {n k p q : ℕ} (X : (⟨4, ![n, k, p, q]⟩ : Shape).Idx → EReal) (i j a b : ℕ) : EReal :=
  if h : (i < n ∧ j < k) ∧ a < p ∧ b < q then X (ix4 ⟨i, h.1.1⟩ ⟨j, h.1.2⟩ ⟨a, h.2.1⟩ ⟨b, h.2.2⟩) else 0

theorem eq_at2 {n k : ℕ} (X : (⟨2, ![n, k]⟩ : Shape).Idx → EReal) (i : Fin n) (j : Fin k) : X (ix2 i j) = at2 X i.val j.val := by
  unfold at2; rw [dif_pos ⟨i.isLt, j.isLt⟩]
theorem eq_at2' {n k : ℕ} (X : (⟨2, ![n, k]⟩ : Shape).Idx → EReal) (y : (⟨2, ![n, k]⟩ : Shape).Idx) : X y = at2 X (y 0).val (y 1).val := by
  conv_lhs => rw [eq_ix2 y]
  exact eq_at2 X _ _
theorem eq_at4 {n k p q : ℕ} (X : (⟨4, ![n, k, p, q]⟩ : Shape).Idx → EReal) (i : Fin n) (j : Fin k) (a : Fin p) (b : Fin q) :
    X (ix4 i j a b) = at4 X i.val j.val a.val b.val := by
  unfold at4; rw [dif_pos ⟨⟨i.isLt, j.isLt⟩, a.isLt, b.isLt⟩]
theorem eq_at4' {n k p q : ℕ} (X : (⟨4, ![n, k, p, q]⟩ : Shape).Idx → EReal) (y : (⟨4, ![n, k, p, q]⟩ : Shape).Idx) :
    X y = at4 X (y 0).val (y 1).val (y 2).val (y 3).val := by
  conv_lhs => rw [eq_ix4 y]
  exact eq_at4 X _ _ _ _

/-! ## The gradient -/

/-- The first of the eight rows that row `r` attends to. -/
def rs (r : ℕ) : ℕ := min 120 (r - 4)
/-- The scores' scale, one over the square root of the head's width, as the programs spell it. -/
def scale : EReal := Ideal.ofBits .f32 0x3DB504F3#32
/-- The word from which both programs take a row's largest score. -/
def low : EReal := Ideal.ofBits .f32 0xFF800000#32
/-- A row's largest score. -/
def top (z : Fin 512 → EReal) : EReal := Finset.univ.fold max low z
/-- A row's probabilities. -/
def soft (z : Fin 512 → EReal) (j : Fin 512) : EReal := Ideal.div (Ideal.exp (z j - top z)) (∑ x, Ideal.exp (z x - top z))

section
variable (U : (⟨2, ![8192, 14336]⟩ : Shape).Idx → EReal) (B : (⟨4, ![16, 8, 64, 512]⟩ : Shape).Idx → EReal) (D : (⟨2, ![8192, 2048]⟩ : Shape).Idx → EReal)

/-- Head `h`'s queries of row `r`, keys and values of its window, and cotangent. -/
def Q (h r a d : ℕ) : EReal := at2 U (64 * r + a) (128 * (48 + h) + d)
def K (h r j d : ℕ) : EReal := at2 U (64 * rs r + j) (128 * (64 + h) + d)
def W (h r j d : ℕ) : EReal := at2 U (64 * rs r + j) (128 * (80 + h) + d)
def G (h r a d : ℕ) : EReal := at2 D (64 * r + a) (128 * h + d)

/-- Scores, probabilities and their gradients. -/
def Z (h r a j : ℕ) : EReal := (∑ d : Fin 128, Q U h r a d * K U h r j d) * scale + at4 B h (r - rs r) a j
def P (h r a : ℕ) (j : Fin 512) : EReal := soft (fun j => Z U B h r a j) j
def DP (h r a j : ℕ) : EReal := ∑ d : Fin 128, G D h r a d * W U h r j d
def DS (h r a : ℕ) (j : Fin 512) : EReal := P U B h r a j * (DP U D h r a j - ∑ x : Fin 512, DP U D h r a x * P U B h r a x)

/-- The gradient at a query, and what row `r` adds at position `j` of its window of keys and values. -/
def DQ (h r a d : ℕ) : EReal := (∑ j : Fin 512, DS U B D h r a j * K U h r j d) * scale
def DKW (h r : ℕ) (j : Fin 512) (d : ℕ) : EReal := (∑ a : Fin 64, DS U B D h r a j * Q U h r a d) * scale
def DVW (h r : ℕ) (j : Fin 512) (d : ℕ) : EReal := ∑ a : Fin 64, P U B h r a j * G D h r a d

/-- What row `r` adds at key `y`. -/
def kTerm (h r y d : ℕ) : EReal := if hy : 64 * rs r ≤ y ∧ y < 64 * rs r + 512 then DKW U B D h r ⟨y - 64 * rs r, by omega⟩ d else 0
def vTerm (h r y d : ℕ) : EReal := if hy : 64 * rs r ≤ y ∧ y < 64 * rs r + 512 then DVW U B D h r ⟨y - 64 * rs r, by omega⟩ d else 0
def bTerm (h r δ a : ℕ) (j : Fin 512) : EReal := if r - rs r = δ then DS U B D h r a j else 0

/-- The four gradients. -/
def DK (h y d : ℕ) : EReal := ∑ r : Fin 128, kTerm U B D h r y d
def DV (h y d : ℕ) : EReal := ∑ r : Fin 128, vTerm U B D h r y d
def DB (h δ a : ℕ) (j : Fin 512) : EReal := ∑ r : Fin 128, bTerm U B D h r δ a j

end

end Cert.Na

end
-- ==== Proof.NaRef.lean ====
/- The reference's terms, one stage at a time, read at an index. -/
module

public import proofs.«01_k».proof.Proof.Gen.ReferenceIdeal.Run
public import proofs.«01_k».proof.Proof.NaSpec
public import Idealize.ShloMosaic.Lib.Routing.OpsPair

@[expose] public section

set_option maxRecDepth 16384

noncomputable section

namespace Cert.ReferenceIdeal.Na

open Cert.ReferenceIdeal Cert.ReferenceIdeal.Gen Idealize.ShloMosaic Idealize.ShloMosaic.TcCoe Idealize.SL.Sem

/-! ## The stages -/

/-- The tables of the windows' rows and of the bias rows, as index arrays. -/
def IK : IVec S128x8x1 32 := broadcastInDim S128x8x1 ![0, 1] bcast_S128x8_S128x8x1_0_1
  (select (constantI S128x8 1 0#1) (addi ((fun i => lit0 (S128x8.rowMajor i))) (broadcastInDim S128x8 ![] bcast_S_S128x8 (constantI S_ 32 128#32))) ((fun i => lit0 (S128x8.rowMajor i))))
def IV : IVec S128x8x1 32 := broadcastInDim S128x8x1 ![0, 1] bcast_S128x8_S128x8x1_0_1
  (select (constantI S128x8 1 0#1) (addi ((fun i => lit1 (S128x8.rowMajor i))) (broadcastInDim S128x8 ![] bcast_S_S128x8 (constantI S_ 32 128#32))) ((fun i => lit1 (S128x8.rowMajor i))))
def IB : IVec S128x1 32 := broadcastInDim S128x1 ![0] bcast_S128_S128x1_0
  (select (constantI S128 1 0#1) (addi ((fun i => lit2 (S128.rowMajor i))) (broadcastInDim S128 ![] bcast_S_S128 (constantI S_ 32 8#32))) ((fun i => lit2 (S128.rowMajor i))))

section
variable (U : FVec Ideal S8192x14336 .f32) (B : FVec Ideal S16x8x64x512 .f32) (D : FVec Ideal S8192x2048 .f32)

def QG : FVec Ideal S128x64x16x128 .f32 :=
  shapeCast _ (extractStridedSlice S8192x2048 ![0, 6144] U slices_S8192x14336_S8192x2048_0_6144) shapeCasts_S8192x2048_S128x64x16x128
def KS : FVec Ideal S128x64x16x128 .f32 :=
  shapeCast _ (extractStridedSlice S8192x2048 ![0, 8192] U slices_S8192x14336_S8192x2048_0_8192) shapeCasts_S8192x2048_S128x64x16x128
def VS : FVec Ideal S128x64x16x128 .f32 :=
  shapeCast _ (extractStridedSlice S8192x2048 ![0, 10240] U slices_S8192x14336_S8192x2048_0_10240) shapeCasts_S8192x2048_S128x64x16x128
/-- A gather of windows of rows. -/
def GA (X : FVec Ideal S128x64x16x128 .f32) (I : IVec S128x8x1 32) : FVec Ideal S128x512x16x128 .f32 :=
  shapeCast _ (Host.gather gather_S128x64x16x128_S128x8x1_S128x8x64x16x128_234_0_n_n_0_2_16416128 X I) shapeCasts_S128x8x64x16x128_S128x512x16x128
def KG : FVec Ideal S128x512x16x128 .f32 := GA (KS U) IK
def VG : FVec Ideal S128x512x16x128 .f32 := GA (VS U) IV
def BG : FVec Ideal S16x128x64x512 .f32 := Host.gather gather_S16x8x64x512_S128x1_S16x128x64x512_023_1_n_n_1_1_16164512 B IB
def SC : FVec Ideal S16x128x64x512 .f32 :=
  addf (mulf (Host.dotGeneral dot_S128x64x16x128_S128x512x16x128_S16x128x64x512_3_3_1_1_20_20 none (QG U) (KG U)) (broadcastInDim S16x128x64x512 ![] bcast_S_S16x128x64x512 (constant S_ .f32 0x3DB504F3#32))) (BG B)
def MX : FVec Ideal S16x128x64 .f32 :=
  maximumf (broadcastInDim S16x128x64 ![] bcast_S_S16x128x64 (constant S_ .f32 0xFF800000#32)) (Host.reduce FloatOps.maximumf (SC U B) (constant S_ .f32 0xFF800000#32) reducesTo_S16x128x64x512_S16x128x64_d3 h_S_)
def EX : FVec Ideal S16x128x64x512 .f32 :=
  Host.exp (subf (SC U B) (broadcastInDim S16x128x64x512 ![0, 1, 2, 3] bcast_S16x128x64x1_S16x128x64x512_0_1_2_3 (broadcastInDim S16x128x64x1 ![0, 1, 2] bcast_S16x128x64_S16x128x64x1_0_1_2 (MX U B))))
def SM : FVec Ideal S16x128x64x1 .f32 :=
  broadcastInDim S16x128x64x1 ![0, 1, 2] bcast_S16x128x64_S16x128x64x1_0_1_2 (Host.reduceAdd (EX U B) (constant S_ .f32 0x00000000#32) reducesTo_S16x128x64x512_S16x128x64_d3 h_S_)
def SB : FVec Ideal S16x128x64x512 .f32 := broadcastInDim S16x128x64x512 ![0, 1, 2, 3] bcast_S16x128x64x1_S16x128x64x512_0_1_2_3 (SM U B)
def PR : FVec Ideal S16x128x64x512 .f32 := Host.divf (EX U B) (SB U B)
def DT : FVec Ideal S128x16x128x64 .f32 :=
  transpose S128x16x128x64 [0, 2, 3, 1] (shapeCast _ D shapeCasts_S8192x2048_S128x64x16x128) transposes_S128x64x16x128_S128x16x128x64_0_2_3_1
def DPR : FVec Ideal S16x128x64x512 .f32 :=
  transpose S16x128x64x512 [1, 0, 2, 3] (Host.dotGeneral dot_S128x16x128x64_S128x512x16x128_S128x16x64x512_2_3_3_1_01_02 none (DT D) (VG U)) transposes_S128x16x64x512_S16x128x64x512_1_0_2_3
def DVW : FVec Ideal S128x512x16x128 .f32 :=
  transpose S128x512x16x128 [0, 3, 1, 2] (Host.dotGeneral dot_S128x16x128x64_S16x128x64x512_S128x16x128x512_3_2_2_3_01_10 none (DT D) (PR U B)) transposes_S128x16x128x512_S128x512x16x128_0_3_1_2
def RC : FVec Ideal S16x128x64x1 .f32 :=
  Host.divf (broadcastInDim S16x128x64x1 ![] bcast_S_S16x128x64x1 (constant S_ .f32 0x3F800000#32)) (mulf (SM U B) (SM U B))
def NS : FVec Ideal S16x128x64x1 .f32 :=
  Host.negf (shapeCast _ (Host.reduceAdd (mulf (mulf (DPR U D) (broadcastInDim S16x128x64x512 ![0, 1, 2, 3] bcast_S16x128x64x1_S16x128x64x512_0_1_2_3 (RC U B))) (EX U B)) (constant S_ .f32 0x00000000#32) reducesTo_S16x128x64x512_S16x128x64_d3 h_S_) shapeCasts_S16x128x64_S16x128x64x1)
def DSR : FVec Ideal S16x128x64x512 .f32 :=
  mulf (addf (Host.divf (DPR U D) (SB U B)) (broadcastInDim S16x128x64x512 ![0, 1, 2] bcast_S16x128x64_S16x128x64x512_0_1_2 (Host.reduceAdd (NS U B D) (constant S_ .f32 0x00000000#32) reducesTo_S16x128x64x1_S16x128x64_d3 h_S_))) (EX U B)
def DSS : FVec Ideal S16x128x64x512 .f32 := mulf (DSR U B D) (broadcastInDim S16x128x64x512 ![] bcast_S_S16x128x64x512 (constant S_ .f32 0x3DB504F3#32))
def RB : FVec Ideal S16x8x64x512 .f32 :=
  Host.scatterAdd scatter_S16x8x64x512_S128x1_S16x128x64x512_023_1_1_1 (broadcastInDim S16x8x64x512 ![] bcast_S_S16x8x64x512 (constant S_ .f32 0x00000000#32)) IB (DSR U B D)
def DKR : FVec Ideal S128x512x16x128 .f32 :=
  transpose S128x512x16x128 [1, 2, 0, 3] (Host.dotGeneral dot_S16x128x64x512_S128x64x16x128_S16x128x512x128_2_1_3_3_01_20 none (DSS U B D) (QG U)) transposes_S16x128x512x128_S128x512x16x128_1_2_0_3
/-- The windows' sums back into rows. -/
def SA (I : IVec S128x8x1 32) (X : FVec Ideal S128x512x16x128 .f32) : FVec Ideal S8192x2048 .f32 :=
  shapeCast _ (Host.scatterAdd scatter_S128x64x16x128_S128x8x1_S128x8x64x16x128_234_0_0_2 (broadcastInDim S128x64x16x128 ![] bcast_S_S128x64x16x128 (constant S_ .f32 0x00000000#32)) I (shapeCast _ X shapeCasts_S128x512x16x128_S128x8x64x16x128)) shapeCasts_S128x64x16x128_S8192x2048
def RK : FVec Ideal S8192x2048 .f32 := SA IK (DKR U B D)
def RV : FVec Ideal S8192x2048 .f32 := SA IV (DVW U B D)
def RQ : FVec Ideal S8192x2048 .f32 :=
  shapeCast _ (transpose S128x64x16x128 [1, 2, 0, 3] (Host.dotGeneral dot_S16x128x64x512_S128x512x16x128_S16x128x64x128_3_1_2_3_01_20 none (DSS U B D) (KG U)) transposes_S16x128x64x128_S128x64x16x128_1_2_0_3) shapeCasts_S128x64x16x128_S8192x2048
end

section
variable (m : (ℓ : Loc nD τ sig) → Buf (Elt Ideal) ℓ) (c : Dev nD)

theorem res0 : Value.res_main_v92 (F := Ideal) m c = RQ (m ((c.tc : Thread nD τ).loc main_arg0)) (m ((c.tc : Thread nD τ).loc main_arg1)) (m ((c.tc : Thread nD τ).loc main_arg2)) := by
  unfold Value.res_main_v92; rfl
theorem res1 : Value.res_main_v91 (F := Ideal) m c = RK (m ((c.tc : Thread nD τ).loc main_arg0)) (m ((c.tc : Thread nD τ).loc main_arg1)) (m ((c.tc : Thread nD τ).loc main_arg2)) := by
  unfold Value.res_main_v91; rfl
theorem res2 : Value.res_main_v87 (F := Ideal) m c = RV (m ((c.tc : Thread nD τ).loc main_arg0)) (m ((c.tc : Thread nD τ).loc main_arg1)) (m ((c.tc : Thread nD τ).loc main_arg2)) := by
  unfold Value.res_main_v87; rfl
theorem res3 : Value.res_main_v77 (F := Ideal) m c = RB (m ((c.tc : Thread nD τ).loc main_arg0)) (m ((c.tc : Thread nD τ).loc main_arg1)) (m ((c.tc : Thread nD τ).loc main_arg2)) := by
  unfold Value.res_main_v77; rfl
end

end Cert.ReferenceIdeal.Na

end
-- ==== Proof.NaRefAt.lean ====
/- The reference's stages read at an index, in the terms of the specification. -/
module

public import proofs.«01_k».proof.Proof.NaRef

@[expose] public section

set_option maxRecDepth 16384

noncomputable section

namespace Cert.ReferenceIdeal.Na

open Cert.ReferenceIdeal Cert.ReferenceIdeal.Gen Idealize.ShloMosaic Idealize.ShloMosaic.TcCoe Idealize.SL.Sem
open Cert.Na (at2 at4 scale low top rs)

/-! ## The tables -/

theorem lit0_val : ∀ k : Fin 1024, (lit0 k).toInt = ((rs (k.val / 8) + k.val % 8 : ℕ) : ℤ) := by decide +kernel
theorem lit1_val : ∀ k : Fin 1024, (lit1 k).toInt = ((rs (k.val / 8) + k.val % 8 : ℕ) : ℤ) := by decide +kernel
theorem lit2_val : ∀ k : Fin 128, (lit2 k).toInt = ((k.val - rs k.val : ℕ) : ℤ) := by decide +kernel

theorem rowMajor2 (r : Fin 128) (a : Fin 8) : ((S128x8.rowMajor (ix2 r a)).val : ℕ) = r.val * 8 + a.val := Shape.rowMajor_val_two _
theorem rowMajor1 (r : Fin 128) : ((S128.rowMajor (ix1 r)).val : ℕ) = r.val := Shape.rowMajor_val_one _

theorem IK_at (r : Fin 128) (a : Fin 8) (u : Fin 1) : (IK (ix3 r a u)).toInt = ((rs r.val + a.val : ℕ) : ℤ) := by
  have : IK (ix3 r a u) = lit0 (S128x8.rowMajor (ix2 r a)) := by
    pointwise [IK]
  rw [this]
  refine (lit0_val (S128x8.rowMajor (ix2 r a))).trans ?_
  have e : ((S128x8.rowMajor (ix2 r a)).val : ℕ) = r.val * 8 + a.val := rowMajor2 r a
  rw [e, show (r.val * 8 + a.val) / 8 = r.val by omega, show (r.val * 8 + a.val) % 8 = a.val by omega]
theorem IV_at (r : Fin 128) (a : Fin 8) (u : Fin 1) : (IV (ix3 r a u)).toInt = ((rs r.val + a.val : ℕ) : ℤ) := by
  have : IV (ix3 r a u) = lit1 (S128x8.rowMajor (ix2 r a)) := by
    pointwise [IV]
  rw [this]
  refine (lit1_val (S128x8.rowMajor (ix2 r a))).trans ?_
  have e : ((S128x8.rowMajor (ix2 r a)).val : ℕ) = r.val * 8 + a.val := rowMajor2 r a
  rw [e, show (r.val * 8 + a.val) / 8 = r.val by omega, show (r.val * 8 + a.val) % 8 = a.val by omega]
theorem IB_at (r : Fin 128) (u : Fin 1) : (IB (ix2 r u)).toInt = ((r.val - rs r.val : ℕ) : ℤ) := by
  have : IB (ix2 r u) = lit2 (S128.rowMajor (ix1 r)) := by
    pointwise [IB]
  rw [this]
  refine (lit2_val (S128.rowMajor (ix1 r))).trans ?_
  have e : ((S128.rowMajor (ix1 r)).val : ℕ) = r.val := rowMajor1 r
  rw [e]

/-! ## The gathers -/

theorem rs_le (r : ℕ) : rs r ≤ 120 := Nat.min_le_left _ _

theorem gather_rows (X : FVec Ideal S128x64x16x128 .f32) (I : IVec S128x8x1 32) (hI : ∀ r : Fin 128, ∀ a : Fin 8, ∀ u : Fin 1, (I (ix3 r a u)).toInt = ((rs r.val + a.val : ℕ) : ℤ))
    (r : Fin 128) (a : Fin 8) (b : Fin 64) (h : Fin 16) (d : Fin 128) :
    Host.gather gather_S128x64x16x128_S128x8x1_S128x8x64x16x128_234_0_n_n_0_2_16416128 X I (ix5 r a b h d)
      = X (ix4 ⟨rs r.val + a.val, by have := rs_le r.val; omega⟩ b h d) := by
  unfold Host.gather
  refine congrArg X (funext fun x => ?_)
  match x with
  | ⟨0, _⟩ =>
    refine Fin.ext ?_
    show min (I _).toInt.toNat 127 + 0 + 0 = rs r.val + a.val
    have e : gather_S128x64x16x128_S128x8x1_S128x8x64x16x128_234_0_n_n_0_2_16416128.siIdx (ix5 r a b h d) ⟨0, by decide⟩ = (ix3 r a 0 : S128x8x1.Idx) := by
      funext y
      match y with
      | ⟨0, _⟩ => rfl
      | ⟨1, _⟩ => rfl
      | ⟨2, _⟩ => rfl
    refine (congrArg (fun z => min (I z).toInt.toNat 127 + 0 + 0) e).trans ?_
    have h1 := hI r a 0
    have h2 := rs_le r.val
    show min (I (ix3 r a 0)).toInt.toNat 127 + 0 + 0 = _
    rw [h1]
    omega
  | ⟨1, _⟩ => exact Fin.ext (show 0 + 0 + b.val = b.val by omega)
  | ⟨2, _⟩ => exact Fin.ext (show 0 + 0 + h.val = h.val by omega)
  | ⟨3, _⟩ => exact Fin.ext (show 0 + 0 + d.val = d.val by omega)

theorem gather_bias (X : FVec Ideal S16x8x64x512 .f32) (h : Fin 16) (r : Fin 128) (a : Fin 64) (j : Fin 512) :
    Host.gather gather_S16x8x64x512_S128x1_S16x128x64x512_023_1_n_n_1_1_16164512 X IB (ix4 h r a j)
      = X (ix4 h ⟨r.val - rs r.val, by unfold rs; omega⟩ a j) := by
  unfold Host.gather
  refine congrArg X (funext fun x => ?_)
  match x with
  | ⟨1, _⟩ =>
    refine Fin.ext ?_
    show min (IB _).toInt.toNat 7 + 0 + 0 = r.val - rs r.val
    have e : gather_S16x8x64x512_S128x1_S16x128x64x512_023_1_n_n_1_1_16164512.siIdx (ix4 h r a j) ⟨0, by decide⟩ = (ix2 r 0 : S128x1.Idx) := by
      funext y
      match y with
      | ⟨0, _⟩ => rfl
      | ⟨1, _⟩ => rfl
    refine (congrArg (fun z => min (IB z).toInt.toNat 7 + 0 + 0) e).trans ?_
    have h1 := IB_at r 0
    show min (IB (ix2 r 0)).toInt.toNat 7 + 0 + 0 = _
    rw [h1]
    unfold rs
    omega
  | ⟨0, _⟩ => exact Fin.ext (show 0 + 0 + h.val = h.val by omega)
  | ⟨2, _⟩ => exact Fin.ext (show 0 + 0 + a.val = a.val by omega)
  | ⟨3, _⟩ => exact Fin.ext (show 0 + 0 + j.val = j.val by omega)

/-! ## The arguments' groups -/

section
variable (U : FVec Ideal S8192x14336 .f32) (B : FVec Ideal S16x8x64x512 .f32) (D : FVec Ideal S8192x2048 .f32)

theorem QG_at (r : Fin 128) (a : Fin 64) (h : Fin 16) (d : Fin 128) : QG U (ix4 r a h d) = Cert.Na.Q U h.val r.val a.val d.val := by
  pointwise [QG]
  refine (Cert.Na.eq_at2 U _ _).trans ?_
  unfold Cert.Na.Q
  congr 1 <;> dsimp only <;> omega
theorem KS_at (r : Fin 128) (a : Fin 64) (h : Fin 16) (d : Fin 128) : KS U (ix4 r a h d) = at2 U (64 * r.val + a.val) (128 * (64 + h.val) + d.val) := by
  pointwise [KS]
  refine (Cert.Na.eq_at2 U _ _).trans ?_
  congr 1 <;> dsimp only <;> omega
theorem VS_at (r : Fin 128) (a : Fin 64) (h : Fin 16) (d : Fin 128) : VS U (ix4 r a h d) = at2 U (64 * r.val + a.val) (128 * (80 + h.val) + d.val) := by
  pointwise [VS]
  refine (Cert.Na.eq_at2 U _ _).trans ?_
  congr 1 <;> dsimp only <;> omega
theorem DT_at (r : Fin 128) (a : Fin 64) (h : Fin 16) (d : Fin 128) : DT D (ix4 r h d a) = Cert.Na.G D h.val r.val a.val d.val := by
  pointwise [DT]
  refine (Cert.Na.eq_at2 D _ _).trans ?_
  unfold Cert.Na.G
  congr 1 <;> dsimp only <;> omega
theorem GA_at (X : FVec Ideal S128x64x16x128 .f32) (I : IVec S128x8x1 32) (hI : ∀ r : Fin 128, ∀ a : Fin 8, ∀ u : Fin 1, (I (ix3 r a u)).toInt = ((rs r.val + a.val : ℕ) : ℤ))
    (r : Fin 128) (j : Fin 512) (h : Fin 16) (d : Fin 128) :
    GA X I (ix4 r j h d) = X (ix4 ⟨rs r.val + j.val / 64, by have := rs_le r.val; omega⟩ ⟨j.val % 64, by omega⟩ h d) := by
  pointwise [GA]
  exact gather_rows X I hI r _ _ h d
theorem KG_at (r : Fin 128) (j : Fin 512) (h : Fin 16) (d : Fin 128) : KG U (ix4 r j h d) = Cert.Na.K U h.val r.val j.val d.val := by
  unfold KG
  rw [GA_at _ _ IK_at, KS_at]
  unfold Cert.Na.K
  congr 1; dsimp only; omega
theorem VG_at (r : Fin 128) (j : Fin 512) (h : Fin 16) (d : Fin 128) : VG U (ix4 r j h d) = Cert.Na.W U h.val r.val j.val d.val := by
  unfold VG
  rw [GA_at _ _ IV_at, VS_at]
  unfold Cert.Na.W
  congr 1; dsimp only; omega
theorem BG_at (h : Fin 16) (r : Fin 128) (a : Fin 64) (j : Fin 512) : BG B (ix4 h r a j) = at4 B h.val (r.val - rs r.val) a.val j.val := by
  unfold BG
  rw [gather_bias]
  exact Cert.Na.eq_at4 B _ _ _ _

end

end Cert.ReferenceIdeal.Na

end
-- ==== Proof.NaSoft.lean ====
/-
  The gradient of a softmax over the extended reals: for scores without `⊤` whose largest is finite, the probabilities
  times the centred cotangent is the quotient rule's form, whatever the cotangent (infinite values included).
-/
module

public import proofs.«01_k».proof.Proof.NaSpec

@[expose] public section

noncomputable section

namespace Cert.Na

open Idealize.ShloMosaic

theorem low_eq : low = ⊥ := by
  simp [low, Ideal.ofBits, Ideal.ieee]

theorem exp_coe (x : ℝ) : Ideal.exp (x : EReal) = ((Real.exp x : ℝ) : EReal) := rfl
theorem exp_bot : Ideal.exp ⊥ = 0 := rfl

theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

theorem le_top {n : ℕ} (z : Fin n → EReal) (j : Fin n) : z j ≤ Finset.univ.fold max low z :=
  (Finset.le_fold_max (z j)).mpr (Or.inr ⟨j, Finset.mem_univ j, le_rfl⟩)

theorem max_low {n : ℕ} (z : Fin n → EReal) : max low (Finset.univ.fold max low z) = Finset.univ.fold max low z := by
  rw [low_eq]; exact max_eq_right bot_le

/-- A largest entry that isn't `⊥` is taken. -/
theorem top_taken {n : ℕ} (z : Fin n → EReal) (h : Finset.univ.fold max low z ≠ ⊥) : ∃ j, z j = Finset.univ.fold max low z := by
  rcases (Finset.le_fold_max (Finset.univ.fold max low z)).mp le_rfl with h1 | ⟨j, _, hj⟩
  · exact absurd (le_bot_iff.mp (h1.trans low_eq.le)) h
  · exact ⟨j, le_antisymm (le_top z j) hj⟩

/-- A nonnegative real factor goes out of a sum of extended reals. -/
theorem sum_mul_real {ι : Type} (s : Finset ι) (f : ι → EReal) (c : EReal) (h0 : 0 ≤ c) (ht : c ≠ ⊤) : ∑ x ∈ s, f x * c = (∑ x ∈ s, f x) * c := by
  classical
  induction s using Finset.induction_on with
  | empty => simp
  | insert a s ha ih => rw [Finset.sum_insert ha, Finset.sum_insert ha, ih, EReal.right_distrib_of_nonneg_of_ne_top h0 ht]

section
variable (z : Fin 512 → EReal) (hz : ∀ j, z j ≠ ⊤) (M : ℝ) (hM : top z = (M : EReal))
include hz hM

theorem exp_real (j : Fin 512) : ∃ e : ℝ, 0 ≤ e ∧ Ideal.exp (z j - top z) = (e : EReal) := by
  rw [hM]
  have hj := hz j
  induction hw : z j with
  | bot => exact ⟨0, le_rfl, by rw [EReal.bot_sub]; exact exp_bot⟩
  | top => exact absurd hw hj
  | coe w => exact ⟨Real.exp (w - M), (Real.exp_pos _).le, by rw [← EReal.coe_sub]; exact exp_coe _⟩

/-- The probabilities' denominator is a positive real. -/
theorem sum_real : ∃ s : ℝ, 0 < s ∧ ∑ x, Ideal.exp (z x - top z) = (s : EReal) := by
  choose e he hx using fun j => exp_real z hz M hM j
  obtain ⟨j, hj⟩ := top_taken z (by rw [show Finset.univ.fold max low z = top z from rfl, hM]; exact EReal.coe_ne_bot M)
  refine ⟨∑ x, e x, ?_, ?_⟩
  · have h1 : e j = 1 := by
      have := hx j
      rw [show z j = top z from hj, hM, ← EReal.coe_sub, sub_self] at this
      have h2 : Ideal.exp ((0 : ℝ) : EReal) = ((1 : ℝ) : EReal) := by rw [exp_coe, Real.exp_zero]
      exact (EReal.coe_eq_coe_iff.mp (h2.symm.trans this)).symm
    have := Finset.single_le_sum (f := e) (fun x _ => he x) (Finset.mem_univ j)
    linarith
  · simp only [hx]
    exact (coe_sum _ _).symm

theorem soft_grad (g : Fin 512 → EReal) (j : Fin 512) :
    soft z j * (g j - ∑ x, g x * soft z x)
      = (Ideal.div (g j) (∑ x, Ideal.exp (z x - top z)) + -(∑ x, g x * Ideal.div 1 ((∑ y, Ideal.exp (z y - top z)) * ∑ y, Ideal.exp (z y - top z)) * Ideal.exp (z x - top z)))
        * Ideal.exp (z j - top z) := by
  obtain ⟨s, hs, hS⟩ := sum_real z hz M hM
  unfold soft
  rw [hS]
  have hd : ∀ x : EReal, Ideal.div x (s : EReal) = x * ((s⁻¹ : ℝ) : EReal) := fun x => by
    unfold Ideal.div
    rw [if_neg (by exact_mod_cast hs.ne')]
    exact congrArg (x * ·) (EReal.coe_inv s).symm
  have hc : 0 ≤ ((s⁻¹ : ℝ) : EReal) := by exact_mod_cast (inv_pos.mpr hs).le
  have hct : ((s⁻¹ : ℝ) : EReal) ≠ ⊤ := EReal.coe_ne_top _
  have hd2 : Ideal.div 1 ((s : EReal) * (s : EReal)) = ((s⁻¹ : ℝ) : EReal) * ((s⁻¹ : ℝ) : EReal) := by
    rw [← EReal.coe_mul]
    unfold Ideal.div
    rw [if_neg (by exact_mod_cast (mul_pos hs hs).ne'), one_mul, ← EReal.coe_mul, ← mul_inv]
    exact (EReal.coe_inv _).symm
  simp only [hd, hd2]
  generalize ((s⁻¹ : ℝ) : EReal) = c at hc hct
  generalize hE : (fun x => Ideal.exp (z x - top z)) = E
  have e1 : ∀ x, Ideal.exp (z x - top z) = E x := fun x => congrFun hE x
  simp only [e1]
  have a1 : ∑ x, g x * (E x * c) = (∑ x, g x * E x) * c := by
    rw [← sum_mul_real _ _ c hc hct]
    exact Finset.sum_congr rfl fun x _ => (mul_assoc _ _ _).symm
  have a2 : ∑ x, g x * (c * c) * E x = (∑ x, g x * E x) * c * c := by
    rw [← sum_mul_real _ _ c hc hct, ← sum_mul_real _ _ c hc hct]
    exact Finset.sum_congr rfl fun x _ => by ac_rfl
  rw [a1, a2]
  generalize ∑ x, g x * E x = T
  rw [sub_eq_add_neg, ← EReal.neg_mul (T * c), ← EReal.right_distrib_of_nonneg_of_ne_top hc hct]
  ac_rfl

end

end Cert.Na

end
-- ==== Proof.NaRefGrad.lean ====
/- The reference's scores, probabilities and their gradient, read at an index. -/
module

public import proofs.«01_k».proof.Proof.NaRefAt
public import proofs.«01_k».proof.Proof.NaSoft

@[expose] public section

set_option maxRecDepth 16384

noncomputable section

namespace Cert.ReferenceIdeal.Na

open Cert.ReferenceIdeal Cert.ReferenceIdeal.Gen Idealize.ShloMosaic Idealize.ShloMosaic.TcCoe Idealize.SL.Sem
open Cert.Na (at2 at4 scale low top rs)

section
variable (U : FVec Ideal S8192x14336 .f32) (B : FVec Ideal S16x8x64x512 .f32) (D : FVec Ideal S8192x2048 .f32)

/-! ## Scores and their gradient -/

/-- Row `r`'s scores as the specification has them. -/
abbrev zz (h : Fin 16) (r : Fin 128) (a : Fin 64) : Fin 512 → EReal := fun j => Cert.Na.Z U B h.val r.val a.val j.val

theorem SC_at (h : Fin 16) (r : Fin 128) (a : Fin 64) (j : Fin 512) : SC U B (ix4 h r a j) = zz U B h r a j := by
  pointwise [SC, QG_at, KG_at, BG_at]
  rfl
theorem maxAt (X : FVec Ideal S16x128x64x512 .f32) (h : Fin 16) (r : Fin 128) (a : Fin 64) :
    Host.reduce FloatOps.maximumf X (constant (F := Ideal) S_ .f32 0xFF800000#32) reducesTo_S16x128x64x512_S16x128x64_d3 h_S_ (ix3 h r a)
      = Finset.univ.fold (FloatOps.maximumf (F := Ideal) (φ := .f32)) (FloatOps.ofBits (F := Ideal) .f32 0xFF800000#32) (fun k : Fin 512 => X (ix4 h r a k)) := by
  pointwise
theorem maxLow (Y : FVec Ideal S16x128x64 .f32) (i : S16x128x64.Idx) :
    maximumf (broadcastInDim S16x128x64 ![] bcast_S_S16x128x64 (constant S_ .f32 0xFF800000#32)) Y i
      = FloatOps.maximumf (F := Ideal) (φ := .f32) (FloatOps.ofBits (F := Ideal) .f32 0xFF800000#32) (Y i) := rfl
theorem MX_red (h : Fin 16) (r : Fin 128) (a : Fin 64) : MX U B (ix3 h r a)
    = FloatOps.maximumf (F := Ideal) (φ := .f32) (FloatOps.ofBits (F := Ideal) .f32 0xFF800000#32)
        (Host.reduce FloatOps.maximumf (SC U B) (constant (F := Ideal) S_ .f32 0xFF800000#32) reducesTo_S16x128x64x512_S16x128x64_d3 h_S_ (ix3 h r a)) := by
  unfold MX
  exact maxLow _ _
theorem fold_eq (z : Fin 512 → EReal) : FloatOps.maximumf (F := Ideal) (φ := .f32) (FloatOps.ofBits (F := Ideal) .f32 0xFF800000#32)
    (Finset.univ.fold (FloatOps.maximumf (F := Ideal) (φ := .f32)) (FloatOps.ofBits (F := Ideal) .f32 0xFF800000#32) z) = top z := by
  exact Cert.Na.max_low z
theorem MX_at (h : Fin 16) (r : Fin 128) (a : Fin 64) : MX U B (ix3 h r a) = top (zz U B h r a) := by
  rw [MX_red, maxAt, show (fun k : Fin 512 => SC U B (ix4 h r a k)) = zz U B h r a from funext fun k => SC_at U B h r a k]
  exact fold_eq _
theorem EX_at (h : Fin 16) (r : Fin 128) (a : Fin 64) (j : Fin 512) : EX U B (ix4 h r a j) = Ideal.exp (zz U B h r a j - top (zz U B h r a)) := by
  pointwise [EX, SC_at, MX_at]
theorem SM_at (h : Fin 16) (r : Fin 128) (a : Fin 64) (u : Fin 1) : SM U B (ix4 h r a u) = ∑ x, Ideal.exp (zz U B h r a x - top (zz U B h r a)) := by
  pointwise [SM, EX_at]
theorem SB_at (h : Fin 16) (r : Fin 128) (a : Fin 64) (j : Fin 512) : SB U B (ix4 h r a j) = ∑ x, Ideal.exp (zz U B h r a x - top (zz U B h r a)) := by
  pointwise [SB, SM_at]
theorem PR_at (h : Fin 16) (r : Fin 128) (a : Fin 64) (j : Fin 512) : PR U B (ix4 h r a j) = Cert.Na.P U B h.val r.val a.val j := by
  pointwise [PR, EX_at, SB_at]
  rfl
theorem DPR_at (h : Fin 16) (r : Fin 128) (a : Fin 64) (j : Fin 512) : DPR U D (ix4 h r a j) = Cert.Na.DP U D h.val r.val a.val j.val := by
  pointwise [DPR, DT_at, VG_at]
  rfl
theorem DVW_at (r : Fin 128) (j : Fin 512) (h : Fin 16) (d : Fin 128) : DVW U B D (ix4 r j h d) = Cert.Na.DVW U B D h.val r.val j d.val := by
  pointwise [DVW, DT_at, PR_at]
  exact Finset.sum_congr rfl fun x _ => mul_comm _ _
theorem RC_at (h : Fin 16) (r : Fin 128) (a : Fin 64) (u : Fin 1) : RC U B (ix4 h r a u)
    = Ideal.div 1 ((∑ x, Ideal.exp (zz U B h r a x - top (zz U B h r a))) * ∑ x, Ideal.exp (zz U B h r a x - top (zz U B h r a))) := by
  pointwise [RC, SM_at]
theorem NS_at (h : Fin 16) (r : Fin 128) (a : Fin 64) (u : Fin 1) : NS U B D (ix4 h r a u)
    = -(∑ x : Fin 512, Cert.Na.DP U D h.val r.val a.val x.val * Ideal.div 1 ((∑ y, Ideal.exp (zz U B h r a y - top (zz U B h r a))) * ∑ y, Ideal.exp (zz U B h r a y - top (zz U B h r a)))
        * Ideal.exp (zz U B h r a x - top (zz U B h r a))) := by
  pointwise [NS, RC_at, DPR_at, EX_at]
theorem DSR_at (hz : ∀ h : Fin 16, ∀ r : Fin 128, ∀ a : Fin 64, (∀ j, zz U B h r a j ≠ ⊤) ∧ ∃ M : ℝ, top (zz U B h r a) = (M : EReal))
    (h : Fin 16) (r : Fin 128) (a : Fin 64) (j : Fin 512) : DSR U B D (ix4 h r a j) = Cert.Na.DS U B D h.val r.val a.val j := by
  obtain ⟨h1, M, hM⟩ := hz h r a
  refine Eq.trans ?_ (Cert.Na.soft_grad (zz U B h r a) h1 M hM (fun x => Cert.Na.DP U D h.val r.val a.val x.val) j).symm
  pointwise [DSR, NS_at, SB_at, DPR_at, EX_at]
  simp only [Finset.univ_unique, Finset.sum_singleton]
end

end Cert.ReferenceIdeal.Na

end
-- ==== Proof.NaRefScat.lean ====
/- The reference's scatters, read at an index. -/
module

public import proofs.«01_k».proof.Proof.NaRefAt

@[expose] public section

set_option maxRecDepth 16384

noncomputable section

namespace Cert.ReferenceIdeal.Na

open Cert.ReferenceIdeal Cert.ReferenceIdeal.Gen Idealize.ShloMosaic Idealize.ShloMosaic.TcCoe Idealize.SL.Sem
open Cert.Na (at2 at4 scale low top rs)

section
variable (I : IVec S128x8x1 32) (hI : ∀ r : Fin 128, ∀ a : Fin 8, ∀ u : Fin 1, (I (ix3 r a u)).toInt = ((rs r.val + a.val : ℕ) : ℤ))
include hI

theorem lands_rows (R : Fin 128) (b : Fin 64) (h : Fin 16) (d : Fin 128) (r : Fin 128) (a : Fin 8) (b' : Fin 64) (h' : Fin 16) (d' : Fin 128) :
    scatter_S128x64x16x128_S128x8x1_S128x8x64x16x128_234_0_0_2.resultIdx? (ix5 r a b' h' d') I = some (ix4 R b h d)
      ↔ (rs r.val + a.val = R.val) ∧ b' = b ∧ h' = h ∧ d' = d := by
  rw [Routing.resultIdx?_eq_some]
  have e : scatter_S128x64x16x128_S128x8x1_S128x8x64x16x128_234_0_0_2.siIdx (ix5 r a b' h' d') ⟨0, by decide⟩ = (ix3 r a 0 : S128x8x1.Idx) := by
    funext y
    match y with
    | ⟨0, _⟩ => rfl
    | ⟨1, _⟩ => rfl
    | ⟨2, _⟩ => rfl
  have hi := hI r a 0
  have h0 : scatter_S128x64x16x128_S128x8x1_S128x8x64x16x128_234_0_0_2.start (ix5 r a b' h' d') I 0 = ((rs r.val + a.val : ℕ) : ℤ) := by
    rw [← hi, ← e]
    rfl
  constructor
  · intro q
    have q0 : _ + ((0 : ℕ) : ℤ) = (R.val : ℤ) := q 0
    have q1 : (0 : ℤ) + (b'.val : ℤ) = (b.val : ℤ) := q 1
    have q2 : (0 : ℤ) + (h'.val : ℤ) = (h.val : ℤ) := q 2
    have q3 : (0 : ℤ) + (d'.val : ℤ) = (d.val : ℤ) := q 3
    rw [h0] at q0
    exact ⟨by omega, Fin.ext (by omega), Fin.ext (by omega), Fin.ext (by omega)⟩
  · rintro ⟨g0, rfl, rfl, rfl⟩ x
    match x with
    | ⟨0, _⟩ =>
      show scatter_S128x64x16x128_S128x8x1_S128x8x64x16x128_234_0_0_2.start (ix5 r a b' h' d') I 0 + ((0 : ℕ) : ℤ) = (R.val : ℤ)
      rw [h0]; omega
    | ⟨1, _⟩ => show (0 : ℤ) + (b'.val : ℤ) = (b'.val : ℤ); omega
    | ⟨2, _⟩ => show (0 : ℤ) + (h'.val : ℤ) = (h'.val : ℤ); omega
    | ⟨3, _⟩ => show (0 : ℤ) + (d'.val : ℤ) = (d'.val : ℤ); omega

theorem scat_rows (X : FVec Ideal S128x8x64x16x128 .f32) (Y : FVec Ideal S128x64x16x128 .f32) (R : Fin 128) (b : Fin 64) (h : Fin 16) (d : Fin 128) (hY : Y (ix4 R b h d) = 0) :
    Host.scatterAdd scatter_S128x64x16x128_S128x8x1_S128x8x64x16x128_234_0_0_2 Y I X (ix4 R b h d)
      = ∑ r : Fin 128, ∑ a : Fin 8, if rs r.val + a.val = R.val then X (ix5 r a b h d) else 0 := by
  show Y (ix4 R b h d) + Finset.sum _ _ = _
  rw [hY, zero_add, Finset.sum_filter, sum_idx5]
  refine Finset.sum_congr rfl fun r _ => Finset.sum_congr rfl fun a _ => ?_
  simp only [lands_rows I hI]
  by_cases hr : rs r.val + a.val = R.val
  · simp only [hr, true_and, if_true]
    rw [Finset.sum_eq_single b (fun x _ hx => by simp [hx]) (by simp), Finset.sum_eq_single h (fun x _ hx => by simp [hx]) (by simp),
      Finset.sum_eq_single d (fun x _ hx => by simp [hx]) (by simp)]
    simp
  · simp [hr]

theorem SA_at (X : FVec Ideal S128x512x16x128 .f32) (y : Fin 8192) (x : Fin 2048) :
    SA I X (ix2 y x) = ∑ r : Fin 128, if hy : 64 * rs r.val ≤ y.val ∧ y.val < 64 * rs r.val + 512 then
      X (ix4 r ⟨y.val - 64 * rs r.val, by omega⟩ ⟨x.val / 128, by omega⟩ ⟨x.val % 128, by omega⟩) else 0 := by
  have e : SA I X (ix2 y x) = Host.scatterAdd scatter_S128x64x16x128_S128x8x1_S128x8x64x16x128_234_0_0_2
      (broadcastInDim S128x64x16x128 ![] bcast_S_S128x64x16x128 (constant S_ .f32 0x00000000#32)) I
      (shapeCast _ X shapeCasts_S128x512x16x128_S128x8x64x16x128) (ix4 ⟨y.val / 64, by omega⟩ ⟨y.val % 64, by omega⟩ ⟨x.val / 128, by omega⟩ ⟨x.val % 128, by omega⟩) := by
    unfold SA
    pointwise
  rw [e, scat_rows I hI _ _ _ _ _ _ (by pointwise)]
  refine Finset.sum_congr rfl fun r _ => ?_
  by_cases hy : 64 * rs r.val ≤ y.val ∧ y.val < 64 * rs r.val + 512
  · rw [dif_pos hy, Finset.sum_eq_single (⟨y.val / 64 - rs r.val, by omega⟩ : Fin 8)]
    · rw [if_pos (by dsimp only; omega)]
      pointwise
      refine congrArg X (congrArg (fun z => ix4 r z _ _) (Fin.ext ?_))
      dsimp only
      omega
    · intro a _ ha
      refine if_neg fun q => ha (Fin.ext ?_)
      dsimp only at q ⊢
      omega
    · simp
  · rw [dif_neg hy]
    refine Finset.sum_eq_zero fun a _ => if_neg fun q => hy ?_
    have := a.isLt
    dsimp only at q
    omega
end

theorem lands_bias (h : Fin 16) (δ : Fin 8) (a : Fin 64) (j : Fin 512) (h' : Fin 16) (r : Fin 128) (a' : Fin 64) (j' : Fin 512) :
    scatter_S16x8x64x512_S128x1_S16x128x64x512_023_1_1_1.resultIdx? (ix4 h' r a' j') IB = some (ix4 h δ a j)
      ↔ h' = h ∧ (r.val - rs r.val = δ.val) ∧ a' = a ∧ j' = j := by
  rw [Routing.resultIdx?_eq_some]
  have e : scatter_S16x8x64x512_S128x1_S16x128x64x512_023_1_1_1.siIdx (ix4 h' r a' j') ⟨0, by decide⟩ = (ix2 r 0 : S128x1.Idx) := by
    funext y
    match y with
    | ⟨0, _⟩ => rfl
    | ⟨1, _⟩ => rfl
  have hi := IB_at r 0
  have h0 : scatter_S16x8x64x512_S128x1_S16x128x64x512_023_1_1_1.start (ix4 h' r a' j') IB 1 = ((r.val - rs r.val : ℕ) : ℤ) := by
    rw [← hi, ← e]
    rfl
  constructor
  · intro q
    have q0 : (0 : ℤ) + (h'.val : ℤ) = (h.val : ℤ) := q 0
    have q1 : _ + ((0 : ℕ) : ℤ) = (δ.val : ℤ) := q 1
    have q2 : (0 : ℤ) + (a'.val : ℤ) = (a.val : ℤ) := q 2
    have q3 : (0 : ℤ) + (j'.val : ℤ) = (j.val : ℤ) := q 3
    rw [h0] at q1
    exact ⟨Fin.ext (by omega), by omega, Fin.ext (by omega), Fin.ext (by omega)⟩
  · rintro ⟨rfl, g0, rfl, rfl⟩ x
    match x with
    | ⟨1, _⟩ =>
      show scatter_S16x8x64x512_S128x1_S16x128x64x512_023_1_1_1.start (ix4 h' r a' j') IB 1 + ((0 : ℕ) : ℤ) = (δ.val : ℤ)
      rw [h0]; omega
    | ⟨0, _⟩ => show (0 : ℤ) + (h'.val : ℤ) = (h'.val : ℤ); omega
    | ⟨2, _⟩ => show (0 : ℤ) + (a'.val : ℤ) = (a'.val : ℤ); omega
    | ⟨3, _⟩ => show (0 : ℤ) + (j'.val : ℤ) = (j'.val : ℤ); omega

theorem scat_bias (X : FVec Ideal S16x128x64x512 .f32) (Y : FVec Ideal S16x8x64x512 .f32) (h : Fin 16) (δ : Fin 8) (a : Fin 64) (j : Fin 512) (hY : Y (ix4 h δ a j) = 0) :
    Host.scatterAdd scatter_S16x8x64x512_S128x1_S16x128x64x512_023_1_1_1 Y IB X (ix4 h δ a j)
      = ∑ r : Fin 128, if r.val - rs r.val = δ.val then X (ix4 h r a j) else 0 := by
  show Y (ix4 h δ a j) + Finset.sum _ _ = _
  rw [hY, zero_add, Finset.sum_filter, sum_idx4]
  simp only [lands_bias]
  rw [Finset.sum_eq_single h (fun x _ hx => by simp [hx]) (by simp)]
  refine Finset.sum_congr rfl fun r _ => ?_
  by_cases hr : r.val - rs r.val = δ.val
  · simp only [hr, true_and, if_true]
    rw [Finset.sum_eq_single a (fun x _ hx => by simp [hx]) (by simp), Finset.sum_eq_single j (fun x _ hx => by simp [hx]) (by simp)]
    simp
  · simp [hr]

end Cert.ReferenceIdeal.Na

end
-- ==== Proof.NaRow.lean ====
/- What a step of the kernel computes, read at an index. -/
module

public import proofs.«01_k».proof.Proof.NaFrame
public import proofs.«01_k».proof.Proof.NaSpec

@[expose] public section

set_option maxRecDepth 16384

noncomputable section

namespace Cert.KernelIdeal.Na

open Cert.KernelIdeal Cert.KernelIdeal.Gen Idealize.ShloMosaic Idealize.ShloMosaic.TcCoe Idealize.SL.Sem
open Cert.Na (at2 at4 scale low top soft)

/-! ## One row -/

theorem probs_at (q : FVec Ideal S64x128 .f32) (k : FVec Ideal S512x128 .f32) (b : Vec Ideal S1x1x64x512 .f32) (a : Fin 64) (j : Fin 512) :
    probs q k b (ix2 a j) = soft (fun j => (∑ d : Fin 128, q (ix2 a d) * k (ix2 j d)) * scale + b (ix4 0 0 a j)) j := by
  pointwise [probs, k0_pay54, k0_pay4, k0_pay52, k0_pay53, soft, scale, low, top]
theorem dprobs_at (q : FVec Ideal S64x128 .f32) (k : Vec Ideal S512x128 .f32) (a : Fin 64) (j : Fin 512) :
    dprobs q k (ix2 a j) = ∑ d : Fin 128, q (ix2 a d) * k (ix2 j d) := by
  pointwise [dprobs, k0_pay79, k0_pay20, k0_pay38]
theorem dscores_at (p dp : FVec Ideal S64x512 .f32) (a : Fin 64) (j : Fin 512) :
    dscores p dp (ix2 a j) = p (ix2 a j) * (dp (ix2 a j) - ∑ x : Fin 512, dp (ix2 a x) * p (ix2 a x)) := by
  pointwise [dscores, k0_pay97]
theorem dquery_at (ds : FVec Ideal S64x512 .f32) (k : FVec Ideal S512x128 .f32) (a : Fin 64) (d : Fin 128) :
    dquery ds k (ix2 a d) = (∑ j : Fin 512, ds (ix2 a j) * k (ix2 j d)) * scale := by
  pointwise [dquery, k0_pay131, k0_pay4, k0_pay112, scale]
theorem dkeys_at (ds : FVec Ideal S64x512 .f32) (q : FVec Ideal S64x128 .f32) (j : Fin 512) (d : Fin 128) :
    dkeys ds q (ix2 j d) = (∑ a : Fin 64, ds (ix2 a j) * q (ix2 a d)) * scale := by
  pointwise [dkeys, k0_pay148, k0_pay112, scale]
theorem dvals_at (p : FVec Ideal S64x512 .f32) (g : FVec Ideal S64x128 .f32) (j : Fin 512) (d : Fin 128) :
    dvals p g (ix2 j d) = ∑ a : Fin 64, p (ix2 a j) * g (ix2 a d) := by
  pointwise [dvals, k0_pay165, k0_pay38]
theorem pay182_at (ds : FVec Ideal S64x512 .f32) (w : FVec Ideal S1x1x64x512 .f32) (y : S1x1x64x512.Idx) :
    k0_pay182 ds w y = w y + ds (ix2 (y 2) (y 3)) := by
  pointwise [k0_pay182]
theorem pay183_at (x w : FVec Ideal S512x128 .f32) (y : S512x128.Idx) : k0_pay183 x w y = w y + x y := by
  pointwise [k0_pay183]
theorem pay184_at (x w : FVec Ideal S512x128 .f32) (y : S512x128.Idx) : k0_pay184 x w y = w y + x y := by
  pointwise [k0_pay184]
theorem pay1_at (y : S8192x128.Idx) : k0_pay1 (F := Ideal) y = 0 := by
  pointwise [k0_pay1]
theorem pay2_at (y : S8192x128.Idx) : k0_pay2 (F := Ideal) y = 0 := by
  pointwise [k0_pay2]
theorem pay3_at (y : S1x8x64x512.Idx) : k0_pay3 (F := Ideal) y = 0 := by
  pointwise [k0_pay3]

/-! ## Sixteen read-modify-writes that add -/

theorem rmw_add {s : Shape} {NB : ℕ} (wsz : Fin s.rank → ℕ) (off : Fin NB → Fin s.rank → ℕ) (inb : ∀ i a, off i a + wsz a ≤ s.size a)
    (X : Fin NB → ((⟨s.rank, wsz⟩ : Shape).Idx → EReal) → (⟨s.rank, wsz⟩ : Shape).Idx → EReal)
    (C : Fin NB → (⟨s.rank, wsz⟩ : Shape).Idx → EReal) (hX : ∀ r w a, X r w a = w a + C r a) (x : s.Idx → EReal) (y : s.Idx) (j : ℕ) (hj : j ≤ NB) :
    rmw wsz off inb X x j hj y
      = x y + ∑ r : Fin j, if h : ∀ a, off ⟨r, r.isLt.trans_le hj⟩ a ≤ (y a).val ∧ (y a).val < off ⟨r, r.isLt.trans_le hj⟩ a + wsz a
          then C ⟨r, r.isLt.trans_le hj⟩ (Rect.unitLocal (s := s) (off := off ⟨r, r.isLt.trans_le hj⟩) (size := wsz) y h) else 0 := by
  induction j with
  | zero => simp [rmw]
  | succ j ih =>
    rw [Fin.sum_univ_castSucc, ← add_assoc]
    simp only [Fin.val_castSucc, Fin.val_last]
    rw [← ih (Nat.le_of_succ_le hj)]
    rw [show rmw wsz off inb X x (j + 1) hj = VecWindow.put (rmw wsz off inb X x j (Nat.le_of_succ_le hj)) (off ⟨j, hj⟩) wsz
      (X ⟨j, hj⟩ (VecWindow.window (rmw wsz off inb X x j (Nat.le_of_succ_le hj)) (off ⟨j, hj⟩) wsz (inb ⟨j, hj⟩))) from rfl]
    unfold VecWindow.put
    split
    · rename_i h
      rw [hX]
      refine congrArg (· + _) ?_
      refine congrArg (rmw wsz off inb X x j (Nat.le_of_succ_le hj)) (funext fun a => Fin.ext ?_)
      have := (h a).1
      show off ⟨j, hj⟩ a + 1 * ((y a).val - off ⟨j, hj⟩ a) = (y a).val
      omega
    · rw [add_zero]

/-! ## The blocks of a step -/

variable (m : (ℓ : Loc nD τ sig) → Buf (Elt Ideal) ℓ) (c : Dev nD)

/-- The queries, keys and values, the bias table and the cotangent. -/
abbrev UU : FVec Ideal S8192x14336 .f32 := m ((c : Thread nD τ).loc main_arg0)
abbrev BB : FVec Ideal S16x8x64x512 .f32 := m ((c : Thread nD τ).loc main_arg1)
abbrev DD : FVec Ideal S8192x2048 .f32 := m ((c : Thread nD τ).loc main_arg2)

theorem idx_val : ∀ t : Fin cfg0.N, win0_0.index t = ![t.val % 8, 48 + t.val / 8] ∧ win0_1.index t = ![0, 64 + t.val / 8]
    ∧ win0_2.index t = ![0, 80 + t.val / 8] ∧ win0_3.index t = ![t.val / 8, 0, 0, 0] ∧ win0_4.index t = ![t.val % 8, t.val / 8]
    ∧ win0_5.index t = ![t.val % 8, t.val / 8] ∧ win0_6.index t = ![0, t.val / 8] ∧ win0_7.index t = ![0, t.val / 8] ∧ win0_8.index t = ![t.val / 8, 0, 0, 0] :=
  (by decide +kernel : ∀ t : Fin grid0.N, _)

theorem tlt (t : Fin cfg0.N) : t.val < 128 := by have h := t.isLt; have e : cfg0.N = 128 := N_0; omega

theorem coord1 : ∀ t : Fin cfg0.N, (grid0.coords t 1).val = t.val % 8 := (by decide +kernel : ∀ t : Fin grid0.N, _)

theorem blk0 (t : Fin cfg0.N) (a : Fin 1024) (d : Fin 128) :
    (iblk m c 0 t : FVec Ideal S1024x128 .f32) (ix2 a d) = at2 (UU m c) (1024 * (t.val % 8) + a.val) (128 * (48 + t.val / 8) + d.val) := by
  have : (iblk m c 0 t : FVec Ideal S1024x128 .f32) (ix2 a d) = UU m c (ix2 ⟨1024 * (t.val % 8) + a.val, by omega⟩ ⟨128 * (48 + t.val / 8) + d.val, by have := tlt t; omega⟩) := by
    blk_point [iblk, V, idx_val t]
  exact this.trans (Cert.Na.eq_at2 _ _ _)
theorem blk1 (t : Fin cfg0.N) (a : Fin 8192) (d : Fin 128) :
    (iblk m c 1 t : FVec Ideal S8192x128 .f32) (ix2 a d) = at2 (UU m c) a.val (128 * (64 + t.val / 8) + d.val) := by
  have : (iblk m c 1 t : FVec Ideal S8192x128 .f32) (ix2 a d) = UU m c (ix2 a ⟨128 * (64 + t.val / 8) + d.val, by have := tlt t; omega⟩) := by
    blk_point [iblk, V, idx_val t]
  exact this.trans (Cert.Na.eq_at2 _ _ _)
theorem blk2 (t : Fin cfg0.N) (a : Fin 8192) (d : Fin 128) :
    (iblk m c 2 t : FVec Ideal S8192x128 .f32) (ix2 a d) = at2 (UU m c) a.val (128 * (80 + t.val / 8) + d.val) := by
  have : (iblk m c 2 t : FVec Ideal S8192x128 .f32) (ix2 a d) = UU m c (ix2 a ⟨128 * (80 + t.val / 8) + d.val, by have := tlt t; omega⟩) := by
    blk_point [iblk, V, idx_val t]
  exact this.trans (Cert.Na.eq_at2 _ _ _)
theorem blk3 (t : Fin cfg0.N) (u : Fin 1) (δ : Fin 8) (a : Fin 64) (j : Fin 512) :
    (iblk m c 3 t : FVec Ideal S1x8x64x512 .f32) (ix4 u δ a j) = at4 (BB m c) (t.val / 8) δ.val a.val j.val := by
  have : (iblk m c 3 t : FVec Ideal S1x8x64x512 .f32) (ix4 u δ a j) = BB m c (ix4 ⟨t.val / 8, by have := tlt t; omega⟩ δ a j) := by
    blk_point [iblk, V, idx_val t]
  exact this.trans (Cert.Na.eq_at4 _ _ _ _ _)
theorem blk4 (t : Fin cfg0.N) (a : Fin 1024) (d : Fin 128) :
    (iblk m c 4 t : FVec Ideal S1024x128 .f32) (ix2 a d) = at2 (DD m c) (1024 * (t.val % 8) + a.val) (128 * (t.val / 8) + d.val) := by
  have : (iblk m c 4 t : FVec Ideal S1024x128 .f32) (ix2 a d) = DD m c (ix2 ⟨1024 * (t.val % 8) + a.val, by omega⟩ ⟨128 * (t.val / 8) + d.val, by have := tlt t; omega⟩) := by
    blk_point [iblk, V, idx_val t]
  exact this.trans (Cert.Na.eq_at2 _ _ _)

/-! ## The windows of row `r` of a step -/

/-- Row `r` of step `t`, among the 128 rows. -/
abbrev row (t : Fin cfg0.N) (r : Fin 16) : ℕ := 16 * (t.val % 8) + r.val

theorem row_lt (t : Fin cfg0.N) (r : Fin 16) : row t r - Cert.Na.rs (row t r) < 8 := by
  have := r.isLt; unfold Cert.Na.rs row; omega

theorem off1_row (t : Fin cfg0.N) (r : Fin 16) : k0_off1 (grid0.coords t) (BitVec.ofNat 32 r.val) = ![64 * Cert.Na.rs (row t r), 0] := by
  rw [off1_eq]; unfold rowOff; rw [coord1]; rfl
theorem off2_row (t : Fin cfg0.N) (r : Fin 16) : k0_off2 (grid0.coords t) (BitVec.ofNat 32 r.val) = ![0, row t r - Cert.Na.rs (row t r), 0, 0] := by
  rw [off2_eq]; unfold biasOff; rw [coord1]; rfl

theorem winQ_at (x : FVec Ideal S1024x128 .f32) (r : Fin 16) (a : Fin 64) (d : Fin 128) : winQ (F := Ideal) x r (ix2 a d) = x (ix2 ⟨64 * r.val + a.val, by omega⟩ d) := by
  unfold winQ VecWindow.window
  refine congrArg x ((eq_ix2 _).trans ((ix2_inj ..).2 ⟨?_, ?_⟩))
  · exact Fin.ext (show 64 * r.val + 1 * a.val = 64 * r.val + a.val by omega)
  · exact Fin.ext (show 0 + 1 * d.val = d.val by omega)
theorem winK_at (t : Fin cfg0.N) (x : FVec Ideal S8192x128 .f32) (r : Fin 16) (j : Fin 512) (d : Fin 128) :
    winK (F := Ideal) (grid0.coords t) x r (ix2 j d) = x (ix2 ⟨64 * Cert.Na.rs (row t r) + j.val, by have := j.isLt; unfold Cert.Na.rs; omega⟩ d) := by
  unfold winK VecWindow.window
  refine congrArg x ((eq_ix2 _).trans ((ix2_inj ..).2 ⟨?_, ?_⟩))
  · refine Fin.ext ?_
    show k0_off1 (grid0.coords t) (BitVec.ofNat 32 r.val) 0 + 1 * j.val = 64 * Cert.Na.rs (row t r) + j.val
    rw [off1_row]; show 64 * Cert.Na.rs (row t r) + 1 * j.val = _; omega
  · refine Fin.ext ?_
    show k0_off1 (grid0.coords t) (BitVec.ofNat 32 r.val) 1 + 1 * d.val = d.val
    rw [off1_row]; show 0 + 1 * d.val = _; omega
theorem winB_at (t : Fin cfg0.N) (x : FVec Ideal S1x8x64x512 .f32) (r : Fin 16) (a : Fin 64) (j : Fin 512) :
    winB (F := Ideal) (grid0.coords t) x r (ix4 0 0 a j) = x (ix4 0 ⟨row t r - Cert.Na.rs (row t r), row_lt t r⟩ a j) := by
  unfold winB VecWindow.window
  refine congrArg x ((eq_ix4 (n0 := 1) (n1 := 8) (n2 := 64) (n3 := 512) _).trans ((ix4_inj ..).2 ⟨?_, ?_, ?_, ?_⟩))
  · exact Subsingleton.elim _ _
  · refine Fin.ext ?_
    show k0_off2 (grid0.coords t) (BitVec.ofNat 32 r.val) 1 + 1 * 0 = row t r - Cert.Na.rs (row t r)
    rw [off2_row]; rfl
  · refine Fin.ext ?_
    show k0_off2 (grid0.coords t) (BitVec.ofNat 32 r.val) 2 + 1 * a.val = a.val
    rw [off2_row]; show 0 + 1 * a.val = _; omega
  · refine Fin.ext ?_
    show k0_off2 (grid0.coords t) (BitVec.ofNat 32 r.val) 3 + 1 * j.val = j.val
    rw [off2_row]; show 0 + 1 * j.val = _; omega

/-! ## The step's rows in the terms of the whole arrays -/

variable (t : Fin cfg0.N) (r : Fin 16)

theorem q_at (a : Fin 64) (d : Fin 128) : winQ (F := Ideal) (iblk m c 0 t) r (ix2 a d) = Cert.Na.Q (UU m c) (t.val / 8) (row t r) a.val d.val := by
  rw [winQ_at, blk0]; unfold Cert.Na.Q; congr 1; show _ = 64 * (16 * (t.val % 8) + r.val) + a.val; show 1024 * (t.val % 8) + (64 * r.val + a.val) = _; omega
theorem g_at (a : Fin 64) (d : Fin 128) : winQ (F := Ideal) (iblk m c 4 t) r (ix2 a d) = Cert.Na.G (DD m c) (t.val / 8) (row t r) a.val d.val := by
  rw [winQ_at, blk4]; unfold Cert.Na.G; congr 1; show _ = 64 * (16 * (t.val % 8) + r.val) + a.val; show 1024 * (t.val % 8) + (64 * r.val + a.val) = _; omega
theorem k_at (j : Fin 512) (d : Fin 128) : winK (F := Ideal) (grid0.coords t) (iblk m c 1 t) r (ix2 j d) = Cert.Na.K (UU m c) (t.val / 8) (row t r) j.val d.val := by
  rw [winK_at, blk1]; rfl
theorem w_at (j : Fin 512) (d : Fin 128) : winK (F := Ideal) (grid0.coords t) (iblk m c 2 t) r (ix2 j d) = Cert.Na.W (UU m c) (t.val / 8) (row t r) j.val d.val := by
  rw [winK_at, blk2]; rfl
theorem b_at (a : Fin 64) (j : Fin 512) : winB (F := Ideal) (grid0.coords t) (iblk m c 3 t) r (ix4 0 0 a j) = at4 (BB m c) (t.val / 8) (row t r - Cert.Na.rs (row t r)) a.val j.val := by
  rw [winB_at, blk3]

/-- The row's probabilities. -/
abbrev tP := stP (F := Ideal) (grid0.coords t) (iblk m c 0 t) (iblk m c 1 t) (iblk m c 3 t) r
/-- The row's score gradient. -/
abbrev tDs := stDs (F := Ideal) (grid0.coords t) (iblk m c 0 t) (iblk m c 1 t) (iblk m c 2 t) (iblk m c 3 t) (iblk m c 4 t) r

theorem p_at (a : Fin 64) (j : Fin 512) : tP m c t r (ix2 a j) = Cert.Na.P (UU m c) (BB m c) (t.val / 8) (row t r) a.val j := by
  unfold tP stP
  rw [probs_at]
  simp only [q_at, k_at, b_at]
  rfl
theorem ds_at (a : Fin 64) (j : Fin 512) : tDs m c t r (ix2 a j) = Cert.Na.DS (UU m c) (BB m c) (DD m c) (t.val / 8) (row t r) a.val j := by
  unfold tDs stDs
  rw [dscores_at]
  simp only [p_at, dprobs_at, g_at, w_at]
  rfl

theorem dq_at (a : Fin 64) (d : Fin 128) :
    dquery (F := Ideal) (tDs m c t r) (winK (F := Ideal) (grid0.coords t) (iblk m c 1 t) r) (ix2 a d) = Cert.Na.DQ (UU m c) (BB m c) (DD m c) (t.val / 8) (row t r) a.val d.val := by
  rw [dquery_at]
  simp only [ds_at, k_at]
  rfl
theorem dk_at (j : Fin 512) (d : Fin 128) :
    dkeys (F := Ideal) (tDs m c t r) (winQ (F := Ideal) (iblk m c 0 t) r) (ix2 j d) = Cert.Na.DKW (UU m c) (BB m c) (DD m c) (t.val / 8) (row t r) j d.val := by
  rw [dkeys_at]
  simp only [ds_at, q_at]
  rfl
theorem dv_at (j : Fin 512) (d : Fin 128) :
    dvals (F := Ideal) (tP m c t r) (winQ (F := Ideal) (iblk m c 4 t) r) (ix2 j d) = Cert.Na.DVW (UU m c) (BB m c) (DD m c) (t.val / 8) (row t r) j d.val := by
  rw [dvals_at]
  simp only [p_at, g_at]
  rfl

end Cert.KernelIdeal.Na

end
-- ==== Proof.NaValue.lean ====
/- The kernel's four result arrays as the sums of the specification. -/
module

public import proofs.«01_k».proof.Proof.NaRow

@[expose] public section

set_option maxRecDepth 16384

noncomputable section

namespace Cert.KernelIdeal.Na

open Cert.KernelIdeal Cert.KernelIdeal.Gen Idealize.ShloMosaic Idealize.ShloMosaic.TcCoe Idealize.SL.Sem
open Cert.Na (at2 at4 kTerm vTerm bTerm)

variable (m : (ℓ : Loc nD τ sig) → Buf (Elt Ideal) ℓ) (c : Dev nD) (t : Fin cfg0.N)

/-! ## One step -/

/-- A window's contribution at key `y`, read at the window's place for it. -/
theorem piece_rows (r : Fin 16) (C : FVec Ideal S512x128 .f32) (y : Fin 8192) (d : Fin 128) :
    (if h : ∀ a : Fin 2, k0_off1 (grid0.coords t) (BitVec.ofNat 32 r.val) a ≤ ((ix2 y d : S8192x128.Idx) a).val ∧ ((ix2 y d : S8192x128.Idx) a).val < k0_off1 (grid0.coords t) (BitVec.ofNat 32 r.val) a + S512x128.size a
      then C (Rect.unitLocal (s := S8192x128) (off := k0_off1 (grid0.coords t) (BitVec.ofNat 32 r.val)) (size := S512x128.size) (ix2 y d) h) else 0)
      = if hy : 64 * Cert.Na.rs (row t r) ≤ y.val ∧ y.val < 64 * Cert.Na.rs (row t r) + 512 then C (ix2 ⟨y.val - 64 * Cert.Na.rs (row t r), by omega⟩ d) else 0 := by
  have e0 : k0_off1 (grid0.coords t) (BitVec.ofNat 32 r.val) 0 = 64 * Cert.Na.rs (row t r) := by rw [off1_row]; rfl
  have e1 : k0_off1 (grid0.coords t) (BitVec.ofNat 32 r.val) 1 = 0 := by rw [off1_row]; rfl
  by_cases hy : 64 * Cert.Na.rs (row t r) ≤ y.val ∧ y.val < 64 * Cert.Na.rs (row t r) + 512
  · rw [dif_pos hy]
    have h : ∀ a : Fin 2, k0_off1 (grid0.coords t) (BitVec.ofNat 32 r.val) a ≤ ((ix2 y d : S8192x128.Idx) a).val ∧ ((ix2 y d : S8192x128.Idx) a).val < k0_off1 (grid0.coords t) (BitVec.ofNat 32 r.val) a + S512x128.size a := by
      intro a
      match a with
      | ⟨0, _⟩ => exact ⟨e0.le.trans hy.1, by have := hy.2; show y.val < k0_off1 (grid0.coords t) (BitVec.ofNat 32 r.val) 0 + 512; omega⟩
      | ⟨1, _⟩ => exact ⟨e1.le.trans (Nat.zero_le _), by show d.val < k0_off1 (grid0.coords t) (BitVec.ofNat 32 r.val) 1 + 128; omega⟩
    rw [dif_pos h]
    refine congrArg C ((eq_ix2 (n0 := 512) (n1 := 128) _).trans ((ix2_inj ..).2 ⟨?_, ?_⟩))
    · exact Fin.ext (show y.val - k0_off1 (grid0.coords t) (BitVec.ofNat 32 r.val) 0 = _ by rw [e0])
    · exact Fin.ext (show d.val - k0_off1 (grid0.coords t) (BitVec.ofNat 32 r.val) 1 = _ by rw [e1]; rfl)
  · rw [dif_neg hy, dif_neg]
    intro h
    have h0 := h 0
    refine hy ⟨e0.ge.trans h0.1, ?_⟩
    have h2 : y.val < k0_off1 (grid0.coords t) (BitVec.ofNat 32 r.val) 0 + 512 := h0.2
    omega

theorem stepK_at (acc : FVec Ideal S8192x128 .f32) (y : Fin 8192) (d : Fin 128) :
    stepK (F := Ideal) (grid0.coords t) (iblk m c 0 t) (iblk m c 1 t) (iblk m c 2 t) (iblk m c 3 t) (iblk m c 4 t) acc (ix2 y d)
      = acc (ix2 y d) + ∑ r : Fin 16, kTerm (UU m c) (BB m c) (DD m c) (t.val / 8) (row t r) y.val d.val := by
  unfold stepK
  refine (rmw_add (s := S8192x128) (NB := 16) S512x128.size _ _ _ (fun r => dkeys (tDs m c t r) (winQ (F := Ideal) (iblk m c 0 t) r)) (fun r w a => pay183_at _ w a) acc (ix2 y d) 16 le_rfl).trans ?_
  refine congrArg (acc (ix2 y d) + ·) (Finset.sum_congr rfl fun r _ => ?_)
  refine (piece_rows t r _ y d).trans ?_
  unfold kTerm
  simp only [dk_at]

theorem stepV_at (acc : FVec Ideal S8192x128 .f32) (y : Fin 8192) (d : Fin 128) :
    stepV (F := Ideal) (grid0.coords t) (iblk m c 0 t) (iblk m c 1 t) (iblk m c 3 t) (iblk m c 4 t) acc (ix2 y d)
      = acc (ix2 y d) + ∑ r : Fin 16, vTerm (UU m c) (BB m c) (DD m c) (t.val / 8) (row t r) y.val d.val := by
  unfold stepV
  refine (rmw_add (s := S8192x128) (NB := 16) S512x128.size _ _ _ (fun r => dvals (tP m c t r) (winQ (F := Ideal) (iblk m c 4 t) r)) (fun r w a => pay184_at _ w a) acc (ix2 y d) 16 le_rfl).trans ?_
  refine congrArg (acc (ix2 y d) + ·) (Finset.sum_congr rfl fun r _ => ?_)
  refine (piece_rows t r _ y d).trans ?_
  unfold vTerm
  simp only [dv_at]

theorem piece_bias (r : Fin 16) (C : FVec Ideal S64x512 .f32) (u : Fin 1) (δ : Fin 8) (a : Fin 64) (j : Fin 512) :
    (if h : ∀ b : Fin 4, k0_off2 (grid0.coords t) (BitVec.ofNat 32 r.val) b ≤ ((ix4 u δ a j : S1x8x64x512.Idx) b).val ∧ ((ix4 u δ a j : S1x8x64x512.Idx) b).val < k0_off2 (grid0.coords t) (BitVec.ofNat 32 r.val) b + S1x1x64x512.size b
      then (fun y : S1x1x64x512.Idx => C (ix2 (y 2) (y 3))) (Rect.unitLocal (s := S1x8x64x512) (off := k0_off2 (grid0.coords t) (BitVec.ofNat 32 r.val)) (size := S1x1x64x512.size) (ix4 u δ a j) h) else 0)
      = if row t r - Cert.Na.rs (row t r) = δ.val then C (ix2 a j) else 0 := by
  have e0 : k0_off2 (grid0.coords t) (BitVec.ofNat 32 r.val) 0 = 0 := by rw [off2_row]; rfl
  have e1 : k0_off2 (grid0.coords t) (BitVec.ofNat 32 r.val) 1 = row t r - Cert.Na.rs (row t r) := by rw [off2_row]; rfl
  have e2 : k0_off2 (grid0.coords t) (BitVec.ofNat 32 r.val) 2 = 0 := by rw [off2_row]; rfl
  have e3 : k0_off2 (grid0.coords t) (BitVec.ofNat 32 r.val) 3 = 0 := by rw [off2_row]; rfl
  by_cases hy : row t r - Cert.Na.rs (row t r) = δ.val
  · rw [if_pos hy]
    have h : ∀ b : Fin 4, k0_off2 (grid0.coords t) (BitVec.ofNat 32 r.val) b ≤ ((ix4 u δ a j : S1x8x64x512.Idx) b).val ∧ ((ix4 u δ a j : S1x8x64x512.Idx) b).val < k0_off2 (grid0.coords t) (BitVec.ofNat 32 r.val) b + S1x1x64x512.size b := by
      intro b
      match b with
      | ⟨0, _⟩ => exact ⟨e0.le.trans (Nat.zero_le _), by show u.val < k0_off2 (grid0.coords t) (BitVec.ofNat 32 r.val) 0 + 1; omega⟩
      | ⟨1, _⟩ => exact ⟨(e1.trans hy).le, by show δ.val < k0_off2 (grid0.coords t) (BitVec.ofNat 32 r.val) 1 + 1; omega⟩
      | ⟨2, _⟩ => exact ⟨e2.le.trans (Nat.zero_le _), by show a.val < k0_off2 (grid0.coords t) (BitVec.ofNat 32 r.val) 2 + 64; omega⟩
      | ⟨3, _⟩ => exact ⟨e3.le.trans (Nat.zero_le _), by show j.val < k0_off2 (grid0.coords t) (BitVec.ofNat 32 r.val) 3 + 512; omega⟩
    rw [dif_pos h]
    refine congrArg C ((ix2_inj ..).2 ⟨?_, ?_⟩)
    · exact Fin.ext (show a.val - k0_off2 (grid0.coords t) (BitVec.ofNat 32 r.val) 2 = _ by rw [e2]; rfl)
    · exact Fin.ext (show j.val - k0_off2 (grid0.coords t) (BitVec.ofNat 32 r.val) 3 = _ by rw [e3]; rfl)
  · rw [if_neg hy, dif_neg]
    intro h
    have h0 := h 1
    have h1 : k0_off2 (grid0.coords t) (BitVec.ofNat 32 r.val) 1 ≤ δ.val := h0.1
    have h2 : δ.val < k0_off2 (grid0.coords t) (BitVec.ofNat 32 r.val) 1 + 1 := h0.2
    omega

theorem stepB_at (acc : FVec Ideal S1x8x64x512 .f32) (u : Fin 1) (δ : Fin 8) (a : Fin 64) (j : Fin 512) :
    stepB (F := Ideal) (grid0.coords t) (iblk m c 0 t) (iblk m c 1 t) (iblk m c 2 t) (iblk m c 3 t) (iblk m c 4 t) acc (ix4 u δ a j)
      = acc (ix4 u δ a j) + ∑ r : Fin 16, bTerm (UU m c) (BB m c) (DD m c) (t.val / 8) (row t r) δ.val a.val j := by
  unfold stepB
  refine (rmw_add (s := S1x8x64x512) (NB := 16) S1x1x64x512.size _ _ _ (fun r y => tDs m c t r (ix2 (y 2) (y 3))) (fun r w a => pay182_at _ w a) acc (ix4 u δ a j) 16 le_rfl).trans ?_
  refine congrArg (acc (ix4 u δ a j) + ·) (Finset.sum_congr rfl fun r _ => ?_)
  refine (piece_bias t r _ u δ a j).trans ?_
  unfold bTerm
  simp only [ds_at]

theorem stepQ_at (a : Fin 1024) (d : Fin 128) :
    stepQ (F := Ideal) (grid0.coords t) (iblk m c 0 t) (iblk m c 1 t) (iblk m c 2 t) (iblk m c 3 t) (iblk m c 4 t) (ix2 a d)
      = Cert.Na.DQ (UU m c) (BB m c) (DD m c) (t.val / 8) (16 * (t.val % 8) + a.val / 64) (a.val % 64) d.val := by
  refine Eq.trans ?_ (dq_at m c t ⟨a.val / 64, by omega⟩ ⟨a.val % 64, by omega⟩ d)
  unfold stepQ tilesQ'
  refine View.read_tilePieces (NT := 16) (s := S1024x128) _ _ _ _ _ _ 16 le_rfl (ix2 a d) ⟨a.val / 64, by omega⟩ (by show a.val / 64 < 16; omega)
    (ix2 ⟨a.val % 64, by omega⟩ d : S64x128.Idx) ?_ 0 ?_
  · intro b
    match b with
    | ⟨0, _⟩ => show a.val = 64 * (a.val / 64) + a.val % 64; omega
    | ⟨1, _⟩ => show d.val = 0 + d.val; omega
  · intro i hi
    have hi' : i.val ≠ a.val / 64 := fun e => hi (Fin.ext e)
    show a.val < 64 * i.val ∨ 64 * i.val + 64 ≤ a.val
    omega

/-! ## The eight steps of a head -/

theorem acc_eight (o T : ℕ → EReal) (h0 : o 0 = T 0) (hs : ∀ n, n < 7 → o (n + 1) = o n + T (n + 1)) : o 7 = ∑ s : Fin 8, T s.val := by
  have : ∀ n, n < 8 → o n = ∑ s ∈ Finset.range (n + 1), T s := by
    intro n
    induction n with
    | zero => intro _; simpa using h0
    | succ n ih => intro hn; rw [hs n (by omega), ih (by omega), Finset.sum_range_succ _ (n + 1)]
  rw [this 7 (by omega), Fin.sum_univ_eq_sum_range (fun s => T s) 8]

theorem sum_rows (T : ℕ → EReal) : ∑ s : Fin 8, ∑ r : Fin 16, T (16 * s.val + r.val) = ∑ r : Fin 128, T r.val := by
  rw [Fin.sum_univ_tiles 8 16 rfl (fun r : Fin 128 => T r.val)]
  refine Finset.sum_congr rfl fun s _ => Finset.sum_congr rfl fun r _ => congrArg T ?_
  show _ = s.val * 16 + r.val
  omega

/-- What the last step of head `h` leaves, from what each step adds. -/
theorem head_sum {X : Type} (f : (Vec Ideal S8192x128 .f32 × Vec Ideal S8192x128 .f32 × Vec Ideal S1x8x64x512 .f32) → EReal) (T : ℕ → EReal) (h : ℕ) (hh : h < 16)
    (hz : f (k0_pay1 (F := Ideal), k0_pay2 (F := Ideal), k0_pay3 (F := Ideal)) = 0)
    (hst : ∀ (t : Fin cfg0.N) (p), t.val / 8 = h → f (stepAll m c t p) = f p + ∑ r : Fin 16, T (row t r))
    (t : Fin cfg0.N) (ht : t.val = 8 * h + 7) : f (outs m c t.val t.isLt) = ∑ r : Fin 128, T r.val := by
  have lt : ∀ n, n < 8 → 8 * h + n < cfg0.N := fun n hn => by have e : cfg0.N = 128 := N_0; omega
  rw [← sum_rows T]
  have key := acc_eight (fun n => if hn : n < 8 then f (outs m c (8 * h + n) (lt n hn)) else 0) (fun s => ∑ r : Fin 16, T (16 * s + r.val)) ?_ ?_
  · rw [← key]
    simp only [show (7 : ℕ) < 8 by omega, dif_pos]
    simp only [ht]
  · simp only [show (0 : ℕ) < 8 by omega, dif_pos]
    have := outs_A m c ⟨8 * h + 0, lt 0 (by omega)⟩ (by show (8 * h + 0) % 8 = 0; omega)
    rw [show outs m c (8 * h + 0) (lt 0 (by omega)) = _ from this, hst _ _ (by show (8 * h + 0) / 8 = h; omega), hz, zero_add]
    refine Finset.sum_congr rfl fun r _ => congrArg T ?_
    show 16 * ((8 * h + 0) % 8) + r.val = _; omega
  · intro n hn
    simp only [show n < 8 by omega, show n + 1 < 8 by omega, dif_pos]
    have := outs_B m c ⟨8 * h + (n + 1), lt (n + 1) (by omega)⟩ (by show ¬(8 * h + (n + 1)) % 8 = 0; omega)
    rw [show outs m c (8 * h + (n + 1)) (lt (n + 1) (by omega)) = _ from this, hst _ _ (by show (8 * h + (n + 1)) / 8 = h; omega)]
    refine congrArg₂ (· + ·) rfl ?_
    refine Finset.sum_congr rfl fun r _ => congrArg T ?_
    show 16 * ((8 * h + (n + 1)) % 8) + r.val = _; omega

theorem outs_K (h : ℕ) (hh : h < 16) (ht : t.val = 8 * h + 7) (y : Fin 8192) (d : Fin 128) :
    (outs m c t.val t.isLt).1 (ix2 y d) = Cert.Na.DK (UU m c) (BB m c) (DD m c) h y.val d.val :=
  head_sum (X := Unit) m c (fun p => p.1 (ix2 y d)) (fun r => kTerm (UU m c) (BB m c) (DD m c) h r y.val d.val) h hh (pay1_at (ix2 y d))
    (fun t p e => by rw [← e]; dsimp only [stepAll]; exact stepK_at m c t p.1 y d) t ht
theorem outs_V (h : ℕ) (hh : h < 16) (ht : t.val = 8 * h + 7) (y : Fin 8192) (d : Fin 128) :
    (outs m c t.val t.isLt).2.1 (ix2 y d) = Cert.Na.DV (UU m c) (BB m c) (DD m c) h y.val d.val :=
  head_sum (X := Unit) m c (fun p => p.2.1 (ix2 y d)) (fun r => vTerm (UU m c) (BB m c) (DD m c) h r y.val d.val) h hh (pay2_at (ix2 y d))
    (fun t p e => by rw [← e]; dsimp only [stepAll]; exact stepV_at m c t p.2.1 y d) t ht
theorem outs_D (h : ℕ) (hh : h < 16) (ht : t.val = 8 * h + 7) (u : Fin 1) (δ : Fin 8) (a : Fin 64) (j : Fin 512) :
    (outs m c t.val t.isLt).2.2 (ix4 u δ a j) = Cert.Na.DB (UU m c) (BB m c) (DD m c) h δ.val a.val j :=
  head_sum (X := Unit) m c (fun p => p.2.2 (ix4 u δ a j)) (fun r => bTerm (UU m c) (BB m c) (DD m c) h r δ.val a.val j) h hh (pay3_at (ix4 u δ a j))
    (fun t p e => by rw [← e]; exact stepB_at m c t p.2.2 u δ a j) t ht

/-! ## The result arrays -/

/-- The gradients of the queries, keys, values and bias table. -/
def ARRQ (U : FVec Ideal S8192x14336 .f32) (B : FVec Ideal S16x8x64x512 .f32) (D : FVec Ideal S8192x2048 .f32) : FVec Ideal S8192x2048 .f32 := fun y =>
  Cert.Na.DQ U B D ((y 1).val / 128) ((y 0).val / 64) ((y 0).val % 64) ((y 1).val % 128)
def ARRK (U : FVec Ideal S8192x14336 .f32) (B : FVec Ideal S16x8x64x512 .f32) (D : FVec Ideal S8192x2048 .f32) : FVec Ideal S8192x2048 .f32 := fun y =>
  Cert.Na.DK U B D ((y 1).val / 128) (y 0).val ((y 1).val % 128)
def ARRV (U : FVec Ideal S8192x14336 .f32) (B : FVec Ideal S16x8x64x512 .f32) (D : FVec Ideal S8192x2048 .f32) : FVec Ideal S8192x2048 .f32 := fun y =>
  Cert.Na.DV U B D ((y 1).val / 128) (y 0).val ((y 1).val % 128)
def ARRB (U : FVec Ideal S8192x14336 .f32) (B : FVec Ideal S16x8x64x512 .f32) (D : FVec Ideal S8192x2048 .f32) : FVec Ideal S16x8x64x512 .f32 := fun y =>
  Cert.Na.DB U B D (y 0).val (y 1).val (y 2).val (y 3)

theorem flush_last : ∀ t : Fin cfg0.N, t.val % 8 = 7 → t.val = 8 * (t.val / 8) + 7 := fun t h => by omega

theorem final5 : (dats m 0 c).arrAt 5 (cfgs 0).N = ARRQ (UU m c) (BB m c) (DD m c) := by
  refine (dats m 0 c).arrAt_eq_of_covers 5 _ (by decide +kernel) fun t hf y => ?_
  blk_simp
  rw [after0_5]
  have e0 : (((win0_5.blk t).view.emb y) 0).val = 1024 * (t.val % 8) + (y 0).val := by blk_simp [idx_val t]; omega
  have e1 : (((win0_5.blk t).view.emb y) 1).val = 128 * (t.val / 8) + (y 1).val := by blk_simp [idx_val t]; omega
  have h0 : (y 0).val < 1024 := (y 0).isLt
  have h1 : (y 1).val < 128 := (y 1).isLt
  show _ = Cert.Na.DQ _ _ _ ((((win0_5.blk t).view.emb y) 1).val / 128) ((((win0_5.blk t).view.emb y) 0).val / 64) ((((win0_5.blk t).view.emb y) 0).val % 64) ((((win0_5.blk t).view.emb y) 1).val % 128)
  rw [e0, e1]
  refine (congrArg _ (eq_ix2 (n0 := 1024) (n1 := 128) y)).trans ((stepQ_at m c t (y 0) (y 1)).trans ?_)
  congr 1 <;> omega

theorem final6 : (dats m 0 c).arrAt 6 (cfgs 0).N = ARRK (UU m c) (BB m c) (DD m c) := by
  refine (dats m 0 c).arrAt_eq_of_covers 6 _ (by decide +kernel) fun t hf y => ?_
  blk_simp
  rw [after0_6]
  have ht : t.val % 8 = 7 := (flush0_6 t).mp hf
  have e0 : (((win0_6.blk t).view.emb y) 0).val = (y 0).val := by blk_simp [idx_val t]
  have e1 : (((win0_6.blk t).view.emb y) 1).val = 128 * (t.val / 8) + (y 1).val := by blk_simp [idx_val t]; omega
  have h1 : (y 1).val < 128 := (y 1).isLt
  have hl := tlt t
  show _ = Cert.Na.DK _ _ _ ((((win0_6.blk t).view.emb y) 1).val / 128) (((win0_6.blk t).view.emb y) 0).val ((((win0_6.blk t).view.emb y) 1).val % 128)
  rw [e0, e1]
  refine (congrArg _ (eq_ix2 (n0 := 8192) (n1 := 128) y)).trans ((outs_K m c t (t.val / 8) (by omega) (by omega) (y 0) (y 1)).trans ?_)
  congr 1 <;> omega

theorem final7 : (dats m 0 c).arrAt 7 (cfgs 0).N = ARRV (UU m c) (BB m c) (DD m c) := by
  refine (dats m 0 c).arrAt_eq_of_covers 7 _ (by decide +kernel) fun t hf y => ?_
  blk_simp
  rw [after0_7]
  have ht : t.val % 8 = 7 := (flush0_7 t).mp hf
  have e0 : (((win0_7.blk t).view.emb y) 0).val = (y 0).val := by blk_simp [idx_val t]
  have e1 : (((win0_7.blk t).view.emb y) 1).val = 128 * (t.val / 8) + (y 1).val := by blk_simp [idx_val t]; omega
  have h1 : (y 1).val < 128 := (y 1).isLt
  have hl := tlt t
  show _ = Cert.Na.DV _ _ _ ((((win0_7.blk t).view.emb y) 1).val / 128) (((win0_7.blk t).view.emb y) 0).val ((((win0_7.blk t).view.emb y) 1).val % 128)
  rw [e0, e1]
  refine (congrArg _ (eq_ix2 (n0 := 8192) (n1 := 128) y)).trans ((outs_V m c t (t.val / 8) (by omega) (by omega) (y 0) (y 1)).trans ?_)
  congr 1 <;> omega

theorem final8 : (dats m 0 c).arrAt 8 (cfgs 0).N = ARRB (UU m c) (BB m c) (DD m c) := by
  refine (dats m 0 c).arrAt_eq_of_covers 8 _ (by decide +kernel) fun t hf y => ?_
  blk_simp
  rw [after0_8]
  have ht : t.val % 8 = 7 := (flush0_8 t).mp hf
  have hl := tlt t
  have e : (win0_8.blk t).view.emb y = (ix4 ⟨t.val / 8, by omega⟩ (y 1) (y 2) (y 3) : S16x8x64x512.Idx) := by
    blk_ext [idx_val t]
  rw [e]
  exact (congrArg _ (eq_ix4 (n0 := 1) (n1 := 8) (n2 := 64) (n3 := 512) y)).trans (outs_D m c t (t.val / 8) (by omega) (by omega) (y 0) (y 1) (y 2) (y 3))

end Cert.KernelIdeal.Na

end
-- ==== Proof.NaFin.lean ====
/- The reference's results in the terms of the specification, where the scores are finite. -/
module

public import proofs.«01_k».proof.Proof.NaRefGrad
public import proofs.«01_k».proof.Proof.NaRefScat
public import proofs.«01_k».proof.Proof.NaValue
public import proofs.«01_k».proof.Proof.Gen.Pre_finite_scores
public import proofs.«01_k».proof.Defs
public import Idealize.ShloMosaic.Lib.Claim

@[expose] public section

set_option maxRecDepth 16384

noncomputable section

namespace Cert.ReferenceIdeal.Na

open Cert.ReferenceIdeal Cert.ReferenceIdeal.Gen Idealize.ShloMosaic Idealize.ShloMosaic.TcCoe Idealize.SL.Sem
open Cert.Na (at2 at4 scale low top rs)

theorem scale_real : ∃ s : ℝ, 0 ≤ s ∧ scale = (s : EReal) := by
  refine ⟨_, ?_, by simp [scale, Ideal.ofBits, Ideal.ieee]; rfl⟩
  positivity
theorem inf_eq : (Ideal.ofBits .f32 0x7F800000#32 : EReal) = ⊤ := by
  simp [Ideal.ofBits, Ideal.ieee]

section
variable (U : FVec Ideal S8192x14336 .f32) (B : FVec Ideal S16x8x64x512 .f32) (D : FVec Ideal S8192x2048 .f32)

/-- The largest entry of a row of the bias. -/
theorem biasMax_at (h : Fin 16) (δ : Fin 8) (a : Fin 64) :
    Host.reduce FloatOps.maximumf B (constant (F := Ideal) S_ .f32 0xFF800000#32) Cert.Pre_finite_scores.Gen.reducesTo_S16x8x64x512_S16x8x64_d3 h_S_ (ix3 h δ a)
      = Finset.univ.fold (FloatOps.maximumf (F := Ideal) (φ := .f32)) (FloatOps.ofBits (F := Ideal) .f32 0xFF800000#32) (fun k : Fin 512 => B (ix4 h δ a k)) := by
  pointwise
theorem pre_read (Y : FVec Ideal Cert.Pre_finite_scores.S16x8x64 .f32) (y : Fin 8192) (x : Fin 4096) :
    andi (cmpf .olt (Host.absf (extractStridedSlice Cert.Pre_finite_scores.S8192x4096 ![0, 6144] U Cert.Pre_finite_scores.Gen.slices_S8192x14336_S8192x4096_0_6144))
        (broadcastInDim Cert.Pre_finite_scores.S8192x4096 ![] Cert.Pre_finite_scores.Gen.bcast_S_S8192x4096 (constant Cert.Pre_finite_scores.S_ .f32 0x7F800000#32)))
      (broadcastInDim Cert.Pre_finite_scores.S8192x4096 ![0, 1] Cert.Pre_finite_scores.Gen.bcast_S8192x1_S8192x4096_0_1
        (cmpf .olt (shapeCast Cert.Pre_finite_scores.S8192x1 (Host.absf Y) Cert.Pre_finite_scores.Gen.shapeCasts_S16x8x64_S8192x1)
          (broadcastInDim Cert.Pre_finite_scores.S8192x1 ![] Cert.Pre_finite_scores.Gen.bcast_S_S8192x1 (constant Cert.Pre_finite_scores.S_ .f32 0x7F800000#32)))) (ix2 y x)
      = IntOp.andi (BitVec.ofBool (decide (FloatOps.absf (F := Ideal) (φ := .f32) (U (ix2 y ⟨6144 + x.val, by omega⟩)) < Ideal.ofBits .f32 0x7F800000#32)))
          (BitVec.ofBool (decide (FloatOps.absf (F := Ideal) (φ := .f32) (Y (ix3 ⟨y.val / 512, by omega⟩ ⟨y.val / 64 % 8, by omega⟩ ⟨y.val % 64, by omega⟩)) < Ideal.ofBits .f32 0x7F800000#32))) := by
  pointwise
theorem abs_lt (x : EReal) (h : FloatOps.absf (F := Ideal) (φ := .f32) x < (⊤ : EReal)) : ∃ r : ℝ, x = (r : EReal) := by
  have h' : max x (-x) < (⊤ : EReal) := h
  induction x with
  | bot => simp at h'
  | top => simp at h'
  | coe r => exact ⟨r, rfl⟩
theorem pre_at (hp : Cert.Pre_finite_scores.fn (F := Ideal) U B D = fun _ => 1#1) (y : Fin 8192) (x : Fin 4096) :
    (∃ u : ℝ, U (ix2 y ⟨6144 + x.val, by omega⟩) = (u : EReal))
      ∧ ∃ b : ℝ, (Finset.univ.fold max low fun k : Fin 512 => B (ix4 ⟨y.val / 512, by omega⟩ ⟨y.val / 64 % 8, by omega⟩ ⟨y.val % 64, by omega⟩ k)) = (b : EReal) := by
  have h1 := (pre_read U (Host.reduce FloatOps.maximumf B (constant (F := Ideal) S_ .f32 0xFF800000#32) Cert.Pre_finite_scores.Gen.reducesTo_S16x8x64x512_S16x8x64_d3 h_S_) y x).symm.trans (congrFun hp (ix2 y x))
  rw [biasMax_at, inf_eq] at h1
  have h2 : ∀ p q : Bool, IntOp.andi (BitVec.ofBool p) (BitVec.ofBool q) = 1#1 → p = true ∧ q = true := by decide
  obtain ⟨ha, hb⟩ := h2 _ _ h1
  exact ⟨abs_lt _ (of_decide_eq_true ha), abs_lt _ (of_decide_eq_true hb)⟩

theorem at2_real (hp : Cert.Pre_finite_scores.fn (F := Ideal) U B D = fun _ => 1#1) (i j : ℕ) (hi : i < 8192) (h1 : 6144 ≤ j) (h2 : j < 10240) :
    ∃ u : ℝ, at2 U i j = (u : EReal) := by
  obtain ⟨u, hu⟩ := (pre_at U B D hp ⟨i, hi⟩ ⟨j - 6144, by omega⟩).1
  have e : at2 U i (6144 + (j - 6144)) = (u : EReal) := (Cert.Na.eq_at2 U ⟨i, hi⟩ ⟨6144 + (j - 6144), by omega⟩).symm.trans hu
  rw [show 6144 + (j - 6144) = j by omega] at e
  exact ⟨u, e⟩

/-- Under the precondition no score is `⊤`, and each row's largest score is finite. -/
theorem scores (hp : Cert.Pre_finite_scores.fn (F := Ideal) U B D = fun _ => 1#1) (h : Fin 16) (r : Fin 128) (a : Fin 64) :
    (∀ j, zz U B h r a j ≠ ⊤) ∧ ∃ M : ℝ, top (zz U B h r a) = (M : EReal) := by
  have hrs := rs_le r.val
  have hδ : r.val - rs r.val < 8 := by unfold rs; omega
  obtain ⟨s, _, hs⟩ := scale_real
  -- the products are real
  have hq : ∀ j : Fin 512, ∃ t : ℝ, (∑ d : Fin 128, Cert.Na.Q U h.val r.val a.val d.val * Cert.Na.K U h.val r.val j.val d.val) * scale = (t : EReal) := fun j => by
    have e1 : ∀ d : Fin 128, ∃ t : ℝ, Cert.Na.Q U h.val r.val a.val d.val * Cert.Na.K U h.val r.val j.val d.val = (t : EReal) := fun d => by
      obtain ⟨u, hu⟩ := at2_real U B D hp (64 * r.val + a.val) (128 * (48 + h.val) + d.val) (by omega) (by omega) (by omega)
      obtain ⟨v, hv⟩ := at2_real U B D hp (64 * rs r.val + j.val) (128 * (64 + h.val) + d.val) (by omega) (by omega) (by omega)
      exact ⟨u * v, by unfold Cert.Na.Q Cert.Na.K; rw [hu, hv, EReal.coe_mul]⟩
    choose t ht using e1
    refine ⟨(∑ d, t d) * s, ?_⟩
    simp only [ht]
    rw [← Cert.Na.coe_sum, hs, EReal.coe_mul]
  choose q hq using hq
  -- the bias row's largest entry is real
  obtain ⟨b, hb⟩ := (pre_at U B D hp ⟨(h.val * 8 + (r.val - rs r.val)) * 64 + a.val, by omega⟩ ⟨0, by omega⟩).2
  have hrow : (fun k : Fin 512 => B (ix4 (⟨((h.val * 8 + (r.val - rs r.val)) * 64 + a.val) / 512, by omega⟩ : Fin 16) (⟨((h.val * 8 + (r.val - rs r.val)) * 64 + a.val) / 64 % 8, by omega⟩ : Fin 8) (⟨((h.val * 8 + (r.val - rs r.val)) * 64 + a.val) % 64, by omega⟩ : Fin 64) k))
      = fun k : Fin 512 => at4 B h.val (r.val - rs r.val) a.val k.val := funext fun k => by
    refine (Cert.Na.eq_at4 B _ _ _ _).trans ?_
    congr 1 <;> dsimp only <;> omega
  replace hb : Finset.univ.fold max low (fun k : Fin 512 => at4 B h.val (r.val - rs r.val) a.val k.val) = (b : EReal) := hrow ▸ hb
  have hz : ∀ j, zz U B h r a j = (q j : EReal) + at4 B h.val (r.val - rs r.val) a.val j.val := fun j => by
    show Cert.Na.Z U B h.val r.val a.val j.val = _
    unfold Cert.Na.Z
    rw [hq]
  have hle : ∀ j : Fin 512, at4 B h.val (r.val - rs r.val) a.val j.val ≤ (b : EReal) := fun j =>
    (Cert.Na.le_top (fun k : Fin 512 => at4 B h.val (r.val - rs r.val) a.val k.val) j).trans hb.le
  have hnt : ∀ j, zz U B h r a j ≠ ⊤ := fun j => by
    rw [hz]
    exact (EReal.add_lt_top (EReal.coe_ne_top _) ((hle j).trans_lt (EReal.coe_lt_top b)).ne).ne
  refine ⟨hnt, ?_⟩
  obtain ⟨j0, h0⟩ := Cert.Na.top_taken (fun k : Fin 512 => at4 B h.val (r.val - rs r.val) a.val k.val) (by rw [hb]; exact EReal.coe_ne_bot b)
  have hj0 : zz U B h r a j0 = ((q j0 + b : ℝ) : EReal) := by
    rw [hz, EReal.coe_add]; exact congrArg _ (h0.trans hb)
  have hlow : top (zz U B h r a) ≠ ⊥ := fun hbot => by
    have := Cert.Na.le_top (zz U B h r a) j0
    rw [show Finset.univ.fold max low (zz U B h r a) = ⊥ from hbot, hj0] at this
    exact absurd (le_bot_iff.mp this) (EReal.coe_ne_bot _)
  obtain ⟨j1, h1⟩ := Cert.Na.top_taken (zz U B h r a) hlow
  have htop : top (zz U B h r a) ≠ ⊤ := fun e => hnt j1 (h1.trans e)
  exact ⟨(top (zz U B h r a)).toReal, (EReal.coe_toReal htop hlow).symm⟩

section
variable (hz : ∀ h : Fin 16, ∀ r : Fin 128, ∀ a : Fin 64, (∀ j, zz U B h r a j ≠ ⊤) ∧ ∃ M : ℝ, top (zz U B h r a) = (M : EReal))
include hz

theorem DSS_at (h : Fin 16) (r : Fin 128) (a : Fin 64) (j : Fin 512) : DSS U B D (ix4 h r a j) = Cert.Na.DS U B D h.val r.val a.val j * scale := by
  unfold DSS
  pointwise [DSR_at U B D hz]
  rfl
theorem DKR_at (r : Fin 128) (j : Fin 512) (h : Fin 16) (d : Fin 128) : DKR U B D (ix4 r j h d) = Cert.Na.DKW U B D h.val r.val j d.val := by
  obtain ⟨s, hs, he⟩ := scale_real
  unfold Cert.Na.DKW
  rw [← Cert.Na.sum_mul_real _ _ scale (by rw [he]; exact_mod_cast hs) (by rw [he]; exact EReal.coe_ne_top s)]
  pointwise [DKR, DSS_at U B D hz, QG_at]
  exact Finset.sum_congr rfl fun x _ => by ac_rfl
theorem RQ_at (y : Fin 8192) (x : Fin 2048) : RQ U B D (ix2 y x) = Cert.Na.DQ U B D (x.val / 128) (y.val / 64) (y.val % 64) (x.val % 128) := by
  obtain ⟨s, hs, he⟩ := scale_real
  unfold Cert.Na.DQ
  rw [← Cert.Na.sum_mul_real _ _ scale (by rw [he]; exact_mod_cast hs) (by rw [he]; exact EReal.coe_ne_top s)]
  pointwise [RQ, DSS_at U B D hz, KG_at]
  exact Finset.sum_congr rfl fun x _ => by ac_rfl
theorem RK_at (y : Fin 8192) (x : Fin 2048) : RK U B D (ix2 y x) = Cert.Na.DK U B D (x.val / 128) y.val (x.val % 128) := by
  unfold RK
  rw [SA_at IK IK_at]
  unfold Cert.Na.DK
  refine Finset.sum_congr rfl fun r _ => ?_
  unfold Cert.Na.kTerm
  simp only [DKR_at U B D hz]
theorem RB_at (h : Fin 16) (δ : Fin 8) (a : Fin 64) (j : Fin 512) : RB U B D (ix4 h δ a j) = Cert.Na.DB U B D h.val δ.val a.val j := by
  unfold RB
  rw [scat_bias _ _ _ _ _ _ (by pointwise)]
  unfold Cert.Na.DB
  refine Finset.sum_congr rfl fun r _ => ?_
  unfold Cert.Na.bTerm
  rw [DSR_at U B D hz]
end

theorem RV_at (y : Fin 8192) (x : Fin 2048) : RV U B D (ix2 y x) = Cert.Na.DV U B D (x.val / 128) y.val (x.val % 128) := by
  unfold RV
  rw [SA_at IV IV_at]
  unfold Cert.Na.DV
  refine Finset.sum_congr rfl fun r _ => ?_
  unfold Cert.Na.vTerm
  simp only [DVW_at U B D]
end

end Cert.ReferenceIdeal.Na

namespace Cert.Proof

open Idealize.ShloMosaic Idealize.ShloMosaic.TcCoe Idealize.SL.Sem Cert.ReferenceIdeal.Na Cert.KernelIdeal.Na

section
variable (U : FVec Ideal Cert.ReferenceIdeal.S8192x14336 .f32) (B : FVec Ideal Cert.ReferenceIdeal.S16x8x64x512 .f32) (D : FVec Ideal Cert.ReferenceIdeal.S8192x2048 .f32)
  (hp : Cert.Pre_finite_scores.fn (F := Ideal) U B D = fun _ => 1#1)
include hp

theorem na_q : Cert.KernelIdeal.Na.ARRQ U B D = RQ U B D := funext fun y => by
  obtain ⟨a, b, rfl⟩ := (⟨y 0, y 1, eq_ix2 y⟩ : ∃ a b, y = ix2 a b)
  exact (RQ_at U B D (scores U B D hp) a b).symm
theorem na_k : Cert.KernelIdeal.Na.ARRK U B D = RK U B D := funext fun y => by
  obtain ⟨a, b, rfl⟩ := (⟨y 0, y 1, eq_ix2 y⟩ : ∃ a b, y = ix2 a b)
  exact (RK_at U B D (scores U B D hp) a b).symm
theorem na_v : Cert.KernelIdeal.Na.ARRV U B D = RV U B D := funext fun y => by
  obtain ⟨a, b, rfl⟩ := (⟨y 0, y 1, eq_ix2 y⟩ : ∃ a b, y = ix2 a b)
  exact (RV_at U B D a b).symm
theorem na_b : Cert.KernelIdeal.Na.ARRB U B D = RB U B D := funext fun y => by
  obtain ⟨a, b, c, d, rfl⟩ := (⟨y 0, y 1, y 2, y 3, eq_ix4 y⟩ : ∃ a b c d, y = ix4 a b c d)
  exact (RB_at U B D (scores U B D hp) a b c d).symm
end

theorem algebraic_Na : Cert.algebraic_KernelIdeal_ReferenceIdeal_pre_finite_scores := by
  intro m g m' g' hpre hagree
  have hu := fun c : Dev Cert.KernelIdeal.nD => hpre c
  refine ⟨fun c => ARRQ (UU m c) (BB m c) (DD m c), fun c => ARRK (UU m c) (BB m c) (DD m c), fun c => ARRV (UU m c) (BB m c) (DD m c), fun c => ARRB (UU m c) (BB m c) (DD m c), ?_, ?_⟩
  · exact (θ_run Cert.KernelIdeal.defs _ _).mono (fun r h c => ⟨((h.1 c).1 5).trans (final5 m c), ((h.1 c).1 6).trans (final6 m c), ((h.1 c).1 7).trans (final7 m c), ((h.1 c).1 8).trans (final8 m c),
      ((h.1 c).1 0).trans (((dats m 0 c).arrAt_in 0 rfl _).trans (A_eq m c 0)), ((h.1 c).1 3).trans (((dats m 0 c).arrAt_in 3 rfl _).trans (A_eq m c 3)),
      ((h.1 c).1 4).trans (((dats m 0 c).arrAt_in 4 rfl _).trans (A_eq m c 4))⟩) (run_main_quiescent m g)
  · refine (θ_run Cert.ReferenceIdeal.defs _ _).mono (fun r h c => ?_) (Cert.ReferenceIdeal.Value.run (F := Ideal) m' g')
    obtain ⟨h0, h1, h2, h3, ha⟩ := h c
    obtain ⟨e0, e1, e2⟩ := hagree c
    have q0 := (h0.trans (res0 m' c))
    have q1 := (h1.trans (res1 m' c))
    have q2 := (h2.trans (res2 m' c))
    have q3 := (h3.trans (res3 m' c))
    rw [e0, e1, e2] at q0 q1 q2 q3
    exact ⟨q0.trans (na_q _ _ _ (hu c)).symm, q1.trans (na_k _ _ _ (hu c)).symm, q2.trans (na_v _ _ _ (hu c)).symm, q3.trans (na_b _ _ _ (hu c)).symm, ha⟩

end Cert.Proof

end
-- ==== Proof.MmValue.lean ====
/-
  The input gradient of the odd block's projection, `du · Wᵀ`: the kernel walks the contracted axis of 12288 in twelve
  blocks of 1024, adding each block's product into a scratch, and copies the scratch out after the twelfth. The result
  is the one product over the whole axis.
-/
module

public import proofs.«01_k».proof.Defs
public import proofs.«01_k».proof.Proof.Gen.MmIdeal.Frame
public import proofs.«01_k».proof.Proof.Gen.MmRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.MmIdeal.Value

open Cert.MmIdeal Cert.MmIdeal.Gen Idealize.ShloMosaic Idealize.ShloMosaic.TcCoe Idealize.SL.Sem

variable (m : (ℓ : Loc nD τ sig) → Buf (Elt Ideal) ℓ) (ρ : Dev nD → PrngReg)

/-- The reference's product over the kernel's two argument arrays. -/
abbrev REF (X : FVec Ideal S8192x12288 .bf16) (W : FVec Ideal S2048x12288 .bf16) : FVec Ideal S8192x2048 .f32 :=
  Host.dotGeneral Cert.MmRefIdeal.dot_S8192x12288_S12288x2048_S8192x2048_1_0_0_1_n_n none
    (extf .f32 X Cert.MmRefIdeal.Gen.bitsLt_bf16_f32 : FVec Ideal Cert.MmRefIdeal.S8192x12288 .f32)
    (transpose Cert.MmRefIdeal.S12288x2048 [1, 0] (extf .f32 W Cert.MmRefIdeal.Gen.bitsLt_bf16_f32 : FVec Ideal Cert.MmRefIdeal.S2048x12288 .f32)
      Cert.MmRefIdeal.Gen.transposes_S2048x12288_S12288x2048_1_0)

theorem hpay2 (x0 : FVec Ideal S1024x1024 .bf16) (x1 : FVec Ideal S2048x1024 .bf16) (j : S1024x2048.Idx) :
    k0_pay2 (F := Ideal) x0 x1 j = ∑ k : Fin 1024, x0 (ix2 (j 0) k) * x1 (ix2 (j 1) k) := by
  pointwise [k0_pay2, k0_pay1]

theorem hpay3 (x0 : FVec Ideal S1024x1024 .bf16) (x1 : FVec Ideal S2048x1024 .bf16) (acc : FVec Ideal S1024x2048 .f32) (j : S1024x2048.Idx) :
    k0_pay3 x0 x1 acc j = acc j + ∑ k : Fin 1024, x0 (ix2 (j 0) k) * x1 (ix2 (j 1) k) := by
  pointwise [k0_pay3, k0_pay1]

theorem href (X : FVec Ideal S8192x12288 .bf16) (W : FVec Ideal S2048x12288 .bf16) (j : S8192x2048.Idx) :
    REF X W j = ∑ k : Fin 12288, X (ix2 (j 0) k) * W (ix2 (j 1) k) := by
  pointwise [REF]

theorem idx_val : ∀ t : Fin cfg0.N, win0_0.index t = ![t.val / 12, t.val % 12] ∧ win0_1.index t = ![0, t.val % 12]
    ∧ win0_2.index t = ![t.val / 12, 0] :=
  (by decide +kernel : ∀ t : Fin grid0.N, _)

/-- What the scratch holds after a point: the sum of the run's products so far. -/
theorem scratch (c : Dev nD) (t : Fin cfg0.N) (h : t.val % 12 = 11) (j : S1024x2048.Idx) :
    (outsAt0 m c t.val t.isLt).2 j = REF (m ((c : Thread nD τ).loc main_arg0)) (m ((c : Thread nD τ).loc main_arg1))
      (((cfg0.win 2).blk t).view.emb j) := by
  rw [Pipeline.eq_sum_fin_of_reset_step_apply_of_flush (fun n h => (outsAt0 m c n h).2) 12 (fun _ => 0)
    (fun p j => ∑ k : Fin 1024, (show FVec Ideal S1024x1024 .bf16 from iblk m c 0 p) (ix2 (j 0) k)
      * (show FVec Ideal S2048x1024 .bf16 from iblk m c 1 p) (ix2 (j 1) k))
    (fun t h j => by
      rw [outsAt0_A m c t h (by omega) (by omega)]; frame_out; rw [hpay2, zero_add])
    (fun t h j => by
      by_cases h2 : t.val % 12 = 11
      · rw [outsAt0_C m c t h (by omega) h2]; frame_out; simp only [read_unread_whole]; rw [hpay3]
      · rw [outsAt0_B m c t h (by omega) h2]; frame_out; simp only [read_unread_whole]; rw [hpay3])
    t h j, zero_add, href]
  refine Fin.sum_mul_add_congr fun s k hl => ?_
  blk_point [iblk, V, idx_val t, idx_val ⟨_, Pipeline.run_point_lt_of_flush t h s⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h : t.val % 12 = 11 := (flush0_2 t).mp hf
  blk_simp
  rw [← scratch m c t h, after0_2, outsAt0_C m c t (by omega) (by omega) h]
  frame_out

end Cert.MmIdeal.Value

namespace Cert.Proof

open Idealize.ShloMosaic Idealize.SL.Sem

theorem algebraic_Mm : Cert.algebraic_MmIdeal_MmRefIdeal := by
  pair_intro
  · run_from Cert.MmIdeal.Gen.run_main m g
  · run_from Cert.MmRefIdeal.Value.run m' g'
    exact (Cert.MmIdeal.Value.final m c).symm

end Cert.Proof

end
-- ==== Proof.GluValue.lean ====
/-
  The gradient of the gate `a · sigmoid(ag)`: every grid point reads one block of the gate's two operands and of the
  cotangent and writes the two gradients of its block, by the same arithmetic as the reference.
-/
module

public import proofs.«01_k».proof.Defs
public import proofs.«01_k».proof.Proof.Gen.GluIdeal.Frame
public import proofs.«01_k».proof.Proof.Gen.GluRefIdeal.Run
public import Idealize.ShloMosaic.Lib.Pipeline.ValueKit
public import Idealize.ShloMosaic.Lib.Claim

@[expose] public section

set_option maxRecDepth 16384

noncomputable section

namespace Cert.GluIdeal.Value

open Cert.GluIdeal Cert.GluIdeal.Gen Idealize.ShloMosaic Idealize.ShloMosaic.TcCoe Idealize.SL.Sem

variable (m : (ℓ : Loc nD τ sig) → Buf (Elt Ideal) ℓ) (ρ : Dev nD → PrngReg)

/-- The reference's sigmoid of the gate's half of `u`. -/
abbrev SIG (U : FVec Ideal S8192x12288 .f32) : FVec Ideal S8192x4096 .f32 :=
  Host.divf (broadcastInDim Cert.GluRefIdeal.S8192x4096 ![] Cert.GluRefIdeal.Gen.bcast_S_S8192x4096 (constant Cert.GluRefIdeal.S_ .f32 0x3F800000#32))
    (addf (broadcastInDim Cert.GluRefIdeal.S8192x4096 ![] Cert.GluRefIdeal.Gen.bcast_S_S8192x4096 (constant Cert.GluRefIdeal.S_ .f32 0x3F800000#32))
      (Host.exp (Host.negf (extractStridedSlice Cert.GluRefIdeal.S8192x4096 ![0, 4096] U Cert.GluRefIdeal.Gen.slices_S8192x12288_S8192x4096_0_4096))))

/-- The reference's gradient of `a`. -/
abbrev REFA (U : FVec Ideal S8192x12288 .f32) (D : FVec Ideal S8192x4096 .f32) : FVec Ideal S8192x4096 .bf16 :=
  truncf .bf16 (mulf D (SIG U)) Cert.GluRefIdeal.Gen.bitsLt_bf16_f32

/-- The reference's gradient of the gate. -/
abbrev REFG (U : FVec Ideal S8192x12288 .f32) (D : FVec Ideal S8192x4096 .f32) : FVec Ideal S8192x4096 .bf16 :=
  truncf .bf16 (mulf (mulf (extractStridedSlice Cert.GluRefIdeal.S8192x4096 ![0, 0] U Cert.GluRefIdeal.Gen.slices_S8192x12288_S8192x4096_0_0) D)
    (mulf (SIG U) (subf (broadcastInDim Cert.GluRefIdeal.S8192x4096 ![] Cert.GluRefIdeal.Gen.bcast_S_S8192x4096
      (constant Cert.GluRefIdeal.S_ .f32 0x3F800000#32)) (SIG U)))) Cert.GluRefIdeal.Gen.bitsLt_bf16_f32

theorem idx_val : ∀ t : Fin cfg0.N, win0_0.index t = ![t.val % 32, t.val / 32] ∧ win0_1.index t = ![t.val % 32, 2 + t.val / 32]
    ∧ win0_2.index t = ![t.val % 32, t.val / 32] ∧ win0_3.index t = ![t.val % 32, t.val / 32] ∧ win0_4.index t = ![t.val % 32, t.val / 32] :=
  (by decide +kernel : ∀ t : Fin grid0.N, _)

theorem final3 (c : Dev nD) : (dats m 0 c).arrAt 3 (cfgs 0).N
    = REFA (m ((c : Thread nD τ).loc main_arg0)) (m ((c : Thread nD τ).loc main_arg1)) := by
  refine (dats m 0 c).arrAt_eq_of_covers 3 _ (by decide +kernel) fun t hf y => ?_
  blk_simp
  rw [after0_3]; frame_out
  pointwise [k0_pay2, k0_pay1, REFA, SIG, Ideal.logistic]
  blk_point [iblk, V, idx_val t]

theorem final4 (c : Dev nD) : (dats m 0 c).arrAt 4 (cfgs 0).N
    = REFG (m ((c : Thread nD τ).loc main_arg0)) (m ((c : Thread nD τ).loc main_arg1)) := by
  refine (dats m 0 c).arrAt_eq_of_covers 4 _ (by decide +kernel) fun t hf y => ?_
  blk_simp
  rw [after0_4]; frame_out
  pointwise [k0_pay3, k0_pay1, REFG, SIG, Ideal.logistic]
  blk_point [iblk, V, idx_val t]

end Cert.GluIdeal.Value

namespace Cert.Proof

open Idealize.ShloMosaic Idealize.SL.Sem

theorem algebraic_Glu : Cert.algebraic_GluIdeal_GluRefIdeal := by
  pair_intro
  · run_from Cert.GluIdeal.Gen.run_main m g
  · run_from Cert.GluRefIdeal.Value.run m' g'
    · exact (Cert.GluIdeal.Value.final3 m c).symm
    · exact (Cert.GluIdeal.Value.final4 m c).symm

end Cert.Proof

end
-- ==== Proof.OutValue.lean ====
/-
  The output projection of a layer with its residual, `h + t · W`: the kernel walks the contracted axis of 4096 in four
  blocks of 1024, adding each block's product into a scratch, and adds the residual's block after the fourth.
-/
module

public import proofs.«01_k».proof.Defs
public import proofs.«01_k».proof.Proof.Gen.OutIdeal.Frame
public import proofs.«01_k».proof.Proof.Gen.OutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutIdeal.Value

open Cert.OutIdeal Cert.OutIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x4096 .bf16) (W : FVec Ideal S4096x2048 .bf16) (H : FVec Ideal S8192x2048 .f32) : FVec Ideal S8192x2048 .f32 :=
  addf H (Host.dotGeneral Cert.OutRefIdeal.dot_S8192x4096_S4096x2048_S8192x2048_1_0_0_1_n_n none
    (extf .f32 X Cert.OutRefIdeal.Gen.bitsLt_bf16_f32 : FVec Ideal Cert.OutRefIdeal.S8192x4096 .f32)
    (extf .f32 W Cert.OutRefIdeal.Gen.bitsLt_bf16_f32 : FVec Ideal Cert.OutRefIdeal.S4096x2048 .f32))

theorem href (X : FVec Ideal S8192x4096 .bf16) (W : FVec Ideal S4096x2048 .bf16) (H : FVec Ideal S8192x2048 .f32) (j : S8192x2048.Idx) :
    REF X W H j = H j + ∑ k : Fin 4096, X (ix2 (j 0) k) * W (ix2 k (j 1)) := by
  pointwise [REF]

theorem hpay2 (x0 : FVec Ideal S1024x1024 .bf16) (x1 : FVec Ideal S1024x1024 .bf16) (j : S1024x1024.Idx) :
    k0_pay2 (F := Ideal) x0 x1 j = ∑ k : Fin 1024, x0 (ix2 (j 0) k) * x1 (ix2 k (j 1)) := by
  pointwise [k0_pay2, k0_pay1]

theorem hpay3 (x0 : FVec Ideal S1024x1024 .bf16) (x1 : FVec Ideal S1024x1024 .bf16) (acc : FVec Ideal S1024x1024 .f32) (j : S1024x1024.Idx) :
    k0_pay3 x0 x1 acc j = acc j + ∑ k : Fin 1024, x0 (ix2 (j 0) k) * x1 (ix2 k (j 1)) := by
  pointwise [k0_pay3, k0_pay1]

theorem hpay4 (a h : FVec Ideal S1024x1024 .f32) (j : S1024x1024.Idx) : k0_pay4 a h j = h j + a j := by
  pointwise [k0_pay4]
  exact add_comm _ _

theorem idx_val : ∀ t : Fin cfg0.N, win0_0.index t = ![t.val / 4 % 8, t.val % 4]
    ∧ win0_1.index t = ![t.val % 4, t.val / 32]
    ∧ win0_2.index t = ![t.val / 4 % 8, t.val / 32]
    ∧ win0_3.index t = ![t.val / 4 % 8, t.val / 32] :=
  (by decide +kernel : ∀ t : Fin grid0.N, _)

/-- What the scratch holds after the last point of a run: the whole product at the block's place. -/
theorem scratch (c : Dev nD) (t : Fin cfg0.N) (h : t.val % 4 = 3) (j : S1024x1024.Idx) :
    (outsAt0 m c t.val t.isLt).2 j = (∑ k : Fin 4096, (show FVec Ideal S8192x4096 .bf16 from m ((c : Thread nD τ).loc main_arg0)) (ix2 ((((cfg0.win 3).blk t).view.emb j) 0) k)
      * (show FVec Ideal S4096x2048 .bf16 from m ((c : Thread nD τ).loc main_arg1)) (ix2 k ((((cfg0.win 3).blk t).view.emb j) 1))) := by
  rw [Pipeline.eq_sum_fin_of_reset_step_apply_of_flush (fun n h => (outsAt0 m c n h).2) 4 (fun _ => 0)
    (fun p j => ∑ k : Fin 1024, (show FVec Ideal S1024x1024 .bf16 from iblk m c 0 p) (ix2 (j 0) k)
      * (show FVec Ideal S1024x1024 .bf16 from iblk m c 1 p) (ix2 k (j 1)))
    (fun t h j => by
      rw [outsAt0_A m c t h (by omega) (by omega)]; frame_out; rw [hpay2, zero_add])
    (fun t h j => by
      by_cases h2 : t.val % 4 = 3
      · rw [outsAt0_C m c t h (by omega) h2]; frame_out; simp only [read_unread_whole]; rw [hpay3]
      · rw [outsAt0_B m c t h (by omega) h2]; frame_out; simp only [read_unread_whole]; rw [hpay3])
    t h j, zero_add]
  refine Fin.sum_mul_add_congr fun s k hl => ?_
  blk_point [iblk, V, idx_val t, idx_val ⟨_, Pipeline.run_point_lt_of_flush t h s⟩]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 4 = 3 := (flush0_3 t).mp hf
  blk_simp
  rw [href, ← scratch m c t h, after0_3, outsAt0_C m c t (by omega) (by omega) h]
  frame_out
  refine (hpay4 _ _ y).trans (congrArg₂ (· + ·) ?_ rfl)
  blk_point [iblk, V, idx_val t]

end Cert.OutIdeal.Value

namespace Cert.Proof

open Idealize.ShloMosaic Idealize.SL.Sem

theorem algebraic_Out : Cert.algebraic_OutIdeal_OutRefIdeal := by
  pair_intro
  · run_from Cert.OutIdeal.Gen.run_main m g
  · run_from Cert.OutRefIdeal.Value.run m' g'
    exact (Cert.OutIdeal.Value.final m c).symm

end Cert.Proof

end
-- ==== Proof.OutDxValue.lean ====
/-
  The input gradient of an output projection, `dh · Wᵀ`: each grid point is one product over the whole contracted axis.
-/
module

public import proofs.«01_k».proof.Defs
public import proofs.«01_k».proof.Proof.Gen.OutDxIdeal.Frame
public import proofs.«01_k».proof.Proof.Gen.OutDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDxIdeal.Value

open Cert.OutDxIdeal Cert.OutDxIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .f32) (W : FVec Ideal S4096x2048 .bf16) : FVec Ideal S8192x4096 .bf16 :=
  truncf .bf16 (Host.dotGeneral Cert.OutDxRefIdeal.dot_S8192x2048_S2048x4096_S8192x4096_1_0_0_1_n_n none
    X
    (transpose Cert.OutDxRefIdeal.S2048x4096 [1, 0] (extf .f32 W Cert.OutDxRefIdeal.Gen.bitsLt_bf16_f32 : FVec Ideal Cert.OutDxRefIdeal.S4096x2048 .f32) Cert.OutDxRefIdeal.Gen.transposes_S4096x2048_S2048x4096_1_0)) Cert.OutDxRefIdeal.Gen.bitsLt_bf16_f32

theorem href (X : FVec Ideal S8192x2048 .f32) (W : FVec Ideal S4096x2048 .bf16) (j : S8192x4096.Idx) :
    REF X W j = ∑ k : Fin 2048, X (ix2 (j 0) k) * W (ix2 (j 1) k) := by
  pointwise [REF]

theorem hpay (x0 : FVec Ideal S1024x2048 .f32) (x1 : FVec Ideal S2048x2048 .bf16) (j : S1024x2048.Idx) :
    k0_pay1 (F := Ideal) x0 x1 j = ∑ k : Fin 2048, x0 (ix2 (j 0) k) * x1 (ix2 (j 1) k) := by
  pointwise [k0_pay1]

theorem idx_val : ∀ t : Fin cfg0.N, win0_0.index t = ![t.val % 8, 0]
    ∧ win0_1.index t = ![t.val / 8, 0]
    ∧ win0_2.index t = ![t.val % 8, t.val / 8] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  rw [hpay, href]
  blk_point [iblk, V, idx_val t]

end Cert.OutDxIdeal.Value

namespace Cert.Proof

open Idealize.ShloMosaic Idealize.SL.Sem

theorem algebraic_OutDx : Cert.algebraic_OutDxIdeal_OutDxRefIdeal := by
  pair_intro
  · run_from Cert.OutDxIdeal.Gen.run_main m g
  · run_from Cert.OutDxRefIdeal.Value.run m' g'
    exact (Cert.OutDxIdeal.Value.final m c).symm

end Cert.Proof

end
-- ==== Proof.OutDwValue.lean ====
/-
  The weight gradient of an output projection, `tᵀ · dh`: the kernel walks the 8192 tokens in eight blocks of 1024, adding
  each block's product into a scratch, and copies the scratch out after the eighth.
-/
module

public import proofs.«01_k».proof.Defs
public import proofs.«01_k».proof.Proof.Gen.OutDwIdeal.Frame
public import proofs.«01_k».proof.Proof.Gen.OutDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.OutDwIdeal.Value

open Cert.OutDwIdeal Cert.OutDwIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x4096 .bf16) (W : FVec Ideal S8192x2048 .f32) : FVec Ideal S4096x2048 .f32 :=
  Host.dotGeneral Cert.OutDwRefIdeal.dot_S4096x8192_S8192x2048_S4096x2048_1_0_0_1_n_n none
    (transpose Cert.OutDwRefIdeal.S4096x8192 [1, 0] (extf .f32 X Cert.OutDwRefIdeal.Gen.bitsLt_bf16_f32 : FVec Ideal Cert.OutDwRefIdeal.S8192x4096 .f32) Cert.OutDwRefIdeal.Gen.transposes_S8192x4096_S4096x8192_1_0)
    W

theorem href (X : FVec Ideal S8192x4096 .bf16) (W : FVec Ideal S8192x2048 .f32) (j : S4096x2048.Idx) :
    REF X W j = ∑ k : Fin 8192, X (ix2 k (j 0)) * W (ix2 k (j 1)) := by
  pointwise [REF]

theorem hpay2 (x0 : FVec Ideal S1024x1024 .bf16) (x1 : FVec Ideal S1024x1024 .f32) (j : S1024x1024.Idx) :
    k0_pay2 (F := Ideal) x0 x1 j = ∑ k : Fin 1024, x0 (ix2 k (j 0)) * x1 (ix2 k (j 1)) := by
  pointwise [k0_pay2, k0_pay1]

theorem hpay3 (x0 : FVec Ideal S1024x1024 .bf16) (x1 : FVec Ideal S1024x1024 .f32) (acc : FVec Ideal S1024x1024 .f32) (j : S1024x1024.Idx) :
    k0_pay3 x0 x1 acc j = acc j + ∑ k : Fin 1024, x0 (ix2 k (j 0)) * x1 (ix2 k (j 1)) := by
  pointwise [k0_pay3, k0_pay1]

theorem idx_val : ∀ t : Fin cfg0.N, win0_0.index t = ![t.val % 8, t.val / 8 % 4]
    ∧ win0_1.index t = ![t.val % 8, t.val / 32]
    ∧ win0_2.index t = ![t.val / 8 % 4, t.val / 32] :=
  (by decide +kernel : ∀ t : Fin grid0.N, _)

/-- What the scratch holds after the last point of a run: the whole product at the block's place. -/
theorem scratch (c : Dev nD) (t : Fin cfg0.N) (h : t.val % 8 = 7) (j : S1024x1024.Idx) :
    (outsAt0 m c t.val t.isLt).2 j = (∑ k : Fin 8192, (show FVec Ideal S8192x4096 .bf16 from m ((c : Thread nD τ).loc main_arg0)) (ix2 k ((((cfg0.win 2).blk t).view.emb j) 0))
      * (show FVec Ideal S8192x2048 .f32 from m ((c : Thread nD τ).loc main_arg1)) (ix2 k ((((cfg0.win 2).blk t).view.emb j) 1))) := by
  rw [Pipeline.eq_sum_fin_of_reset_step_apply_of_flush (fun n h => (outsAt0 m c n h).2) 8 (fun _ => 0)
    (fun p j => ∑ k : Fin 1024, (show FVec Ideal S1024x1024 .bf16 from iblk m c 0 p) (ix2 k (j 0))
      * (show FVec Ideal S1024x1024 .f32 from iblk m c 1 p) (ix2 k (j 1)))
    (fun t h j => by
      rw [outsAt0_A m c t h (by omega) (by omega)]; frame_out; rw [hpay2, zero_add])
    (fun t h j => by
      by_cases h2 : t.val % 8 = 7
      · rw [outsAt0_C m c t h (by omega) h2]; frame_out; simp only [read_unread_whole]; rw [hpay3]
      · rw [outsAt0_B m c t h (by omega) h2]; frame_out; simp only [read_unread_whole]; rw [hpay3])
    t h j, zero_add]
  refine Fin.sum_mul_add_congr fun s k hl => ?_
  blk_point [iblk, V, idx_val t, idx_val ⟨_, Pipeline.run_point_lt_of_flush t h s⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [href, ← scratch m c t h, after0_2, outsAt0_C m c t (by omega) (by omega) h]
  frame_out

end Cert.OutDwIdeal.Value

namespace Cert.Proof

open Idealize.ShloMosaic Idealize.SL.Sem

theorem algebraic_OutDw : Cert.algebraic_OutDwIdeal_OutDwRefIdeal := by
  pair_intro
  · run_from Cert.OutDwIdeal.Gen.run_main m g
  · run_from Cert.OutDwRefIdeal.Value.run m' g'
    exact (Cert.OutDwIdeal.Value.final m c).symm

end Cert.Proof

end
-- ==== Proof.InValue.lean ====
/-
  The input projection of an odd layer, `hn · W`: each grid point is one product over the whole contracted axis.
-/
module

public import proofs.«01_k».proof.Defs
public import proofs.«01_k».proof.Proof.Gen.InIdeal.Frame
public import proofs.«01_k».proof.Proof.Gen.InRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.InIdeal.Value

open Cert.InIdeal Cert.InIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .bf16) (W : FVec Ideal S2048x12288 .bf16) : FVec Ideal S8192x12288 .f32 :=
  Host.dotGeneral Cert.InRefIdeal.dot_S8192x2048_S2048x12288_S8192x12288_1_0_0_1_n_n none
    (extf .f32 X Cert.InRefIdeal.Gen.bitsLt_bf16_f32 : FVec Ideal Cert.InRefIdeal.S8192x2048 .f32)
    (extf .f32 W Cert.InRefIdeal.Gen.bitsLt_bf16_f32 : FVec Ideal Cert.InRefIdeal.S2048x12288 .f32)

theorem href (X : FVec Ideal S8192x2048 .bf16) (W : FVec Ideal S2048x12288 .bf16) (j : S8192x12288.Idx) :
    REF X W j = ∑ k : Fin 2048, X (ix2 (j 0) k) * W (ix2 k (j 1)) := by
  pointwise [REF]

theorem hpay (x0 : FVec Ideal S1024x2048 .bf16) (x1 : FVec Ideal S2048x2048 .bf16) (j : S1024x2048.Idx) :
    k0_pay1 (F := Ideal) x0 x1 j = ∑ k : Fin 2048, x0 (ix2 (j 0) k) * x1 (ix2 k (j 1)) := by
  pointwise [k0_pay1]

theorem idx_val : ∀ t : Fin cfg0.N, win0_0.index t = ![t.val % 8, 0]
    ∧ win0_1.index t = ![0, t.val / 8]
    ∧ win0_2.index t = ![t.val % 8, t.val / 8] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  rw [hpay, href]
  blk_point [iblk, V, idx_val t]

end Cert.InIdeal.Value

namespace Cert.Proof

open Idealize.ShloMosaic Idealize.SL.Sem

theorem algebraic_In : Cert.algebraic_InIdeal_InRefIdeal := by
  pair_intro
  · run_from Cert.InIdeal.Gen.run_main m g
  · run_from Cert.InRefIdeal.Value.run m' g'
    exact (Cert.InIdeal.Value.final m c).symm

end Cert.Proof

end
-- ==== Proof.InDwValue.lean ====
/-
  The weight gradient of an odd layer's input projection, `hnᵀ · du`: the kernel walks the 8192 tokens in eight blocks of
  1024, adding each block's product into a scratch, and copies the scratch out after the eighth.
-/
module

public import proofs.«01_k».proof.Defs
public import proofs.«01_k».proof.Proof.Gen.InDwIdeal.Frame
public import proofs.«01_k».proof.Proof.Gen.InDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.InDwIdeal.Value

open Cert.InDwIdeal Cert.InDwIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .bf16) (W : FVec Ideal S8192x12288 .bf16) : FVec Ideal S2048x12288 .f32 :=
  Host.dotGeneral Cert.InDwRefIdeal.dot_S2048x8192_S8192x12288_S2048x12288_1_0_0_1_n_n none
    (transpose Cert.InDwRefIdeal.S2048x8192 [1, 0] (extf .f32 X Cert.InDwRefIdeal.Gen.bitsLt_bf16_f32 : FVec Ideal Cert.InDwRefIdeal.S8192x2048 .f32) Cert.InDwRefIdeal.Gen.transposes_S8192x2048_S2048x8192_1_0)
    (extf .f32 W Cert.InDwRefIdeal.Gen.bitsLt_bf16_f32 : FVec Ideal Cert.InDwRefIdeal.S8192x12288 .f32)

theorem href (X : FVec Ideal S8192x2048 .bf16) (W : FVec Ideal S8192x12288 .bf16) (j : S2048x12288.Idx) :
    REF X W j = ∑ k : Fin 8192, X (ix2 k (j 0)) * W (ix2 k (j 1)) := by
  pointwise [REF]

theorem hpay2 (x0 : FVec Ideal S1024x1024 .bf16) (x1 : FVec Ideal S1024x2048 .bf16) (j : S1024x2048.Idx) :
    k0_pay2 (F := Ideal) x0 x1 j = ∑ k : Fin 1024, x0 (ix2 k (j 0)) * x1 (ix2 k (j 1)) := by
  pointwise [k0_pay2, k0_pay1]

theorem hpay3 (x0 : FVec Ideal S1024x1024 .bf16) (x1 : FVec Ideal S1024x2048 .bf16) (acc : FVec Ideal S1024x2048 .f32) (j : S1024x2048.Idx) :
    k0_pay3 x0 x1 acc j = acc j + ∑ k : Fin 1024, x0 (ix2 k (j 0)) * x1 (ix2 k (j 1)) := by
  pointwise [k0_pay3, k0_pay1]

theorem idx_val : ∀ t : Fin cfg0.N, win0_0.index t = ![t.val % 8, t.val / 8 % 2]
    ∧ win0_1.index t = ![t.val % 8, t.val / 16]
    ∧ win0_2.index t = ![t.val / 8 % 2, t.val / 16] :=
  (by decide +kernel : ∀ t : Fin grid0.N, _)

/-- What the scratch holds after the last point of a run: the whole product at the block's place. -/
theorem scratch (c : Dev nD) (t : Fin cfg0.N) (h : t.val % 8 = 7) (j : S1024x2048.Idx) :
    (outsAt0 m c t.val t.isLt).2 j = (∑ k : Fin 8192, (show FVec Ideal S8192x2048 .bf16 from m ((c : Thread nD τ).loc main_arg0)) (ix2 k ((((cfg0.win 2).blk t).view.emb j) 0))
      * (show FVec Ideal S8192x12288 .bf16 from m ((c : Thread nD τ).loc main_arg1)) (ix2 k ((((cfg0.win 2).blk t).view.emb j) 1))) := by
  rw [Pipeline.eq_sum_fin_of_reset_step_apply_of_flush (fun n h => (outsAt0 m c n h).2) 8 (fun _ => 0)
    (fun p j => ∑ k : Fin 1024, (show FVec Ideal S1024x1024 .bf16 from iblk m c 0 p) (ix2 k (j 0))
      * (show FVec Ideal S1024x2048 .bf16 from iblk m c 1 p) (ix2 k (j 1)))
    (fun t h j => by
      rw [outsAt0_A m c t h (by omega) (by omega)]; frame_out; rw [hpay2, zero_add])
    (fun t h j => by
      by_cases h2 : t.val % 8 = 7
      · rw [outsAt0_C m c t h (by omega) h2]; frame_out; simp only [read_unread_whole]; rw [hpay3]
      · rw [outsAt0_B m c t h (by omega) h2]; frame_out; simp only [read_unread_whole]; rw [hpay3])
    t h j, zero_add]
  refine Fin.sum_mul_add_congr fun s k hl => ?_
  blk_point [iblk, V, idx_val t, idx_val ⟨_, Pipeline.run_point_lt_of_flush t h s⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [href, ← scratch m c t h, after0_2, outsAt0_C m c t (by omega) (by omega) h]
  frame_out

end Cert.InDwIdeal.Value

namespace Cert.Proof

open Idealize.ShloMosaic Idealize.SL.Sem

theorem algebraic_InDw : Cert.algebraic_InDwIdeal_InDwRefIdeal := by
  pair_intro
  · run_from Cert.InDwIdeal.Gen.run_main m g
  · run_from Cert.InDwRefIdeal.Value.run m' g'
    exact (Cert.InDwIdeal.Value.final m c).symm

end Cert.Proof

end
-- ==== Proof.EvInDwValue.lean ====
/-
  The weight gradient of an even layer's input projection, `hnᵀ · du`: the kernel walks the 8192 tokens in eight blocks of
  1024, adding each block's product into a scratch, and copies the scratch out after the eighth.
-/
module

public import proofs.«01_k».proof.Defs
public import proofs.«01_k».proof.Proof.Gen.EvInDwIdeal.Frame
public import proofs.«01_k».proof.Proof.Gen.EvInDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.EvInDwIdeal.Value

open Cert.EvInDwIdeal Cert.EvInDwIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .bf16) (W : FVec Ideal S8192x14336 .bf16) : FVec Ideal S2048x14336 .f32 :=
  Host.dotGeneral Cert.EvInDwRefIdeal.dot_S2048x8192_S8192x14336_S2048x14336_1_0_0_1_n_n none
    (transpose Cert.EvInDwRefIdeal.S2048x8192 [1, 0] (extf .f32 X Cert.EvInDwRefIdeal.Gen.bitsLt_bf16_f32 : FVec Ideal Cert.EvInDwRefIdeal.S8192x2048 .f32) Cert.EvInDwRefIdeal.Gen.transposes_S8192x2048_S2048x8192_1_0)
    (extf .f32 W Cert.EvInDwRefIdeal.Gen.bitsLt_bf16_f32 : FVec Ideal Cert.EvInDwRefIdeal.S8192x14336 .f32)

theorem href (X : FVec Ideal S8192x2048 .bf16) (W : FVec Ideal S8192x14336 .bf16) (j : S2048x14336.Idx) :
    REF X W j = ∑ k : Fin 8192, X (ix2 k (j 0)) * W (ix2 k (j 1)) := by
  pointwise [REF]

theorem hpay2 (x0 : FVec Ideal S1024x1024 .bf16) (x1 : FVec Ideal S1024x2048 .bf16) (j : S1024x2048.Idx) :
    k0_pay2 (F := Ideal) x0 x1 j = ∑ k : Fin 1024, x0 (ix2 k (j 0)) * x1 (ix2 k (j 1)) := by
  pointwise [k0_pay2, k0_pay1]

theorem hpay3 (x0 : FVec Ideal S1024x1024 .bf16) (x1 : FVec Ideal S1024x2048 .bf16) (acc : FVec Ideal S1024x2048 .f32) (j : S1024x2048.Idx) :
    k0_pay3 x0 x1 acc j = acc j + ∑ k : Fin 1024, x0 (ix2 k (j 0)) * x1 (ix2 k (j 1)) := by
  pointwise [k0_pay3, k0_pay1]

theorem idx_val : ∀ t : Fin cfg0.N, win0_0.index t = ![t.val % 8, t.val / 8 % 2]
    ∧ win0_1.index t = ![t.val % 8, t.val / 16]
    ∧ win0_2.index t = ![t.val / 8 % 2, t.val / 16] :=
  (by decide +kernel : ∀ t : Fin grid0.N, _)

/-- What the scratch holds after the last point of a run: the whole product at the block's place. -/
theorem scratch (c : Dev nD) (t : Fin cfg0.N) (h : t.val % 8 = 7) (j : S1024x2048.Idx) :
    (outsAt0 m c t.val t.isLt).2 j = (∑ k : Fin 8192, (show FVec Ideal S8192x2048 .bf16 from m ((c : Thread nD τ).loc main_arg0)) (ix2 k ((((cfg0.win 2).blk t).view.emb j) 0))
      * (show FVec Ideal S8192x14336 .bf16 from m ((c : Thread nD τ).loc main_arg1)) (ix2 k ((((cfg0.win 2).blk t).view.emb j) 1))) := by
  rw [Pipeline.eq_sum_fin_of_reset_step_apply_of_flush (fun n h => (outsAt0 m c n h).2) 8 (fun _ => 0)
    (fun p j => ∑ k : Fin 1024, (show FVec Ideal S1024x1024 .bf16 from iblk m c 0 p) (ix2 k (j 0))
      * (show FVec Ideal S1024x2048 .bf16 from iblk m c 1 p) (ix2 k (j 1)))
    (fun t h j => by
      rw [outsAt0_A m c t h (by omega) (by omega)]; frame_out; rw [hpay2, zero_add])
    (fun t h j => by
      by_cases h2 : t.val % 8 = 7
      · rw [outsAt0_C m c t h (by omega) h2]; frame_out; simp only [read_unread_whole]; rw [hpay3]
      · rw [outsAt0_B m c t h (by omega) h2]; frame_out; simp only [read_unread_whole]; rw [hpay3])
    t h j, zero_add]
  refine Fin.sum_mul_add_congr fun s k hl => ?_
  blk_point [iblk, V, idx_val t, idx_val ⟨_, Pipeline.run_point_lt_of_flush t h s⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [href, ← scratch m c t h, after0_2, outsAt0_C m c t (by omega) (by omega) h]
  frame_out

end Cert.EvInDwIdeal.Value

namespace Cert.Proof

open Idealize.ShloMosaic Idealize.SL.Sem

theorem algebraic_EvInDw : Cert.algebraic_EvInDwIdeal_EvInDwRefIdeal := by
  pair_intro
  · run_from Cert.EvInDwIdeal.Gen.run_main m g
  · run_from Cert.EvInDwRefIdeal.Value.run m' g'
    exact (Cert.EvInDwIdeal.Value.final m c).symm

end Cert.Proof

end
-- ==== Proof.GateValue.lean ====
/-
  The gate's product of a per-layer embedding, `hn · W`: each grid point is one product over the whole contracted axis.
-/
module

public import proofs.«01_k».proof.Defs
public import proofs.«01_k».proof.Proof.Gen.GateIdeal.Frame
public import proofs.«01_k».proof.Proof.Gen.GateRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.GateIdeal.Value

open Cert.GateIdeal Cert.GateIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .bf16) (W : FVec Ideal S2048x2048 .bf16) : FVec Ideal S8192x2048 .f32 :=
  Host.dotGeneral Cert.GateRefIdeal.dot_S8192x2048_S2048x2048_S8192x2048_1_0_0_1_n_n none
    (extf .f32 X Cert.GateRefIdeal.Gen.bitsLt_bf16_f32 : FVec Ideal Cert.GateRefIdeal.S8192x2048 .f32)
    (extf .f32 W Cert.GateRefIdeal.Gen.bitsLt_bf16_f32 : FVec Ideal Cert.GateRefIdeal.S2048x2048 .f32)

theorem href (X : FVec Ideal S8192x2048 .bf16) (W : FVec Ideal S2048x2048 .bf16) (j : S8192x2048.Idx) :
    REF X W j = ∑ k : Fin 2048, X (ix2 (j 0) k) * W (ix2 k (j 1)) := by
  pointwise [REF]

theorem hpay (x0 : FVec Ideal S1024x2048 .bf16) (x1 : FVec Ideal S2048x2048 .bf16) (j : S1024x2048.Idx) :
    k0_pay1 (F := Ideal) x0 x1 j = ∑ k : Fin 2048, x0 (ix2 (j 0) k) * x1 (ix2 k (j 1)) := by
  pointwise [k0_pay1]

theorem idx_val : ∀ t : Fin cfg0.N, win0_0.index t = ![t.val % 8, 0]
    ∧ win0_1.index t = ![0, t.val / 8]
    ∧ win0_2.index t = ![t.val % 8, t.val / 8] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  rw [hpay, href]
  blk_point [iblk, V, idx_val t]

end Cert.GateIdeal.Value

namespace Cert.Proof

open Idealize.ShloMosaic Idealize.SL.Sem

theorem algebraic_Gate : Cert.algebraic_GateIdeal_GateRefIdeal := by
  pair_intro
  · run_from Cert.GateIdeal.Gen.run_main m g
  · run_from Cert.GateRefIdeal.Value.run m' g'
    exact (Cert.GateIdeal.Value.final m c).symm

end Cert.Proof

end
-- ==== Proof.GateDxValue.lean ====
/-
  The input gradient of a per-layer embedding's gate product, `dg · Wᵀ`: each grid point is one product over the whole
  contracted axis.
-/
module

public import proofs.«01_k».proof.Defs
public import proofs.«01_k».proof.Proof.Gen.GateDxIdeal.Frame
public import proofs.«01_k».proof.Proof.Gen.GateDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.GateDxIdeal.Value

open Cert.GateDxIdeal Cert.GateDxIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .bf16) (W : FVec Ideal S2048x2048 .bf16) : FVec Ideal S8192x2048 .f32 :=
  Host.dotGeneral Cert.GateDxRefIdeal.dot_S8192x2048_S2048x2048_S8192x2048_1_0_0_1_n_n none
    (extf .f32 X Cert.GateDxRefIdeal.Gen.bitsLt_bf16_f32 : FVec Ideal Cert.GateDxRefIdeal.S8192x2048 .f32)
    (transpose Cert.GateDxRefIdeal.S2048x2048 [1, 0] (extf .f32 W Cert.GateDxRefIdeal.Gen.bitsLt_bf16_f32 : FVec Ideal Cert.GateDxRefIdeal.S2048x2048 .f32) Cert.GateDxRefIdeal.Gen.transposes_S2048x2048_S2048x2048_1_0)

theorem href (X : FVec Ideal S8192x2048 .bf16) (W : FVec Ideal S2048x2048 .bf16) (j : S8192x2048.Idx) :
    REF X W j = ∑ k : Fin 2048, X (ix2 (j 0) k) * W (ix2 (j 1) k) := by
  pointwise [REF]

theorem hpay (x0 : FVec Ideal S1024x2048 .bf16) (x1 : FVec Ideal S2048x2048 .bf16) (j : S1024x2048.Idx) :
    k0_pay1 (F := Ideal) x0 x1 j = ∑ k : Fin 2048, x0 (ix2 (j 0) k) * x1 (ix2 (j 1) k) := by
  pointwise [k0_pay1]

theorem idx_val : ∀ t : Fin cfg0.N, win0_0.index t = ![t.val % 8, 0]
    ∧ win0_1.index t = ![t.val / 8, 0]
    ∧ win0_2.index t = ![t.val % 8, t.val / 8] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  rw [hpay, href]
  blk_point [iblk, V, idx_val t]

end Cert.GateDxIdeal.Value

namespace Cert.Proof

open Idealize.ShloMosaic Idealize.SL.Sem

theorem algebraic_GateDx : Cert.algebraic_GateDxIdeal_GateDxRefIdeal := by
  pair_intro
  · run_from Cert.GateDxIdeal.Gen.run_main m g
  · run_from Cert.GateDxRefIdeal.Value.run m' g'
    exact (Cert.GateDxIdeal.Value.final m c).symm

end Cert.Proof

end
-- ==== Proof.GateDwValue.lean ====
/-
  The weight gradient of a per-layer embedding's gate product, `hnᵀ · dg`: the kernel walks the 8192 tokens in eight blocks
  of 1024, adding each block's product into a scratch, and copies the scratch out after the eighth.
-/
module

public import proofs.«01_k».proof.Defs
public import proofs.«01_k».proof.Proof.Gen.GateDwIdeal.Frame
public import proofs.«01_k».proof.Proof.Gen.GateDwRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.GateDwIdeal.Value

open Cert.GateDwIdeal Cert.GateDwIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .bf16) (W : FVec Ideal S8192x2048 .bf16) : FVec Ideal S2048x2048 .f32 :=
  Host.dotGeneral Cert.GateDwRefIdeal.dot_S2048x8192_S8192x2048_S2048x2048_1_0_0_1_n_n none
    (transpose Cert.GateDwRefIdeal.S2048x8192 [1, 0] (extf .f32 X Cert.GateDwRefIdeal.Gen.bitsLt_bf16_f32 : FVec Ideal Cert.GateDwRefIdeal.S8192x2048 .f32) Cert.GateDwRefIdeal.Gen.transposes_S8192x2048_S2048x8192_1_0)
    (extf .f32 W Cert.GateDwRefIdeal.Gen.bitsLt_bf16_f32 : FVec Ideal Cert.GateDwRefIdeal.S8192x2048 .f32)

theorem href (X : FVec Ideal S8192x2048 .bf16) (W : FVec Ideal S8192x2048 .bf16) (j : S2048x2048.Idx) :
    REF X W j = ∑ k : Fin 8192, X (ix2 k (j 0)) * W (ix2 k (j 1)) := by
  pointwise [REF]

theorem hpay2 (x0 : FVec Ideal S1024x1024 .bf16) (x1 : FVec Ideal S1024x2048 .bf16) (j : S1024x2048.Idx) :
    k0_pay2 (F := Ideal) x0 x1 j = ∑ k : Fin 1024, x0 (ix2 k (j 0)) * x1 (ix2 k (j 1)) := by
  pointwise [k0_pay2, k0_pay1]

theorem hpay3 (x0 : FVec Ideal S1024x1024 .bf16) (x1 : FVec Ideal S1024x2048 .bf16) (acc : FVec Ideal S1024x2048 .f32) (j : S1024x2048.Idx) :
    k0_pay3 x0 x1 acc j = acc j + ∑ k : Fin 1024, x0 (ix2 k (j 0)) * x1 (ix2 k (j 1)) := by
  pointwise [k0_pay3, k0_pay1]

theorem idx_val : ∀ t : Fin cfg0.N, win0_0.index t = ![t.val % 8, t.val / 8 % 2]
    ∧ win0_1.index t = ![t.val % 8, t.val / 16]
    ∧ win0_2.index t = ![t.val / 8 % 2, t.val / 16] :=
  (by decide +kernel : ∀ t : Fin grid0.N, _)

/-- What the scratch holds after the last point of a run: the whole product at the block's place. -/
theorem scratch (c : Dev nD) (t : Fin cfg0.N) (h : t.val % 8 = 7) (j : S1024x2048.Idx) :
    (outsAt0 m c t.val t.isLt).2 j = (∑ k : Fin 8192, (show FVec Ideal S8192x2048 .bf16 from m ((c : Thread nD τ).loc main_arg0)) (ix2 k ((((cfg0.win 2).blk t).view.emb j) 0))
      * (show FVec Ideal S8192x2048 .bf16 from m ((c : Thread nD τ).loc main_arg1)) (ix2 k ((((cfg0.win 2).blk t).view.emb j) 1))) := by
  rw [Pipeline.eq_sum_fin_of_reset_step_apply_of_flush (fun n h => (outsAt0 m c n h).2) 8 (fun _ => 0)
    (fun p j => ∑ k : Fin 1024, (show FVec Ideal S1024x1024 .bf16 from iblk m c 0 p) (ix2 k (j 0))
      * (show FVec Ideal S1024x2048 .bf16 from iblk m c 1 p) (ix2 k (j 1)))
    (fun t h j => by
      rw [outsAt0_A m c t h (by omega) (by omega)]; frame_out; rw [hpay2, zero_add])
    (fun t h j => by
      by_cases h2 : t.val % 8 = 7
      · rw [outsAt0_C m c t h (by omega) h2]; frame_out; simp only [read_unread_whole]; rw [hpay3]
      · rw [outsAt0_B m c t h (by omega) h2]; frame_out; simp only [read_unread_whole]; rw [hpay3])
    t h j, zero_add]
  refine Fin.sum_mul_add_congr fun s k hl => ?_
  blk_point [iblk, V, idx_val t, idx_val ⟨_, Pipeline.run_point_lt_of_flush t h s⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [href, ← scratch m c t h, after0_2, outsAt0_C m c t (by omega) (by omega) h]
  frame_out

end Cert.GateDwIdeal.Value

namespace Cert.Proof

open Idealize.ShloMosaic Idealize.SL.Sem

theorem algebraic_GateDw : Cert.algebraic_GateDwIdeal_GateDwRefIdeal := by
  pair_intro
  · run_from Cert.GateDwIdeal.Gen.run_main m g
  · run_from Cert.GateDwRefIdeal.Value.run m' g'
    exact (Cert.GateDwIdeal.Value.final m c).symm

end Cert.Proof

end
-- ==== Proof.EvInValue.lean ====
/-
  The input projection of an even layer, `hn · W`: each grid point is one product over the whole contracted axis.
-/
module

public import proofs.«01_k».proof.Defs
public import proofs.«01_k».proof.Proof.Gen.EvInIdeal.Frame
public import proofs.«01_k».proof.Proof.Gen.EvInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.EvInIdeal.Value

open Cert.EvInIdeal Cert.EvInIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x2048 .bf16) (W : FVec Ideal S2048x14336 .bf16) : FVec Ideal S8192x14336 .f32 :=
  Host.dotGeneral Cert.EvInRefIdeal.dot_S8192x2048_S2048x14336_S8192x14336_1_0_0_1_n_n none
    (extf .f32 X Cert.EvInRefIdeal.Gen.bitsLt_bf16_f32 : FVec Ideal Cert.EvInRefIdeal.S8192x2048 .f32)
    (extf .f32 W Cert.EvInRefIdeal.Gen.bitsLt_bf16_f32 : FVec Ideal Cert.EvInRefIdeal.S2048x14336 .f32)

theorem href (X : FVec Ideal S8192x2048 .bf16) (W : FVec Ideal S2048x14336 .bf16) (j : S8192x14336.Idx) :
    REF X W j = ∑ k : Fin 2048, X (ix2 (j 0) k) * W (ix2 k (j 1)) := by
  pointwise [REF]

theorem hpay (x0 : FVec Ideal S1024x2048 .bf16) (x1 : FVec Ideal S2048x2048 .bf16) (j : S1024x2048.Idx) :
    k0_pay1 (F := Ideal) x0 x1 j = ∑ k : Fin 2048, x0 (ix2 (j 0) k) * x1 (ix2 k (j 1)) := by
  pointwise [k0_pay1]

theorem idx_val : ∀ t : Fin cfg0.N, win0_0.index t = ![t.val % 8, 0]
    ∧ win0_1.index t = ![0, t.val / 8]
    ∧ win0_2.index t = ![t.val % 8, t.val / 8] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]; frame_out
  rw [hpay, href]
  blk_point [iblk, V, idx_val t]

end Cert.EvInIdeal.Value

namespace Cert.Proof

open Idealize.ShloMosaic Idealize.SL.Sem

theorem algebraic_EvIn : Cert.algebraic_EvInIdeal_EvInRefIdeal := by
  pair_intro
  · run_from Cert.EvInIdeal.Gen.run_main m g
  · run_from Cert.EvInRefIdeal.Value.run m' g'
    exact (Cert.EvInIdeal.Value.final m c).symm

end Cert.Proof

end
-- ==== Proof.EvInDxValue.lean ====
/-
  The input gradient of an even layer's input projection, `du · Wᵀ`: the kernel walks the contracted axis of 14336 in
  fourteen blocks of 1024, adding each block's product into a scratch, and copies the scratch out after the fourteenth.
-/
module

public import proofs.«01_k».proof.Defs
public import proofs.«01_k».proof.Proof.Gen.EvInDxIdeal.Frame
public import proofs.«01_k».proof.Proof.Gen.EvInDxRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.EvInDxIdeal.Value

open Cert.EvInDxIdeal Cert.EvInDxIdeal.Gen Idealize.ShloMosaic Idealize.ShloMosaic.TcCoe Idealize.SL.Sem

variable (m : (ℓ : Loc nD τ sig) → Buf (Elt Ideal) ℓ) (ρ : Dev nD → PrngReg)

/-- The reference's result over the kernel's argument arrays. -/
abbrev REF (X : FVec Ideal S8192x14336 .bf16) (W : FVec Ideal S2048x14336 .bf16) : FVec Ideal S8192x2048 .f32 :=
  Host.dotGeneral Cert.EvInDxRefIdeal.dot_S8192x14336_S14336x2048_S8192x2048_1_0_0_1_n_n none
    (extf .f32 X Cert.EvInDxRefIdeal.Gen.bitsLt_bf16_f32 : FVec Ideal Cert.EvInDxRefIdeal.S8192x14336 .f32)
    (transpose Cert.EvInDxRefIdeal.S14336x2048 [1, 0] (extf .f32 W Cert.EvInDxRefIdeal.Gen.bitsLt_bf16_f32 : FVec Ideal Cert.EvInDxRefIdeal.S2048x14336 .f32) Cert.EvInDxRefIdeal.Gen.transposes_S2048x14336_S14336x2048_1_0)

theorem href (X : FVec Ideal S8192x14336 .bf16) (W : FVec Ideal S2048x14336 .bf16) (j : S8192x2048.Idx) :
    REF X W j = ∑ k : Fin 14336, X (ix2 (j 0) k) * W (ix2 (j 1) k) := by
  pointwise [REF]

theorem hpay2 (x0 : FVec Ideal S1024x1024 .bf16) (x1 : FVec Ideal S2048x1024 .bf16) (j : S1024x2048.Idx) :
    k0_pay2 (F := Ideal) x0 x1 j = ∑ k : Fin 1024, x0 (ix2 (j 0) k) * x1 (ix2 (j 1) k) := by
  pointwise [k0_pay2, k0_pay1]

theorem hpay3 (x0 : FVec Ideal S1024x1024 .bf16) (x1 : FVec Ideal S2048x1024 .bf16) (acc : FVec Ideal S1024x2048 .f32) (j : S1024x2048.Idx) :
    k0_pay3 x0 x1 acc j = acc j + ∑ k : Fin 1024, x0 (ix2 (j 0) k) * x1 (ix2 (j 1) k) := by
  pointwise [k0_pay3, k0_pay1]

theorem idx_val : ∀ t : Fin cfg0.N, win0_0.index t = ![t.val / 14 % 8, t.val % 14]
    ∧ win0_1.index t = ![t.val / 112, t.val % 14]
    ∧ win0_2.index t = ![t.val / 14 % 8, t.val / 112] :=
  (by decide +kernel : ∀ t : Fin grid0.N, _)

/-- What the scratch holds after the last point of a run: the whole product at the block's place. -/
theorem scratch (c : Dev nD) (t : Fin cfg0.N) (h : t.val % 14 = 13) (j : S1024x2048.Idx) :
    (outsAt0 m c t.val t.isLt).2 j = (∑ k : Fin 14336, (show FVec Ideal S8192x14336 .bf16 from m ((c : Thread nD τ).loc main_arg0)) (ix2 ((((cfg0.win 2).blk t).view.emb j) 0) k)
      * (show FVec Ideal S2048x14336 .bf16 from m ((c : Thread nD τ).loc main_arg1)) (ix2 ((((cfg0.win 2).blk t).view.emb j) 1) k)) := by
  rw [Pipeline.eq_sum_fin_of_reset_step_apply_of_flush (fun n h => (outsAt0 m c n h).2) 14 (fun _ => 0)
    (fun p j => ∑ k : Fin 1024, (show FVec Ideal S1024x1024 .bf16 from iblk m c 0 p) (ix2 (j 0) k)
      * (show FVec Ideal S2048x1024 .bf16 from iblk m c 1 p) (ix2 (j 1) k))
    (fun t h j => by
      rw [outsAt0_A m c t h (by omega) (by omega)]; frame_out; rw [hpay2, zero_add])
    (fun t h j => by
      by_cases h2 : t.val % 14 = 13
      · rw [outsAt0_C m c t h (by omega) h2]; frame_out; simp only [read_unread_whole]; rw [hpay3]
      · rw [outsAt0_B m c t h (by omega) h2]; frame_out; simp only [read_unread_whole]; rw [hpay3])
    t h j, zero_add]
  refine Fin.sum_mul_add_congr fun s k hl => ?_
  blk_point [iblk, V, idx_val t, idx_val ⟨_, Pipeline.run_point_lt_of_flush t h s⟩]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h : t.val % 14 = 13 := (flush0_2 t).mp hf
  blk_simp
  rw [href, ← scratch m c t h, after0_2, outsAt0_C m c t (by omega) (by omega) h]
  frame_out

end Cert.EvInDxIdeal.Value

namespace Cert.Proof

open Idealize.ShloMosaic Idealize.SL.Sem

theorem algebraic_EvInDx : Cert.algebraic_EvInDxIdeal_EvInDxRefIdeal := by
  pair_intro
  · run_from Cert.EvInDxIdeal.Gen.run_main m g
  · run_from Cert.EvInDxRefIdeal.Value.run m' g'
    exact (Cert.EvInDxIdeal.Value.final m c).symm

end Cert.Proof

end
-- ==== Proof.RmsValue.lean ====
/-
  The backward pass of the first normalisation with the gradient of the residual added: every grid point reads 256 rows,
  writes their input gradient and adds their part of the scale gradient.
-/
module

public import proofs.«01_k».proof.Defs
public import proofs.«01_k».proof.Proof.Gen.RmsIdeal.Frame
public import proofs.«01_k».proof.Proof.Gen.RmsRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.RmsIdeal.Value

open Cert.RmsIdeal Cert.RmsIdeal.Gen Idealize.ShloMosaic Idealize.ShloMosaic.TcCoe Idealize.SL.Sem

variable (m : (ℓ : Loc nD τ sig) → Buf (Elt Ideal) ℓ) (ρ : Dev nD → PrngReg)

/-- One row's mean square, with the small constant that keeps it away from zero. -/
def MS (a : Fin 2048 → EReal) : EReal :=
  Ideal.div (∑ k, a k * a k) (Ideal.ofBits .f32 1157627904#32) + Ideal.ofBits .f32 897988541#32

/-- One row's share of the gradient that comes through the mean square. -/
def SH (a w d : Fin 2048 → EReal) : EReal :=
  ∑ _k : Fin 1, Ideal.div ((∑ k, a k * (d k * w k))
    * (Ideal.ofBits .f32 3204448256#32 * Ideal.div (Ideal.rsqrt (MS a)) (MS a))) (Ideal.ofBits .f32 1157627904#32)

/-- The gradient of the normalisation with respect to its input, at one element of a row. -/
def DX (a w d : Fin 2048 → EReal) (l : Fin 2048) : EReal :=
  d l * w l * Ideal.rsqrt (MS a) + a l * SH a w d + SH a w d * a l

/-- The gradient with respect to the scale: one row's part. -/
def DW (a d : Fin 2048 → EReal) (l : Fin 2048) : EReal :=
  a l * Ideal.rsqrt (MS a) * d l

section Body

variable (x0 : FVec Ideal S256x2048 .f32) (x1 : FVec Ideal S1x2048 .f32) (x2 x3 : FVec Ideal S256x2048 .f32)

theorem hpay6 (y : S256x2048.Idx) : k0_pay6 (F := Ideal) x0 x1 x2 x3 y
    = DX (fun k => x0 (ix2 (y 0) k)) (fun k => x1 (ix2 0 k)) (fun k => x2 (ix2 (y 0) k)) (y 1) + x3 (ix2 (y 0) (y 1)) := by
  pointwise [k0_pay6, k0_pay4, k0_pay3, DX, SH, MS]

theorem hpay5 (y : S1x2048.Idx) : k0_pay5 (F := Ideal) x0 x2 y
    = ∑ r : Fin 256, DW (fun k => x0 (ix2 r k)) (fun k => x2 (ix2 r k)) (y 1) := by
  pointwise [k0_pay5, k0_pay4, k0_pay3, DW, MS]

theorem hpay2 (y : S1x2048.Idx) (acc : FVec Ideal S1x2048 .f32) : k0_pay2 (F := Ideal) (k0_pay5 x0 x2) acc y
    = acc y + ∑ r : Fin 256, DW (fun k => x0 (ix2 r k)) (fun k => x2 (ix2 r k)) (y 1) :=
  (by pointwise [k0_pay2] : k0_pay2 (F := Ideal) (k0_pay5 x0 x2) acc y = acc y + k0_pay5 x0 x2 y).trans
    (congrArg (acc y + ·) (hpay5 x0 x2 y))

theorem hpay1 (y : S1x2048.Idx) : k0_pay1 (F := Ideal) y = 0 := by
  pointwise [k0_pay1]

end Body

theorem idx_val : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, _)

/-- The input gradient of the whole array. -/
def DH (x0 : FVec Ideal S8192x2048 .f32) (x1 : FVec Ideal S1x2048 .f32) (x2 x3 : FVec Ideal S8192x2048 .f32) : FVec Ideal S8192x2048 .f32 :=
  fun j => DX (fun k => x0 (ix2 (j 0) k)) (fun k => x1 (ix2 0 k)) (fun k => x2 (ix2 (j 0) k)) (j 1) + x3 (ix2 (j 0) (j 1))

/-- The scale gradient: the sum of the rows' parts. -/
def DWS (x0 x2 : FVec Ideal S8192x2048 .f32) : FVec Ideal S1x2048 .f32 :=
  fun j => ∑ r : Fin 8192, DW (fun k => x0 (ix2 r k)) (fun k => x2 (ix2 r k)) (j 1)

/-- The row of the whole array that row `r` of the block at a point is. -/
def ROW (t : Fin cfg0.N) (r : Fin 256) : Fin 8192 :=
  ⟨t.val * 256 + r.val, by have h : t.val < 32 := t.isLt; have := r.isLt; omega⟩

theorem row0 (c : Dev nD) (t : Fin cfg0.N) (r : Fin 256) (l : Fin 2048) :
    (show FVec Ideal S256x2048 .f32 from iblk m c 0 t) (ix2 r l) = (show FVec Ideal S8192x2048 .f32 from (m ((c : Thread nD τ).loc main_arg0))) (ix2 (ROW t r) l) := by
  blk_point [iblk, V, idx_val t, ROW]

theorem row1 (c : Dev nD) (t : Fin cfg0.N) (l : Fin 2048) :
    (show FVec Ideal S1x2048 .f32 from iblk m c 1 t) (ix2 0 l) = (show FVec Ideal S1x2048 .f32 from (m ((c : Thread nD τ).loc main_arg1))) (ix2 0 l) := by
  blk_point [iblk, V, idx_val t, ROW]

theorem row2 (c : Dev nD) (t : Fin cfg0.N) (r : Fin 256) (l : Fin 2048) :
    (show FVec Ideal S256x2048 .f32 from iblk m c 2 t) (ix2 r l) = (show FVec Ideal S8192x2048 .f32 from (m ((c : Thread nD τ).loc main_arg2))) (ix2 (ROW t r) l) := by
  blk_point [iblk, V, idx_val t, ROW]

theorem row3 (c : Dev nD) (t : Fin cfg0.N) (r : Fin 256) (l : Fin 2048) :
    (show FVec Ideal S256x2048 .f32 from iblk m c 3 t) (ix2 r l) = (show FVec Ideal S8192x2048 .f32 from (m ((c : Thread nD τ).loc main_arg3))) (ix2 (ROW t r) l) := by
  blk_point [iblk, V, idx_val t, ROW]

theorem emb4 (G : FVec Ideal S8192x2048 .f32) (t : Fin cfg0.N) (y : S256x2048.Idx) :
    G (((cfg0.win 4).blk t).view.emb y) = G (ix2 (ROW t (y 0)) (y 1)) := by
  blk_point [idx_val t, ROW]

theorem emb5 (G : FVec Ideal S1x2048 .f32) (t : Fin cfg0.N) (y : S1x2048.Idx) :
    G (((cfg0.win 5).blk t).view.emb y) = G (ix2 0 (y 1)) := by
  blk_point [idx_val t]

theorem final4 (c : Dev nD) : (dats m 0 c).arrAt 4 (cfgs 0).N = DH (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have h : (outsAt0 m c t.val t.isLt).1 y = k0_pay6 (F := Ideal) (iblk m c 0 t) (iblk m c 1 t) (iblk m c 2 t) (iblk m c 3 t) y := by
    by_cases h0 : t.val % 32 = 0
    · rw [outsAt0_A m c t h0]; frame_out
    · rw [outsAt0_B m c t h0]; frame_out
  refine (h.trans (hpay6 _ _ _ _ y)).trans ?_
  refine Eq.trans ?_ (emb4 (DH (m ((c : Thread nD τ).loc main_arg0)) (m ((c : Thread nD τ).loc main_arg1)) (m ((c : Thread nD τ).loc main_arg2)) (m ((c : Thread nD τ).loc main_arg3))) t y).symm
  exact congrArg₂ (· + ·) (congr (congr (congr (congrArg DX (funext (row0 m c t (y 0)))) (funext (row1 m c t))) (funext (row2 m c t (y 0)))) rfl)
    (row3 m c t (y 0) (y 1))

theorem accA (c : Dev nD) (t : Fin cfg0.N) (h : t.val % 32 = 0) (j : S1x2048.Idx) :
    (outsAt0 m c t.val t.isLt).2 j = k0_pay2 (F := Ideal) (k0_pay5 (iblk m c 0 t) (iblk m c 2 t)) (k0_pay1 (F := Ideal)) j := by
  rw [outsAt0_A m c t h]; frame_out

theorem accB (c : Dev nD) (t : Fin cfg0.N) (h : ¬ t.val % 32 = 0) (j : S1x2048.Idx) :
    (outsAt0 m c t.val t.isLt).2 j = k0_pay2 (F := Ideal) (k0_pay5 (iblk m c 0 t) (iblk m c 2 t))
      (outsAt0 m c (t.val - 1) (lt_of_le_of_lt (Nat.sub_le _ _) t.isLt)).2 j := by
  rw [outsAt0_B m c t h]; frame_out

/-- What the output block of the scale gradient holds after the last point: the sum of the rows' parts. -/
theorem acc (c : Dev nD) (t : Fin cfg0.N) (h : t.val % 32 = 31) (j : S1x2048.Idx) :
    (outsAt0 m c t.val t.isLt).2 j = DWS (m ((c : Thread nD τ).loc main_arg0)) (m ((c : Thread nD τ).loc main_arg2)) (((cfg0.win 5).blk t).view.emb j) := by
  refine Eq.trans ?_ (emb5 (DWS (m ((c : Thread nD τ).loc main_arg0)) (m ((c : Thread nD τ).loc main_arg2))) t j).symm
  refine (Pipeline.eq_sum_fin_of_reset_step_apply_of_flush (fun n h => (outsAt0 m c n h).2) 32 (fun _ => 0)
    (fun p j => ∑ r : Fin 256, DW (fun k => (show FVec Ideal S256x2048 .f32 from iblk m c 0 p) (ix2 r k))
      (fun k => (show FVec Ideal S256x2048 .f32 from iblk m c 2 p) (ix2 r k)) (j 1))
    (fun t h j => (accA m c t h j).trans ((hpay2 _ _ j _).trans (congrArg (· + _) (hpay1 j))))
    (fun t h j => (accB m c t h j).trans (hpay2 _ _ j _))
    t h j).trans ((zero_add _).trans ?_)
  refine Fin.sum_mul_add_congr fun s k hl => ?_
  have h32 : t.val < 32 := t.isLt
  have e : ROW ⟨_, Pipeline.run_point_lt_of_flush t h s⟩ k = ⟨_, hl⟩ := Fin.ext (by dsimp only [ROW]; omega)
  rw [← e]
  exact congrFun (congrArg₂ DW (funext (row0 m c _ k)) (funext (row2 m c _ k))) _

theorem final5 (c : Dev nD) : (dats m 0 c).arrAt 5 (cfgs 0).N = DWS (m ((c : Thread nD τ).loc main_arg0)) (m ((c : Thread nD τ).loc main_arg2)) := by
  refine (dats m 0 c).arrAt_eq_of_covers 5 _ (by decide +kernel) fun t hf y => ?_
  have h : t.val % 32 = 31 := (flush0_5 t).mp hf
  blk_simp
  rw [after0_5]
  exact acc m c t h y

/-- The reference's mean squares. -/
def RMS (X0 : FVec Ideal S8192x2048 .f32) : FVec Ideal Cert.RmsRefIdeal.S8192x1 .f32 :=
  (addf (Host.divf (broadcastInDim Cert.RmsRefIdeal.S8192x1 ![0] Cert.RmsRefIdeal.Gen.bcast_S8192_S8192x1_0 (Host.reduceAdd (mulf X0 X0) (constant Cert.RmsRefIdeal.S_ .f32 0x00000000#32) Cert.RmsRefIdeal.Gen.reducesTo_S8192x2048_S8192_d1 Cert.RmsRefIdeal.Gen.h_S_)) (broadcastInDim Cert.RmsRefIdeal.S8192x1 ![] Cert.RmsRefIdeal.Gen.bcast_S_S8192x1 (constant Cert.RmsRefIdeal.S_ .f32 0x45000000#32))) (broadcastInDim Cert.RmsRefIdeal.S8192x1 ![] Cert.RmsRefIdeal.Gen.bcast_S_S8192x1 (constant Cert.RmsRefIdeal.S_ .f32 0x358637BD#32)))

/-- The reference's shares of the gradient that come through the mean squares. -/
def RSH (X0 : FVec Ideal S8192x2048 .f32) (X1 : FVec Ideal S1x2048 .f32) (X2 : FVec Ideal S8192x2048 .f32) : FVec Ideal Cert.RmsRefIdeal.S8192 .f32 :=
  (Host.reduceAdd (Host.divf (mulf (shapeCast Cert.RmsRefIdeal.S8192x1 (Host.reduceAdd (mulf X0 (mulf X2 (broadcastInDim Cert.RmsRefIdeal.S8192x2048 ![0, 1] Cert.RmsRefIdeal.Gen.bcast_S1x2048_S8192x2048_0_1 X1))) (constant Cert.RmsRefIdeal.S_ .f32 0x00000000#32) Cert.RmsRefIdeal.Gen.reducesTo_S8192x2048_S8192_d1 Cert.RmsRefIdeal.Gen.h_S_) Cert.RmsRefIdeal.Gen.shapeCasts_S8192_S8192x1) (mulf (broadcastInDim Cert.RmsRefIdeal.S8192x1 ![] Cert.RmsRefIdeal.Gen.bcast_S_S8192x1 (constant Cert.RmsRefIdeal.S_ .f32 0xBF000000#32)) (Host.divf (Host.rsqrt (RMS X0)) (RMS X0)))) (broadcastInDim Cert.RmsRefIdeal.S8192x1 ![] Cert.RmsRefIdeal.Gen.bcast_S_S8192x1 (constant Cert.RmsRefIdeal.S_ .f32 0x45000000#32))) (constant Cert.RmsRefIdeal.S_ .f32 0x00000000#32) Cert.RmsRefIdeal.Gen.reducesTo_S8192x1_S8192_d1 Cert.RmsRefIdeal.Gen.h_S_)

section Reference

variable (X0 : FVec Ideal S8192x2048 .f32) (X1 : FVec Ideal S1x2048 .f32) (X2 X3 : FVec Ideal S8192x2048 .f32)

theorem rms_at (j : Cert.RmsRefIdeal.S8192x1.Idx) : RMS X0 j = MS (fun k => X0 (ix2 (j 0) k)) := by
  pointwise [RMS, MS]

theorem rsh_at (j : Cert.RmsRefIdeal.S8192.Idx) : RSH X0 X1 X2 j
    = SH (fun k => X0 (ix2 (j 0) k)) (fun k => X1 (ix2 0 k)) (fun k => X2 (ix2 (j 0) k)) := by
  pointwise [RSH, SH]
  simp only [rms_at]
  rfl

theorem href4 : (addf X3 (addf (addf (mulf (mulf X2 (broadcastInDim Cert.RmsRefIdeal.S8192x2048 ![0, 1] Cert.RmsRefIdeal.Gen.bcast_S1x2048_S8192x2048_0_1 X1)) (broadcastInDim Cert.RmsRefIdeal.S8192x2048 ![0, 1] Cert.RmsRefIdeal.Gen.bcast_S8192x1_S8192x2048_0_1 (Host.rsqrt (RMS X0)))) (mulf X0 (broadcastInDim Cert.RmsRefIdeal.S8192x2048 ![0] Cert.RmsRefIdeal.Gen.bcast_S8192_S8192x2048_0 (RSH X0 X1 X2)))) (mulf (broadcastInDim Cert.RmsRefIdeal.S8192x2048 ![0] Cert.RmsRefIdeal.Gen.bcast_S8192_S8192x2048_0 (RSH X0 X1 X2)) X0)) : FVec Ideal S8192x2048 .f32) = DH X0 X1 X2 X3 := by
  funext y
  refine Eq.trans ?_ (add_comm _ _)
  pointwise [DX]
  simp only [rms_at, rsh_at]
  rfl

theorem href5 : (shapeCast Cert.RmsRefIdeal.S1x2048 (Host.reduceAdd (mulf (mulf X0 (broadcastInDim Cert.RmsRefIdeal.S8192x2048 ![0, 1] Cert.RmsRefIdeal.Gen.bcast_S8192x1_S8192x2048_0_1 (Host.rsqrt (RMS X0)))) X2) (constant Cert.RmsRefIdeal.S_ .f32 0x00000000#32) Cert.RmsRefIdeal.Gen.reducesTo_S8192x2048_S2048_d0 Cert.RmsRefIdeal.Gen.h_S_) Cert.RmsRefIdeal.Gen.shapeCasts_S2048_S1x2048 : FVec Ideal S1x2048 .f32) = DWS X0 X2 := by
  funext y
  pointwise [DWS, DW]
  simp only [rms_at]
  rfl

end Reference

/-- The reference's run, its results given as the gradients above. -/
theorem ref_run (m' : (ℓ : Loc Cert.RmsRefIdeal.nD Cert.RmsRefIdeal.τ Cert.RmsRefIdeal.sig) → Buf (Elt Ideal) ℓ) (g' : Dev Cert.RmsRefIdeal.nD → PrngReg) :
    θ_run Cert.RmsRefIdeal.defs (onTc (τ := Cert.RmsRefIdeal.τ) (Cert.RmsRefIdeal.main (F := Ideal))) ⟨m', fun _ => 0, g'⟩ fun r => ∀ c : Dev Cert.RmsRefIdeal.nD,
      r.2.mem ((c.tc : Thread Cert.RmsRefIdeal.nD Cert.RmsRefIdeal.τ).loc Cert.RmsRefIdeal.main_v34) = DH (m' ((c.tc : Thread Cert.RmsRefIdeal.nD Cert.RmsRefIdeal.τ).loc Cert.RmsRefIdeal.main_arg0)) (m' ((c.tc : Thread Cert.RmsRefIdeal.nD Cert.RmsRefIdeal.τ).loc Cert.RmsRefIdeal.main_arg1)) (m' ((c.tc : Thread Cert.RmsRefIdeal.nD Cert.RmsRefIdeal.τ).loc Cert.RmsRefIdeal.main_arg2)) (m' ((c.tc : Thread Cert.RmsRefIdeal.nD Cert.RmsRefIdeal.τ).loc Cert.RmsRefIdeal.main_arg3))
      ∧ r.2.mem ((c.tc : Thread Cert.RmsRefIdeal.nD Cert.RmsRefIdeal.τ).loc Cert.RmsRefIdeal.main_v17) = DWS (m' ((c.tc : Thread Cert.RmsRefIdeal.nD Cert.RmsRefIdeal.τ).loc Cert.RmsRefIdeal.main_arg0)) (m' ((c.tc : Thread Cert.RmsRefIdeal.nD Cert.RmsRefIdeal.τ).loc Cert.RmsRefIdeal.main_arg2))
      ∧ r.2.mem ((c.tc : Thread Cert.RmsRefIdeal.nD Cert.RmsRefIdeal.τ).loc Cert.RmsRefIdeal.main_arg0) = (m' ((c.tc : Thread Cert.RmsRefIdeal.nD Cert.RmsRefIdeal.τ).loc Cert.RmsRefIdeal.main_arg0)) ∧ r.2.mem ((c.tc : Thread Cert.RmsRefIdeal.nD Cert.RmsRefIdeal.τ).loc Cert.RmsRefIdeal.main_arg1) = (m' ((c.tc : Thread Cert.RmsRefIdeal.nD Cert.RmsRefIdeal.τ).loc Cert.RmsRefIdeal.main_arg1)) ∧ r.2.mem ((c.tc : Thread Cert.RmsRefIdeal.nD Cert.RmsRefIdeal.τ).loc Cert.RmsRefIdeal.main_arg2) = (m' ((c.tc : Thread Cert.RmsRefIdeal.nD Cert.RmsRefIdeal.τ).loc Cert.RmsRefIdeal.main_arg2)) ∧ r.2.mem ((c.tc : Thread Cert.RmsRefIdeal.nD Cert.RmsRefIdeal.τ).loc Cert.RmsRefIdeal.main_arg3) = (m' ((c.tc : Thread Cert.RmsRefIdeal.nD Cert.RmsRefIdeal.τ).loc Cert.RmsRefIdeal.main_arg3)) :=
  (θ_run Cert.RmsRefIdeal.defs _ _).mono (fun r h c => ⟨(h c).1.trans (href4 (m' ((c.tc : Thread Cert.RmsRefIdeal.nD Cert.RmsRefIdeal.τ).loc Cert.RmsRefIdeal.main_arg0)) (m' ((c.tc : Thread Cert.RmsRefIdeal.nD Cert.RmsRefIdeal.τ).loc Cert.RmsRefIdeal.main_arg1)) (m' ((c.tc : Thread Cert.RmsRefIdeal.nD Cert.RmsRefIdeal.τ).loc Cert.RmsRefIdeal.main_arg2)) (m' ((c.tc : Thread Cert.RmsRefIdeal.nD Cert.RmsRefIdeal.τ).loc Cert.RmsRefIdeal.main_arg3))),
    (h c).2.1.trans (href5 (m' ((c.tc : Thread Cert.RmsRefIdeal.nD Cert.RmsRefIdeal.τ).loc Cert.RmsRefIdeal.main_arg0)) (m' ((c.tc : Thread Cert.RmsRefIdeal.nD Cert.RmsRefIdeal.τ).loc Cert.RmsRefIdeal.main_arg2))), (h c).2.2⟩) (Cert.RmsRefIdeal.Value.run m' g')

end Cert.RmsIdeal.Value

namespace Cert.Proof

open Idealize.ShloMosaic Idealize.SL.Sem

set_option maxHeartbeats 4000000 in
theorem algebraic_Rms : Cert.algebraic_RmsIdeal_RmsRefIdeal := by
  pair_intro
  · run_from Cert.RmsIdeal.Gen.run_main m g
  · run_from Cert.RmsIdeal.Value.ref_run m' g'
    · exact (Cert.RmsIdeal.Value.final4 m c).symm
    · exact (Cert.RmsIdeal.Value.final5 m c).symm

end Cert.Proof

end
-- ==== Proof.NaGateValue.lean ====
/-
  The gradient of the attention layer's output gate `p · (ag · sigmoid(ag))`: every grid point reads one block of the
  cotangent, of the gate and of the projected output, and writes the cotangent of the attention and of the gate.
-/
module

public import proofs.«01_k».proof.Defs
public import proofs.«01_k».proof.Proof.Gen.NaGateIdeal.Frame
public import proofs.«01_k».proof.Proof.Gen.NaGateRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.NaGateIdeal.Value

open Cert.NaGateIdeal Cert.NaGateIdeal.Gen Idealize.ShloMosaic Idealize.ShloMosaic.TcCoe Idealize.SL.Sem

variable (m : (ℓ : Loc nD τ sig) → Buf (Elt Ideal) ℓ) (ρ : Dev nD → PrngReg)

/-- The gate's columns of the layer's input projection. -/
abbrev AG (U : FVec Ideal S8192x14336 .f32) : FVec Ideal S8192x2048 .f32 :=
  extractStridedSlice Cert.NaGateRefIdeal.S8192x2048 ![0, 12288] U Cert.NaGateRefIdeal.Gen.slices_S8192x14336_S8192x2048_0_12288

/-- The attention layer's columns of the cotangent of the joined outputs. -/
abbrev DO (P : FVec Ideal S8192x4096 .bf16) : FVec Ideal S8192x2048 .f32 :=
  extractStridedSlice Cert.NaGateRefIdeal.S8192x2048 ![0, 2048] (extf .f32 P Cert.NaGateRefIdeal.Gen.bitsLt_bf16_f32) Cert.NaGateRefIdeal.Gen.slices_S8192x4096_S8192x2048_0_2048

/-- One, as the constant of the program. -/
abbrev ONE : EReal := Ideal.ofBits .f32 0x3F800000#32

/-- The cotangent of the attention: the cotangent times `ag · sigmoid(ag)`. -/
def specO (U : FVec Ideal S8192x14336 .f32) (P : FVec Ideal S8192x4096 .bf16) : FVec Ideal S8192x2048 .f32 :=
  fun j => DO P j * (AG U j * Ideal.logistic (AG U j))

/-- The cotangent of the gate, by the product rule. -/
def specG (O : FVec Ideal S8192x2048 .f32) (U : FVec Ideal S8192x14336 .f32) (P : FVec Ideal S8192x4096 .bf16) : FVec Ideal S8192x2048 .bf16 :=
  fun j => (O j * DO P j) * Ideal.logistic (AG U j)
    + (AG U j * (O j * DO P j)) * (Ideal.logistic (AG U j) * (ONE - Ideal.logistic (AG U j)))

theorem idx_val : ∀ t : Fin cfg0.N, win0_0.index t = ![t.val % 32, t.val / 32] ∧ win0_1.index t = ![t.val % 32, 6 + t.val / 32]
    ∧ win0_2.index t = ![t.val % 32, 1 + t.val / 32] ∧ win0_3.index t = ![t.val % 32, t.val / 32] ∧ win0_4.index t = ![t.val % 32, t.val / 32] :=
  (by decide +kernel : ∀ t : Fin grid0.N, _)

theorem final3 (c : Dev nD) : (dats m 0 c).arrAt 3 (cfgs 0).N = specO (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay3, k0_pay2, k0_pay1, specO, AG, DO, Ideal.logistic]
  blk_point [iblk, V, idx_val t]

theorem final4 (c : Dev nD) : (dats m 0 c).arrAt 4 (cfgs 0).N = specG (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; frame_out
  pointwise [k0_pay4, k0_pay2, k0_pay1, specG, AG, DO, Ideal.logistic]
  blk_point [iblk, V, idx_val t]

end Cert.NaGateIdeal.Value

namespace Cert.Proof

open Idealize.ShloMosaic Idealize.SL.Sem

theorem algebraic_NaGate : Cert.algebraic_NaGateIdeal_NaGateRefIdeal := by
  pair_intro
  · run_from Cert.NaGateIdeal.Gen.run_main m g
  · run_from Cert.NaGateRefIdeal.Value.run m' g'
    · refine Eq.trans ?_ (Cert.NaGateIdeal.Value.final3 m c).symm
      funext y
      pointwise [Cert.NaGateIdeal.Value.specO, Cert.NaGateIdeal.Value.AG, Cert.NaGateIdeal.Value.DO, Ideal.logistic]
    · refine Eq.trans ?_ (Cert.NaGateIdeal.Value.final4 m c).symm
      funext y
      pointwise [Cert.NaGateIdeal.Value.specG, Cert.NaGateIdeal.Value.AG, Cert.NaGateIdeal.Value.DO, Ideal.logistic]

end Cert.Proof

end
-- ==== Proof.PleValue.lean ====
/-
  The gradient of the per-layer gate `sigmoid(a) · b`: every grid point reads one block of the gate, of the gated rows
  and of the cotangent, and writes the two cotangents of its block.
-/
module

public import proofs.«01_k».proof.Defs
public import proofs.«01_k».proof.Proof.Gen.PleIdeal.Frame
public import proofs.«01_k».proof.Proof.Gen.PleRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.PleIdeal.Value

open Cert.PleIdeal Cert.PleIdeal.Gen Idealize.ShloMosaic Idealize.ShloMosaic.TcCoe Idealize.SL.Sem

variable (m : (ℓ : Loc nD τ sig) → Buf (Elt Ideal) ℓ) (ρ : Dev nD → PrngReg)

/-- One, as the constant of the program. -/
abbrev ONE : EReal := Ideal.ofBits .f32 0x3F800000#32

/-- The cotangent of the gate. -/
def specG (A B D : FVec Ideal S8192x2048 .f32) : FVec Ideal S8192x2048 .bf16 :=
  fun j => (D j * B j) * (Ideal.logistic (A j) * (ONE - Ideal.logistic (A j)))

/-- The cotangent of the gated rows. -/
def specB (A D : FVec Ideal S8192x2048 .f32) : FVec Ideal S8192x2048 .bf16 :=
  fun j => Ideal.logistic (A j) * D j

theorem idx_val : ∀ t : Fin cfg0.N, win0_0.index t = ![t.val % 32, t.val / 32] ∧ win0_1.index t = ![t.val % 32, t.val / 32]
    ∧ win0_2.index t = ![t.val % 32, t.val / 32] ∧ win0_3.index t = ![t.val % 32, t.val / 32] ∧ win0_4.index t = ![t.val % 32, t.val / 32] :=
  (by decide +kernel : ∀ t : Fin grid0.N, _)

theorem final3 (c : Dev nD) : (dats m 0 c).arrAt 3 (cfgs 0).N = specG (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; frame_out
  pointwise [k0_pay2, k0_pay1, specG, Ideal.logistic]
  blk_point [iblk, V, idx_val t]

theorem final4 (c : Dev nD) : (dats m 0 c).arrAt 4 (cfgs 0).N = specB (m ((c : Thread nD τ).loc main_arg0)) (m ((c : Thread nD τ).loc main_arg2)) := by
  refine (dats m 0 c).arrAt_eq_of_covers 4 _ (by decide +kernel) fun t hf y => ?_
  blk_simp
  rw [after0_4]; frame_out
  pointwise [k0_pay3, k0_pay1, specB, Ideal.logistic]
  blk_point [iblk, V, idx_val t]

end Cert.PleIdeal.Value

namespace Cert.Proof

open Idealize.ShloMosaic Idealize.SL.Sem

theorem algebraic_Ple : Cert.algebraic_PleIdeal_PleRefIdeal := by
  pair_intro
  · run_from Cert.PleIdeal.Gen.run_main m g
  · run_from Cert.PleRefIdeal.Value.run m' g'
    · refine Eq.trans ?_ (Cert.PleIdeal.Value.final3 m c).symm
      funext y
      pointwise [Cert.PleIdeal.Value.specG, Ideal.logistic]
    · refine Eq.trans ?_ (Cert.PleIdeal.Value.final4 m c).symm
      funext y
      pointwise [Cert.PleIdeal.Value.specB, Ideal.logistic]

end Cert.Proof

end
-- ==== Proof.AdEvInValue.lean ====
/-
  The weight update of an even layer's input projection: every grid point reads one block of 128 rows of the
  eight slabs, of the weight and of its two moments, and writes the summed gradient, the update and the new moments.
-/
module

public import proofs.«01_k».proof.Defs
public import proofs.«01_k».proof.Proof.Gen.AdEvInIdeal.Frame
public import proofs.«01_k».proof.Proof.Gen.AdEvInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdEvInIdeal.Value

open Cert.AdEvInIdeal Cert.AdEvInIdeal.Gen Idealize.ShloMosaic Idealize.ShloMosaic.TcCoe Idealize.SL.Sem

variable (m : (ℓ : Loc nD τ sig) → Buf (Elt Ideal) ℓ) (ρ : Dev nD → PrngReg)

/-- The first moment: nine tenths of the old one and a tenth of the gradient. -/
def MOM (g m : EReal) : EReal := Ideal.ofBits .f32 0x3F666666#32 * m + Ideal.ofBits .f32 0x3DCCCCCD#32 * g

/-- The second moment, of the gradient's square. -/
def VAR (g v : EReal) : EReal := Ideal.ofBits .f32 0x3F7FBE77#32 * v + Ideal.ofBits .f32 0x3A83126F#32 * (g * g)

/-- The update: the corrected first moment over the root of the corrected second, with the decay of the weight. -/
def DELTA (g w m v : EReal) : EReal :=
  Ideal.ofBits .f32 0xBA83126F#32 * (Ideal.div (Ideal.div (MOM g m) (Ideal.ofBits .f32 0x3F26BD02#32))
    (Ideal.sqrt (Ideal.div (VAR g v) (Ideal.ofBits .f32 0x3C231ACC#32)) + Ideal.ofBits .f32 0x322BCC77#32) + Ideal.ofBits .f32 0x3C23D70A#32 * w)

/-- One element of the gradient: the eight slabs added up, this device's own slab replaced by its own partial gradient. -/
def SUM8 (w : BitVec 32) (p : EReal) (q : Fin 8 → EReal) : EReal :=
  ∑ x : Fin 8, Scalar.select (IntOp.cmpi .eq (BitVec.ofNat 32 x) w) p (q x)

/-- The gradient. -/
def GSUM (w : IVec S1 32) (S : FVec Ideal S8x4096x1800 .bf16) (P : FVec Ideal S4096x1800 .f32) : FVec Ideal S4096x1800 .f32 :=
  fun j => SUM8 (w (ix1 0)) (P j) fun x => S (ix3 x (j 0) (j 1))

/-- The pipeline's side condition of the prefetched word is empty: no block's place depends on it. -/
theorem hO (m : (ℓ : Loc nD τ sig) → Buf (Elt Ideal) ℓ) : Ok m := trivial

/-- Comparing for equality is symmetric. -/
theorem cmpi_comm (a b : BitVec 32) : Scalar.cmpi .eq a b = IntOp.cmpi .eq b a := by
  simp only [Scalar.cmpi, IntOp.cmpi]; congr 1; exact Bool.beq_comm

/-- The eight terms in the kernel's order are the sum over the slabs. -/
theorem sum8 (w : BitVec 32) (p : EReal) (q : Fin 8 → EReal) :
    Scalar.select (Scalar.cmpi .eq w 0#32) p (q 0) + Scalar.select (Scalar.cmpi .eq w 1#32) p (q 1)
      + Scalar.select (Scalar.cmpi .eq w 2#32) p (q 2) + Scalar.select (Scalar.cmpi .eq w 3#32) p (q 3)
      + Scalar.select (Scalar.cmpi .eq w 4#32) p (q 4) + Scalar.select (Scalar.cmpi .eq w 5#32) p (q 5)
      + Scalar.select (Scalar.cmpi .eq w 6#32) p (q 6) + Scalar.select (Scalar.cmpi .eq w 7#32) p (q 7)
      = SUM8 w p q := by
  rw [SUM8, Fin.sum_univ_eight]
  simp only [cmpi_comm]
  rfl

/-- The prefetched word, this device's place in the ring, as the body reads it. -/
theorem word (c : Dev nD) (xt0 : TbBuf0 (F := Ideal) c tbM0_0) (i) : View.read (Elt Ideal) (View.whole main_arg0) xt0 i = xt0 (ix1 0) :=
  congrArg xt0 (funext fun a => match a with | ⟨0, _⟩ => Subsingleton.elim (α := Fin 1) _ _)

/-- The eight slabs' elements at an index of the block. -/
def SLAB (x : Vec Ideal S8x128x1800 .bf16) (y : S128x1800.Idx) : Fin 8 → EReal := fun s => x (ix3 s (y 0) (y 1))

/-! What the body leaves in each output's block, at an index, of any blocks it is given. -/

section Body

variable (c : Dev nD) (i : grid0.Coords) (arg2 : Memref sig .tc .vmem S128x1800 .f32) (harg2 : arg2.IsWhole) (arg3 : Memref sig .tc .vmem S8x128x1800 .bf16) (harg3 : arg3.IsWhole) (arg4 : Memref sig .tc .vmem S128x1800 .f32) (harg4 : arg4.IsWhole) (arg5 : Memref sig .tc .vmem S128x1800 .f32) (harg5 : arg5.IsWhole) (arg6 : Memref sig .tc .vmem S128x1800 .f32) (harg6 : arg6.IsWhole) (arg7 : Memref sig .tc .vmem S128x1800 .f32) (harg7 : arg7.IsWhole) (arg8 : Memref sig .tc .vmem S128x1800 .f32) (harg8 : arg8.IsWhole) (arg9 : Memref sig .tc .vmem S128x1800 .f32) (harg9 : arg9.IsWhole) (arg10 : Memref sig .tc .vmem S128x1800 .f32) (harg10 : arg10.IsWhole)
    (x0 : Vec Ideal S128x1800 .f32) (x1 : Vec Ideal S8x128x1800 .bf16) (x2 x3 x4 : Vec Ideal S128x1800 .f32) (xt0 : TbBuf0 (F := Ideal) c tbM0_0) (y : S128x1800.Idx)

theorem out5 : out0_A_5 c i arg2 harg2 arg3 harg3 arg4 harg4 arg5 harg5 arg6 harg6 arg7 harg7 arg8 harg8 arg9 harg9 arg10 harg10 x0 x1 x2 x3 x4 xt0 y = SUM8 (xt0 (ix1 0)) (x4 y) (SLAB x1 y) := by
  frame_out
  simp only [word]
  pointwise [k0_pay2, k0_pay1]
  exact sum8 _ _ (SLAB x1 y)

theorem out6 : out0_A_6 c i arg2 harg2 arg3 harg3 arg4 harg4 arg5 harg5 arg6 harg6 arg7 harg7 arg8 harg8 arg9 harg9 arg10 harg10 x0 x1 x2 x3 x4 xt0 y = DELTA (SUM8 (xt0 (ix1 0)) (x4 y) (SLAB x1 y)) (x0 y) (x2 y) (x3 y) := by
  frame_out
  simp only [word]
  pointwise [k0_pay5, k0_pay4, k0_pay3, k0_pay2, k0_pay1]
  exact congrArg (DELTA · (x0 y) (x2 y) (x3 y)) (sum8 _ _ (SLAB x1 y))

theorem out7 : out0_A_7 c i arg2 harg2 arg3 harg3 arg4 harg4 arg5 harg5 arg6 harg6 arg7 harg7 arg8 harg8 arg9 harg9 arg10 harg10 x0 x1 x2 x3 x4 xt0 y = MOM (SUM8 (xt0 (ix1 0)) (x4 y) (SLAB x1 y)) (x2 y) := by
  frame_out
  simp only [word]
  pointwise [k0_pay3, k0_pay2, k0_pay1]
  exact congrArg (MOM · (x2 y)) (sum8 _ _ (SLAB x1 y))

theorem out8 : out0_A_8 c i arg2 harg2 arg3 harg3 arg4 harg4 arg5 harg5 arg6 harg6 arg7 harg7 arg8 harg8 arg9 harg9 arg10 harg10 x0 x1 x2 x3 x4 xt0 y = VAR (SUM8 (xt0 (ix1 0)) (x4 y) (SLAB x1 y)) (x3 y) := by
  frame_out
  simp only [word]
  pointwise [k0_pay4, k0_pay2, k0_pay1]
  exact congrArg (VAR · (x3 y)) (sum8 _ _ (SLAB x1 y))

end Body

/-! Every window's block moves with the grid point; the written blocks cover their arrays. -/

theorem idx_val (t : Fin (cfgM m (hO m)).N) : ((cfgM m (hO m)).win 0).index t = ![t.val, 0]
    ∧ ((cfgM m (hO m)).win 1).index t = ![0, t.val, 0] ∧ ((cfgM m (hO m)).win 2).index t = ![t.val, 0] ∧ ((cfgM m (hO m)).win 3).index t = ![t.val, 0]
    ∧ ((cfgM m (hO m)).win 4).index t = ![t.val, 0] ∧ ((cfgM m (hO m)).win 5).index t = ![t.val, 0] ∧ ((cfgM m (hO m)).win 6).index t = ![t.val, 0]
    ∧ ((cfgM m (hO m)).win 7).index t = ![t.val, 0] ∧ ((cfgM m (hO m)).win 8).index t = ![t.val, 0] :=
  (by decide +kernel : ∀ t : Fin grid0.N, cc0_transform_0 (grid0.coords t) = ![t.val, 0] ∧ cc0_transform_1 (grid0.coords t) = ![0, t.val, 0]
    ∧ cc0_transform_2 (grid0.coords t) = ![t.val, 0] ∧ cc0_transform_3 (grid0.coords t) = ![t.val, 0]
    ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- A pipeline of the same windows at some contents of the word: its windows are the same. -/
abbrev CFG : Pipeline.Cfg sig Λ₀ := cfg0 (F := Ideal) ⟨fun | 0 => fun _ => (0#32 : BitVec 32), trivial⟩

theorem covers5 : (CFG.win 5).Covers := by decide +kernel
theorem covers6 : (CFG.win 6).Covers := by decide +kernel
theorem covers7 : (CFG.win 7).Covers := by decide +kernel
theorem covers8 : (CFG.win 8).Covers := by decide +kernel

/-- The prefetched word is the first argument's on the one device. -/
theorem tbl_eq (c : Dev nD) : tbl m 0 (ix1 0) = m ((c : Thread nD τ).loc main_arg0) (ix1 0) := by
  obtain rfl : c = 0 := Subsingleton.elim _ _
  rfl

theorem final5 (c : Dev nD) : (dats m (hO m) 0 c).arrAt 5 (cfgM m (hO m)).N = GSUM (m ((c : Thread nD τ).loc main_arg0)) (m ((c : Thread nD τ).loc main_arg2)) (m ((c : Thread nD τ).loc main_arg5)) := by
  refine (dats m (hO m) 0 c).arrAt_eq_of_covers 5 _ covers5 fun t hf y => ?_
  blk_simp
  rw [after0_5, outsAt0]; dsimp only
  refine (out5 _ _ _ _ _ _ _ _ _ _ _ _ _ _ _ _ _ _ _ _ _ _ _ _ _ _ y).trans ?_
  rw [tbl_eq m c]
  simp only [GSUM, SUM8, SLAB]
  blk_point [iblk, V, idx_val m t]

theorem final6 (c : Dev nD) : (dats m (hO m) 0 c).arrAt 6 (cfgM m (hO m)).N = fun j => DELTA (GSUM (m ((c : Thread nD τ).loc main_arg0)) (m ((c : Thread nD τ).loc main_arg2)) (m ((c : Thread nD τ).loc main_arg5)) j) ((m ((c : Thread nD τ).loc main_arg1)) j) ((m ((c : Thread nD τ).loc main_arg3)) j) ((m ((c : Thread nD τ).loc main_arg4)) j) := by
  refine (dats m (hO m) 0 c).arrAt_eq_of_covers 6 _ covers6 fun t hf y => ?_
  blk_simp
  rw [after0_6, outsAt0]; dsimp only
  refine (out6 _ _ _ _ _ _ _ _ _ _ _ _ _ _ _ _ _ _ _ _ _ _ _ _ _ _ y).trans ?_
  rw [tbl_eq m c]
  simp only [DELTA, MOM, VAR, GSUM, SUM8, SLAB]
  blk_point [iblk, V, idx_val m t]

theorem final7 (c : Dev nD) : (dats m (hO m) 0 c).arrAt 7 (cfgM m (hO m)).N = fun j => MOM (GSUM (m ((c : Thread nD τ).loc main_arg0)) (m ((c : Thread nD τ).loc main_arg2)) (m ((c : Thread nD τ).loc main_arg5)) j) ((m ((c : Thread nD τ).loc main_arg3)) j) := by
  refine (dats m (hO m) 0 c).arrAt_eq_of_covers 7 _ covers7 fun t hf y => ?_
  blk_simp
  rw [after0_7, outsAt0]; dsimp only
  refine (out7 _ _ _ _ _ _ _ _ _ _ _ _ _ _ _ _ _ _ _ _ _ _ _ _ _ _ y).trans ?_
  rw [tbl_eq m c]
  simp only [MOM, GSUM, SUM8, SLAB]
  blk_point [iblk, V, idx_val m t]

theorem final8 (c : Dev nD) : (dats m (hO m) 0 c).arrAt 8 (cfgM m (hO m)).N = fun j => VAR (GSUM (m ((c : Thread nD τ).loc main_arg0)) (m ((c : Thread nD τ).loc main_arg2)) (m ((c : Thread nD τ).loc main_arg5)) j) ((m ((c : Thread nD τ).loc main_arg4)) j) := by
  refine (dats m (hO m) 0 c).arrAt_eq_of_covers 8 _ covers8 fun t hf y => ?_
  blk_simp
  rw [after0_8, outsAt0]; dsimp only
  refine (out8 _ _ _ _ _ _ _ _ _ _ _ _ _ _ _ _ _ _ _ _ _ _ _ _ _ _ y).trans ?_
  rw [tbl_eq m c]
  simp only [VAR, GSUM, SUM8, SLAB]
  blk_point [iblk, V, idx_val m t]

end Cert.AdEvInIdeal.Value

namespace Cert.Proof

open Idealize.ShloMosaic Idealize.SL.Sem

theorem algebraic_AdEvIn : Cert.algebraic_AdEvInIdeal_AdEvInRefIdeal := by
  pair_intro
  · run_from Cert.AdEvInIdeal.Gen.run_main m g (Cert.AdEvInIdeal.Value.hO m)
    · exact Cert.AdEvInIdeal.Value.final5 m c
    · exact Cert.AdEvInIdeal.Value.final6 m c
    · exact Cert.AdEvInIdeal.Value.final7 m c
    · exact Cert.AdEvInIdeal.Value.final8 m c
    · exact (hc.2 Cert.AdEvInIdeal.main_arg0 (by decide : Cert.AdEvInIdeal.main_arg0 ∈ Pipeline.restRefs Cert.AdEvInIdeal.sig Cert.AdEvInIdeal.spec0)).trans (Cert.AdEvInIdeal.Gen.V_main_arg0 m c)
  · run_from Cert.AdEvInRefIdeal.Value.run m' g'
    · funext y
      pointwise [Cert.AdEvInIdeal.Value.GSUM, Cert.AdEvInIdeal.Value.SUM8]
    · funext y
      pointwise [Cert.AdEvInIdeal.Value.GSUM, Cert.AdEvInIdeal.Value.SUM8, Cert.AdEvInIdeal.Value.DELTA, Cert.AdEvInIdeal.Value.MOM, Cert.AdEvInIdeal.Value.VAR]
    · funext y
      pointwise [Cert.AdEvInIdeal.Value.GSUM, Cert.AdEvInIdeal.Value.SUM8, Cert.AdEvInIdeal.Value.MOM]
    · funext y
      pointwise [Cert.AdEvInIdeal.Value.GSUM, Cert.AdEvInIdeal.Value.SUM8, Cert.AdEvInIdeal.Value.VAR]

end Cert.Proof

end
-- ==== Proof.AdOutValue.lean ====
/-
  The weight update of an output projection: every grid point reads one block of 128 rows of the
  eight slabs, of the weight and of its two moments, and writes the summed gradient, the update and the new moments.
-/
module

public import proofs.«01_k».proof.Defs
public import proofs.«01_k».proof.Proof.Gen.AdOutIdeal.Frame
public import proofs.«01_k».proof.Proof.Gen.AdOutRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdOutIdeal.Value

open Cert.AdOutIdeal Cert.AdOutIdeal.Gen Idealize.ShloMosaic Idealize.ShloMosaic.TcCoe Idealize.SL.Sem

variable (m : (ℓ : Loc nD τ sig) → Buf (Elt Ideal) ℓ) (ρ : Dev nD → PrngReg)

/-- The first moment: nine tenths of the old one and a tenth of the gradient. -/
def MOM (g m : EReal) : EReal := Ideal.ofBits .f32 0x3F666666#32 * m + Ideal.ofBits .f32 0x3DCCCCCD#32 * g

/-- The second moment, of the gradient's square. -/
def VAR (g v : EReal) : EReal := Ideal.ofBits .f32 0x3F7FBE77#32 * v + Ideal.ofBits .f32 0x3A83126F#32 * (g * g)

/-- The update: the corrected first moment over the root of the corrected second, with the decay of the weight. -/
def DELTA (g w m v : EReal) : EReal :=
  Ideal.ofBits .f32 0xBA83126F#32 * (Ideal.div (Ideal.div (MOM g m) (Ideal.ofBits .f32 0x3F26BD02#32))
    (Ideal.sqrt (Ideal.div (VAR g v) (Ideal.ofBits .f32 0x3C231ACC#32)) + Ideal.ofBits .f32 0x322BCC77#32) + Ideal.ofBits .f32 0x3C23D70A#32 * w)

/-- One element of the gradient: the eight slabs added up, this device's own slab replaced by its own partial gradient. -/
def SUM8 (w : BitVec 32) (p : EReal) (q : Fin 8 → EReal) : EReal :=
  ∑ x : Fin 8, Scalar.select (IntOp.cmpi .eq (BitVec.ofNat 32 x) w) p (q x)

/-- The gradient. -/
def GSUM (w : IVec S1 32) (S : FVec Ideal S8x1024x2048 .bf16) (P : FVec Ideal S1024x2048 .f32) : FVec Ideal S1024x2048 .f32 :=
  fun j => SUM8 (w (ix1 0)) (P j) fun x => S (ix3 x (j 0) (j 1))

/-- The pipeline's side condition of the prefetched word is empty: no block's place depends on it. -/
theorem hO (m : (ℓ : Loc nD τ sig) → Buf (Elt Ideal) ℓ) : Ok m := trivial

/-- Comparing for equality is symmetric. -/
theorem cmpi_comm (a b : BitVec 32) : Scalar.cmpi .eq a b = IntOp.cmpi .eq b a := by
  simp only [Scalar.cmpi, IntOp.cmpi]; congr 1; exact Bool.beq_comm

/-- The eight terms in the kernel's order are the sum over the slabs. -/
theorem sum8 (w : BitVec 32) (p : EReal) (q : Fin 8 → EReal) :
    Scalar.select (Scalar.cmpi .eq w 0#32) p (q 0) + Scalar.select (Scalar.cmpi .eq w 1#32) p (q 1)
      + Scalar.select (Scalar.cmpi .eq w 2#32) p (q 2) + Scalar.select (Scalar.cmpi .eq w 3#32) p (q 3)
      + Scalar.select (Scalar.cmpi .eq w 4#32) p (q 4) + Scalar.select (Scalar.cmpi .eq w 5#32) p (q 5)
      + Scalar.select (Scalar.cmpi .eq w 6#32) p (q 6) + Scalar.select (Scalar.cmpi .eq w 7#32) p (q 7)
      = SUM8 w p q := by
  rw [SUM8, Fin.sum_univ_eight]
  simp only [cmpi_comm]
  rfl

/-- The prefetched word, this device's place in the ring, as the body reads it. -/
theorem word (c : Dev nD) (xt0 : TbBuf0 (F := Ideal) c tbM0_0) (i) : View.read (Elt Ideal) (View.whole main_arg0) xt0 i = xt0 (ix1 0) :=
  congrArg xt0 (funext fun a => match a with | ⟨0, _⟩ => Subsingleton.elim (α := Fin 1) _ _)

/-- The eight slabs' elements at an index of the block. -/
def SLAB (x : Vec Ideal S8x128x2048 .bf16) (y : S128x2048.Idx) : Fin 8 → EReal := fun s => x (ix3 s (y 0) (y 1))

/-! What the body leaves in each output's block, at an index, of any blocks it is given. -/

section Body

variable (c : Dev nD) (i : grid0.Coords) (arg2 : Memref sig .tc .vmem S128x2048 .f32) (harg2 : arg2.IsWhole) (arg3 : Memref sig .tc .vmem S8x128x2048 .bf16) (harg3 : arg3.IsWhole) (arg4 : Memref sig .tc .vmem S128x2048 .f32) (harg4 : arg4.IsWhole) (arg5 : Memref sig .tc .vmem S128x2048 .f32) (harg5 : arg5.IsWhole) (arg6 : Memref sig .tc .vmem S128x2048 .f32) (harg6 : arg6.IsWhole) (arg7 : Memref sig .tc .vmem S128x2048 .f32) (harg7 : arg7.IsWhole) (arg8 : Memref sig .tc .vmem S128x2048 .f32) (harg8 : arg8.IsWhole) (arg9 : Memref sig .tc .vmem S128x2048 .f32) (harg9 : arg9.IsWhole) (arg10 : Memref sig .tc .vmem S128x2048 .f32) (harg10 : arg10.IsWhole)
    (x0 : Vec Ideal S128x2048 .f32) (x1 : Vec Ideal S8x128x2048 .bf16) (x2 x3 x4 : Vec Ideal S128x2048 .f32) (xt0 : TbBuf0 (F := Ideal) c tbM0_0) (y : S128x2048.Idx)

theorem out5 : out0_A_5 c i arg2 harg2 arg3 harg3 arg4 harg4 arg5 harg5 arg6 harg6 arg7 harg7 arg8 harg8 arg9 harg9 arg10 harg10 x0 x1 x2 x3 x4 xt0 y = SUM8 (xt0 (ix1 0)) (x4 y) (SLAB x1 y) := by
  frame_out
  simp only [word]
  pointwise [k0_pay2, k0_pay1]
  exact sum8 _ _ (SLAB x1 y)

theorem out6 : out0_A_6 c i arg2 harg2 arg3 harg3 arg4 harg4 arg5 harg5 arg6 harg6 arg7 harg7 arg8 harg8 arg9 harg9 arg10 harg10 x0 x1 x2 x3 x4 xt0 y = DELTA (SUM8 (xt0 (ix1 0)) (x4 y) (SLAB x1 y)) (x0 y) (x2 y) (x3 y) := by
  frame_out
  simp only [word]
  pointwise [k0_pay5, k0_pay4, k0_pay3, k0_pay2, k0_pay1]
  exact congrArg (DELTA · (x0 y) (x2 y) (x3 y)) (sum8 _ _ (SLAB x1 y))

theorem out7 : out0_A_7 c i arg2 harg2 arg3 harg3 arg4 harg4 arg5 harg5 arg6 harg6 arg7 harg7 arg8 harg8 arg9 harg9 arg10 harg10 x0 x1 x2 x3 x4 xt0 y = MOM (SUM8 (xt0 (ix1 0)) (x4 y) (SLAB x1 y)) (x2 y) := by
  frame_out
  simp only [word]
  pointwise [k0_pay3, k0_pay2, k0_pay1]
  exact congrArg (MOM · (x2 y)) (sum8 _ _ (SLAB x1 y))

theorem out8 : out0_A_8 c i arg2 harg2 arg3 harg3 arg4 harg4 arg5 harg5 arg6 harg6 arg7 harg7 arg8 harg8 arg9 harg9 arg10 harg10 x0 x1 x2 x3 x4 xt0 y = VAR (SUM8 (xt0 (ix1 0)) (x4 y) (SLAB x1 y)) (x3 y) := by
  frame_out
  simp only [word]
  pointwise [k0_pay4, k0_pay2, k0_pay1]
  exact congrArg (VAR · (x3 y)) (sum8 _ _ (SLAB x1 y))

end Body

/-! Every window's block moves with the grid point; the written blocks cover their arrays. -/

theorem idx_val (t : Fin (cfgM m (hO m)).N) : ((cfgM m (hO m)).win 0).index t = ![t.val, 0]
    ∧ ((cfgM m (hO m)).win 1).index t = ![0, t.val, 0] ∧ ((cfgM m (hO m)).win 2).index t = ![t.val, 0] ∧ ((cfgM m (hO m)).win 3).index t = ![t.val, 0]
    ∧ ((cfgM m (hO m)).win 4).index t = ![t.val, 0] ∧ ((cfgM m (hO m)).win 5).index t = ![t.val, 0] ∧ ((cfgM m (hO m)).win 6).index t = ![t.val, 0]
    ∧ ((cfgM m (hO m)).win 7).index t = ![t.val, 0] ∧ ((cfgM m (hO m)).win 8).index t = ![t.val, 0] :=
  (by decide +kernel : ∀ t : Fin grid0.N, cc0_transform_0 (grid0.coords t) = ![t.val, 0] ∧ cc0_transform_1 (grid0.coords t) = ![0, t.val, 0]
    ∧ cc0_transform_2 (grid0.coords t) = ![t.val, 0] ∧ cc0_transform_3 (grid0.coords t) = ![t.val, 0]
    ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- A pipeline of the same windows at some contents of the word: its windows are the same. -/
abbrev CFG : Pipeline.Cfg sig Λ₀ := cfg0 (F := Ideal) ⟨fun | 0 => fun _ => (0#32 : BitVec 32), trivial⟩

theorem covers5 : (CFG.win 5).Covers := by decide +kernel
theorem covers6 : (CFG.win 6).Covers := by decide +kernel
theorem covers7 : (CFG.win 7).Covers := by decide +kernel
theorem covers8 : (CFG.win 8).Covers := by decide +kernel

/-- The prefetched word is the first argument's on the one device. -/
theorem tbl_eq (c : Dev nD) : tbl m 0 (ix1 0) = m ((c : Thread nD τ).loc main_arg0) (ix1 0) := by
  obtain rfl : c = 0 := Subsingleton.elim _ _
  rfl

theorem final5 (c : Dev nD) : (dats m (hO m) 0 c).arrAt 5 (cfgM m (hO m)).N = GSUM (m ((c : Thread nD τ).loc main_arg0)) (m ((c : Thread nD τ).loc main_arg2)) (m ((c : Thread nD τ).loc main_arg5)) := by
  refine (dats m (hO m) 0 c).arrAt_eq_of_covers 5 _ covers5 fun t hf y => ?_
  blk_simp
  rw [after0_5, outsAt0]; dsimp only
  refine (out5 _ _ _ _ _ _ _ _ _ _ _ _ _ _ _ _ _ _ _ _ _ _ _ _ _ _ y).trans ?_
  rw [tbl_eq m c]
  simp only [GSUM, SUM8, SLAB]
  blk_point [iblk, V, idx_val m t]

theorem final6 (c : Dev nD) : (dats m (hO m) 0 c).arrAt 6 (cfgM m (hO m)).N = fun j => DELTA (GSUM (m ((c : Thread nD τ).loc main_arg0)) (m ((c : Thread nD τ).loc main_arg2)) (m ((c : Thread nD τ).loc main_arg5)) j) ((m ((c : Thread nD τ).loc main_arg1)) j) ((m ((c : Thread nD τ).loc main_arg3)) j) ((m ((c : Thread nD τ).loc main_arg4)) j) := by
  refine (dats m (hO m) 0 c).arrAt_eq_of_covers 6 _ covers6 fun t hf y => ?_
  blk_simp
  rw [after0_6, outsAt0]; dsimp only
  refine (out6 _ _ _ _ _ _ _ _ _ _ _ _ _ _ _ _ _ _ _ _ _ _ _ _ _ _ y).trans ?_
  rw [tbl_eq m c]
  simp only [DELTA, MOM, VAR, GSUM, SUM8, SLAB]
  blk_point [iblk, V, idx_val m t]

theorem final7 (c : Dev nD) : (dats m (hO m) 0 c).arrAt 7 (cfgM m (hO m)).N = fun j => MOM (GSUM (m ((c : Thread nD τ).loc main_arg0)) (m ((c : Thread nD τ).loc main_arg2)) (m ((c : Thread nD τ).loc main_arg5)) j) ((m ((c : Thread nD τ).loc main_arg3)) j) := by
  refine (dats m (hO m) 0 c).arrAt_eq_of_covers 7 _ covers7 fun t hf y => ?_
  blk_simp
  rw [after0_7, outsAt0]; dsimp only
  refine (out7 _ _ _ _ _ _ _ _ _ _ _ _ _ _ _ _ _ _ _ _ _ _ _ _ _ _ y).trans ?_
  rw [tbl_eq m c]
  simp only [MOM, GSUM, SUM8, SLAB]
  blk_point [iblk, V, idx_val m t]

theorem final8 (c : Dev nD) : (dats m (hO m) 0 c).arrAt 8 (cfgM m (hO m)).N = fun j => VAR (GSUM (m ((c : Thread nD τ).loc main_arg0)) (m ((c : Thread nD τ).loc main_arg2)) (m ((c : Thread nD τ).loc main_arg5)) j) ((m ((c : Thread nD τ).loc main_arg4)) j) := by
  refine (dats m (hO m) 0 c).arrAt_eq_of_covers 8 _ covers8 fun t hf y => ?_
  blk_simp
  rw [after0_8, outsAt0]; dsimp only
  refine (out8 _ _ _ _ _ _ _ _ _ _ _ _ _ _ _ _ _ _ _ _ _ _ _ _ _ _ y).trans ?_
  rw [tbl_eq m c]
  simp only [VAR, GSUM, SUM8, SLAB]
  blk_point [iblk, V, idx_val m t]

end Cert.AdOutIdeal.Value

namespace Cert.Proof

open Idealize.ShloMosaic Idealize.SL.Sem

theorem algebraic_AdOut : Cert.algebraic_AdOutIdeal_AdOutRefIdeal := by
  pair_intro
  · run_from Cert.AdOutIdeal.Gen.run_main m g (Cert.AdOutIdeal.Value.hO m)
    · exact Cert.AdOutIdeal.Value.final5 m c
    · exact Cert.AdOutIdeal.Value.final6 m c
    · exact Cert.AdOutIdeal.Value.final7 m c
    · exact Cert.AdOutIdeal.Value.final8 m c
    · exact (hc.2 Cert.AdOutIdeal.main_arg0 (by decide : Cert.AdOutIdeal.main_arg0 ∈ Pipeline.restRefs Cert.AdOutIdeal.sig Cert.AdOutIdeal.spec0)).trans (Cert.AdOutIdeal.Gen.V_main_arg0 m c)
  · run_from Cert.AdOutRefIdeal.Value.run m' g'
    · funext y
      pointwise [Cert.AdOutIdeal.Value.GSUM, Cert.AdOutIdeal.Value.SUM8]
    · funext y
      pointwise [Cert.AdOutIdeal.Value.GSUM, Cert.AdOutIdeal.Value.SUM8, Cert.AdOutIdeal.Value.DELTA, Cert.AdOutIdeal.Value.MOM, Cert.AdOutIdeal.Value.VAR]
    · funext y
      pointwise [Cert.AdOutIdeal.Value.GSUM, Cert.AdOutIdeal.Value.SUM8, Cert.AdOutIdeal.Value.MOM]
    · funext y
      pointwise [Cert.AdOutIdeal.Value.GSUM, Cert.AdOutIdeal.Value.SUM8, Cert.AdOutIdeal.Value.VAR]

end Cert.Proof

end
-- ==== Proof.AdOdInValue.lean ====
/-
  The weight update of an odd layer's input projection: every grid point reads one block of 128 rows of the
  eight slabs, of the weight and of its two moments, and writes the summed gradient, the update and the new moments.
-/
module

public import proofs.«01_k».proof.Defs
public import proofs.«01_k».proof.Proof.Gen.AdOdInIdeal.Frame
public import proofs.«01_k».proof.Proof.Gen.AdOdInRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdOdInIdeal.Value

open Cert.AdOdInIdeal Cert.AdOdInIdeal.Gen Idealize.ShloMosaic Idealize.ShloMosaic.TcCoe Idealize.SL.Sem

variable (m : (ℓ : Loc nD τ sig) → Buf (Elt Ideal) ℓ) (ρ : Dev nD → PrngReg)

/-- The first moment: nine tenths of the old one and a tenth of the gradient. -/
def MOM (g m : EReal) : EReal := Ideal.ofBits .f32 0x3F666666#32 * m + Ideal.ofBits .f32 0x3DCCCCCD#32 * g

/-- The second moment, of the gradient's square. -/
def VAR (g v : EReal) : EReal := Ideal.ofBits .f32 0x3F7FBE77#32 * v + Ideal.ofBits .f32 0x3A83126F#32 * (g * g)

/-- The update: the corrected first moment over the root of the corrected second, with the decay of the weight. -/
def DELTA (g w m v : EReal) : EReal :=
  Ideal.ofBits .f32 0xBA83126F#32 * (Ideal.div (Ideal.div (MOM g m) (Ideal.ofBits .f32 0x3F26BD02#32))
    (Ideal.sqrt (Ideal.div (VAR g v) (Ideal.ofBits .f32 0x3C231ACC#32)) + Ideal.ofBits .f32 0x322BCC77#32) + Ideal.ofBits .f32 0x3C23D70A#32 * w)

/-- One element of the gradient: the eight slabs added up, this device's own slab replaced by its own partial gradient. -/
def SUM8 (w : BitVec 32) (p : EReal) (q : Fin 8 → EReal) : EReal :=
  ∑ x : Fin 8, Scalar.select (IntOp.cmpi .eq (BitVec.ofNat 32 x) w) p (q x)

/-- The gradient. -/
def GSUM (w : IVec S1 32) (S : FVec Ideal S8x4096x1536 .bf16) (P : FVec Ideal S4096x1536 .f32) : FVec Ideal S4096x1536 .f32 :=
  fun j => SUM8 (w (ix1 0)) (P j) fun x => S (ix3 x (j 0) (j 1))

/-- The pipeline's side condition of the prefetched word is empty: no block's place depends on it. -/
theorem hO (m : (ℓ : Loc nD τ sig) → Buf (Elt Ideal) ℓ) : Ok m := trivial

/-- Comparing for equality is symmetric. -/
theorem cmpi_comm (a b : BitVec 32) : Scalar.cmpi .eq a b = IntOp.cmpi .eq b a := by
  simp only [Scalar.cmpi, IntOp.cmpi]; congr 1; exact Bool.beq_comm

/-- The eight terms in the kernel's order are the sum over the slabs. -/
theorem sum8 (w : BitVec 32) (p : EReal) (q : Fin 8 → EReal) :
    Scalar.select (Scalar.cmpi .eq w 0#32) p (q 0) + Scalar.select (Scalar.cmpi .eq w 1#32) p (q 1)
      + Scalar.select (Scalar.cmpi .eq w 2#32) p (q 2) + Scalar.select (Scalar.cmpi .eq w 3#32) p (q 3)
      + Scalar.select (Scalar.cmpi .eq w 4#32) p (q 4) + Scalar.select (Scalar.cmpi .eq w 5#32) p (q 5)
      + Scalar.select (Scalar.cmpi .eq w 6#32) p (q 6) + Scalar.select (Scalar.cmpi .eq w 7#32) p (q 7)
      = SUM8 w p q := by
  rw [SUM8, Fin.sum_univ_eight]
  simp only [cmpi_comm]
  rfl

/-- The prefetched word, this device's place in the ring, as the body reads it. -/
theorem word (c : Dev nD) (xt0 : TbBuf0 (F := Ideal) c tbM0_0) (i) : View.read (Elt Ideal) (View.whole main_arg0) xt0 i = xt0 (ix1 0) :=
  congrArg xt0 (funext fun a => match a with | ⟨0, _⟩ => Subsingleton.elim (α := Fin 1) _ _)

/-- The eight slabs' elements at an index of the block. -/
def SLAB (x : Vec Ideal S8x128x1536 .bf16) (y : S128x1536.Idx) : Fin 8 → EReal := fun s => x (ix3 s (y 0) (y 1))

/-! What the body leaves in each output's block, at an index, of any blocks it is given. -/

section Body

variable (c : Dev nD) (i : grid0.Coords) (arg2 : Memref sig .tc .vmem S128x1536 .f32) (harg2 : arg2.IsWhole) (arg3 : Memref sig .tc .vmem S8x128x1536 .bf16) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x1536 .f32) (harg6 : arg6.IsWhole) (arg7 : Memref sig .tc .vmem S128x1536 .f32) (harg7 : arg7.IsWhole) (arg8 : Memref sig .tc .vmem S128x1536 .f32) (harg8 : arg8.IsWhole) (arg9 : Memref sig .tc .vmem S128x1536 .f32) (harg9 : arg9.IsWhole) (arg10 : Memref sig .tc .vmem S128x1536 .f32) (harg10 : arg10.IsWhole)
    (x0 : Vec Ideal S128x1536 .f32) (x1 : Vec Ideal S8x128x1536 .bf16) (x2 x3 x4 : Vec Ideal S128x1536 .f32) (xt0 : TbBuf0 (F := Ideal) c tbM0_0) (y : S128x1536.Idx)

theorem out5 : out0_A_5 c i arg2 harg2 arg3 harg3 arg4 harg4 arg5 harg5 arg6 harg6 arg7 harg7 arg8 harg8 arg9 harg9 arg10 harg10 x0 x1 x2 x3 x4 xt0 y = SUM8 (xt0 (ix1 0)) (x4 y) (SLAB x1 y) := by
  frame_out
  simp only [word]
  pointwise [k0_pay2, k0_pay1]
  exact sum8 _ _ (SLAB x1 y)

theorem out6 : out0_A_6 c i arg2 harg2 arg3 harg3 arg4 harg4 arg5 harg5 arg6 harg6 arg7 harg7 arg8 harg8 arg9 harg9 arg10 harg10 x0 x1 x2 x3 x4 xt0 y = DELTA (SUM8 (xt0 (ix1 0)) (x4 y) (SLAB x1 y)) (x0 y) (x2 y) (x3 y) := by
  frame_out
  simp only [word]
  pointwise [k0_pay5, k0_pay4, k0_pay3, k0_pay2, k0_pay1]
  exact congrArg (DELTA · (x0 y) (x2 y) (x3 y)) (sum8 _ _ (SLAB x1 y))

theorem out7 : out0_A_7 c i arg2 harg2 arg3 harg3 arg4 harg4 arg5 harg5 arg6 harg6 arg7 harg7 arg8 harg8 arg9 harg9 arg10 harg10 x0 x1 x2 x3 x4 xt0 y = MOM (SUM8 (xt0 (ix1 0)) (x4 y) (SLAB x1 y)) (x2 y) := by
  frame_out
  simp only [word]
  pointwise [k0_pay3, k0_pay2, k0_pay1]
  exact congrArg (MOM · (x2 y)) (sum8 _ _ (SLAB x1 y))

theorem out8 : out0_A_8 c i arg2 harg2 arg3 harg3 arg4 harg4 arg5 harg5 arg6 harg6 arg7 harg7 arg8 harg8 arg9 harg9 arg10 harg10 x0 x1 x2 x3 x4 xt0 y = VAR (SUM8 (xt0 (ix1 0)) (x4 y) (SLAB x1 y)) (x3 y) := by
  frame_out
  simp only [word]
  pointwise [k0_pay4, k0_pay2, k0_pay1]
  exact congrArg (VAR · (x3 y)) (sum8 _ _ (SLAB x1 y))

end Body

/-! Every window's block moves with the grid point; the written blocks cover their arrays. -/

theorem idx_val (t : Fin (cfgM m (hO m)).N) : ((cfgM m (hO m)).win 0).index t = ![t.val, 0]
    ∧ ((cfgM m (hO m)).win 1).index t = ![0, t.val, 0] ∧ ((cfgM m (hO m)).win 2).index t = ![t.val, 0] ∧ ((cfgM m (hO m)).win 3).index t = ![t.val, 0]
    ∧ ((cfgM m (hO m)).win 4).index t = ![t.val, 0] ∧ ((cfgM m (hO m)).win 5).index t = ![t.val, 0] ∧ ((cfgM m (hO m)).win 6).index t = ![t.val, 0]
    ∧ ((cfgM m (hO m)).win 7).index t = ![t.val, 0] ∧ ((cfgM m (hO m)).win 8).index t = ![t.val, 0] :=
  (by decide +kernel : ∀ t : Fin grid0.N, cc0_transform_0 (grid0.coords t) = ![t.val, 0] ∧ cc0_transform_1 (grid0.coords t) = ![0, t.val, 0]
    ∧ cc0_transform_2 (grid0.coords t) = ![t.val, 0] ∧ cc0_transform_3 (grid0.coords t) = ![t.val, 0]
    ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- A pipeline of the same windows at some contents of the word: its windows are the same. -/
abbrev CFG : Pipeline.Cfg sig Λ₀ := cfg0 (F := Ideal) ⟨fun | 0 => fun _ => (0#32 : BitVec 32), trivial⟩

theorem covers5 : (CFG.win 5).Covers := by decide +kernel
theorem covers6 : (CFG.win 6).Covers := by decide +kernel
theorem covers7 : (CFG.win 7).Covers := by decide +kernel
theorem covers8 : (CFG.win 8).Covers := by decide +kernel

/-- The prefetched word is the first argument's on the one device. -/
theorem tbl_eq (c : Dev nD) : tbl m 0 (ix1 0) = m ((c : Thread nD τ).loc main_arg0) (ix1 0) := by
  obtain rfl : c = 0 := Subsingleton.elim _ _
  rfl

theorem final5 (c : Dev nD) : (dats m (hO m) 0 c).arrAt 5 (cfgM m (hO m)).N = GSUM (m ((c : Thread nD τ).loc main_arg0)) (m ((c : Thread nD τ).loc main_arg2)) (m ((c : Thread nD τ).loc main_arg5)) := by
  refine (dats m (hO m) 0 c).arrAt_eq_of_covers 5 _ covers5 fun t hf y => ?_
  blk_simp
  rw [after0_5, outsAt0]; dsimp only
  refine (out5 _ _ _ _ _ _ _ _ _ _ _ _ _ _ _ _ _ _ _ _ _ _ _ _ _ _ y).trans ?_
  rw [tbl_eq m c]
  simp only [GSUM, SUM8, SLAB]
  blk_point [iblk, V, idx_val m t]

theorem final6 (c : Dev nD) : (dats m (hO m) 0 c).arrAt 6 (cfgM m (hO m)).N = fun j => DELTA (GSUM (m ((c : Thread nD τ).loc main_arg0)) (m ((c : Thread nD τ).loc main_arg2)) (m ((c : Thread nD τ).loc main_arg5)) j) ((m ((c : Thread nD τ).loc main_arg1)) j) ((m ((c : Thread nD τ).loc main_arg3)) j) ((m ((c : Thread nD τ).loc main_arg4)) j) := by
  refine (dats m (hO m) 0 c).arrAt_eq_of_covers 6 _ covers6 fun t hf y => ?_
  blk_simp
  rw [after0_6, outsAt0]; dsimp only
  refine (out6 _ _ _ _ _ _ _ _ _ _ _ _ _ _ _ _ _ _ _ _ _ _ _ _ _ _ y).trans ?_
  rw [tbl_eq m c]
  simp only [DELTA, MOM, VAR, GSUM, SUM8, SLAB]
  blk_point [iblk, V, idx_val m t]

theorem final7 (c : Dev nD) : (dats m (hO m) 0 c).arrAt 7 (cfgM m (hO m)).N = fun j => MOM (GSUM (m ((c : Thread nD τ).loc main_arg0)) (m ((c : Thread nD τ).loc main_arg2)) (m ((c : Thread nD τ).loc main_arg5)) j) ((m ((c : Thread nD τ).loc main_arg3)) j) := by
  refine (dats m (hO m) 0 c).arrAt_eq_of_covers 7 _ covers7 fun t hf y => ?_
  blk_simp
  rw [after0_7, outsAt0]; dsimp only
  refine (out7 _ _ _ _ _ _ _ _ _ _ _ _ _ _ _ _ _ _ _ _ _ _ _ _ _ _ y).trans ?_
  rw [tbl_eq m c]
  simp only [MOM, GSUM, SUM8, SLAB]
  blk_point [iblk, V, idx_val m t]

theorem final8 (c : Dev nD) : (dats m (hO m) 0 c).arrAt 8 (cfgM m (hO m)).N = fun j => VAR (GSUM (m ((c : Thread nD τ).loc main_arg0)) (m ((c : Thread nD τ).loc main_arg2)) (m ((c : Thread nD τ).loc main_arg5)) j) ((m ((c : Thread nD τ).loc main_arg4)) j) := by
  refine (dats m (hO m) 0 c).arrAt_eq_of_covers 8 _ covers8 fun t hf y => ?_
  blk_simp
  rw [after0_8, outsAt0]; dsimp only
  refine (out8 _ _ _ _ _ _ _ _ _ _ _ _ _ _ _ _ _ _ _ _ _ _ _ _ _ _ y).trans ?_
  rw [tbl_eq m c]
  simp only [VAR, GSUM, SUM8, SLAB]
  blk_point [iblk, V, idx_val m t]

end Cert.AdOdInIdeal.Value

namespace Cert.Proof

open Idealize.ShloMosaic Idealize.SL.Sem

theorem algebraic_AdOdIn : Cert.algebraic_AdOdInIdeal_AdOdInRefIdeal := by
  pair_intro
  · run_from Cert.AdOdInIdeal.Gen.run_main m g (Cert.AdOdInIdeal.Value.hO m)
    · exact Cert.AdOdInIdeal.Value.final5 m c
    · exact Cert.AdOdInIdeal.Value.final6 m c
    · exact Cert.AdOdInIdeal.Value.final7 m c
    · exact Cert.AdOdInIdeal.Value.final8 m c
    · exact (hc.2 Cert.AdOdInIdeal.main_arg0 (by decide : Cert.AdOdInIdeal.main_arg0 ∈ Pipeline.restRefs Cert.AdOdInIdeal.sig Cert.AdOdInIdeal.spec0)).trans (Cert.AdOdInIdeal.Gen.V_main_arg0 m c)
  · run_from Cert.AdOdInRefIdeal.Value.run m' g'
    · funext y
      pointwise [Cert.AdOdInIdeal.Value.GSUM, Cert.AdOdInIdeal.Value.SUM8]
    · funext y
      pointwise [Cert.AdOdInIdeal.Value.GSUM, Cert.AdOdInIdeal.Value.SUM8, Cert.AdOdInIdeal.Value.DELTA, Cert.AdOdInIdeal.Value.MOM, Cert.AdOdInIdeal.Value.VAR]
    · funext y
      pointwise [Cert.AdOdInIdeal.Value.GSUM, Cert.AdOdInIdeal.Value.SUM8, Cert.AdOdInIdeal.Value.MOM]
    · funext y
      pointwise [Cert.AdOdInIdeal.Value.GSUM, Cert.AdOdInIdeal.Value.SUM8, Cert.AdOdInIdeal.Value.VAR]

end Cert.Proof

end
-- ==== Proof.AdProjValue.lean ====
/-
  The weight update of the per-layer projection: every grid point reads one block of 256 rows of the
  eight slabs, of the weight and of its two moments, and writes the summed gradient, the update and the new moments.
-/
module

public import proofs.«01_k».proof.Defs
public import proofs.«01_k».proof.Proof.Gen.AdProjIdeal.Frame
public import proofs.«01_k».proof.Proof.Gen.AdProjRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdProjIdeal.Value

open Cert.AdProjIdeal Cert.AdProjIdeal.Gen Idealize.ShloMosaic Idealize.ShloMosaic.TcCoe Idealize.SL.Sem

variable (m : (ℓ : Loc nD τ sig) → Buf (Elt Ideal) ℓ) (ρ : Dev nD → PrngReg)

/-- The first moment: nine tenths of the old one and a tenth of the gradient. -/
def MOM (g m : EReal) : EReal := Ideal.ofBits .f32 0x3F666666#32 * m + Ideal.ofBits .f32 0x3DCCCCCD#32 * g

/-- The second moment, of the gradient's square. -/
def VAR (g v : EReal) : EReal := Ideal.ofBits .f32 0x3F7FBE77#32 * v + Ideal.ofBits .f32 0x3A83126F#32 * (g * g)

/-- The update: the corrected first moment over the root of the corrected second, with the decay of the weight. -/
def DELTA (g w m v : EReal) : EReal :=
  Ideal.ofBits .f32 0xBA83126F#32 * (Ideal.div (Ideal.div (MOM g m) (Ideal.ofBits .f32 0x3F26BD02#32))
    (Ideal.sqrt (Ideal.div (VAR g v) (Ideal.ofBits .f32 0x3C231ACC#32)) + Ideal.ofBits .f32 0x322BCC77#32) + Ideal.ofBits .f32 0x3C23D70A#32 * w)

/-- One element of the gradient: the eight slabs added up, this device's own slab replaced by its own partial gradient. -/
def SUM8 (w : BitVec 32) (p : EReal) (q : Fin 8 → EReal) : EReal :=
  ∑ x : Fin 8, Scalar.select (IntOp.cmpi .eq (BitVec.ofNat 32 x) w) p (q x)

/-- The gradient. -/
def GSUM (w : IVec S1 32) (S : FVec Ideal S8x1024x256 .bf16) (P : FVec Ideal S1024x256 .f32) : FVec Ideal S1024x256 .f32 :=
  fun j => SUM8 (w (ix1 0)) (P j) fun x => S (ix3 x (j 0) (j 1))

/-- The pipeline's side condition of the prefetched word is empty: no block's place depends on it. -/
theorem hO (m : (ℓ : Loc nD τ sig) → Buf (Elt Ideal) ℓ) : Ok m := trivial

/-- Comparing for equality is symmetric. -/
theorem cmpi_comm (a b : BitVec 32) : Scalar.cmpi .eq a b = IntOp.cmpi .eq b a := by
  simp only [Scalar.cmpi, IntOp.cmpi]; congr 1; exact Bool.beq_comm

/-- The eight terms in the kernel's order are the sum over the slabs. -/
theorem sum8 (w : BitVec 32) (p : EReal) (q : Fin 8 → EReal) :
    Scalar.select (Scalar.cmpi .eq w 0#32) p (q 0) + Scalar.select (Scalar.cmpi .eq w 1#32) p (q 1)
      + Scalar.select (Scalar.cmpi .eq w 2#32) p (q 2) + Scalar.select (Scalar.cmpi .eq w 3#32) p (q 3)
      + Scalar.select (Scalar.cmpi .eq w 4#32) p (q 4) + Scalar.select (Scalar.cmpi .eq w 5#32) p (q 5)
      + Scalar.select (Scalar.cmpi .eq w 6#32) p (q 6) + Scalar.select (Scalar.cmpi .eq w 7#32) p (q 7)
      = SUM8 w p q := by
  rw [SUM8, Fin.sum_univ_eight]
  simp only [cmpi_comm]
  rfl

/-- The prefetched word, this device's place in the ring, as the body reads it. -/
theorem word (c : Dev nD) (xt0 : TbBuf0 (F := Ideal) c tbM0_0) (i) : View.read (Elt Ideal) (View.whole main_arg0) xt0 i = xt0 (ix1 0) :=
  congrArg xt0 (funext fun a => match a with | ⟨0, _⟩ => Subsingleton.elim (α := Fin 1) _ _)

/-- The eight slabs' elements at an index of the block. -/
def SLAB (x : Vec Ideal S8x256x256 .bf16) (y : S256x256.Idx) : Fin 8 → EReal := fun s => x (ix3 s (y 0) (y 1))

/-! What the body leaves in each output's block, at an index, of any blocks it is given. -/

section Body

variable (c : Dev nD) (i : grid0.Coords) (arg2 : Memref sig .tc .vmem S256x256 .f32) (harg2 : arg2.IsWhole) (arg3 : Memref sig .tc .vmem S8x256x256 .bf16) (harg3 : arg3.IsWhole) (arg4 : Memref sig .tc .vmem S256x256 .f32) (harg4 : arg4.IsWhole) (arg5 : Memref sig .tc .vmem S256x256 .f32) (harg5 : arg5.IsWhole) (arg6 : Memref sig .tc .vmem S256x256 .f32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x256 .f32) (harg9 : arg9.IsWhole) (arg10 : Memref sig .tc .vmem S256x256 .f32) (harg10 : arg10.IsWhole)
    (x0 : Vec Ideal S256x256 .f32) (x1 : Vec Ideal S8x256x256 .bf16) (x2 x3 x4 : Vec Ideal S256x256 .f32) (xt0 : TbBuf0 (F := Ideal) c tbM0_0) (y : S256x256.Idx)

theorem out5 : out0_A_5 c i arg2 harg2 arg3 harg3 arg4 harg4 arg5 harg5 arg6 harg6 arg7 harg7 arg8 harg8 arg9 harg9 arg10 harg10 x0 x1 x2 x3 x4 xt0 y = SUM8 (xt0 (ix1 0)) (x4 y) (SLAB x1 y) := by
  frame_out
  simp only [word]
  pointwise [k0_pay2, k0_pay1]
  exact sum8 _ _ (SLAB x1 y)

theorem out6 : out0_A_6 c i arg2 harg2 arg3 harg3 arg4 harg4 arg5 harg5 arg6 harg6 arg7 harg7 arg8 harg8 arg9 harg9 arg10 harg10 x0 x1 x2 x3 x4 xt0 y = DELTA (SUM8 (xt0 (ix1 0)) (x4 y) (SLAB x1 y)) (x0 y) (x2 y) (x3 y) := by
  frame_out
  simp only [word]
  pointwise [k0_pay5, k0_pay4, k0_pay3, k0_pay2, k0_pay1]
  exact congrArg (DELTA · (x0 y) (x2 y) (x3 y)) (sum8 _ _ (SLAB x1 y))

theorem out7 : out0_A_7 c i arg2 harg2 arg3 harg3 arg4 harg4 arg5 harg5 arg6 harg6 arg7 harg7 arg8 harg8 arg9 harg9 arg10 harg10 x0 x1 x2 x3 x4 xt0 y = MOM (SUM8 (xt0 (ix1 0)) (x4 y) (SLAB x1 y)) (x2 y) := by
  frame_out
  simp only [word]
  pointwise [k0_pay3, k0_pay2, k0_pay1]
  exact congrArg (MOM · (x2 y)) (sum8 _ _ (SLAB x1 y))

theorem out8 : out0_A_8 c i arg2 harg2 arg3 harg3 arg4 harg4 arg5 harg5 arg6 harg6 arg7 harg7 arg8 harg8 arg9 harg9 arg10 harg10 x0 x1 x2 x3 x4 xt0 y = VAR (SUM8 (xt0 (ix1 0)) (x4 y) (SLAB x1 y)) (x3 y) := by
  frame_out
  simp only [word]
  pointwise [k0_pay4, k0_pay2, k0_pay1]
  exact congrArg (VAR · (x3 y)) (sum8 _ _ (SLAB x1 y))

end Body

/-! Every window's block moves with the grid point; the written blocks cover their arrays. -/

theorem idx_val (t : Fin (cfgM m (hO m)).N) : ((cfgM m (hO m)).win 0).index t = ![t.val, 0]
    ∧ ((cfgM m (hO m)).win 1).index t = ![0, t.val, 0] ∧ ((cfgM m (hO m)).win 2).index t = ![t.val, 0] ∧ ((cfgM m (hO m)).win 3).index t = ![t.val, 0]
    ∧ ((cfgM m (hO m)).win 4).index t = ![t.val, 0] ∧ ((cfgM m (hO m)).win 5).index t = ![t.val, 0] ∧ ((cfgM m (hO m)).win 6).index t = ![t.val, 0]
    ∧ ((cfgM m (hO m)).win 7).index t = ![t.val, 0] ∧ ((cfgM m (hO m)).win 8).index t = ![t.val, 0] :=
  (by decide +kernel : ∀ t : Fin grid0.N, cc0_transform_0 (grid0.coords t) = ![t.val, 0] ∧ cc0_transform_1 (grid0.coords t) = ![0, t.val, 0]
    ∧ cc0_transform_2 (grid0.coords t) = ![t.val, 0] ∧ cc0_transform_3 (grid0.coords t) = ![t.val, 0]
    ∧ cc0_transform_4 (grid0.coords t) = ![t.val, 0] ∧ cc0_transform_5 (grid0.coords t) = ![t.val, 0]
    ∧ cc0_transform_6 (grid0.coords t) = ![t.val, 0] ∧ cc0_transform_7 (grid0.coords t) = ![t.val, 0] ∧ cc0_transform_8 (grid0.coords t) = ![t.val, 0]) t

/-- A pipeline of the same windows at some contents of the word: its windows are the same. -/
abbrev CFG : Pipeline.Cfg sig Λ₀ := cfg0 (F := Ideal) ⟨fun | 0 => fun _ => (0#32 : BitVec 32), trivial⟩

theorem covers5 : (CFG.win 5).Covers := by decide +kernel
theorem covers6 : (CFG.win 6).Covers := by decide +kernel
theorem covers7 : (CFG.win 7).Covers := by decide +kernel
theorem covers8 : (CFG.win 8).Covers := by decide +kernel

/-- The prefetched word is the first argument's on the one device. -/
theorem tbl_eq (c : Dev nD) : tbl m 0 (ix1 0) = m ((c : Thread nD τ).loc main_arg0) (ix1 0) := by
  obtain rfl : c = 0 := Subsingleton.elim _ _
  rfl

theorem final5 (c : Dev nD) : (dats m (hO m) 0 c).arrAt 5 (cfgM m (hO m)).N = GSUM (m ((c : Thread nD τ).loc main_arg0)) (m ((c : Thread nD τ).loc main_arg2)) (m ((c : Thread nD τ).loc main_arg5)) := by
  refine (dats m (hO m) 0 c).arrAt_eq_of_covers 5 _ covers5 fun t hf y => ?_
  blk_simp
  rw [after0_5, outsAt0]; dsimp only
  refine (out5 _ _ _ _ _ _ _ _ _ _ _ _ _ _ _ _ _ _ _ _ _ _ _ _ _ _ y).trans ?_
  rw [tbl_eq m c]
  simp only [GSUM, SUM8, SLAB]
  blk_point [iblk, V, idx_val m t]

theorem final6 (c : Dev nD) : (dats m (hO m) 0 c).arrAt 6 (cfgM m (hO m)).N = fun j => DELTA (GSUM (m ((c : Thread nD τ).loc main_arg0)) (m ((c : Thread nD τ).loc main_arg2)) (m ((c : Thread nD τ).loc main_arg5)) j) ((m ((c : Thread nD τ).loc main_arg1)) j) ((m ((c : Thread nD τ).loc main_arg3)) j) ((m ((c : Thread nD τ).loc main_arg4)) j) := by
  refine (dats m (hO m) 0 c).arrAt_eq_of_covers 6 _ covers6 fun t hf y => ?_
  blk_simp
  rw [after0_6, outsAt0]; dsimp only
  refine (out6 _ _ _ _ _ _ _ _ _ _ _ _ _ _ _ _ _ _ _ _ _ _ _ _ _ _ y).trans ?_
  rw [tbl_eq m c]
  simp only [DELTA, MOM, VAR, GSUM, SUM8, SLAB]
  blk_point [iblk, V, idx_val m t]

theorem final7 (c : Dev nD) : (dats m (hO m) 0 c).arrAt 7 (cfgM m (hO m)).N = fun j => MOM (GSUM (m ((c : Thread nD τ).loc main_arg0)) (m ((c : Thread nD τ).loc main_arg2)) (m ((c : Thread nD τ).loc main_arg5)) j) ((m ((c : Thread nD τ).loc main_arg3)) j) := by
  refine (dats m (hO m) 0 c).arrAt_eq_of_covers 7 _ covers7 fun t hf y => ?_
  blk_simp
  rw [after0_7, outsAt0]; dsimp only
  refine (out7 _ _ _ _ _ _ _ _ _ _ _ _ _ _ _ _ _ _ _ _ _ _ _ _ _ _ y).trans ?_
  rw [tbl_eq m c]
  simp only [MOM, GSUM, SUM8, SLAB]
  blk_point [iblk, V, idx_val m t]

theorem final8 (c : Dev nD) : (dats m (hO m) 0 c).arrAt 8 (cfgM m (hO m)).N = fun j => VAR (GSUM (m ((c : Thread nD τ).loc main_arg0)) (m ((c : Thread nD τ).loc main_arg2)) (m ((c : Thread nD τ).loc main_arg5)) j) ((m ((c : Thread nD τ).loc main_arg4)) j) := by
  refine (dats m (hO m) 0 c).arrAt_eq_of_covers 8 _ covers8 fun t hf y => ?_
  blk_simp
  rw [after0_8, outsAt0]; dsimp only
  refine (out8 _ _ _ _ _ _ _ _ _ _ _ _ _ _ _ _ _ _ _ _ _ _ _ _ _ _ y).trans ?_
  rw [tbl_eq m c]
  simp only [VAR, GSUM, SUM8, SLAB]
  blk_point [iblk, V, idx_val m t]

end Cert.AdProjIdeal.Value

namespace Cert.Proof

open Idealize.ShloMosaic Idealize.SL.Sem

theorem algebraic_AdProj : Cert.algebraic_AdProjIdeal_AdProjRefIdeal := by
  pair_intro
  · run_from Cert.AdProjIdeal.Gen.run_main m g (Cert.AdProjIdeal.Value.hO m)
    · exact Cert.AdProjIdeal.Value.final5 m c
    · exact Cert.AdProjIdeal.Value.final6 m c
    · exact Cert.AdProjIdeal.Value.final7 m c
    · exact Cert.AdProjIdeal.Value.final8 m c
    · exact (hc.2 Cert.AdProjIdeal.main_arg0 (by decide : Cert.AdProjIdeal.main_arg0 ∈ Pipeline.restRefs Cert.AdProjIdeal.sig Cert.AdProjIdeal.spec0)).trans (Cert.AdProjIdeal.Gen.V_main_arg0 m c)
  · run_from Cert.AdProjRefIdeal.Value.run m' g'
    · funext y
      pointwise [Cert.AdProjIdeal.Value.GSUM, Cert.AdProjIdeal.Value.SUM8]
    · funext y
      pointwise [Cert.AdProjIdeal.Value.GSUM, Cert.AdProjIdeal.Value.SUM8, Cert.AdProjIdeal.Value.DELTA, Cert.AdProjIdeal.Value.MOM, Cert.AdProjIdeal.Value.VAR]
    · funext y
      pointwise [Cert.AdProjIdeal.Value.GSUM, Cert.AdProjIdeal.Value.SUM8, Cert.AdProjIdeal.Value.MOM]
    · funext y
      pointwise [Cert.AdProjIdeal.Value.GSUM, Cert.AdProjIdeal.Value.SUM8, Cert.AdProjIdeal.Value.VAR]

end Cert.Proof

end
-- ==== Proof.AdPackedValue.lean ====
/-
  The update of the packed small weights: every grid point reads one block of 256 rows of the eight slabs, of the weights
  and of their moments, and writes the summed gradient, the update and the new moments.
-/
module

public import proofs.«01_k».proof.Defs
public import proofs.«01_k».proof.Proof.Gen.AdPackedIdeal.Frame
public import proofs.«01_k».proof.Proof.Gen.AdPackedRefIdeal.Run
public import Idealize.ShloMosaic.Lib.Pipeline.ValueKit
public import Idealize.ShloMosaic.Lib.Pipeline.ReadBack
public import Idealize.ShloMosaic.Lib.Claim

@[expose] public section

set_option maxRecDepth 16384

noncomputable section

namespace Cert.AdPackedIdeal.Value

open Cert.AdPackedIdeal Cert.AdPackedIdeal.Gen Idealize.ShloMosaic Idealize.ShloMosaic.TcCoe Idealize.SL.Sem

variable (m : (ℓ : Loc nD τ sig) → Buf (Elt Ideal) ℓ) (ρ : Dev nD → PrngReg)

/-- The first moment: nine tenths of the old one and a tenth of the gradient. -/
def MOM (g m : EReal) : EReal := Ideal.ofBits .f32 0x3F666666#32 * m + Ideal.ofBits .f32 0x3DCCCCCD#32 * g

/-- The second moment, of the gradient's square. -/
def VAR (g v : EReal) : EReal := Ideal.ofBits .f32 0x3F7FBE77#32 * v + Ideal.ofBits .f32 0x3A83126F#32 * (g * g)

/-- The update: the corrected first moment over the root of the corrected second, with the decay of the weight. -/
def DELTA (g w m v : EReal) : EReal :=
  Ideal.ofBits .f32 0xBA83126F#32 * (Ideal.div (Ideal.div (MOM g m) (Ideal.ofBits .f32 0x3F26BD02#32))
    (Ideal.sqrt (Ideal.div (VAR g v) (Ideal.ofBits .f32 0x3C231ACC#32)) + Ideal.ofBits .f32 0x322BCC77#32) + Ideal.ofBits .f32 0x3C23D70A#32 * w)

/-- The gradient: the eight devices' slabs added up. -/
def GSUM (S : FVec Ideal S8x512x128 .f32) : FVec Ideal S512x128 .f32 := fun j => ∑ x : Fin 8, S (ix3 x (j 0) (j 1))

section Body

variable (x0 : FVec Ideal S256x128 .f32) (x1 : FVec Ideal S8x256x128 .f32) (x2 x3 : FVec Ideal S256x128 .f32) (y : S256x128.Idx)

theorem grad : k0_pay7 (F := Ideal) x0 x1 x2 x3 y = ∑ x : Fin 8, x1 (ix3 x (y 0) (y 1)) := by
  pointwise [k0_pay7, k0_pay4]
  exact (Fin.sum_univ_eight fun s : Fin 8 => x1 (ix3 s (y 0) (y 1))).symm

theorem mom : k0_pay1 (k0_pay8 (F := Ideal) x0 x1 x2 x3) (k0_pay9 x0 x1 x2 x3) y = MOM (∑ x : Fin 8, x1 (ix3 x (y 0) (y 1))) (x2 y) := by
  pointwise [k0_pay1, k0_pay8, k0_pay9, k0_pay5, k0_pay6, k0_pay4]
  exact congrArg (MOM · (x2 y)) (Fin.sum_univ_eight fun s : Fin 8 => x1 (ix3 s (y 0) (y 1))).symm

theorem var : k0_pay2 (k0_pay7 (F := Ideal) x0 x1 x2 x3) x3 y = VAR (∑ x : Fin 8, x1 (ix3 x (y 0) (y 1))) (x3 y) := by
  pointwise [k0_pay2, k0_pay7, k0_pay4]
  exact congrArg (VAR · (x3 y)) (Fin.sum_univ_eight fun s : Fin 8 => x1 (ix3 s (y 0) (y 1))).symm

theorem delta : k0_pay3 (k0_pay7 (F := Ideal) x0 x1 x2 x3) x0 (k0_pay8 x0 x1 x2 x3) (k0_pay9 x0 x1 x2 x3) x3 y
    = DELTA (∑ x : Fin 8, x1 (ix3 x (y 0) (y 1))) (x0 y) (x2 y) (x3 y) := by
  pointwise [k0_pay3, k0_pay2, k0_pay1, k0_pay8, k0_pay9, k0_pay5, k0_pay6, k0_pay7, k0_pay4]
  exact congrArg (DELTA · (x0 y) (x2 y) (x3 y)) (Fin.sum_univ_eight fun s : Fin 8 => x1 (ix3 s (y 0) (y 1))).symm

end Body

theorem idx_val : ∀ t : Fin cfg0.N, win0_0.index t = ![t.val, 0] ∧ win0_1.index t = ![0, t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

theorem final4 (c : Dev nD) : (dats m 0 c).arrAt 4 (cfgs 0).N = GSUM (m ((c : Thread nD τ).loc main_arg1)) := by
  refine (dats m 0 c).arrAt_eq_of_covers 4 _ (by decide +kernel) fun t hf y => ?_
  blk_simp
  rw [after0_4]; frame_out
  refine (grad _ _ _ _ y).trans ?_
  simp only [GSUM]
  blk_point [iblk, V, idx_val t]

theorem final5 (c : Dev nD) : (dats m 0 c).arrAt 5 (cfgs 0).N = fun j => DELTA (GSUM (m ((c : Thread nD τ).loc main_arg1)) j) ((m ((c : Thread nD τ).loc main_arg0)) j) ((m ((c : Thread nD τ).loc main_arg2)) j) ((m ((c : Thread nD τ).loc main_arg3)) j) := by
  refine (dats m 0 c).arrAt_eq_of_covers 5 _ (by decide +kernel) fun t hf y => ?_
  blk_simp
  rw [after0_5]; frame_out
  refine (delta _ _ _ _ y).trans ?_
  simp only [DELTA, MOM, VAR, GSUM]
  blk_point [iblk, V, idx_val t]

theorem final6 (c : Dev nD) : (dats m 0 c).arrAt 6 (cfgs 0).N = fun j => MOM (GSUM (m ((c : Thread nD τ).loc main_arg1)) j) ((m ((c : Thread nD τ).loc main_arg2)) j) := by
  refine (dats m 0 c).arrAt_eq_of_covers 6 _ (by decide +kernel) fun t hf y => ?_
  blk_simp
  rw [after0_6]; frame_out
  refine (mom _ _ _ _ y).trans ?_
  simp only [MOM, GSUM]
  blk_point [iblk, V, idx_val t]

theorem final7 (c : Dev nD) : (dats m 0 c).arrAt 7 (cfgs 0).N = fun j => VAR (GSUM (m ((c : Thread nD τ).loc main_arg1)) j) ((m ((c : Thread nD τ).loc main_arg3)) j) := by
  refine (dats m 0 c).arrAt_eq_of_covers 7 _ (by decide +kernel) fun t hf y => ?_
  blk_simp
  rw [after0_7]; frame_out
  refine (var _ _ _ _ y).trans ?_
  simp only [VAR, GSUM]
  blk_point [iblk, V, idx_val t]

end Cert.AdPackedIdeal.Value

namespace Cert.Proof

open Idealize.ShloMosaic Idealize.SL.Sem

set_option maxHeartbeats 4000000 in
theorem algebraic_AdPacked : Cert.algebraic_AdPackedIdeal_AdPackedRefIdeal := by
  pair_intro
  · run_from Cert.AdPackedIdeal.Gen.run_main m g
  · run_from Cert.AdPackedRefIdeal.Value.run m' g'
    · refine Eq.trans ?_ (Cert.AdPackedIdeal.Value.final4 m c).symm
      funext y
      pointwise [Cert.AdPackedIdeal.Value.GSUM]
    · refine Eq.trans ?_ (Cert.AdPackedIdeal.Value.final5 m c).symm
      funext y
      pointwise [Cert.AdPackedIdeal.Value.DELTA, Cert.AdPackedIdeal.Value.MOM, Cert.AdPackedIdeal.Value.VAR, Cert.AdPackedIdeal.Value.GSUM]
    · refine Eq.trans ?_ (Cert.AdPackedIdeal.Value.final6 m c).symm
      funext y
      pointwise [Cert.AdPackedIdeal.Value.MOM, Cert.AdPackedIdeal.Value.GSUM]
    · refine Eq.trans ?_ (Cert.AdPackedIdeal.Value.final7 m c).symm
      funext y
      pointwise [Cert.AdPackedIdeal.Value.VAR, Cert.AdPackedIdeal.Value.GSUM]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_scores
public import proofs.«01_k».proof.Proof.Gen.Mm
public import proofs.«01_k».proof.Proof.Gen.Mm.Skeleton
public import proofs.«01_k».proof.Proof.Gen.Mm.Launch
public import proofs.«01_k».proof.Proof.Gen.Mm.Points
public import proofs.«01_k».proof.Proof.Gen.Mm.Frame
public import proofs.«01_k».proof.Proof.Gen.MmIdeal
public import proofs.«01_k».proof.Proof.Gen.MmIdeal.Skeleton
public import proofs.«01_k».proof.Proof.Gen.MmIdeal.Launch
public import proofs.«01_k».proof.Proof.Gen.MmIdeal.Points
public import proofs.«01_k».proof.Proof.Gen.MmIdeal.Frame
public import proofs.«01_k».proof.Proof.Gen.MmRefIdeal
public import proofs.«01_k».proof.Proof.Gen.MmRefIdeal.Run
public import proofs.«01_k».proof.Proof.Gen.Glu
public import proofs.«01_k».proof.Proof.Gen.Glu.Skeleton
public import proofs.«01_k».proof.Proof.Gen.Glu.Launch
public import proofs.«01_k».proof.Proof.Gen.Glu.Points
public import proofs.«01_k».proof.Proof.Gen.Glu.Frame
public import proofs.«01_k».proof.Proof.Gen.GluIdeal
public import proofs.«01_k».proof.Proof.Gen.GluIdeal.Skeleton
public import proofs.«01_k».proof.Proof.Gen.GluIdeal.Launch
public import proofs.«01_k».proof.Proof.Gen.GluIdeal.Points
public import proofs.«01_k».proof.Proof.Gen.GluIdeal.Frame
public import proofs.«01_k».proof.Proof.Gen.GluRefIdeal
public import proofs.«01_k».proof.Proof.Gen.GluRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxRefIdeal
public import proofs.«01_k».proof.Proof.Gen.OutDxRefIdeal.Run
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.OutDwRefIdeal.Run
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.InRefIdeal.Run
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.InDwRefIdeal.Run
public import proofs.«01_k».proof.Proof.Gen.EvInDw
public import proofs.«01_k».proof.Proof.Gen.EvInDw.Skeleton
public import proofs.«01_k».proof.Proof.Gen.EvInDw.Launch
public import proofs.«01_k».proof.Proof.Gen.EvInDw.Points
public import proofs.«01_k».proof.Proof.Gen.EvInDw.Frame
public import proofs.«01_k».proof.Proof.Gen.EvInDwIdeal
public import proofs.«01_k».proof.Proof.Gen.EvInDwIdeal.Skeleton
public import proofs.«01_k».proof.Proof.Gen.EvInDwIdeal.Launch
public import proofs.«01_k».proof.Proof.Gen.EvInDwIdeal.Points
public import proofs.«01_k».proof.Proof.Gen.EvInDwIdeal.Frame
public import proofs.«01_k».proof.Proof.Gen.EvInDwRefIdeal
public import proofs.«01_k».proof.Proof.Gen.EvInDwRefIdeal.Run
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateRefIdeal.Run
public import proofs.«01_k».proof.Proof.Gen.GateDx
public import proofs.«01_k».proof.Proof.Gen.GateDx.Skeleton
public import proofs.«01_k».proof.Proof.Gen.GateDx.Launch
public import proofs.«01_k».proof.Proof.Gen.GateDx.Points
public import proofs.«01_k».proof.Proof.Gen.GateDx.Frame
public import proofs.«01_k».proof.Proof.Gen.GateDxIdeal
public import proofs.«01_k».proof.Proof.Gen.GateDxIdeal.Skeleton
public import proofs.«01_k».proof.Proof.Gen.GateDxIdeal.Launch
public import proofs.«01_k».proof.Proof.Gen.GateDxIdeal.Points
public import proofs.«01_k».proof.Proof.Gen.GateDxIdeal.Frame
public import proofs.«01_k».proof.Proof.Gen.GateDxRefIdeal
public import proofs.«01_k».proof.Proof.Gen.GateDxRefIdeal.Run
public import proofs.«01_k».proof.Proof.Gen.GateDw
public import proofs.«01_k».proof.Proof.Gen.GateDw.Skeleton
public import proofs.«01_k».proof.Proof.Gen.GateDw.Launch
public import proofs.«01_k».proof.Proof.Gen.GateDw.Points
public import proofs.«01_k».proof.Proof.Gen.GateDw.Frame
public import proofs.«01_k».proof.Proof.Gen.GateDwIdeal
public import proofs.«01_k».proof.Proof.Gen.GateDwIdeal.Skeleton
public import proofs.«01_k».proof.Proof.Gen.GateDwIdeal.Launch
public import proofs.«01_k».proof.Proof.Gen.GateDwIdeal.Points
public import proofs.«01_k».proof.Proof.Gen.GateDwIdeal.Frame
public import proofs.«01_k».proof.Proof.Gen.GateDwRefIdeal
public import proofs.«01_k».proof.Proof.Gen.GateDwRefIdeal.Run
public import proofs.«01_k».proof.Proof.Gen.EvIn
public import proofs.«01_k».proof.Proof.Gen.EvIn.Skeleton
public import proofs.«01_k».proof.Proof.Gen.EvIn.Launch
public import proofs.«01_k».proof.Proof.Gen.EvIn.Points
public import proofs.«01_k».proof.Proof.Gen.EvIn.Frame
public import proofs.«01_k».proof.Proof.Gen.EvInIdeal
public import proofs.«01_k».proof.Proof.Gen.EvInIdeal.Skeleton
public import proofs.«01_k».proof.Proof.Gen.EvInIdeal.Launch
public import proofs.«01_k».proof.Proof.Gen.EvInIdeal.Points
public import proofs.«01_k».proof.Proof.Gen.EvInIdeal.Frame
public import proofs.«01_k».proof.Proof.Gen.EvInRefIdeal
public import proofs.«01_k».proof.Proof.Gen.EvInRefIdeal.Run
public import proofs.«01_k».proof.Proof.Gen.EvInDx
public import proofs.«01_k».proof.Proof.Gen.EvInDx.Skeleton
public import proofs.«01_k».proof.Proof.Gen.EvInDx.Launch
public import proofs.«01_k».proof.Proof.Gen.EvInDx.Points
public import proofs.«01_k».proof.Proof.Gen.EvInDx.Frame
public import proofs.«01_k».proof.Proof.Gen.EvInDxIdeal
public import proofs.«01_k».proof.Proof.Gen.EvInDxIdeal.Skeleton
public import proofs.«01_k».proof.Proof.Gen.EvInDxIdeal.Launch
public import proofs.«01_k».proof.Proof.Gen.EvInDxIdeal.Points
public import proofs.«01_k».proof.Proof.Gen.EvInDxIdeal.Frame
public import proofs.«01_k».proof.Proof.Gen.EvInDxRefIdeal
public import proofs.«01_k».proof.Proof.Gen.EvInDxRefIdeal.Run
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsRefIdeal
public import proofs.«01_k».proof.Proof.Gen.RmsRefIdeal.Run
public import proofs.«01_k».proof.Proof.Gen.NaGate
public import proofs.«01_k».proof.Proof.Gen.NaGate.Skeleton
public import proofs.«01_k».proof.Proof.Gen.NaGate.Launch
public import proofs.«01_k».proof.Proof.Gen.NaGate.Points
public import proofs.«01_k».proof.Proof.Gen.NaGate.Frame
public import proofs.«01_k».proof.Proof.Gen.NaGateIdeal
public import proofs.«01_k».proof.Proof.Gen.NaGateIdeal.Skeleton
public import proofs.«01_k».proof.Proof.Gen.NaGateIdeal.Launch
public import proofs.«01_k».proof.Proof.Gen.NaGateIdeal.Points
public import proofs.«01_k».proof.Proof.Gen.NaGateIdeal.Frame
public import proofs.«01_k».proof.Proof.Gen.NaGateRefIdeal
public import proofs.«01_k».proof.Proof.Gen.NaGateRefIdeal.Run
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleRefIdeal.Run
public import proofs.«01_k».proof.Proof.Gen.AdEvIn
public import proofs.«01_k».proof.Proof.Gen.AdEvIn.Skeleton
public import proofs.«01_k».proof.Proof.Gen.AdEvIn.Launch
public import proofs.«01_k».proof.Proof.Gen.AdEvIn.Points
public import proofs.«01_k».proof.Proof.Gen.AdEvIn.Frame
public import proofs.«01_k».proof.Proof.Gen.AdEvInIdeal
public import proofs.«01_k».proof.Proof.Gen.AdEvInIdeal.Skeleton
public import proofs.«01_k».proof.Proof.Gen.AdEvInIdeal.Launch
public import proofs.«01_k».proof.Proof.Gen.AdEvInIdeal.Points
public import proofs.«01_k».proof.Proof.Gen.AdEvInIdeal.Frame
public import proofs.«01_k».proof.Proof.Gen.AdEvInRefIdeal
public import proofs.«01_k».proof.Proof.Gen.AdEvInRefIdeal.Run
public import proofs.«01_k».proof.Proof.Gen.AdOut
public import proofs.«01_k».proof.Proof.Gen.AdOut.Skeleton
public import proofs.«01_k».proof.Proof.Gen.AdOut.Launch
public import proofs.«01_k».proof.Proof.Gen.AdOut.Points
public import proofs.«01_k».proof.Proof.Gen.AdOut.Frame
public import proofs.«01_k».proof.Proof.Gen.AdOutIdeal
public import proofs.«01_k».proof.Proof.Gen.AdOutIdeal.Skeleton
public import proofs.«01_k».proof.Proof.Gen.AdOutIdeal.Launch
public import proofs.«01_k».proof.Proof.Gen.AdOutIdeal.Points
public import proofs.«01_k».proof.Proof.Gen.AdOutIdeal.Frame
public import proofs.«01_k».proof.Proof.Gen.AdOutRefIdeal
public import proofs.«01_k».proof.Proof.Gen.AdOutRefIdeal.Run
public import proofs.«01_k».proof.Proof.Gen.AdOdIn
public import proofs.«01_k».proof.Proof.Gen.AdOdIn.Skeleton
public import proofs.«01_k».proof.Proof.Gen.AdOdIn.Launch
public import proofs.«01_k».proof.Proof.Gen.AdOdIn.Points
public import proofs.«01_k».proof.Proof.Gen.AdOdIn.Frame
public import proofs.«01_k».proof.Proof.Gen.AdOdInIdeal
public import proofs.«01_k».proof.Proof.Gen.AdOdInIdeal.Skeleton
public import proofs.«01_k».proof.Proof.Gen.AdOdInIdeal.Launch
public import proofs.«01_k».proof.Proof.Gen.AdOdInIdeal.Points
public import proofs.«01_k».proof.Proof.Gen.AdOdInIdeal.Frame
public import proofs.«01_k».proof.Proof.Gen.AdOdInRefIdeal
public import proofs.«01_k».proof.Proof.Gen.AdOdInRefIdeal.Run
public import proofs.«01_k».proof.Proof.Gen.AdProj
public import proofs.«01_k».proof.Proof.Gen.AdProj.Skeleton
public import proofs.«01_k».proof.Proof.Gen.AdProj.Launch
public import proofs.«01_k».proof.Proof.Gen.AdProj.Points
public import proofs.«01_k».proof.Proof.Gen.AdProj.Frame
public import proofs.«01_k».proof.Proof.Gen.AdProjIdeal
public import proofs.«01_k».proof.Proof.Gen.AdProjIdeal.Skeleton
public import proofs.«01_k».proof.Proof.Gen.AdProjIdeal.Launch
public import proofs.«01_k».proof.Proof.Gen.AdProjIdeal.Points
public import proofs.«01_k».proof.Proof.Gen.AdProjIdeal.Frame
public import proofs.«01_k».proof.Proof.Gen.AdProjRefIdeal
public import proofs.«01_k».proof.Proof.Gen.AdProjRefIdeal.Run
public import proofs.«01_k».proof.Proof.Gen.AdPacked
public import proofs.«01_k».proof.Proof.Gen.AdPacked.Skeleton
public import proofs.«01_k».proof.Proof.Gen.AdPacked.Launch
public import proofs.«01_k».proof.Proof.Gen.AdPacked.Points
public import proofs.«01_k».proof.Proof.Gen.AdPacked.Frame
public import proofs.«01_k».proof.Proof.Gen.AdPackedIdeal
public import proofs.«01_k».proof.Proof.Gen.AdPackedIdeal.Skeleton
public import proofs.«01_k».proof.Proof.Gen.AdPackedIdeal.Launch
public import proofs.«01_k».proof.Proof.Gen.AdPackedIdeal.Points
public import proofs.«01_k».proof.Proof.Gen.AdPackedIdeal.Frame
public import proofs.«01_k».proof.Proof.Gen.AdPackedRefIdeal
public import proofs.«01_k».proof.Proof.Gen.AdPackedRefIdeal.Run
public import proofs.«01_k».proof.Proof.NaFrame
public import proofs.«01_k».proof.Proof.NaBits
public import proofs.«01_k».proof.Proof.NaFin
public import proofs.«01_k».proof.Proof.MmValue
public import proofs.«01_k».proof.Proof.GluValue
public import proofs.«01_k».proof.Proof.OutValue
public import proofs.«01_k».proof.Proof.OutDxValue
public import proofs.«01_k».proof.Proof.OutDwValue
public import proofs.«01_k».proof.Proof.InValue
public import proofs.«01_k».proof.Proof.InDwValue
public import proofs.«01_k».proof.Proof.EvInDwValue
public import proofs.«01_k».proof.Proof.GateValue
public import proofs.«01_k».proof.Proof.GateDxValue
public import proofs.«01_k».proof.Proof.GateDwValue
public import proofs.«01_k».proof.Proof.EvInValue
public import proofs.«01_k».proof.Proof.EvInDxValue
public import proofs.«01_k».proof.Proof.RmsValue
public import proofs.«01_k».proof.Proof.NaGateValue
public import proofs.«01_k».proof.Proof.PleValue
public import proofs.«01_k».proof.Proof.AdEvInValue
public import proofs.«01_k».proof.Proof.AdOutValue
public import proofs.«01_k».proof.Proof.AdOdInValue
public import proofs.«01_k».proof.Proof.AdProjValue
public import proofs.«01_k».proof.Proof.AdPackedValue
public import Idealize.ShloMosaic.Adequacy
public import Idealize.ShloMosaic.Init

@[expose] public section

noncomputable section

namespace Cert.Proof

open Idealize.ShloMosaic Idealize.SL.Sem Cert.Mm

theorem claim : Cert.Claim := ⟨Cert.Kernel.Gen.facts,
  Cert.KernelIdeal.Gen.facts,
  Cert.ReferenceIdeal.Gen.facts,
  Cert.Mm.Gen.facts,
  Cert.MmIdeal.Gen.facts,
  Cert.MmRefIdeal.Gen.facts,
  Cert.Glu.Gen.facts,
  Cert.GluIdeal.Gen.facts,
  Cert.GluRefIdeal.Gen.facts,
  Cert.Out.Gen.facts,
  Cert.OutIdeal.Gen.facts,
  Cert.OutRefIdeal.Gen.facts,
  Cert.OutDx.Gen.facts,
  Cert.OutDxIdeal.Gen.facts,
  Cert.OutDxRefIdeal.Gen.facts,
  Cert.OutDw.Gen.facts,
  Cert.OutDwIdeal.Gen.facts,
  Cert.OutDwRefIdeal.Gen.facts,
  Cert.In.Gen.facts,
  Cert.InIdeal.Gen.facts,
  Cert.InRefIdeal.Gen.facts,
  Cert.InDw.Gen.facts,
  Cert.InDwIdeal.Gen.facts,
  Cert.InDwRefIdeal.Gen.facts,
  Cert.EvInDw.Gen.facts,
  Cert.EvInDwIdeal.Gen.facts,
  Cert.EvInDwRefIdeal.Gen.facts,
  Cert.Gate.Gen.facts,
  Cert.GateIdeal.Gen.facts,
  Cert.GateRefIdeal.Gen.facts,
  Cert.GateDx.Gen.facts,
  Cert.GateDxIdeal.Gen.facts,
  Cert.GateDxRefIdeal.Gen.facts,
  Cert.GateDw.Gen.facts,
  Cert.GateDwIdeal.Gen.facts,
  Cert.GateDwRefIdeal.Gen.facts,
  Cert.EvIn.Gen.facts,
  Cert.EvInIdeal.Gen.facts,
  Cert.EvInRefIdeal.Gen.facts,
  Cert.EvInDx.Gen.facts,
  Cert.EvInDxIdeal.Gen.facts,
  Cert.EvInDxRefIdeal.Gen.facts,
  Cert.Rms.Gen.facts,
  Cert.RmsIdeal.Gen.facts,
  Cert.RmsRefIdeal.Gen.facts,
  Cert.NaGate.Gen.facts,
  Cert.NaGateIdeal.Gen.facts,
  Cert.NaGateRefIdeal.Gen.facts,
  Cert.Ple.Gen.facts,
  Cert.PleIdeal.Gen.facts,
  Cert.PleRefIdeal.Gen.facts,
  Cert.AdEvIn.Gen.facts,
  Cert.AdEvInIdeal.Gen.facts,
  Cert.AdEvInRefIdeal.Gen.facts,
  Cert.AdOut.Gen.facts,
  Cert.AdOutIdeal.Gen.facts,
  Cert.AdOutRefIdeal.Gen.facts,
  Cert.AdOdIn.Gen.facts,
  Cert.AdOdInIdeal.Gen.facts,
  Cert.AdOdInRefIdeal.Gen.facts,
  Cert.AdProj.Gen.facts,
  Cert.AdProjIdeal.Gen.facts,
  Cert.AdProjRefIdeal.Gen.facts,
  Cert.AdPacked.Gen.facts,
  Cert.AdPackedIdeal.Gen.facts,
  Cert.AdPackedRefIdeal.Gen.facts,
  Cert.Pre_finite_scores.Gen.facts, by
  have naRef := fun (m : (ℓ : Loc Cert.ReferenceIdeal.nD Cert.ReferenceIdeal.τ Cert.ReferenceIdeal.sig) → Buf (Elt Ideal) ℓ) (g : Dev Cert.ReferenceIdeal.nD → PrngReg) =>
    (θ_run Cert.ReferenceIdeal.defs _ _).mono (fun r h => (⟨fun c => (h c).2.2.2.2, sem_eq_zero_of_no_sems (by decide) r.2⟩ : (∀ c : Dev Cert.ReferenceIdeal.nD, _) ∧ _)) (Cert.ReferenceIdeal.Value.run (F := Ideal) m g)
  refine ⟨na_frame,
    fun m ρ _ => Cert.KernelIdeal.Na.frame_run m ρ,
    fun m ρ _ => Cert.KernelIdeal.Na.frame_run m ρ,
    fun m g _ => naRef m g,
    fun m g _ => naRef m g,
    fun m ρ _ => Cert.Mm.Gen.frame m ρ,
    fun m ρ _ => Cert.MmIdeal.Gen.frame m ρ,
    ?_,
    fun m ρ _ => Cert.Glu.Gen.frame m ρ,
    fun m ρ _ => Cert.GluIdeal.Gen.frame m ρ,
    ?_,
    fun m ρ _ => Cert.Out.Gen.frame m ρ,
    fun m ρ _ => Cert.OutIdeal.Gen.frame m ρ,
    ?_,
    fun m ρ _ => Cert.OutDx.Gen.frame m ρ,
    fun m ρ _ => Cert.OutDxIdeal.Gen.frame m ρ,
    ?_,
    fun m ρ _ => Cert.OutDw.Gen.frame m ρ,
    fun m ρ _ => Cert.OutDwIdeal.Gen.frame m ρ,
    ?_,
    fun m ρ _ => Cert.In.Gen.frame m ρ,
    fun m ρ _ => Cert.InIdeal.Gen.frame m ρ,
    ?_,
    fun m ρ _ => Cert.InDw.Gen.frame m ρ,
    fun m ρ _ => Cert.InDwIdeal.Gen.frame m ρ,
    ?_,
    fun m ρ _ => Cert.EvInDw.Gen.frame m ρ,
    fun m ρ _ => Cert.EvInDwIdeal.Gen.frame m ρ,
    ?_,
    fun m ρ _ => Cert.Gate.Gen.frame m ρ,
    fun m ρ _ => Cert.GateIdeal.Gen.frame m ρ,
    ?_,
    fun m ρ _ => Cert.GateDx.Gen.frame m ρ,
    fun m ρ _ => Cert.GateDxIdeal.Gen.frame m ρ,
    ?_,
    fun m ρ _ => Cert.GateDw.Gen.frame m ρ,
    fun m ρ _ => Cert.GateDwIdeal.Gen.frame m ρ,
    ?_,
    fun m ρ _ => Cert.EvIn.Gen.frame m ρ,
    fun m ρ _ => Cert.EvInIdeal.Gen.frame m ρ,
    ?_,
    fun m ρ _ => Cert.EvInDx.Gen.frame m ρ,
    fun m ρ _ => Cert.EvInDxIdeal.Gen.frame m ρ,
    ?_,
    fun m ρ _ => Cert.Rms.Gen.frame m ρ,
    fun m ρ _ => Cert.RmsIdeal.Gen.frame m ρ,
    ?_,
    fun m ρ _ => Cert.NaGate.Gen.frame m ρ,
    fun m ρ _ => Cert.NaGateIdeal.Gen.frame m ρ,
    ?_,
    fun m ρ _ => Cert.Ple.Gen.frame m ρ,
    fun m ρ _ => Cert.PleIdeal.Gen.frame m ρ,
    ?_,
    fun m ρ _ => Cert.AdEvIn.Gen.frame m ρ trivial,
    fun m ρ _ => Cert.AdEvInIdeal.Gen.frame m ρ trivial,
    ?_,
    fun m ρ _ => Cert.AdOut.Gen.frame m ρ trivial,
    fun m ρ _ => Cert.AdOutIdeal.Gen.frame m ρ trivial,
    ?_,
    fun m ρ _ => Cert.AdOdIn.Gen.frame m ρ trivial,
    fun m ρ _ => Cert.AdOdInIdeal.Gen.frame m ρ trivial,
    ?_,
    fun m ρ _ => Cert.AdProj.Gen.frame m ρ trivial,
    fun m ρ _ => Cert.AdProjIdeal.Gen.frame m ρ trivial,
    ?_,
    fun m ρ _ => Cert.AdPacked.Gen.frame m ρ,
    fun m ρ _ => Cert.AdPackedIdeal.Gen.frame m ρ,
    ?_,
    trivial,
    algebraic_Na,
    trivial,
    algebraic_Mm,
    trivial,
    algebraic_Glu,
    trivial,
    algebraic_Out,
    trivial,
    algebraic_OutDx,
    trivial,
    algebraic_OutDw,
    trivial,
    algebraic_In,
    trivial,
    algebraic_InDw,
    trivial,
    algebraic_EvInDw,
    trivial,
    algebraic_Gate,
    trivial,
    algebraic_GateDx,
    trivial,
    algebraic_GateDw,
    trivial,
    algebraic_EvIn,
    trivial,
    algebraic_EvInDx,
    trivial,
    algebraic_Rms,
    trivial,
    algebraic_NaGate,
    trivial,
    algebraic_Ple,
    trivial,
    algebraic_AdEvIn,
    trivial,
    algebraic_AdOut,
    trivial,
    algebraic_AdOdIn,
    trivial,
    algebraic_AdProj,
    trivial,
    algebraic_AdPacked⟩
  · intro m g _; exact (θ_run Cert.MmRefIdeal.defs _ _).mono (fun r h => ⟨fun c => (h c).2, sem_eq_zero_of_no_sems (by decide) r.2⟩) (Cert.MmRefIdeal.Value.run (F := Ideal) m g)
  · intro m g _; exact (θ_run Cert.GluRefIdeal.defs _ _).mono (fun r h => ⟨fun c => (h c).2.2, sem_eq_zero_of_no_sems (by decide) r.2⟩) (Cert.GluRefIdeal.Value.run (F := Ideal) m g)
  · intro m g _; exact (θ_run Cert.OutRefIdeal.defs _ _).mono (fun r h => ⟨fun c => (h c).2, sem_eq_zero_of_no_sems (by decide) r.2⟩) (Cert.OutRefIdeal.Value.run (F := Ideal) m g)
  · intro m g _; exact (θ_run Cert.OutDxRefIdeal.defs _ _).mono (fun r h => ⟨fun c => (h c).2, sem_eq_zero_of_no_sems (by decide) r.2⟩) (Cert.OutDxRefIdeal.Value.run (F := Ideal) m g)
  · intro m g _; exact (θ_run Cert.OutDwRefIdeal.defs _ _).mono (fun r h => ⟨fun c => (h c).2, sem_eq_zero_of_no_sems (by decide) r.2⟩) (Cert.OutDwRefIdeal.Value.run (F := Ideal) m g)
  · intro m g _; exact (θ_run Cert.InRefIdeal.defs _ _).mono (fun r h => ⟨fun c => (h c).2, sem_eq_zero_of_no_sems (by decide) r.2⟩) (Cert.InRefIdeal.Value.run (F := Ideal) m g)
  · intro m g _; exact (θ_run Cert.InDwRefIdeal.defs _ _).mono (fun r h => ⟨fun c => (h c).2, sem_eq_zero_of_no_sems (by decide) r.2⟩) (Cert.InDwRefIdeal.Value.run (F := Ideal) m g)
  · intro m g _; exact (θ_run Cert.EvInDwRefIdeal.defs _ _).mono (fun r h => ⟨fun c => (h c).2, sem_eq_zero_of_no_sems (by decide) r.2⟩) (Cert.EvInDwRefIdeal.Value.run (F := Ideal) m g)
  · intro m g _; exact (θ_run Cert.GateRefIdeal.defs _ _).mono (fun r h => ⟨fun c => (h c).2, sem_eq_zero_of_no_sems (by decide) r.2⟩) (Cert.GateRefIdeal.Value.run (F := Ideal) m g)
  · intro m g _; exact (θ_run Cert.GateDxRefIdeal.defs _ _).mono (fun r h => ⟨fun c => (h c).2, sem_eq_zero_of_no_sems (by decide) r.2⟩) (Cert.GateDxRefIdeal.Value.run (F := Ideal) m g)
  · intro m g _; exact (θ_run Cert.GateDwRefIdeal.defs _ _).mono (fun r h => ⟨fun c => (h c).2, sem_eq_zero_of_no_sems (by decide) r.2⟩) (Cert.GateDwRefIdeal.Value.run (F := Ideal) m g)
  · intro m g _; exact (θ_run Cert.EvInRefIdeal.defs _ _).mono (fun r h => ⟨fun c => (h c).2, sem_eq_zero_of_no_sems (by decide) r.2⟩) (Cert.EvInRefIdeal.Value.run (F := Ideal) m g)
  · intro m g _; exact (θ_run Cert.EvInDxRefIdeal.defs _ _).mono (fun r h => ⟨fun c => (h c).2, sem_eq_zero_of_no_sems (by decide) r.2⟩) (Cert.EvInDxRefIdeal.Value.run (F := Ideal) m g)
  · intro m g _; exact (θ_run Cert.RmsRefIdeal.defs _ _).mono (fun r h => ⟨fun c => (h c).2.2, sem_eq_zero_of_no_sems (by decide) r.2⟩) (Cert.RmsRefIdeal.Value.run (F := Ideal) m g)
  · intro m g _; exact (θ_run Cert.NaGateRefIdeal.defs _ _).mono (fun r h => ⟨fun c => (h c).2.2, sem_eq_zero_of_no_sems (by decide) r.2⟩) (Cert.NaGateRefIdeal.Value.run (F := Ideal) m g)
  · intro m g _; exact (θ_run Cert.PleRefIdeal.defs _ _).mono (fun r h => ⟨fun c => (h c).2.2, sem_eq_zero_of_no_sems (by decide) r.2⟩) (Cert.PleRefIdeal.Value.run (F := Ideal) m g)
  · intro m g _; exact (θ_run Cert.AdEvInRefIdeal.defs _ _).mono (fun r h => ⟨fun c => (h c).2.2.2.2, sem_eq_zero_of_no_sems (by decide) r.2⟩) (Cert.AdEvInRefIdeal.Value.run (F := Ideal) m g)
  · intro m g _; exact (θ_run Cert.AdOutRefIdeal.defs _ _).mono (fun r h => ⟨fun c => (h c).2.2.2.2, sem_eq_zero_of_no_sems (by decide) r.2⟩) (Cert.AdOutRefIdeal.Value.run (F := Ideal) m g)
  · intro m g _; exact (θ_run Cert.AdOdInRefIdeal.defs _ _).mono (fun r h => ⟨fun c => (h c).2.2.2.2, sem_eq_zero_of_no_sems (by decide) r.2⟩) (Cert.AdOdInRefIdeal.Value.run (F := Ideal) m g)
  · intro m g _; exact (θ_run Cert.AdProjRefIdeal.defs _ _).mono (fun r h => ⟨fun c => (h c).2.2.2.2, sem_eq_zero_of_no_sems (by decide) r.2⟩) (Cert.AdProjRefIdeal.Value.run (F := Ideal) m g)
  · intro m g _; exact (θ_run Cert.AdPackedRefIdeal.defs _ _).mono (fun r h => ⟨fun c => (h c).2.2.2.2, sem_eq_zero_of_no_sems (by decide) r.2⟩) (Cert.AdPackedRefIdeal.Value.run (F := Ideal) m g)⟩

end Cert.Proof

end
